-- ==== Defs.lean ====
def Pre_DocKernel (m : (ℓ : Loc Cert.DocKernel.nD Cert.DocKernel.τ Cert.DocKernel.sig) → Buf (Elt Bits) ℓ) : Prop :=
  True

def Pre_DocKernelIdeal (m : (ℓ : Loc Cert.DocKernelIdeal.nD Cert.DocKernelIdeal.τ Cert.DocKernelIdeal.sig) → Buf (Elt Ideal) ℓ) : Prop :=
  True

def Pre_DocReferenceIdeal (m : (ℓ : Loc Cert.DocReferenceIdeal.nD Cert.DocReferenceIdeal.τ Cert.DocReferenceIdeal.sig) → Buf (Elt Ideal) ℓ) : Prop :=
  True

def Pre_QueryKernel (m : (ℓ : Loc Cert.QueryKernel.nD Cert.QueryKernel.τ Cert.QueryKernel.sig) → Buf (Elt Bits) ℓ) : Prop :=
  True

def Pre_QueryKernelIdeal (m : (ℓ : Loc Cert.QueryKernelIdeal.nD Cert.QueryKernelIdeal.τ Cert.QueryKernelIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_ScoresKernel (m : (ℓ : Loc Cert.ScoresKernel.nD Cert.ScoresKernel.τ Cert.ScoresKernel.sig) → Buf (Elt Bits) ℓ) : Prop :=
  True

def Pre_ScoresKernelIdeal (m : (ℓ : Loc Cert.ScoresKernelIdeal.nD Cert.ScoresKernelIdeal.τ Cert.ScoresKernelIdeal.sig) → Buf (Elt Ideal) ℓ) : Prop :=
  True

def Pre_ScoresKernelIdeal_scorable [hPre_scorable : Cert.Pre_scorable.Facts] (m : (ℓ : Loc Cert.ScoresKernelIdeal.nD Cert.ScoresKernelIdeal.τ Cert.ScoresKernelIdeal.sig) → Buf (Elt Ideal) ℓ) : Prop :=
  ∀ c : Dev Cert.ScoresKernelIdeal.nD,
    (Cert.Pre_scorable.fn (F := Ideal) (m ((c.tc : Thread Cert.ScoresKernelIdeal.nD Cert.ScoresKernelIdeal.τ).loc Cert.ScoresKernelIdeal.main_arg0)) (m ((c.tc : Thread Cert.ScoresKernelIdeal.nD Cert.ScoresKernelIdeal.τ).loc Cert.ScoresKernelIdeal.main_arg1)) (m ((c.tc : Thread Cert.ScoresKernelIdeal.nD Cert.ScoresKernelIdeal.τ).loc Cert.ScoresKernelIdeal.main_arg2)) (m ((c.tc : Thread Cert.ScoresKernelIdeal.nD Cert.ScoresKernelIdeal.τ).loc Cert.ScoresKernelIdeal.main_arg3)) (m ((c.tc : Thread Cert.ScoresKernelIdeal.nD Cert.ScoresKernelIdeal.τ).loc Cert.ScoresKernelIdeal.main_arg4))).1 = (fun _ => 1#1)
    ∧ (Cert.Pre_scorable.fn (F := Ideal) (m ((c.tc : Thread Cert.ScoresKernelIdeal.nD Cert.ScoresKernelIdeal.τ).loc Cert.ScoresKernelIdeal.main_arg0)) (m ((c.tc : Thread Cert.ScoresKernelIdeal.nD Cert.ScoresKernelIdeal.τ).loc Cert.ScoresKernelIdeal.main_arg1)) (m ((c.tc : Thread Cert.ScoresKernelIdeal.nD Cert.ScoresKernelIdeal.τ).loc Cert.ScoresKernelIdeal.main_arg2)) (m ((c.tc : Thread Cert.ScoresKernelIdeal.nD Cert.ScoresKernelIdeal.τ).loc Cert.ScoresKernelIdeal.main_arg3)) (m ((c.tc : Thread Cert.ScoresKernelIdeal.nD Cert.ScoresKernelIdeal.τ).loc Cert.ScoresKernelIdeal.main_arg4))).2.1 = (fun _ => 1#1)
    ∧ (Cert.Pre_scorable.fn (F := Ideal) (m ((c.tc : Thread Cert.ScoresKernelIdeal.nD Cert.ScoresKernelIdeal.τ).loc Cert.ScoresKernelIdeal.main_arg0)) (m ((c.tc : Thread Cert.ScoresKernelIdeal.nD Cert.ScoresKernelIdeal.τ).loc Cert.ScoresKernelIdeal.main_arg1)) (m ((c.tc : Thread Cert.ScoresKernelIdeal.nD Cert.ScoresKernelIdeal.τ).loc Cert.ScoresKernelIdeal.main_arg2)) (m ((c.tc : Thread Cert.ScoresKernelIdeal.nD Cert.ScoresKernelIdeal.τ).loc Cert.ScoresKernelIdeal.main_arg3)) (m ((c.tc : Thread Cert.ScoresKernelIdeal.nD Cert.ScoresKernelIdeal.τ).loc Cert.ScoresKernelIdeal.main_arg4))).2.2 = (fun _ => 1#1)

def Pre_ScoresReferenceIdeal (m : (ℓ : Loc Cert.ScoresReferenceIdeal.nD Cert.ScoresReferenceIdeal.τ Cert.ScoresReferenceIdeal.sig) → Buf (Elt Ideal) ℓ) : Prop :=
  True

def Pre_ScoresReferenceIdeal_scorable [hPre_scorable : Cert.Pre_scorable.Facts] (m : (ℓ : Loc Cert.ScoresReferenceIdeal.nD Cert.ScoresReferenceIdeal.τ Cert.ScoresReferenceIdeal.sig) → Buf (Elt Ideal) ℓ) : Prop :=
  ∀ c : Dev Cert.ScoresReferenceIdeal.nD,
    (Cert.Pre_scorable.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))).1 = (fun _ => 1#1)
    ∧ (Cert.Pre_scorable.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))).2.1 = (fun _ => 1#1)
    ∧ (Cert.Pre_scorable.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))).2.2 = (fun _ => 1#1)

def quiescent_DocKernel [hDocKernel : Cert.DocKernel.Facts] : Prop :=
  ∀ (m : (ℓ : Loc Cert.DocKernel.nD Cert.DocKernel.τ Cert.DocKernel.sig) → Buf (Elt Bits) ℓ) (g : Dev Cert.DocKernel.nD → PrngReg), Pre_DocKernel m →
    θ_run (Cert.DocKernel.defs (F := Bits)) (onTc (τ := Cert.DocKernel.τ) (Cert.DocKernel.main (F := Bits))) ⟨m, fun _ => 0, g⟩ (fun r => (∀ c : Dev Cert.DocKernel.nD,
      r.2.mem ((c.tc : Thread Cert.DocKernel.nD Cert.DocKernel.τ).loc Cert.DocKernel.main_arg0) = m ((c.tc : Thread Cert.DocKernel.nD Cert.DocKernel.τ).loc Cert.DocKernel.main_arg0)
      ∧ r.2.mem ((c.tc : Thread Cert.DocKernel.nD Cert.DocKernel.τ).loc Cert.DocKernel.main_arg1) = m ((c.tc : Thread Cert.DocKernel.nD Cert.DocKernel.τ).loc Cert.DocKernel.main_arg1)
      ∧ r.2.mem ((c.tc : Thread Cert.DocKernel.nD Cert.DocKernel.τ).loc Cert.DocKernel.main_arg2) = m ((c.tc : Thread Cert.DocKernel.nD Cert.DocKernel.τ).loc Cert.DocKernel.main_arg2))
      ∧ r.2.sem = fun _ => 0)

def quiescent_DocKernelIdeal [hDocKernelIdeal : Cert.DocKernelIdeal.Facts] : Prop :=
  ∀ (m : (ℓ : Loc Cert.DocKernelIdeal.nD Cert.DocKernelIdeal.τ Cert.DocKernelIdeal.sig) → Buf (Elt Ideal) ℓ) (g : Dev Cert.DocKernelIdeal.nD → PrngReg), Pre_DocKernelIdeal m →
    θ_run (Cert.DocKernelIdeal.defs (F := Ideal)) (onTc (τ := Cert.DocKernelIdeal.τ) (Cert.DocKernelIdeal.main (F := Ideal))) ⟨m, fun _ => 0, g⟩ (fun r => (∀ c : Dev Cert.DocKernelIdeal.nD,
      r.2.mem ((c.tc : Thread Cert.DocKernelIdeal.nD Cert.DocKernelIdeal.τ).loc Cert.DocKernelIdeal.main_arg0) = m ((c.tc : Thread Cert.DocKernelIdeal.nD Cert.DocKernelIdeal.τ).loc Cert.DocKernelIdeal.main_arg0)
      ∧ r.2.mem ((c.tc : Thread Cert.DocKernelIdeal.nD Cert.DocKernelIdeal.τ).loc Cert.DocKernelIdeal.main_arg1) = m ((c.tc : Thread Cert.DocKernelIdeal.nD Cert.DocKernelIdeal.τ).loc Cert.DocKernelIdeal.main_arg1)
      ∧ r.2.mem ((c.tc : Thread Cert.DocKernelIdeal.nD Cert.DocKernelIdeal.τ).loc Cert.DocKernelIdeal.main_arg2) = m ((c.tc : Thread Cert.DocKernelIdeal.nD Cert.DocKernelIdeal.τ).loc Cert.DocKernelIdeal.main_arg2))
      ∧ r.2.sem = fun _ => 0)

def quiescent_DocReferenceIdeal [hDocReferenceIdeal : Cert.DocReferenceIdeal.Facts] : Prop :=
  ∀ (m : (ℓ : Loc Cert.DocReferenceIdeal.nD Cert.DocReferenceIdeal.τ Cert.DocReferenceIdeal.sig) → Buf (Elt Ideal) ℓ) (g : Dev Cert.DocReferenceIdeal.nD → PrngReg), Pre_DocReferenceIdeal m →
    θ_run (Cert.DocReferenceIdeal.defs (F := Ideal)) (onTc (τ := Cert.DocReferenceIdeal.τ) (Cert.DocReferenceIdeal.main (F := Ideal))) ⟨m, fun _ => 0, g⟩ (fun r => (∀ c : Dev Cert.DocReferenceIdeal.nD,
      r.2.mem ((c.tc : Thread Cert.DocReferenceIdeal.nD Cert.DocReferenceIdeal.τ).loc Cert.DocReferenceIdeal.main_arg0) = m ((c.tc : Thread Cert.DocReferenceIdeal.nD Cert.DocReferenceIdeal.τ).loc Cert.DocReferenceIdeal.main_arg0)
      ∧ r.2.mem ((c.tc : Thread Cert.DocReferenceIdeal.nD Cert.DocReferenceIdeal.τ).loc Cert.DocReferenceIdeal.main_arg1) = m ((c.tc : Thread Cert.DocReferenceIdeal.nD Cert.DocReferenceIdeal.τ).loc Cert.DocReferenceIdeal.main_arg1)
      ∧ r.2.mem ((c.tc : Thread Cert.DocReferenceIdeal.nD Cert.DocReferenceIdeal.τ).loc Cert.DocReferenceIdeal.main_arg2) = m ((c.tc : Thread Cert.DocReferenceIdeal.nD Cert.DocReferenceIdeal.τ).loc Cert.DocReferenceIdeal.main_arg2))
      ∧ r.2.sem = fun _ => 0)

def quiescent_QueryKernel [hQueryKernel : Cert.QueryKernel.Facts] : Prop :=
  ∀ (m : (ℓ : Loc Cert.QueryKernel.nD Cert.QueryKernel.τ Cert.QueryKernel.sig) → Buf (Elt Bits) ℓ) (g : Dev Cert.QueryKernel.nD → PrngReg), Pre_QueryKernel m →
    θ_run (Cert.QueryKernel.defs (F := Bits)) (onTc (τ := Cert.QueryKernel.τ) (Cert.QueryKernel.main (F := Bits))) ⟨m, fun _ => 0, g⟩ (fun r => (∀ c : Dev Cert.QueryKernel.nD,
      r.2.mem ((c.tc : Thread Cert.QueryKernel.nD Cert.QueryKernel.τ).loc Cert.QueryKernel.main_arg0) = m ((c.tc : Thread Cert.QueryKernel.nD Cert.QueryKernel.τ).loc Cert.QueryKernel.main_arg0)
      ∧ r.2.mem ((c.tc : Thread Cert.QueryKernel.nD Cert.QueryKernel.τ).loc Cert.QueryKernel.main_arg1) = m ((c.tc : Thread Cert.QueryKernel.nD Cert.QueryKernel.τ).loc Cert.QueryKernel.main_arg1)
      ∧ r.2.mem ((c.tc : Thread Cert.QueryKernel.nD Cert.QueryKernel.τ).loc Cert.QueryKernel.main_arg2) = m ((c.tc : Thread Cert.QueryKernel.nD Cert.QueryKernel.τ).loc Cert.QueryKernel.main_arg2))
      ∧ r.2.sem = fun _ => 0)

def quiescent_QueryKernelIdeal [hQueryKernelIdeal : Cert.QueryKernelIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg), Pre_QueryKernelIdeal m →
    θ_run (Cert.QueryKernelIdeal.defs (F := Ideal)) (onTc (τ := Cert.QueryKernelIdeal.τ) (Cert.QueryKernelIdeal.main (F := Ideal))) ⟨m, fun _ => 0, g⟩ (fun r => (∀ c : Dev Cert.QueryKernelIdeal.nD,
      r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
      ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1)
      ∧ r.2.mem ((c.tc : Thread Cert.QueryKernelIdeal.nD Cert.QueryKernelIdeal.τ).loc Cert.QueryKernelIdeal.main_arg2) = m ((c.tc : Thread Cert.QueryKernelIdeal.nD Cert.QueryKernelIdeal.τ).loc Cert.QueryKernelIdeal.main_arg2))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def quiescent_ScoresKernel [hScoresKernel : Cert.ScoresKernel.Facts] : Prop :=
  ∀ (m : (ℓ : Loc Cert.ScoresKernel.nD Cert.ScoresKernel.τ Cert.ScoresKernel.sig) → Buf (Elt Bits) ℓ) (g : Dev Cert.ScoresKernel.nD → PrngReg), Pre_ScoresKernel m →
    θ_run (Cert.ScoresKernel.defs (F := Bits)) (onTc (τ := Cert.ScoresKernel.τ) (Cert.ScoresKernel.main (F := Bits))) ⟨m, fun _ => 0, g⟩ (fun r => (∀ c : Dev Cert.ScoresKernel.nD,
      r.2.mem ((c.tc : Thread Cert.ScoresKernel.nD Cert.ScoresKernel.τ).loc Cert.ScoresKernel.main_arg0) = m ((c.tc : Thread Cert.ScoresKernel.nD Cert.ScoresKernel.τ).loc Cert.ScoresKernel.main_arg0)
      ∧ r.2.mem ((c.tc : Thread Cert.ScoresKernel.nD Cert.ScoresKernel.τ).loc Cert.ScoresKernel.main_arg1) = m ((c.tc : Thread Cert.ScoresKernel.nD Cert.ScoresKernel.τ).loc Cert.ScoresKernel.main_arg1)
      ∧ r.2.mem ((c.tc : Thread Cert.ScoresKernel.nD Cert.ScoresKernel.τ).loc Cert.ScoresKernel.main_arg2) = m ((c.tc : Thread Cert.ScoresKernel.nD Cert.ScoresKernel.τ).loc Cert.ScoresKernel.main_arg2)
      ∧ r.2.mem ((c.tc : Thread Cert.ScoresKernel.nD Cert.ScoresKernel.τ).loc Cert.ScoresKernel.main_arg3) = m ((c.tc : Thread Cert.ScoresKernel.nD Cert.ScoresKernel.τ).loc Cert.ScoresKernel.main_arg3)
      ∧ r.2.mem ((c.tc : Thread Cert.ScoresKernel.nD Cert.ScoresKernel.τ).loc Cert.ScoresKernel.main_arg4) = m ((c.tc : Thread Cert.ScoresKernel.nD Cert.ScoresKernel.τ).loc Cert.ScoresKernel.main_arg4))
      ∧ r.2.sem = fun _ => 0)

def quiescent_ScoresKernelIdeal [hScoresKernelIdeal : Cert.ScoresKernelIdeal.Facts] : Prop :=
  ∀ (m : (ℓ : Loc Cert.ScoresKernelIdeal.nD Cert.ScoresKernelIdeal.τ Cert.ScoresKernelIdeal.sig) → Buf (Elt Ideal) ℓ) (g : Dev Cert.ScoresKernelIdeal.nD → PrngReg), Pre_ScoresKernelIdeal m →
    θ_run (Cert.ScoresKernelIdeal.defs (F := Ideal)) (onTc (τ := Cert.ScoresKernelIdeal.τ) (Cert.ScoresKernelIdeal.main (F := Ideal))) ⟨m, fun _ => 0, g⟩ (fun r => (∀ c : Dev Cert.ScoresKernelIdeal.nD,
      r.2.mem ((c.tc : Thread Cert.ScoresKernelIdeal.nD Cert.ScoresKernelIdeal.τ).loc Cert.ScoresKernelIdeal.main_arg0) = m ((c.tc : Thread Cert.ScoresKernelIdeal.nD Cert.ScoresKernelIdeal.τ).loc Cert.ScoresKernelIdeal.main_arg0)
      ∧ r.2.mem ((c.tc : Thread Cert.ScoresKernelIdeal.nD Cert.ScoresKernelIdeal.τ).loc Cert.ScoresKernelIdeal.main_arg1) = m ((c.tc : Thread Cert.ScoresKernelIdeal.nD Cert.ScoresKernelIdeal.τ).loc Cert.ScoresKernelIdeal.main_arg1)
      ∧ r.2.mem ((c.tc : Thread Cert.ScoresKernelIdeal.nD Cert.ScoresKernelIdeal.τ).loc Cert.ScoresKernelIdeal.main_arg2) = m ((c.tc : Thread Cert.ScoresKernelIdeal.nD Cert.ScoresKernelIdeal.τ).loc Cert.ScoresKernelIdeal.main_arg2)
      ∧ r.2.mem ((c.tc : Thread Cert.ScoresKernelIdeal.nD Cert.ScoresKernelIdeal.τ).loc Cert.ScoresKernelIdeal.main_arg3) = m ((c.tc : Thread Cert.ScoresKernelIdeal.nD Cert.ScoresKernelIdeal.τ).loc Cert.ScoresKernelIdeal.main_arg3)
      ∧ r.2.mem ((c.tc : Thread Cert.ScoresKernelIdeal.nD Cert.ScoresKernelIdeal.τ).loc Cert.ScoresKernelIdeal.main_arg4) = m ((c.tc : Thread Cert.ScoresKernelIdeal.nD Cert.ScoresKernelIdeal.τ).loc Cert.ScoresKernelIdeal.main_arg4))
      ∧ r.2.sem = fun _ => 0)

def quiescent_ScoresKernelIdeal_pre_scorable [hScoresKernelIdeal : Cert.ScoresKernelIdeal.Facts] [hPre_scorable : Cert.Pre_scorable.Facts] : Prop :=
  ∀ (m : (ℓ : Loc Cert.ScoresKernelIdeal.nD Cert.ScoresKernelIdeal.τ Cert.ScoresKernelIdeal.sig) → Buf (Elt Ideal) ℓ) (g : Dev Cert.ScoresKernelIdeal.nD → PrngReg), Pre_ScoresKernelIdeal_scorable m →
    θ_run (Cert.ScoresKernelIdeal.defs (F := Ideal)) (onTc (τ := Cert.ScoresKernelIdeal.τ) (Cert.ScoresKernelIdeal.main (F := Ideal))) ⟨m, fun _ => 0, g⟩ (fun r => (∀ c : Dev Cert.ScoresKernelIdeal.nD,
      r.2.mem ((c.tc : Thread Cert.ScoresKernelIdeal.nD Cert.ScoresKernelIdeal.τ).loc Cert.ScoresKernelIdeal.main_arg0) = m ((c.tc : Thread Cert.ScoresKernelIdeal.nD Cert.ScoresKernelIdeal.τ).loc Cert.ScoresKernelIdeal.main_arg0)
      ∧ r.2.mem ((c.tc : Thread Cert.ScoresKernelIdeal.nD Cert.ScoresKernelIdeal.τ).loc Cert.ScoresKernelIdeal.main_arg1) = m ((c.tc : Thread Cert.ScoresKernelIdeal.nD Cert.ScoresKernelIdeal.τ).loc Cert.ScoresKernelIdeal.main_arg1)
      ∧ r.2.mem ((c.tc : Thread Cert.ScoresKernelIdeal.nD Cert.ScoresKernelIdeal.τ).loc Cert.ScoresKernelIdeal.main_arg2) = m ((c.tc : Thread Cert.ScoresKernelIdeal.nD Cert.ScoresKernelIdeal.τ).loc Cert.ScoresKernelIdeal.main_arg2)
      ∧ r.2.mem ((c.tc : Thread Cert.ScoresKernelIdeal.nD Cert.ScoresKernelIdeal.τ).loc Cert.ScoresKernelIdeal.main_arg3) = m ((c.tc : Thread Cert.ScoresKernelIdeal.nD Cert.ScoresKernelIdeal.τ).loc Cert.ScoresKernelIdeal.main_arg3)
      ∧ r.2.mem ((c.tc : Thread Cert.ScoresKernelIdeal.nD Cert.ScoresKernelIdeal.τ).loc Cert.ScoresKernelIdeal.main_arg4) = m ((c.tc : Thread Cert.ScoresKernelIdeal.nD Cert.ScoresKernelIdeal.τ).loc Cert.ScoresKernelIdeal.main_arg4))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def quiescent_ScoresReferenceIdeal_pre_scorable [hScoresReferenceIdeal : Cert.ScoresReferenceIdeal.Facts] [hPre_scorable : Cert.Pre_scorable.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal_scorable m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def preserves_DocKernel_DocKernelIdeal : Prop :=
  True

def algebraic_DocKernelIdeal_DocReferenceIdeal [hDocKernelIdeal : Cert.DocKernelIdeal.Facts] [hDocReferenceIdeal : Cert.DocReferenceIdeal.Facts] : Prop :=
  ∀ (m : (ℓ : Loc Cert.DocKernelIdeal.nD Cert.DocKernelIdeal.τ Cert.DocKernelIdeal.sig) → Buf (Elt Ideal) ℓ) (g : Dev Cert.DocKernelIdeal.nD → PrngReg)
    (m' : (ℓ : Loc Cert.DocReferenceIdeal.nD Cert.DocReferenceIdeal.τ Cert.DocReferenceIdeal.sig) → Buf (Elt Ideal) ℓ) (g' : Dev Cert.DocReferenceIdeal.nD → PrngReg), Pre_DocKernelIdeal m →
    (∀ c : Dev Cert.DocKernelIdeal.nD,
      m' ((c.tc : Thread Cert.DocReferenceIdeal.nD Cert.DocReferenceIdeal.τ).loc Cert.DocReferenceIdeal.main_arg0) = m ((c.tc : Thread Cert.DocKernelIdeal.nD Cert.DocKernelIdeal.τ).loc Cert.DocKernelIdeal.main_arg0)
      ∧ m' ((c.tc : Thread Cert.DocReferenceIdeal.nD Cert.DocReferenceIdeal.τ).loc Cert.DocReferenceIdeal.main_arg1) = m ((c.tc : Thread Cert.DocKernelIdeal.nD Cert.DocKernelIdeal.τ).loc Cert.DocKernelIdeal.main_arg1)
      ∧ m' ((c.tc : Thread Cert.DocReferenceIdeal.nD Cert.DocReferenceIdeal.τ).loc Cert.DocReferenceIdeal.main_arg2) = m ((c.tc : Thread Cert.DocKernelIdeal.nD Cert.DocKernelIdeal.τ).loc Cert.DocKernelIdeal.main_arg2)) →
    ∃ (v0 : (c : Dev Cert.DocKernelIdeal.nD) → Buf (Elt Ideal) ((c.tc : Thread Cert.DocKernelIdeal.nD Cert.DocKernelIdeal.τ).loc Cert.DocKernelIdeal.main_v0)),
      θ_run (Cert.DocKernelIdeal.defs (F := Ideal)) (onTc (τ := Cert.DocKernelIdeal.τ) (Cert.DocKernelIdeal.main (F := Ideal))) ⟨m, fun _ => 0, g⟩ (fun r => ∀ c : Dev Cert.DocKernelIdeal.nD,
          r.2.mem ((c.tc : Thread Cert.DocKernelIdeal.nD Cert.DocKernelIdeal.τ).loc Cert.DocKernelIdeal.main_v0) = v0 c
          ∧ r.2.mem ((c.tc : Thread Cert.DocKernelIdeal.nD Cert.DocKernelIdeal.τ).loc Cert.DocKernelIdeal.main_arg0) = m ((c.tc : Thread Cert.DocKernelIdeal.nD Cert.DocKernelIdeal.τ).loc Cert.DocKernelIdeal.main_arg0)
          ∧ r.2.mem ((c.tc : Thread Cert.DocKernelIdeal.nD Cert.DocKernelIdeal.τ).loc Cert.DocKernelIdeal.main_arg1) = m ((c.tc : Thread Cert.DocKernelIdeal.nD Cert.DocKernelIdeal.τ).loc Cert.DocKernelIdeal.main_arg1)
          ∧ r.2.mem ((c.tc : Thread Cert.DocKernelIdeal.nD Cert.DocKernelIdeal.τ).loc Cert.DocKernelIdeal.main_arg2) = m ((c.tc : Thread Cert.DocKernelIdeal.nD Cert.DocKernelIdeal.τ).loc Cert.DocKernelIdeal.main_arg2))
      ∧ θ_run (Cert.DocReferenceIdeal.defs (F := Ideal)) (onTc (τ := Cert.DocReferenceIdeal.τ) (Cert.DocReferenceIdeal.main (F := Ideal))) ⟨m', fun _ => 0, g'⟩ (fun r => ∀ c : Dev Cert.DocReferenceIdeal.nD,
          r.2.mem ((c.tc : Thread Cert.DocReferenceIdeal.nD Cert.DocReferenceIdeal.τ).loc Cert.DocReferenceIdeal.main_v0) = v0 c
          ∧ r.2.mem ((c.tc : Thread Cert.DocReferenceIdeal.nD Cert.DocReferenceIdeal.τ).loc Cert.DocReferenceIdeal.main_arg0) = m' ((c.tc : Thread Cert.DocReferenceIdeal.nD Cert.DocReferenceIdeal.τ).loc Cert.DocReferenceIdeal.main_arg0)
          ∧ r.2.mem ((c.tc : Thread Cert.DocReferenceIdeal.nD Cert.DocReferenceIdeal.τ).loc Cert.DocReferenceIdeal.main_arg1) = m' ((c.tc : Thread Cert.DocReferenceIdeal.nD Cert.DocReferenceIdeal.τ).loc Cert.DocReferenceIdeal.main_arg1)
          ∧ r.2.mem ((c.tc : Thread Cert.DocReferenceIdeal.nD Cert.DocReferenceIdeal.τ).loc Cert.DocReferenceIdeal.main_arg2) = m' ((c.tc : Thread Cert.DocReferenceIdeal.nD Cert.DocReferenceIdeal.τ).loc Cert.DocReferenceIdeal.main_arg2))

def preserves_QueryKernel_QueryKernelIdeal : Prop :=
  True

def algebraic_QueryKernelIdeal_QueryReferenceIdeal [hQueryKernelIdeal : Cert.QueryKernelIdeal.Facts] [hQueryReferenceIdeal : Cert.QueryReferenceIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryKernelIdeal m →
    (∀ c : Dev Cert.QueryKernelIdeal.nD,
      m' ((c.tc : Thread Cert.QueryReferenceIdeal.nD Cert.QueryReferenceIdeal.τ).loc Cert.QueryReferenceIdeal.main_arg0) = m ((c.tc : Thread Cert.QueryKernelIdeal.nD Cert.QueryKernelIdeal.τ).loc Cert.QueryKernelIdeal.main_arg0)
      ∧ m' ((c.tc : Thread Cert.QueryReferenceIdeal.nD Cert.QueryReferenceIdeal.τ).loc Cert.QueryReferenceIdeal.main_arg1) = m ((c.tc : Thread Cert.QueryKernelIdeal.nD Cert.QueryKernelIdeal.τ).loc Cert.QueryKernelIdeal.main_arg1)
      ∧ m' ((c.tc : Thread Cert.QueryReferenceIdeal.nD Cert.QueryReferenceIdeal.τ).loc Cert.QueryReferenceIdeal.main_arg2) = m ((c.tc : Thread Cert.QueryKernelIdeal.nD Cert.QueryKernelIdeal.τ).loc Cert.QueryKernelIdeal.main_arg2)) →
    ∃ (v0 : (c : Dev Cert.QueryKernelIdeal.nD) → Buf (Elt Ideal) ((c.tc : Thread Cert.QueryKernelIdeal.nD Cert.QueryKernelIdeal.τ).loc Cert.QueryKernelIdeal.main_v7)),
      θ_run (Cert.QueryKernelIdeal.defs (F := Ideal)) (onTc (τ := Cert.QueryKernelIdeal.τ) (Cert.QueryKernelIdeal.main (F := Ideal))) ⟨m, fun _ => 0, g⟩ (fun r => ∀ c : Dev Cert.QueryKernelIdeal.nD,
          r.2.mem ((c.tc : Thread Cert.QueryKernelIdeal.nD Cert.QueryKernelIdeal.τ).loc Cert.QueryKernelIdeal.main_v7) = v0 c
          ∧ r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
          ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1)
          ∧ r.2.mem ((c.tc : Thread Cert.QueryKernelIdeal.nD Cert.QueryKernelIdeal.τ).loc Cert.QueryKernelIdeal.main_arg2) = m ((c.tc : Thread Cert.QueryKernelIdeal.nD Cert.QueryKernelIdeal.τ).loc Cert.QueryKernelIdeal.main_arg2))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v21) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2))

def preserves_ScoresKernel_ScoresKernelIdeal : Prop :=
  IdealRules.named_const.Statement Cert.ScoresKernelIdeal.κ "log2_e" .f32 0x3FB8AA3B#32 (((Real.log 2)⁻¹ : ℝ) : EReal)
  ∧ IdealRules.named_const.Statement Cert.ScoresKernelIdeal.κ "ln_2" .f32 0x3F317218#32 ((Real.log 2 : ℝ) : EReal)

def algebraic_ScoresKernelIdeal_ScoresReferenceIdeal_pre_scorable [hScoresKernelIdeal : Cert.ScoresKernelIdeal.Facts] [hScoresReferenceIdeal : Cert.ScoresReferenceIdeal.Facts] [hPre_scorable : Cert.Pre_scorable.Facts] : Prop :=
  ∀ (m : (ℓ : Loc Cert.ScoresKernelIdeal.nD Cert.ScoresKernelIdeal.τ Cert.ScoresKernelIdeal.sig) → Buf (Elt Ideal) ℓ) (g : Dev Cert.ScoresKernelIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresKernelIdeal_scorable m →
    (∀ c : Dev Cert.ScoresKernelIdeal.nD,
      m' ((c.tc : Thread Cert.ScoresReferenceIdeal.nD Cert.ScoresReferenceIdeal.τ).loc Cert.ScoresReferenceIdeal.main_arg0) = m ((c.tc : Thread Cert.ScoresKernelIdeal.nD Cert.ScoresKernelIdeal.τ).loc Cert.ScoresKernelIdeal.main_arg0)
      ∧ m' ((c.tc : Thread Cert.ScoresReferenceIdeal.nD Cert.ScoresReferenceIdeal.τ).loc Cert.ScoresReferenceIdeal.main_arg1) = m ((c.tc : Thread Cert.ScoresKernelIdeal.nD Cert.ScoresKernelIdeal.τ).loc Cert.ScoresKernelIdeal.main_arg1)
      ∧ m' ((c.tc : Thread Cert.ScoresReferenceIdeal.nD Cert.ScoresReferenceIdeal.τ).loc Cert.ScoresReferenceIdeal.main_arg2) = m ((c.tc : Thread Cert.ScoresKernelIdeal.nD Cert.ScoresKernelIdeal.τ).loc Cert.ScoresKernelIdeal.main_arg2)
      ∧ m' ((c.tc : Thread Cert.ScoresReferenceIdeal.nD Cert.ScoresReferenceIdeal.τ).loc Cert.ScoresReferenceIdeal.main_arg3) = m ((c.tc : Thread Cert.ScoresKernelIdeal.nD Cert.ScoresKernelIdeal.τ).loc Cert.ScoresKernelIdeal.main_arg3)
      ∧ m' ((c.tc : Thread Cert.ScoresReferenceIdeal.nD Cert.ScoresReferenceIdeal.τ).loc Cert.ScoresReferenceIdeal.main_arg4) = m ((c.tc : Thread Cert.ScoresKernelIdeal.nD Cert.ScoresKernelIdeal.τ).loc Cert.ScoresKernelIdeal.main_arg4)) →
    ∃ (v0 : (c : Dev Cert.ScoresKernelIdeal.nD) → Buf (Elt Ideal) ((c.tc : Thread Cert.ScoresKernelIdeal.nD Cert.ScoresKernelIdeal.τ).loc Cert.ScoresKernelIdeal.main_v9_0)) (v1 : (c : Dev Cert.ScoresKernelIdeal.nD) → Buf (Elt Ideal) ((c.tc : Thread Cert.ScoresKernelIdeal.nD Cert.ScoresKernelIdeal.τ).loc Cert.ScoresKernelIdeal.main_v9_1)) (v2 : (c : Dev Cert.ScoresKernelIdeal.nD) → Buf (Elt Ideal) ((c.tc : Thread Cert.ScoresKernelIdeal.nD Cert.ScoresKernelIdeal.τ).loc Cert.ScoresKernelIdeal.main_v9_2)) (v3 : (c : Dev Cert.ScoresKernelIdeal.nD) → Buf (Elt Ideal) ((c.tc : Thread Cert.ScoresKernelIdeal.nD Cert.ScoresKernelIdeal.τ).loc Cert.ScoresKernelIdeal.main_v9_3)),
      θ_run (Cert.ScoresKernelIdeal.defs (F := Ideal)) (onTc (τ := Cert.ScoresKernelIdeal.τ) (Cert.ScoresKernelIdeal.main (F := Ideal))) ⟨m, fun _ => 0, g⟩ (fun r => ∀ c : Dev Cert.ScoresKernelIdeal.nD,
          r.2.mem ((c.tc : Thread Cert.ScoresKernelIdeal.nD Cert.ScoresKernelIdeal.τ).loc Cert.ScoresKernelIdeal.main_v9_0) = v0 c
          ∧ r.2.mem ((c.tc : Thread Cert.ScoresKernelIdeal.nD Cert.ScoresKernelIdeal.τ).loc Cert.ScoresKernelIdeal.main_v9_1) = v1 c
          ∧ r.2.mem ((c.tc : Thread Cert.ScoresKernelIdeal.nD Cert.ScoresKernelIdeal.τ).loc Cert.ScoresKernelIdeal.main_v9_2) = v2 c
          ∧ r.2.mem ((c.tc : Thread Cert.ScoresKernelIdeal.nD Cert.ScoresKernelIdeal.τ).loc Cert.ScoresKernelIdeal.main_v9_3) = v3 c
          ∧ r.2.mem ((c.tc : Thread Cert.ScoresKernelIdeal.nD Cert.ScoresKernelIdeal.τ).loc Cert.ScoresKernelIdeal.main_arg0) = m ((c.tc : Thread Cert.ScoresKernelIdeal.nD Cert.ScoresKernelIdeal.τ).loc Cert.ScoresKernelIdeal.main_arg0)
          ∧ r.2.mem ((c.tc : Thread Cert.ScoresKernelIdeal.nD Cert.ScoresKernelIdeal.τ).loc Cert.ScoresKernelIdeal.main_arg1) = m ((c.tc : Thread Cert.ScoresKernelIdeal.nD Cert.ScoresKernelIdeal.τ).loc Cert.ScoresKernelIdeal.main_arg1)
          ∧ r.2.mem ((c.tc : Thread Cert.ScoresKernelIdeal.nD Cert.ScoresKernelIdeal.τ).loc Cert.ScoresKernelIdeal.main_arg2) = m ((c.tc : Thread Cert.ScoresKernelIdeal.nD Cert.ScoresKernelIdeal.τ).loc Cert.ScoresKernelIdeal.main_arg2)
          ∧ r.2.mem ((c.tc : Thread Cert.ScoresKernelIdeal.nD Cert.ScoresKernelIdeal.τ).loc Cert.ScoresKernelIdeal.main_arg3) = m ((c.tc : Thread Cert.ScoresKernelIdeal.nD Cert.ScoresKernelIdeal.τ).loc Cert.ScoresKernelIdeal.main_arg3)
          ∧ r.2.mem ((c.tc : Thread Cert.ScoresKernelIdeal.nD Cert.ScoresKernelIdeal.τ).loc Cert.ScoresKernelIdeal.main_arg4) = m ((c.tc : Thread Cert.ScoresKernelIdeal.nD Cert.ScoresKernelIdeal.τ).loc Cert.ScoresKernelIdeal.main_arg4))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v39) = v0 c
          ∧ r.2.mem ((c.tc : Thread Cert.ScoresReferenceIdeal.nD Cert.ScoresReferenceIdeal.τ).loc Cert.ScoresReferenceIdeal.main_v38) = v1 c
          ∧ r.2.mem ((c.tc : Thread Cert.ScoresReferenceIdeal.nD Cert.ScoresReferenceIdeal.τ).loc Cert.ScoresReferenceIdeal.main_v0_0) = v2 c
          ∧ r.2.mem ((c.tc : Thread Cert.ScoresReferenceIdeal.nD Cert.ScoresReferenceIdeal.τ).loc Cert.ScoresReferenceIdeal.main_v0_2) = v3 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2)
          ∧ r.2.mem ((c.tc : Thread Cert.ScoresReferenceIdeal.nD Cert.ScoresReferenceIdeal.τ).loc Cert.ScoresReferenceIdeal.main_arg3) = m' ((c.tc : Thread Cert.ScoresReferenceIdeal.nD Cert.ScoresReferenceIdeal.τ).loc Cert.ScoresReferenceIdeal.main_arg3)
          ∧ r.2.mem ((c.tc : Thread Cert.ScoresReferenceIdeal.nD Cert.ScoresReferenceIdeal.τ).loc Cert.ScoresReferenceIdeal.main_arg4) = m' ((c.tc : Thread Cert.ScoresReferenceIdeal.nD Cert.ScoresReferenceIdeal.τ).loc Cert.ScoresReferenceIdeal.main_arg4))

def Claim : Prop :=
  ∃ (hDocKernel : Cert.DocKernel.Facts) (hDocKernelIdeal : Cert.DocKernelIdeal.Facts) (hDocReferenceIdeal : Cert.DocReferenceIdeal.Facts) (hQueryKernel : Cert.QueryKernel.Facts) (hQueryKernelIdeal : Cert.QueryKernelIdeal.Facts) (hQueryReferenceIdeal : Cert.QueryReferenceIdeal.Facts) (hScoresKernel : Cert.ScoresKernel.Facts) (hScoresKernelIdeal : Cert.ScoresKernelIdeal.Facts) (hScoresReferenceIdeal : Cert.ScoresReferenceIdeal.Facts) (hPre_scorable : Cert.Pre_scorable.Facts),
    quiescent_DocKernel (hDocKernel := hDocKernel)
    ∧ quiescent_DocKernelIdeal (hDocKernelIdeal := hDocKernelIdeal)
    ∧ quiescent_DocReferenceIdeal (hDocReferenceIdeal := hDocReferenceIdeal)
    ∧ quiescent_QueryKernel (hQueryKernel := hQueryKernel)
    ∧ quiescent_QueryKernelIdeal (hQueryKernelIdeal := hQueryKernelIdeal)
    ∧ quiescent_QueryReferenceIdeal (hQueryReferenceIdeal := hQueryReferenceIdeal)
    ∧ quiescent_ScoresKernel (hScoresKernel := hScoresKernel)
    ∧ quiescent_ScoresKernelIdeal (hScoresKernelIdeal := hScoresKernelIdeal)
    ∧ quiescent_ScoresKernelIdeal_pre_scorable (hScoresKernelIdeal := hScoresKernelIdeal) (hPre_scorable := hPre_scorable)
    ∧ quiescent_ScoresReferenceIdeal (hScoresReferenceIdeal := hScoresReferenceIdeal)
    ∧ quiescent_ScoresReferenceIdeal_pre_scorable (hScoresReferenceIdeal := hScoresReferenceIdeal) (hPre_scorable := hPre_scorable)
    ∧ preserves_DocKernel_DocKernelIdeal
    ∧ algebraic_DocKernelIdeal_DocReferenceIdeal (hDocKernelIdeal := hDocKernelIdeal) (hDocReferenceIdeal := hDocReferenceIdeal)
    ∧ preserves_QueryKernel_QueryKernelIdeal
    ∧ algebraic_QueryKernelIdeal_QueryReferenceIdeal (hQueryKernelIdeal := hQueryKernelIdeal) (hQueryReferenceIdeal := hQueryReferenceIdeal)
    ∧ preserves_ScoresKernel_ScoresKernelIdeal
    ∧ algebraic_ScoresKernelIdeal_ScoresReferenceIdeal_pre_scorable (hScoresKernelIdeal := hScoresKernelIdeal) (hScoresReferenceIdeal := hScoresReferenceIdeal) (hPre_scorable := hPre_scorable)
-- ==== Pre_scorable.lean ====
abbrev S3x1280x2560 : Shape := ⟨3, ![3, 1280, 2560]⟩
abbrev S3x5120x80 : Shape := ⟨3, ![3, 5120, 80]⟩
abbrev S80x256x32 : Shape := ⟨3, ![80, 256, 32]⟩
abbrev S3x1280 : Shape := ⟨2, ![3, 1280]⟩
abbrev S3x1280x5120 : Shape := ⟨3, ![3, 1280, 5120]⟩
abbrev S_ : Shape := ⟨0, ![]⟩

class Facts : Prop where
  bcast_S_S3x1280 : S_.BroadcastsInDim S3x1280 (![] : Fin 0 → Fin S3x1280.rank)
  bcast_S_S80x256x32 : S_.BroadcastsInDim S80x256x32 (![] : Fin 0 → Fin S80x256x32.rank)
  reducesTo_S3x1280x5120_S3x1280_d2 : S3x1280x5120.ReducesTo [2] S3x1280
  h_S_ : 0 < S_.numel

variable [Facts]

def fn {F : FTy → Type} [FloatOps F] (main_arg0 : FVec F S3x1280x2560 .bf16) (main_arg1 : IVec S3x5120x80 8) (main_arg2 : IVec S80x256x32 16) (main_arg3 : IVec S3x1280 32) (main_arg4 : IVec S3x1280x5120 1) : IVec S3x1280 1 × IVec S80x256x32 1 × IVec S3x1280 1 :=
  let main_c : IVec S_ 32 := constantI S_ 32 0#32
  let main_v0 : IVec S3x1280 32 := broadcastInDim S3x1280 ![] bcast_S_S3x1280 main_c
  let main_v1 : IVec S3x1280 1 := cmpi .sge main_arg3 main_v0
  let main_c_0 : IVec S_ 32 := constantI S_ 32 5120#32
  let main_v2 : IVec S3x1280 32 := broadcastInDim S3x1280 ![] bcast_S_S3x1280 main_c_0
  let main_v3 : IVec S3x1280 1 := cmpi .slt main_arg3 main_v2
  let main_v4 : IVec S3x1280 1 := andi main_v1 main_v3
  let main_v5 : FVec F S80x256x32 .bf16 := bitcastToFloat .bf16 main_arg2
  let main_v6 : FVec F S80x256x32 .bf16 := Host.absf main_v5
  let main_cst : FVec F S_ .bf16 := constant S_ .bf16 0x7F80#16
  let main_v7 : FVec F S80x256x32 .bf16 := broadcastInDim S80x256x32 ![] bcast_S_S80x256x32 main_cst
  let main_v8 : IVec S80x256x32 1 := cmpf .olt main_v6 main_v7
  let main_c_1 : IVec S_ 1 := constantI S_ 1 1#1
  let main_v9 : IVec S3x1280 1 := (fun x v => Host.reduce IntOp.andi x v reducesTo_S3x1280x5120_S3x1280_d2 h_S_) main_arg4 main_c_1
  let main_v10 : IVec S3x1280 1 := noti main_v9
  (main_v4, main_v8, main_v10)
-- ==== DocKernel.lean ====
abbrev S3x1280x5120 : Shape := ⟨3, ![3, 1280, 5120]⟩
abbrev S3x1280x2560 : Shape := ⟨3, ![3, 1280, 2560]⟩
abbrev S3x1280x1 : Shape := ⟨3, ![3, 1280, 1]⟩
abbrev S3x5120x2560 : Shape := ⟨3, ![3, 5120, 2560]⟩
abbrev S1x1280x512 : Shape := ⟨3, ![1, 1280, 512]⟩
abbrev S1x1280x2560 : Shape := ⟨3, ![1, 1280, 2560]⟩
abbrev S1x1280x1 : Shape := ⟨3, ![1, 1280, 1]⟩
abbrev S1x512x2560 : Shape := ⟨3, ![1, 512, 2560]⟩
abbrev S1280x2560 : Shape := ⟨2, ![1280, 2560]⟩
abbrev S1280x1 : Shape := ⟨2, ![1280, 1]⟩
abbrev S1280x512 : Shape := ⟨2, ![1280, 512]⟩
abbrev S512x2560 : Shape := ⟨2, ![512, 2560]⟩

abbrev nBuf : Space → Nat
  | .hbm => 4
  | .vmem => 9
  | .smem => 0
  | _ => 0

abbrev bufTy : (tb : Table) → Fin (tcTables nBuf tb) → BufTy
  | .hbm, ⟨0, _⟩ => ⟨S3x1280x5120, .bf16⟩
  | .hbm, ⟨1, _⟩ => ⟨S3x1280x2560, .fp8e4m3⟩
  | .hbm, ⟨2, _⟩ => ⟨S3x1280x1, .f32⟩
  | .hbm, ⟨3, _⟩ => ⟨S3x5120x2560, .f32⟩
  | .local _ .vmem, ⟨0, _⟩ => ⟨S1x1280x512, .bf16⟩
  | .local _ .vmem, ⟨1, _⟩ => ⟨S1x1280x512, .bf16⟩
  | .local _ .vmem, ⟨2, _⟩ => ⟨S1x1280x2560, .fp8e4m3⟩
  | .local _ .vmem, ⟨3, _⟩ => ⟨S1x1280x2560, .fp8e4m3⟩
  | .local _ .vmem, ⟨4, _⟩ => ⟨S1x1280x1, .f32⟩
  | .local _ .vmem, ⟨5, _⟩ => ⟨S1x1280x1, .f32⟩
  | .local _ .vmem, ⟨6, _⟩ => ⟨S1x512x2560, .f32⟩
  | .local _ .vmem, ⟨7, _⟩ => ⟨S1x512x2560, .f32⟩
  | .local _ .vmem, ⟨8, _⟩ => ⟨S1280x2560, .bf16⟩
  | _, _ => ⟨S3x1280x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1280x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DocReferenceIdeal.lean ====
abbrev S3x1280x5120 : Shape := ⟨3, ![3, 1280, 5120]⟩
abbrev S3x1280x2560 : Shape := ⟨3, ![3, 1280, 2560]⟩
abbrev S3x1280x1 : Shape := ⟨3, ![3, 1280, 1]⟩
abbrev S3x5120x2560 : Shape := ⟨3, ![3, 5120, 2560]⟩

abbrev nBuf : Space → Nat
  | .hbm => 4
  | .vmem => 4
  | .smem => 0
  | _ => 0

abbrev bufTy : (tb : Table) → Fin (tcTables nBuf tb) → BufTy
  | .hbm, ⟨0, _⟩ => ⟨S3x1280x5120, .bf16⟩
  | .hbm, ⟨1, _⟩ => ⟨S3x1280x2560, .fp8e4m3⟩
  | .hbm, ⟨2, _⟩ => ⟨S3x1280x1, .f32⟩
  | .hbm, ⟨3, _⟩ => ⟨S3x5120x2560, .f32⟩
  | .local _ .vmem, ⟨0, _⟩ => ⟨S3x1280x5120, .bf16⟩
  | .local _ .vmem, ⟨1, _⟩ => ⟨S3x1280x2560, .fp8e4m3⟩
  | .local _ .vmem, ⟨2, _⟩ => ⟨S3x1280x1, .f32⟩
  | .local _ .vmem, ⟨3, _⟩ => ⟨S3x5120x2560, .f32⟩
  | _, _ => ⟨S3x1280x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x1280x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1280x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1280x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x5120x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== QueryKernel.lean ====
abbrev S3x1280x5120 : Shape := ⟨3, ![3, 1280, 5120]⟩
abbrev S3x5120x80 : Shape := ⟨3, ![3, 5120, 80]⟩
abbrev S80x256x32 : Shape := ⟨3, ![80, 256, 32]⟩
abbrev S15360x80 : Shape := ⟨2, ![15360, 80]⟩
abbrev S80x15360 : Shape := ⟨2, ![80, 15360]⟩
abbrev S80x256x16x2 : Shape := ⟨4, ![80, 256, 16, 2]⟩
abbrev S80x256x16 : Shape := ⟨3, ![80, 256, 16]⟩
abbrev S80x16x256 : Shape := ⟨3, ![80, 16, 256]⟩
abbrev S1280x256 : Shape := ⟨2, ![1280, 256]⟩
abbrev S3x1280x2560 : Shape := ⟨3, ![3, 1280, 2560]⟩
abbrev S1x1280x5120 : Shape := ⟨3, ![1, 1280, 5120]⟩
abbrev S16x5120 : Shape := ⟨2, ![16, 5120]⟩
abbrev S256x256 : Shape := ⟨2, ![256, 256]⟩
abbrev S1x1280x512 : Shape := ⟨3, ![1, 1280, 512]⟩
abbrev S256x5120 : Shape := ⟨2, ![256, 5120]⟩
abbrev S8x512 : Shape := ⟨2, ![8, 512]⟩
abbrev S1x128 : Shape := ⟨2, ![1, 128]⟩
abbrev S8x128 : Shape := ⟨2, ![8, 128]⟩
abbrev S8x128x1 : Shape := ⟨3, ![8, 128, 1]⟩
abbrev S1280x5120 : Shape := ⟨2, ![1280, 5120]⟩
abbrev S512x5120 : Shape := ⟨2, ![512, 5120]⟩
abbrev S1280x512 : Shape := ⟨2, ![1280, 512]⟩

abbrev nBuf : Space → Nat
  | .hbm => 11
  | .vmem => 9
  | .smem => 0
  | _ => 0

abbrev bufTy : (tb : Table) → Fin (tcTables nBuf tb) → BufTy
  | .hbm, ⟨0, _⟩ => ⟨S3x1280x5120, .bf16⟩
  | .hbm, ⟨1, _⟩ => ⟨S3x5120x80, .i8⟩
  | .hbm, ⟨2, _⟩ => ⟨S80x256x32, .i16⟩
  | .hbm, ⟨3, _⟩ => ⟨S15360x80, .i8⟩
  | .hbm, ⟨4, _⟩ => ⟨S80x15360, .i8⟩
  | .hbm, ⟨5, _⟩ => ⟨S80x15360, .i32⟩
  | .hbm, ⟨6, _⟩ => ⟨S80x256x16x2, .i16⟩
  | .hbm, ⟨7, _⟩ => ⟨S80x256x16, .i32⟩
  | .hbm, ⟨8, _⟩ => ⟨S80x16x256, .i32⟩
  | .hbm, ⟨9, _⟩ => ⟨S1280x256, .i32⟩
  | .hbm, ⟨10, _⟩ => ⟨S3x1280x2560, .f32⟩
  | .local _ .vmem, ⟨0, _⟩ => ⟨S1x1280x5120, .bf16⟩
  | .local _ .vmem, ⟨1, _⟩ => ⟨S1x1280x5120, .bf16⟩
  | .local _ .vmem, ⟨2, _⟩ => ⟨S16x5120, .i32⟩
  | .local _ .vmem, ⟨3, _⟩ => ⟨S16x5120, .i32⟩
  | .local _ .vmem, ⟨4, _⟩ => ⟨S256x256, .i32⟩
  | .local _ .vmem, ⟨5, _⟩ => ⟨S256x256, .i32⟩
  | .local _ .vmem, ⟨6, _⟩ => ⟨S1x1280x512, .f32⟩
  | .local _ .vmem, ⟨7, _⟩ => ⟨S1x1280x512, .f32⟩
  | .local _ .vmem, ⟨8, _⟩ => ⟨S256x5120, .i32⟩
  | _, _ => ⟨S3x1280x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 5], ![false, false]⟩

@[reducible] def k0_t1_loop : Scf.Loop 32 :=
  let c0_i32 : BitVec 32 := 0#32
  let c20_i32 : BitVec 32 := 20#32
  let v0 : BitVec 32 := Scalar.addi c0_i32 c20_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c10_i32_15 : BitVec 32 := 10#32
  let c0_i32_16 : BitVec 32 := 0#32
  let v28 : BitVec 1 := Scalar.cmpi .eq c10_i32_15 c0_i32_16
  let c1_i32_17 : BitVec 32 := 1#32
  let v29 : BitVec 32 := Scalar.select v28 c1_i32_17 c10_i32_15
  let v30 : BitVec 32 := Scalar.remsi arg7 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  v38
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c0_i32_9 : BitVec 32 := 0#32
  let v12 : BitVec 1 := Scalar.cmpi .sgt arg7 c0_i32_9
  let v13 : BitVec 32 := Scalar.extui v12
  let c0_i32_10 : BitVec 32 := 0#32
  let v14 : BitVec 1 := Scalar.cmpi .slt arg7 c0_i32_10
  let v15 : BitVec 32 := Scalar.extui v14
  let v16 : BitVec 32 := Scalar.subi v13 v15
  let c10_i32 : BitVec 32 := 10#32
  let c0_i32_11 : BitVec 32 := 0#32
  let v17 : BitVec 1 := Scalar.cmpi .sgt c10_i32 c0_i32_11
  let v18 : BitVec 32 := Scalar.extui v17
  let c0_i32_12 : BitVec 32 := 0#32
  let v19 : BitVec 1 := Scalar.cmpi .slt c10_i32 c0_i32_12
  let v20 : BitVec 32 := Scalar.extui v19
  let v21 : BitVec 32 := Scalar.subi v18 v20
  let v22 : BitVec 1 := Scalar.cmpi .ne v16 v21
  let v23 : BitVec 32 := Scalar.remsi arg7 c10_i32
  let c0_i32_13 : BitVec 32 := 0#32
  let v24 : BitVec 1 := Scalar.cmpi .ne v23 c0_i32_13
  let v25 : BitVec 1 := Scalar.andi v22 v24
  let v11 : BitVec 32 := Scalar.divsi arg7 c10_i32
  let c1_i32_14 : BitVec 32 := 1#32
  let v26 : BitVec 32 := Scalar.subi v11 c1_i32_14
  let v27 : BitVec 32 := Scalar.select v25 v26 v11
  let c8_i32 : BitVec 32 := 8#32
  let v40 : BitVec 32 := Scalar.muli v27 c8_i32
  v40
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c0_i32_9 : BitVec 32 := 0#32
  let v12 : BitVec 1 := Scalar.cmpi .sgt arg7 c0_i32_9
  let v13 : BitVec 32 := Scalar.extui v12
  let c0_i32_10 : BitVec 32 := 0#32
  let v14 : BitVec 1 := Scalar.cmpi .slt arg7 c0_i32_10
  let v15 : BitVec 32 := Scalar.extui v14
  let v16 : BitVec 32 := Scalar.subi v13 v15
  let c10_i32 : BitVec 32 := 10#32
  let c0_i32_11 : BitVec 32 := 0#32
  let v17 : BitVec 1 := Scalar.cmpi .sgt c10_i32 c0_i32_11
  let v18 : BitVec 32 := Scalar.extui v17
  let c0_i32_12 : BitVec 32 := 0#32
  let v19 : BitVec 1 := Scalar.cmpi .slt c10_i32 c0_i32_12
  let v20 : BitVec 32 := Scalar.extui v19
  let v21 : BitVec 32 := Scalar.subi v18 v20
  let v22 : BitVec 1 := Scalar.cmpi .ne v16 v21
  let v23 : BitVec 32 := Scalar.remsi arg7 c10_i32
  let c0_i32_13 : BitVec 32 := 0#32
  let v24 : BitVec 1 := Scalar.cmpi .ne v23 c0_i32_13
  let v25 : BitVec 1 := Scalar.andi v22 v24
  let v11 : BitVec 32 := Scalar.divsi arg7 c10_i32
  let c1_i32_14 : BitVec 32 := 1#32
  let v26 : BitVec 32 := Scalar.subi v11 c1_i32_14
  let v27 : BitVec 32 := Scalar.select v25 v26 v11
  let c8_i32 : BitVec 32 := 8#32
  let v40 : BitVec 32 := Scalar.muli v27 c8_i32
  let v41 : BitVec 32 := v40
  let v42 : Index := Scalar.indexCast v41
  let c10_i32_15 : BitVec 32 := 10#32
  let c0_i32_16 : BitVec 32 := 0#32
  let v28 : BitVec 1 := Scalar.cmpi .eq c10_i32_15 c0_i32_16
  let c1_i32_17 : BitVec 32 := 1#32
  let v29 : BitVec 32 := Scalar.select v28 c1_i32_17 c10_i32_15
  let v30 : BitVec 32 := Scalar.remsi arg7 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v43 : Index := Scalar.indexCast v39
  ![v42.toNat, v43.toNat]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c0_i32_9 : BitVec 32 := 0#32
  let v12 : BitVec 1 := Scalar.cmpi .sgt arg7 c0_i32_9
  let v13 : BitVec 32 := Scalar.extui v12
  let c0_i32_10 : BitVec 32 := 0#32
  let v14 : BitVec 1 := Scalar.cmpi .slt arg7 c0_i32_10
  let v15 : BitVec 32 := Scalar.extui v14
  let v16 : BitVec 32 := Scalar.subi v13 v15
  let c10_i32 : BitVec 32 := 10#32
  let c0_i32_11 : BitVec 32 := 0#32
  let v17 : BitVec 1 := Scalar.cmpi .sgt c10_i32 c0_i32_11
  let v18 : BitVec 32 := Scalar.extui v17
  let c0_i32_12 : BitVec 32 := 0#32
  let v19 : BitVec 1 := Scalar.cmpi .slt c10_i32 c0_i32_12
  let v20 : BitVec 32 := Scalar.extui v19
  let v21 : BitVec 32 := Scalar.subi v18 v20
  let v22 : BitVec 1 := Scalar.cmpi .ne v16 v21
  let v23 : BitVec 32 := Scalar.remsi arg7 c10_i32
  let c0_i32_13 : BitVec 32 := 0#32
  let v24 : BitVec 1 := Scalar.cmpi .ne v23 c0_i32_13
  let v25 : BitVec 1 := Scalar.andi v22 v24
  let v11 : BitVec 32 := Scalar.divsi arg7 c10_i32
  let c1_i32_14 : BitVec 32 := 1#32
  let v26 : BitVec 32 := Scalar.subi v11 c1_i32_14
  let v27 : BitVec 32 := Scalar.select v25 v26 v11
  let c8_i32_21 : BitVec 32 := 8#32
  let v46 : BitVec 32 := Scalar.muli v27 c8_i32_21
  let c16_i32 : BitVec 32 := 16#32
  let v47 : BitVec 32 := Scalar.muli v46 c16_i32
  v47
def k0_off2 (k0_t1 : Fin k0_t1_loop.trips) (c0_i32_22 : BitVec 32) (c0_i32_23 : BitVec 32) : Fin 2 → Nat :=
  let c0_i32 : BitVec 32 := 0#32
  let c1_i32 : BitVec 32 := 1#32
  let arg7 : BitVec 32 := Scf.iv c0_i32 c1_i32 k0_t1
  let c0_i32_9 : BitVec 32 := 0#32
  let v12 : BitVec 1 := Scalar.cmpi .sgt arg7 c0_i32_9
  let v13 : BitVec 32 := Scalar.extui v12
  let c0_i32_10 : BitVec 32 := 0#32
  let v14 : BitVec 1 := Scalar.cmpi .slt arg7 c0_i32_10
  let v15 : BitVec 32 := Scalar.extui v14
  let v16 : BitVec 32 := Scalar.subi v13 v15
  let c10_i32 : BitVec 32 := 10#32
  let c0_i32_11 : BitVec 32 := 0#32
  let v17 : BitVec 1 := Scalar.cmpi .sgt c10_i32 c0_i32_11
  let v18 : BitVec 32 := Scalar.extui v17
  let c0_i32_12 : BitVec 32 := 0#32
  let v19 : BitVec 1 := Scalar.cmpi .slt c10_i32 c0_i32_12
  let v20 : BitVec 32 := Scalar.extui v19
  let v21 : BitVec 32 := Scalar.subi v18 v20
  let v22 : BitVec 1 := Scalar.cmpi .ne v16 v21
  let v23 : BitVec 32 := Scalar.remsi arg7 c10_i32
  let c0_i32_13 : BitVec 32 := 0#32
  let v24 : BitVec 1 := Scalar.cmpi .ne v23 c0_i32_13
  let v25 : BitVec 1 := Scalar.andi v22 v24
  let v11 : BitVec 32 := Scalar.divsi arg7 c10_i32
  let c1_i32_14 : BitVec 32 := 1#32
  let v26 : BitVec 32 := Scalar.subi v11 c1_i32_14
  let v27 : BitVec 32 := Scalar.select v25 v26 v11
  let c8_i32_21 : BitVec 32 := 8#32
  let v46 : BitVec 32 := Scalar.muli v27 c8_i32_21
  let c16_i32 : BitVec 32 := 16#32
  let v47 : BitVec 32 := Scalar.muli v46 c16_i32
  let v48 : BitVec 32 := v47
  let v56 : BitVec 32 := Scalar.addi v48 c0_i32_22
  let v57 : BitVec 32 := Scalar.addi v56 c0_i32_23
  let v58 : Index := Scalar.indexCast v57
  let c0_24 : Index := 0#32
  ![v58.toNat, 0]
def k0_off3 (k0_t1 : Fin k0_t1_loop.trips) (c0_i32_22 : BitVec 32) (c0_i32_23 : BitVec 32) : Fin 2 → Nat :=
  let c0_i32 : BitVec 32 := 0#32
  let c1_i32 : BitVec 32 := 1#32
  let arg7 : BitVec 32 := Scf.iv c0_i32 c1_i32 k0_t1
  let c0_i32_9 : BitVec 32 := 0#32
  let v12 : BitVec 1 := Scalar.cmpi .sgt arg7 c0_i32_9
  let v13 : BitVec 32 := Scalar.extui v12
  let c0_i32_10 : BitVec 32 := 0#32
  let v14 : BitVec 1 := Scalar.cmpi .slt arg7 c0_i32_10
  let v15 : BitVec 32 := Scalar.extui v14
  let v16 : BitVec 32 := Scalar.subi v13 v15
  let c10_i32 : BitVec 32 := 10#32
  let c0_i32_11 : BitVec 32 := 0#32
  let v17 : BitVec 1 := Scalar.cmpi .sgt c10_i32 c0_i32_11
  let v18 : BitVec 32 := Scalar.extui v17
  let c0_i32_12 : BitVec 32 := 0#32
  let v19 : BitVec 1 := Scalar.cmpi .slt c10_i32 c0_i32_12
  let v20 : BitVec 32 := Scalar.extui v19
  let v21 : BitVec 32 := Scalar.subi v18 v20
  let v22 : BitVec 1 := Scalar.cmpi .ne v16 v21
  let v23 : BitVec 32 := Scalar.remsi arg7 c10_i32
  let c0_i32_13 : BitVec 32 := 0#32
  let v24 : BitVec 1 := Scalar.cmpi .ne v23 c0_i32_13
  let v25 : BitVec 1 := Scalar.andi v22 v24
  let v11 : BitVec 32 := Scalar.divsi arg7 c10_i32
  let c1_i32_14 : BitVec 32 := 1#32
  let v26 : BitVec 32 := Scalar.subi v11 c1_i32_14
  let v27 : BitVec 32 := Scalar.select v25 v26 v11
  let c8_i32_21 : BitVec 32 := 8#32
  let v46 : BitVec 32 := Scalar.muli v27 c8_i32_21
  let c16_i32 : BitVec 32 := 16#32
  let v47 : BitVec 32 := Scalar.muli v46 c16_i32
  let v48 : BitVec 32 := v47
  let v56 : BitVec 32 := Scalar.addi v48 c0_i32_22
  let v57 : BitVec 32 := Scalar.addi v56 c0_i32_23
  let v61 : Index := Scalar.indexCast v57
  let c128 : Index := 128#32
  ![v61.toNat, 128]
def k0_off4 (k0_t1 : Fin k0_t1_loop.trips) (c0_i32_22 : BitVec 32) (c0_i32_23 : BitVec 32) (c0_i32_29 : BitVec 32) : Fin 2 → Nat :=
  let c0_i32 : BitVec 32 := 0#32
  let c1_i32 : BitVec 32 := 1#32
  let arg7 : BitVec 32 := Scf.iv c0_i32 c1_i32 k0_t1
  let c0_i32_9 : BitVec 32 := 0#32
  let v12 : BitVec 1 := Scalar.cmpi .sgt arg7 c0_i32_9
  let v13 : BitVec 32 := Scalar.extui v12
  let c0_i32_10 : BitVec 32 := 0#32
  let v14 : BitVec 1 := Scalar.cmpi .slt arg7 c0_i32_10
  let v15 : BitVec 32 := Scalar.extui v14
  let v16 : BitVec 32 := Scalar.subi v13 v15
  let c10_i32 : BitVec 32 := 10#32
  let c0_i32_11 : BitVec 32 := 0#32
  let v17 : BitVec 1 := Scalar.cmpi .sgt c10_i32 c0_i32_11
  let v18 : BitVec 32 := Scalar.extui v17
  let c0_i32_12 : BitVec 32 := 0#32
  let v19 : BitVec 1 := Scalar.cmpi .slt c10_i32 c0_i32_12
  let v20 : BitVec 32 := Scalar.extui v19
  let v21 : BitVec 32 := Scalar.subi v18 v20
  let v22 : BitVec 1 := Scalar.cmpi .ne v16 v21
  let v23 : BitVec 32 := Scalar.remsi arg7 c10_i32
  let c0_i32_13 : BitVec 32 := 0#32
  let v24 : BitVec 1 := Scalar.cmpi .ne v23 c0_i32_13
  let v25 : BitVec 1 := Scalar.andi v22 v24
  let v11 : BitVec 32 := Scalar.divsi arg7 c10_i32
  let c1_i32_14 : BitVec 32 := 1#32
  let v26 : BitVec 32 := Scalar.subi v11 c1_i32_14
  let v27 : BitVec 32 := Scalar.select v25 v26 v11
  let c8_i32_21 : BitVec 32 := 8#32
  let v46 : BitVec 32 := Scalar.muli v27 c8_i32_21
  let c16_i32 : BitVec 32 := 16#32
  let v47 : BitVec 32 := Scalar.muli v46 c16_i32
  let v48 : BitVec 32 := v47
  let v56 : BitVec 32 := Scalar.addi v48 c0_i32_22
  let v57 : BitVec 32 := Scalar.addi v56 c0_i32_23
  let v82 : Index := Scalar.indexCast v57
  let c10_i32_15 : BitVec 32 := 10#32
  let c0_i32_16 : BitVec 32 := 0#32
  let v28 : BitVec 1 := Scalar.cmpi .eq c10_i32_15 c0_i32_16
  let c1_i32_17 : BitVec 32 := 1#32
  let v29 : BitVec 32 := Scalar.select v28 c1_i32_17 c10_i32_15
  let v30 : BitVec 32 := Scalar.remsi arg7 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v81 : BitVec 32 := Scalar.addi v39 c0_i32_29
  let v83 : Index := Scalar.indexCast v81
  ![v82.toNat, v83.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1280x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x5120 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryReferenceIdeal.lean ====
abbrev S3x1280x5120 : Shape := ⟨3, ![3, 1280, 5120]⟩
abbrev S3x5120x80 : Shape := ⟨3, ![3, 5120, 80]⟩
abbrev S80x256x32 : Shape := ⟨3, ![80, 256, 32]⟩
abbrev S80 : Shape := ⟨1, ![80]⟩
abbrev S_ : Shape := ⟨0, ![]⟩
abbrev S3x5120x80x1 : Shape := ⟨4, ![3, 5120, 80, 1]⟩
abbrev S3x5120x80x2 : Shape := ⟨4, ![3, 5120, 80, 2]⟩
abbrev S3x5120x80x32 : Shape := ⟨4, ![3, 5120, 80, 32]⟩
abbrev S3x5120x2560 : Shape := ⟨3, ![3, 5120, 2560]⟩
abbrev S3x1280x2560 : Shape := ⟨3, ![3, 1280, 2560]⟩

abbrev nBuf : Space → Nat
  | .hbm => 30
  | .vmem => 0
  | .smem => 0
  | _ => 0

abbrev bufTy : (tb : Table) → Fin (tcTables nBuf tb) → BufTy
  | .hbm, ⟨0, _⟩ => ⟨S3x1280x5120, .bf16⟩
  | .hbm, ⟨1, _⟩ => ⟨S3x5120x80, .i8⟩
  | .hbm, ⟨2, _⟩ => ⟨S80x256x32, .i16⟩
  | .hbm, ⟨3, _⟩ => ⟨S80x256x32, .bf16⟩
  | .hbm, ⟨4, _⟩ => ⟨S3x5120x80, .i32⟩
  | .hbm, ⟨5, _⟩ => ⟨S80, .i32⟩
  | .hbm, ⟨6, _⟩ => ⟨S_, .i32⟩
  | .hbm, ⟨7, _⟩ => ⟨S80, .i32⟩
  | .hbm, ⟨8, _⟩ => ⟨S80, .i1⟩
  | .hbm, ⟨9, _⟩ => ⟨S_, .i32⟩
  | .hbm, ⟨10, _⟩ => ⟨S80, .i32⟩
  | .hbm, ⟨11, _⟩ => ⟨S80, .i32⟩
  | .hbm, ⟨12, _⟩ => ⟨S80, .i32⟩
  | .hbm, ⟨13, _⟩ => ⟨S_, .i32⟩
  | .hbm, ⟨14, _⟩ => ⟨S3x5120x80, .i32⟩
  | .hbm, ⟨15, _⟩ => ⟨S3x5120x80, .i1⟩
  | .hbm, ⟨16, _⟩ => ⟨S_, .i32⟩
  | .hbm, ⟨17, _⟩ => ⟨S3x5120x80, .i32⟩
  | .hbm, ⟨18, _⟩ => ⟨S3x5120x80, .i32⟩
  | .hbm, ⟨19, _⟩ => ⟨S3x5120x80, .i32⟩
  | .hbm, ⟨20, _⟩ => ⟨S3x5120x80, .i32⟩
  | .hbm, ⟨21, _⟩ => ⟨S3x5120x80x1, .i32⟩
  | .hbm, ⟨22, _⟩ => ⟨S3x5120x80x1, .i32⟩
  | .hbm, ⟨23, _⟩ => ⟨S3x5120x80x2, .i32⟩
  | .hbm, ⟨24, _⟩ => ⟨S3x5120x80x32, .bf16⟩
  | .hbm, ⟨25, _⟩ => ⟨S3x5120x2560, .bf16⟩
  | .hbm, ⟨26, _⟩ => ⟨S3x1280x2560, .f32⟩
  | .hbm, ⟨27, _⟩ => ⟨S_, .f32⟩
  | .hbm, ⟨28, _⟩ => ⟨S3x1280x2560, .f32⟩
  | .hbm, ⟨29, _⟩ => ⟨S3x1280x2560, .f32⟩
  | _, _ => ⟨S3x1280x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== ScoresKernel.lean ====
abbrev S3x1280x2560 : Shape := ⟨3, ![3, 1280, 2560]⟩
abbrev S3x5120x80 : Shape := ⟨3, ![3, 5120, 80]⟩
abbrev S80x256x32 : Shape := ⟨3, ![80, 256, 32]⟩
abbrev S3x1280 : Shape := ⟨2, ![3, 1280]⟩
abbrev S3x1280x5120 : Shape := ⟨3, ![3, 1280, 5120]⟩
abbrev S15360x80 : Shape := ⟨2, ![15360, 80]⟩
abbrev S80x15360 : Shape := ⟨2, ![80, 15360]⟩
abbrev S80x256x16x2 : Shape := ⟨4, ![80, 256, 16, 2]⟩
abbrev S80x256x16 : Shape := ⟨3, ![80, 256, 16]⟩
abbrev S80x16x256 : Shape := ⟨3, ![80, 16, 256]⟩
abbrev S1280x256 : Shape := ⟨2, ![1280, 256]⟩
abbrev S3x1280x1 : Shape := ⟨3, ![3, 1280, 1]⟩
abbrev S1x256x2560 : Shape := ⟨3, ![1, 256, 2560]⟩
abbrev S80x5120 : Shape := ⟨2, ![80, 5120]⟩
abbrev S1x256x1 : Shape := ⟨3, ![1, 256, 1]⟩
abbrev S1x256x5120 : Shape := ⟨3, ![1, 256, 5120]⟩
abbrev S1280x5120 : Shape := ⟨2, ![1280, 5120]⟩
abbrev S256x5120 : Shape := ⟨2, ![256, 5120]⟩
abbrev S256x2560 : Shape := ⟨2, ![256, 2560]⟩
abbrev S8x512 : Shape := ⟨2, ![8, 512]⟩
abbrev S1x128 : Shape := ⟨2, ![1, 128]⟩
abbrev S8x128 : Shape := ⟨2, ![8, 128]⟩
abbrev S8x128x1 : Shape := ⟨3, ![8, 128, 1]⟩
abbrev S256 : Shape := ⟨1, ![256]⟩
abbrev S256x1 : Shape := ⟨2, ![256, 1]⟩
abbrev S1280x512 : Shape := ⟨2, ![1280, 512]⟩
abbrev S2560x512 : Shape := ⟨2, ![2560, 512]⟩
abbrev S256x512 : Shape := ⟨2, ![256, 512]⟩
abbrev S1x256x512 : Shape := ⟨3, ![1, 256, 512]⟩

abbrev nBuf : Space → Nat
  | .hbm => 18
  | .vmem => 18
  | .smem => 0
  | _ => 0

abbrev bufTy : (tb : Table) → Fin (tcTables nBuf tb) → BufTy
  | .hbm, ⟨0, _⟩ => ⟨S3x1280x2560, .bf16⟩
  | .hbm, ⟨1, _⟩ => ⟨S3x5120x80, .i8⟩
  | .hbm, ⟨2, _⟩ => ⟨S80x256x32, .i16⟩
  | .hbm, ⟨3, _⟩ => ⟨S3x1280, .i32⟩
  | .hbm, ⟨4, _⟩ => ⟨S3x1280x5120, .i1⟩
  | .hbm, ⟨5, _⟩ => ⟨S15360x80, .i8⟩
  | .hbm, ⟨6, _⟩ => ⟨S80x15360, .i8⟩
  | .hbm, ⟨7, _⟩ => ⟨S80x15360, .i32⟩
  | .hbm, ⟨8, _⟩ => ⟨S80x256x16x2, .i16⟩
  | .hbm, ⟨9, _⟩ => ⟨S80x256x16, .i32⟩
  | .hbm, ⟨10, _⟩ => ⟨S80x16x256, .i32⟩
  | .hbm, ⟨11, _⟩ => ⟨S1280x256, .i32⟩
  | .hbm, ⟨12, _⟩ => ⟨S3x1280x1, .i32⟩
  | .hbm, ⟨13, _⟩ => ⟨S3x1280x5120, .i8⟩
  | .hbm, ⟨14, _⟩ => ⟨S3x1280x1, .f32⟩
  | .hbm, ⟨15, _⟩ => ⟨S3x1280x5120, .bf16⟩
  | .hbm, ⟨16, _⟩ => ⟨S3x1280x2560, .fp8e4m3⟩
  | .hbm, ⟨17, _⟩ => ⟨S3x1280x1, .f32⟩
  | .local _ .vmem, ⟨0, _⟩ => ⟨S1x256x2560, .bf16⟩
  | .local _ .vmem, ⟨1, _⟩ => ⟨S1x256x2560, .bf16⟩
  | .local _ .vmem, ⟨2, _⟩ => ⟨S80x5120, .i32⟩
  | .local _ .vmem, ⟨3, _⟩ => ⟨S80x5120, .i32⟩
  | .local _ .vmem, ⟨4, _⟩ => ⟨S1280x256, .i32⟩
  | .local _ .vmem, ⟨5, _⟩ => ⟨S1x256x1, .i32⟩
  | .local _ .vmem, ⟨6, _⟩ => ⟨S1x256x1, .i32⟩
  | .local _ .vmem, ⟨7, _⟩ => ⟨S1x256x5120, .i8⟩
  | .local _ .vmem, ⟨8, _⟩ => ⟨S1x256x5120, .i8⟩
  | .local _ .vmem, ⟨9, _⟩ => ⟨S1x256x1, .f32⟩
  | .local _ .vmem, ⟨10, _⟩ => ⟨S1x256x1, .f32⟩
  | .local _ .vmem, ⟨11, _⟩ => ⟨S1x256x5120, .bf16⟩
  | .local _ .vmem, ⟨12, _⟩ => ⟨S1x256x2560, .fp8e4m3⟩
  | .local _ .vmem, ⟨13, _⟩ => ⟨S1x256x1, .f32⟩
  | .local _ .vmem, ⟨14, _⟩ => ⟨S1x256x1, .f32⟩
  | .local _ .vmem, ⟨15, _⟩ => ⟨S1280x5120, .i32⟩
  | .local _ .vmem, ⟨16, _⟩ => ⟨S256x5120, .f32⟩
  | .local _ .vmem, ⟨17, _⟩ => ⟨S256x2560, .bf16⟩
  | _, _ => ⟨S3x1280x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![3, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_45 : BitVec 32 := 0#32
  let c100_i32 : BitVec 32 := 100#32
  let v77 : BitVec 32 := Scalar.addi c0_i32_45 c100_i32
  let c1_i32_46 : BitVec 32 := 1#32
  ⟨c0_i32_45, v77, c1_i32_46⟩
def k0_mult1 (k0_t1 : Fin k0_t1_loop.trips) : BitVec 32 :=
  let c0_i32_45 : BitVec 32 := 0#32
  let c1_i32_46 : BitVec 32 := 1#32
  let arg14 : BitVec 32 := Scf.iv c0_i32_45 c1_i32_46 k0_t1
  let c10_i32_55 : BitVec 32 := 10#32
  let c0_i32_56 : BitVec 32 := 0#32
  let v95 : BitVec 1 := Scalar.cmpi .eq c10_i32_55 c0_i32_56
  let c1_i32_57 : BitVec 32 := 1#32
  let v96 : BitVec 32 := Scalar.select v95 c1_i32_57 c10_i32_55
  let v97 : BitVec 32 := Scalar.remsi arg14 v96
  let c0_i32_59 : BitVec 32 := 0#32
  let v99 : BitVec 1 := Scalar.cmpi .slt v97 c0_i32_59
  let c0_i32_60 : BitVec 32 := 0#32
  let v100 : BitVec 1 := Scalar.cmpi .slt v96 c0_i32_60
  let v101 : BitVec 1 := Scalar.xori v99 v100
  let c0_i32_58 : BitVec 32 := 0#32
  let v98 : BitVec 1 := Scalar.cmpi .ne v97 c0_i32_58
  let v102 : BitVec 1 := Scalar.andi v101 v98
  let v103 : BitVec 32 := Scalar.addi v97 v96
  let v104 : BitVec 32 := Scalar.select v102 v103 v97
  let c512_i32 : BitVec 32 := 512#32
  let v105 : BitVec 32 := Scalar.muli v104 c512_i32
  v105
def k0_mult2 (k0_t1 : Fin k0_t1_loop.trips) : BitVec 32 :=
  let c0_i32_45 : BitVec 32 := 0#32
  let c1_i32_46 : BitVec 32 := 1#32
  let arg14 : BitVec 32 := Scf.iv c0_i32_45 c1_i32_46 k0_t1
  let c0_i32_49 : BitVec 32 := 0#32
  let v79 : BitVec 1 := Scalar.cmpi .sgt arg14 c0_i32_49
  let v80 : BitVec 32 := Scalar.extui v79
  let c0_i32_50 : BitVec 32 := 0#32
  let v81 : BitVec 1 := Scalar.cmpi .slt arg14 c0_i32_50
  let v82 : BitVec 32 := Scalar.extui v81
  let v83 : BitVec 32 := Scalar.subi v80 v82
  let c10_i32_48 : BitVec 32 := 10#32
  let c0_i32_51 : BitVec 32 := 0#32
  let v84 : BitVec 1 := Scalar.cmpi .sgt c10_i32_48 c0_i32_51
  let v85 : BitVec 32 := Scalar.extui v84
  let c0_i32_52 : BitVec 32 := 0#32
  let v86 : BitVec 1 := Scalar.cmpi .slt c10_i32_48 c0_i32_52
  let v87 : BitVec 32 := Scalar.extui v86
  let v88 : BitVec 32 := Scalar.subi v85 v87
  let v89 : BitVec 1 := Scalar.cmpi .ne v83 v88
  let v90 : BitVec 32 := Scalar.remsi arg14 c10_i32_48
  let c0_i32_53 : BitVec 32 := 0#32
  let v91 : BitVec 1 := Scalar.cmpi .ne v90 c0_i32_53
  let v92 : BitVec 1 := Scalar.andi v89 v91
  let v78 : BitVec 32 := Scalar.divsi arg14 c10_i32_48
  let c1_i32_54 : BitVec 32 := 1#32
  let v93 : BitVec 32 := Scalar.subi v78 c1_i32_54
  let v94 : BitVec 32 := Scalar.select v92 v93 v78
  let c8_i32 : BitVec 32 := 8#32
  let v107 : BitVec 32 := Scalar.muli v94 c8_i32
  v107
def k0_off1 (k0_t1 : Fin k0_t1_loop.trips) : Fin 2 → Nat :=
  let c0_i32_45 : BitVec 32 := 0#32
  let c1_i32_46 : BitVec 32 := 1#32
  let arg14 : BitVec 32 := Scf.iv c0_i32_45 c1_i32_46 k0_t1
  let c0_i32_49 : BitVec 32 := 0#32
  let v79 : BitVec 1 := Scalar.cmpi .sgt arg14 c0_i32_49
  let v80 : BitVec 32 := Scalar.extui v79
  let c0_i32_50 : BitVec 32 := 0#32
  let v81 : BitVec 1 := Scalar.cmpi .slt arg14 c0_i32_50
  let v82 : BitVec 32 := Scalar.extui v81
  let v83 : BitVec 32 := Scalar.subi v80 v82
  let c10_i32_48 : BitVec 32 := 10#32
  let c0_i32_51 : BitVec 32 := 0#32
  let v84 : BitVec 1 := Scalar.cmpi .sgt c10_i32_48 c0_i32_51
  let v85 : BitVec 32 := Scalar.extui v84
  let c0_i32_52 : BitVec 32 := 0#32
  let v86 : BitVec 1 := Scalar.cmpi .slt c10_i32_48 c0_i32_52
  let v87 : BitVec 32 := Scalar.extui v86
  let v88 : BitVec 32 := Scalar.subi v85 v87
  let v89 : BitVec 1 := Scalar.cmpi .ne v83 v88
  let v90 : BitVec 32 := Scalar.remsi arg14 c10_i32_48
  let c0_i32_53 : BitVec 32 := 0#32
  let v91 : BitVec 1 := Scalar.cmpi .ne v90 c0_i32_53
  let v92 : BitVec 1 := Scalar.andi v89 v91
  let v78 : BitVec 32 := Scalar.divsi arg14 c10_i32_48
  let c1_i32_54 : BitVec 32 := 1#32
  let v93 : BitVec 32 := Scalar.subi v78 c1_i32_54
  let v94 : BitVec 32 := Scalar.select v92 v93 v78
  let c8_i32 : BitVec 32 := 8#32
  let v107 : BitVec 32 := Scalar.muli v94 c8_i32
  let v108 : BitVec 32 := v107
  let v109 : Index := Scalar.indexCast v108
  let c10_i32_55 : BitVec 32 := 10#32
  let c0_i32_56 : BitVec 32 := 0#32
  let v95 : BitVec 1 := Scalar.cmpi .eq c10_i32_55 c0_i32_56
  let c1_i32_57 : BitVec 32 := 1#32
  let v96 : BitVec 32 := Scalar.select v95 c1_i32_57 c10_i32_55
  let v97 : BitVec 32 := Scalar.remsi arg14 v96
  let c0_i32_59 : BitVec 32 := 0#32
  let v99 : BitVec 1 := Scalar.cmpi .slt v97 c0_i32_59
  let c0_i32_60 : BitVec 32 := 0#32
  let v100 : BitVec 1 := Scalar.cmpi .slt v96 c0_i32_60
  let v101 : BitVec 1 := Scalar.xori v99 v100
  let c0_i32_58 : BitVec 32 := 0#32
  let v98 : BitVec 1 := Scalar.cmpi .ne v97 c0_i32_58
  let v102 : BitVec 1 := Scalar.andi v101 v98
  let v103 : BitVec 32 := Scalar.addi v97 v96
  let v104 : BitVec 32 := Scalar.select v102 v103 v97
  let c512_i32 : BitVec 32 := 512#32
  let v105 : BitVec 32 := Scalar.muli v104 c512_i32
  let v106 : BitVec 32 := v105
  let v110 : Index := Scalar.indexCast v106
  ![v109.toNat, v110.toNat]
def k0_mult3 (k0_t1 : Fin k0_t1_loop.trips) : BitVec 32 :=
  let c0_i32_45 : BitVec 32 := 0#32
  let c1_i32_46 : BitVec 32 := 1#32
  let arg14 : BitVec 32 := Scf.iv c0_i32_45 c1_i32_46 k0_t1
  let c0_i32_49 : BitVec 32 := 0#32
  let v79 : BitVec 1 := Scalar.cmpi .sgt arg14 c0_i32_49
  let v80 : BitVec 32 := Scalar.extui v79
  let c0_i32_50 : BitVec 32 := 0#32
  let v81 : BitVec 1 := Scalar.cmpi .slt arg14 c0_i32_50
  let v82 : BitVec 32 := Scalar.extui v81
  let v83 : BitVec 32 := Scalar.subi v80 v82
  let c10_i32_48 : BitVec 32 := 10#32
  let c0_i32_51 : BitVec 32 := 0#32
  let v84 : BitVec 1 := Scalar.cmpi .sgt c10_i32_48 c0_i32_51
  let v85 : BitVec 32 := Scalar.extui v84
  let c0_i32_52 : BitVec 32 := 0#32
  let v86 : BitVec 1 := Scalar.cmpi .slt c10_i32_48 c0_i32_52
  let v87 : BitVec 32 := Scalar.extui v86
  let v88 : BitVec 32 := Scalar.subi v85 v87
  let v89 : BitVec 1 := Scalar.cmpi .ne v83 v88
  let v90 : BitVec 32 := Scalar.remsi arg14 c10_i32_48
  let c0_i32_53 : BitVec 32 := 0#32
  let v91 : BitVec 1 := Scalar.cmpi .ne v90 c0_i32_53
  let v92 : BitVec 1 := Scalar.andi v89 v91
  let v78 : BitVec 32 := Scalar.divsi arg14 c10_i32_48
  let c1_i32_54 : BitVec 32 := 1#32
  let v93 : BitVec 32 := Scalar.subi v78 c1_i32_54
  let v94 : BitVec 32 := Scalar.select v92 v93 v78
  let c8_i32_61 : BitVec 32 := 8#32
  let v113 : BitVec 32 := Scalar.muli v94 c8_i32_61
  let c16_i32 : BitVec 32 := 16#32
  let v114 : BitVec 32 := Scalar.muli v113 c16_i32
  v114
def k0_off2 (k0_t1 : Fin k0_t1_loop.trips) (c0_i32_62 : BitVec 32) (c0_i32_63 : BitVec 32) : Fin 2 → Nat :=
  let c0_i32_45 : BitVec 32 := 0#32
  let c1_i32_46 : BitVec 32 := 1#32
  let arg14 : BitVec 32 := Scf.iv c0_i32_45 c1_i32_46 k0_t1
  let c0_i32_49 : BitVec 32 := 0#32
  let v79 : BitVec 1 := Scalar.cmpi .sgt arg14 c0_i32_49
  let v80 : BitVec 32 := Scalar.extui v79
  let c0_i32_50 : BitVec 32 := 0#32
  let v81 : BitVec 1 := Scalar.cmpi .slt arg14 c0_i32_50
  let v82 : BitVec 32 := Scalar.extui v81
  let v83 : BitVec 32 := Scalar.subi v80 v82
  let c10_i32_48 : BitVec 32 := 10#32
  let c0_i32_51 : BitVec 32 := 0#32
  let v84 : BitVec 1 := Scalar.cmpi .sgt c10_i32_48 c0_i32_51
  let v85 : BitVec 32 := Scalar.extui v84
  let c0_i32_52 : BitVec 32 := 0#32
  let v86 : BitVec 1 := Scalar.cmpi .slt c10_i32_48 c0_i32_52
  let v87 : BitVec 32 := Scalar.extui v86
  let v88 : BitVec 32 := Scalar.subi v85 v87
  let v89 : BitVec 1 := Scalar.cmpi .ne v83 v88
  let v90 : BitVec 32 := Scalar.remsi arg14 c10_i32_48
  let c0_i32_53 : BitVec 32 := 0#32
  let v91 : BitVec 1 := Scalar.cmpi .ne v90 c0_i32_53
  let v92 : BitVec 1 := Scalar.andi v89 v91
  let v78 : BitVec 32 := Scalar.divsi arg14 c10_i32_48
  let c1_i32_54 : BitVec 32 := 1#32
  let v93 : BitVec 32 := Scalar.subi v78 c1_i32_54
  let v94 : BitVec 32 := Scalar.select v92 v93 v78
  let c8_i32_61 : BitVec 32 := 8#32
  let v113 : BitVec 32 := Scalar.muli v94 c8_i32_61
  let c16_i32 : BitVec 32 := 16#32
  let v114 : BitVec 32 := Scalar.muli v113 c16_i32
  let v115 : BitVec 32 := v114
  let v123 : BitVec 32 := Scalar.addi v115 c0_i32_62
  let v124 : BitVec 32 := Scalar.addi v123 c0_i32_63
  let v125 : Index := Scalar.indexCast v124
  let c0_64 : Index := 0#32
  ![v125.toNat, 0]
def k0_off3 (k0_t1 : Fin k0_t1_loop.trips) (c0_i32_62 : BitVec 32) (c0_i32_63 : BitVec 32) : Fin 2 → Nat :=
  let c0_i32_45 : BitVec 32 := 0#32
  let c1_i32_46 : BitVec 32 := 1#32
  let arg14 : BitVec 32 := Scf.iv c0_i32_45 c1_i32_46 k0_t1
  let c0_i32_49 : BitVec 32 := 0#32
  let v79 : BitVec 1 := Scalar.cmpi .sgt arg14 c0_i32_49
  let v80 : BitVec 32 := Scalar.extui v79
  let c0_i32_50 : BitVec 32 := 0#32
  let v81 : BitVec 1 := Scalar.cmpi .slt arg14 c0_i32_50
  let v82 : BitVec 32 := Scalar.extui v81
  let v83 : BitVec 32 := Scalar.subi v80 v82
  let c10_i32_48 : BitVec 32 := 10#32
  let c0_i32_51 : BitVec 32 := 0#32
  let v84 : BitVec 1 := Scalar.cmpi .sgt c10_i32_48 c0_i32_51
  let v85 : BitVec 32 := Scalar.extui v84
  let c0_i32_52 : BitVec 32 := 0#32
  let v86 : BitVec 1 := Scalar.cmpi .slt c10_i32_48 c0_i32_52
  let v87 : BitVec 32 := Scalar.extui v86
  let v88 : BitVec 32 := Scalar.subi v85 v87
  let v89 : BitVec 1 := Scalar.cmpi .ne v83 v88
  let v90 : BitVec 32 := Scalar.remsi arg14 c10_i32_48
  let c0_i32_53 : BitVec 32 := 0#32
  let v91 : BitVec 1 := Scalar.cmpi .ne v90 c0_i32_53
  let v92 : BitVec 1 := Scalar.andi v89 v91
  let v78 : BitVec 32 := Scalar.divsi arg14 c10_i32_48
  let c1_i32_54 : BitVec 32 := 1#32
  let v93 : BitVec 32 := Scalar.subi v78 c1_i32_54
  let v94 : BitVec 32 := Scalar.select v92 v93 v78
  let c8_i32_61 : BitVec 32 := 8#32
  let v113 : BitVec 32 := Scalar.muli v94 c8_i32_61
  let c16_i32 : BitVec 32 := 16#32
  let v114 : BitVec 32 := Scalar.muli v113 c16_i32
  let v115 : BitVec 32 := v114
  let v123 : BitVec 32 := Scalar.addi v115 c0_i32_62
  let v124 : BitVec 32 := Scalar.addi v123 c0_i32_63
  let v128 : Index := Scalar.indexCast v124
  let c128 : Index := 128#32
  ![v128.toNat, 128]
def k0_off4 (k0_t1 : Fin k0_t1_loop.trips) (c0_i32_62 : BitVec 32) (c0_i32_63 : BitVec 32) (c0_i32_69 : BitVec 32) : Fin 2 → Nat :=
  let c0_i32_45 : BitVec 32 := 0#32
  let c1_i32_46 : BitVec 32 := 1#32
  let arg14 : BitVec 32 := Scf.iv c0_i32_45 c1_i32_46 k0_t1
  let c0_i32_49 : BitVec 32 := 0#32
  let v79 : BitVec 1 := Scalar.cmpi .sgt arg14 c0_i32_49
  let v80 : BitVec 32 := Scalar.extui v79
  let c0_i32_50 : BitVec 32 := 0#32
  let v81 : BitVec 1 := Scalar.cmpi .slt arg14 c0_i32_50
  let v82 : BitVec 32 := Scalar.extui v81
  let v83 : BitVec 32 := Scalar.subi v80 v82
  let c10_i32_48 : BitVec 32 := 10#32
  let c0_i32_51 : BitVec 32 := 0#32
  let v84 : BitVec 1 := Scalar.cmpi .sgt c10_i32_48 c0_i32_51
  let v85 : BitVec 32 := Scalar.extui v84
  let c0_i32_52 : BitVec 32 := 0#32
  let v86 : BitVec 1 := Scalar.cmpi .slt c10_i32_48 c0_i32_52
  let v87 : BitVec 32 := Scalar.extui v86
  let v88 : BitVec 32 := Scalar.subi v85 v87
  let v89 : BitVec 1 := Scalar.cmpi .ne v83 v88
  let v90 : BitVec 32 := Scalar.remsi arg14 c10_i32_48
  let c0_i32_53 : BitVec 32 := 0#32
  let v91 : BitVec 1 := Scalar.cmpi .ne v90 c0_i32_53
  let v92 : BitVec 1 := Scalar.andi v89 v91
  let v78 : BitVec 32 := Scalar.divsi arg14 c10_i32_48
  let c1_i32_54 : BitVec 32 := 1#32
  let v93 : BitVec 32 := Scalar.subi v78 c1_i32_54
  let v94 : BitVec 32 := Scalar.select v92 v93 v78
  let c8_i32_61 : BitVec 32 := 8#32
  let v113 : BitVec 32 := Scalar.muli v94 c8_i32_61
  let c16_i32 : BitVec 32 := 16#32
  let v114 : BitVec 32 := Scalar.muli v113 c16_i32
  let v115 : BitVec 32 := v114
  let v123 : BitVec 32 := Scalar.addi v115 c0_i32_62
  let v124 : BitVec 32 := Scalar.addi v123 c0_i32_63
  let v149 : Index := Scalar.indexCast v124
  let c10_i32_55 : BitVec 32 := 10#32
  let c0_i32_56 : BitVec 32 := 0#32
  let v95 : BitVec 1 := Scalar.cmpi .eq c10_i32_55 c0_i32_56
  let c1_i32_57 : BitVec 32 := 1#32
  let v96 : BitVec 32 := Scalar.select v95 c1_i32_57 c10_i32_55
  let v97 : BitVec 32 := Scalar.remsi arg14 v96
  let c0_i32_59 : BitVec 32 := 0#32
  let v99 : BitVec 1 := Scalar.cmpi .slt v97 c0_i32_59
  let c0_i32_60 : BitVec 32 := 0#32
  let v100 : BitVec 1 := Scalar.cmpi .slt v96 c0_i32_60
  let v101 : BitVec 1 := Scalar.xori v99 v100
  let c0_i32_58 : BitVec 32 := 0#32
  let v98 : BitVec 1 := Scalar.cmpi .ne v97 c0_i32_58
  let v102 : BitVec 1 := Scalar.andi v101 v98
  let v103 : BitVec 32 := Scalar.addi v97 v96
  let v104 : BitVec 32 := Scalar.select v102 v103 v97
  let c512_i32 : BitVec 32 := 512#32
  let v105 : BitVec 32 := Scalar.muli v104 c512_i32
  let v106 : BitVec 32 := v105
  let v148 : BitVec 32 := Scalar.addi v106 c0_i32_69
  let v150 : Index := Scalar.indexCast v148
  ![v149.toNat, v150.toNat]
@[reducible] def k0_t2_loop : Scf.Loop 32 :=
  let c0_i32_29 : BitVec 32 := 0#32
  let c10_i32 : BitVec 32 := 10#32
  let v62 : BitVec 32 := Scalar.addi c0_i32_29 c10_i32
  let c1_i32 : BitVec 32 := 1#32
  ⟨c0_i32_29, v62, c1_i32⟩
def k0_mult4 (k0_t2 : Fin k0_t2_loop.trips) : BitVec 32 :=
  let c0_i32_29 : BitVec 32 := 0#32
  let c1_i32 : BitVec 32 := 1#32
  let arg14 : BitVec 32 := Scf.iv c0_i32_29 c1_i32 k0_t2
  let c512_i32 : BitVec 32 := 512#32
  let v77 : BitVec 32 := Scalar.muli arg14 c512_i32
  v77
def k0_off5 (k0_t2 : Fin k0_t2_loop.trips) : Fin 2 → Nat :=
  let c0_45 : Index := 0#32
  let c0_i32_29 : BitVec 32 := 0#32
  let c1_i32 : BitVec 32 := 1#32
  let arg14 : BitVec 32 := Scf.iv c0_i32_29 c1_i32 k0_t2
  let c512_i32 : BitVec 32 := 512#32
  let v77 : BitVec 32 := Scalar.muli arg14 c512_i32
  let v78 : BitVec 32 := v77
  let v79 : Index := Scalar.indexCast v78
  ![0, v79.toNat]
def k0_off6 (k0_t2 : Fin k0_t2_loop.trips) : Fin 3 → Nat :=
  let c0_49 : Index := 0#32
  let c0_50 : Index := 0#32
  let c0_i32_29 : BitVec 32 := 0#32
  let c1_i32 : BitVec 32 := 1#32
  let arg14 : BitVec 32 := Scf.iv c0_i32_29 c1_i32 k0_t2
  let c512_i32 : BitVec 32 := 512#32
  let v77 : BitVec 32 := Scalar.muli arg14 c512_i32
  let v78 : BitVec 32 := v77
  let v86 : Index := Scalar.indexCast v78
  ![0, 0, v86.toNat]
def k0_off7 (k0_t2 : Fin k0_t2_loop.trips) : Fin 2 → Nat :=
  let c0_53 : Index := 0#32
  let c0_i32_29 : BitVec 32 := 0#32
  let c1_i32 : BitVec 32 := 1#32
  let arg14 : BitVec 32 := Scf.iv c0_i32_29 c1_i32 k0_t2
  let c512_i32 : BitVec 32 := 512#32
  let v77 : BitVec 32 := Scalar.muli arg14 c512_i32
  let v78 : BitVec 32 := v77
  let v94 : Index := Scalar.indexCast v78
  ![0, v94.toNat]
@[reducible] def k0_t3_loop : Scf.Loop 32 :=
  let c0_i32_32 : BitVec 32 := 0#32
  let c10_i32_33 : BitVec 32 := 10#32
  let v65 : BitVec 32 := Scalar.addi c0_i32_32 c10_i32_33
  let c1_i32_34 : BitVec 32 := 1#32
  ⟨c0_i32_32, v65, c1_i32_34⟩
def k0_mult5 (k0_t3 : Fin k0_t3_loop.trips) : BitVec 32 :=
  let c0_i32_32 : BitVec 32 := 0#32
  let c1_i32_34 : BitVec 32 := 1#32
  let arg14 : BitVec 32 := Scf.iv c0_i32_32 c1_i32_34 k0_t3
  let c512_i32 : BitVec 32 := 512#32
  let v77 : BitVec 32 := Scalar.muli arg14 c512_i32
  v77
def k0_off8 (k0_t3 : Fin k0_t3_loop.trips) : Fin 2 → Nat :=
  let c0_45 : Index := 0#32
  let c0_i32_32 : BitVec 32 := 0#32
  let c1_i32_34 : BitVec 32 := 1#32
  let arg14 : BitVec 32 := Scf.iv c0_i32_32 c1_i32_34 k0_t3
  let c512_i32 : BitVec 32 := 512#32
  let v77 : BitVec 32 := Scalar.muli arg14 c512_i32
  let v78 : BitVec 32 := v77
  let v79 : Index := Scalar.indexCast v78
  ![0, v79.toNat]
@[reducible] def k0_t4_loop : Scf.Loop 32 :=
  let c0_i32_41 : BitVec 32 := 0#32
  let c10_i32_42 : BitVec 32 := 10#32
  let v76 : BitVec 32 := Scalar.addi c0_i32_41 c10_i32_42
  let c1_i32_43 : BitVec 32 := 1#32
  ⟨c0_i32_41, v76, c1_i32_43⟩
def k0_mult6 (k0_t4 : Fin k0_t4_loop.trips) : BitVec 32 :=
  let c0_i32_41 : BitVec 32 := 0#32
  let c1_i32_43 : BitVec 32 := 1#32
  let arg14 : BitVec 32 := Scf.iv c0_i32_41 c1_i32_43 k0_t4
  let c512_i32 : BitVec 32 := 512#32
  let v77 : BitVec 32 := Scalar.muli arg14 c512_i32
  v77
def k0_off9 (k0_t4 : Fin k0_t4_loop.trips) : Fin 2 → Nat :=
  let c0_45 : Index := 0#32
  let c0_i32_41 : BitVec 32 := 0#32
  let c1_i32_43 : BitVec 32 := 1#32
  let arg14 : BitVec 32 := Scf.iv c0_i32_41 c1_i32_43 k0_t4
  let c512_i32 : BitVec 32 := 512#32
  let v77 : BitVec 32 := Scalar.muli arg14 c512_i32
  let v78 : BitVec 32 := v77
  let v79 : Index := Scalar.indexCast v78
  ![0, v79.toNat]
def k0_off10 (k0_t4 : Fin k0_t4_loop.trips) : Fin 3 → Nat :=
  let c0_47 : Index := 0#32
  let c0_48 : Index := 0#32
  let c0_i32_41 : BitVec 32 := 0#32
  let c1_i32_43 : BitVec 32 := 1#32
  let arg14 : BitVec 32 := Scf.iv c0_i32_41 c1_i32_43 k0_t4
  let c512_i32 : BitVec 32 := 512#32
  let v77 : BitVec 32 := Scalar.muli arg14 c512_i32
  let v78 : BitVec 32 := v77
  let v92 : Index := Scalar.indexCast v78
  ![0, 0, v92.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S80x5120 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1280x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x5120 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ScoresKernelIdeal.lean ====
variable {F : FTy → Type} [FloatOps F] [Named F]
def κ : String → Option EReal := fun
  | "ln_2" => some ((Real.log 2 : ℝ) : EReal)
  | "log2_e" => some (((Real.log 2)⁻¹ : ℝ) : EReal)
  | _ => none
-- ==== ScoresReferenceIdeal.lean ====
abbrev S3x1280x2560 : Shape := ⟨3, ![3, 1280, 2560]⟩
abbrev S3x5120x80 : Shape := ⟨3, ![3, 5120, 80]⟩
abbrev S80x256x32 : Shape := ⟨3, ![80, 256, 32]⟩
abbrev S3x1280 : Shape := ⟨2, ![3, 1280]⟩
abbrev S3x1280x5120 : Shape := ⟨3, ![3, 1280, 5120]⟩
abbrev S3x1280x1 : Shape := ⟨3, ![3, 1280, 1]⟩
abbrev S80 : Shape := ⟨1, ![80]⟩
abbrev S_ : Shape := ⟨0, ![]⟩
abbrev S3x5120x80x1 : Shape := ⟨4, ![3, 5120, 80, 1]⟩
abbrev S3x5120x80x2 : Shape := ⟨4, ![3, 5120, 80, 2]⟩
abbrev S3x5120x80x32 : Shape := ⟨4, ![3, 5120, 80, 32]⟩
abbrev S3x5120x2560 : Shape := ⟨3, ![3, 5120, 2560]⟩
abbrev S3x1280x1x1 : Shape := ⟨4, ![3, 1280, 1, 1]⟩
abbrev S1 : Shape := ⟨1, ![1]⟩
abbrev S1x1x1x1 : Shape := ⟨4, ![1, 1, 1, 1]⟩
abbrev S5120 : Shape := ⟨1, ![5120]⟩
abbrev S1x1x5120 : Shape := ⟨3, ![1, 1, 5120]⟩

abbrev nBuf : Space → Nat
  | .hbm => 89
  | .vmem => 4
  | .smem => 0
  | _ => 0

abbrev bufTy : (tb : Table) → Fin (tcTables nBuf tb) → BufTy
  | .hbm, ⟨0, _⟩ => ⟨S3x1280x2560, .bf16⟩
  | .hbm, ⟨1, _⟩ => ⟨S3x5120x80, .i8⟩
  | .hbm, ⟨2, _⟩ => ⟨S80x256x32, .i16⟩
  | .hbm, ⟨3, _⟩ => ⟨S3x1280, .i32⟩
  | .hbm, ⟨4, _⟩ => ⟨S3x1280x5120, .i1⟩
  | .hbm, ⟨5, _⟩ => ⟨S3x1280x2560, .fp8e4m3⟩
  | .hbm, ⟨6, _⟩ => ⟨S3x1280x2560, .bf16⟩
  | .hbm, ⟨7, _⟩ => ⟨S3x1280x1, .f32⟩
  | .hbm, ⟨8, _⟩ => ⟨S80x256x32, .bf16⟩
  | .hbm, ⟨9, _⟩ => ⟨S3x5120x80, .i32⟩
  | .hbm, ⟨10, _⟩ => ⟨S80, .i32⟩
  | .hbm, ⟨11, _⟩ => ⟨S_, .i32⟩
  | .hbm, ⟨12, _⟩ => ⟨S80, .i32⟩
  | .hbm, ⟨13, _⟩ => ⟨S80, .i1⟩
  | .hbm, ⟨14, _⟩ => ⟨S_, .i32⟩
  | .hbm, ⟨15, _⟩ => ⟨S80, .i32⟩
  | .hbm, ⟨16, _⟩ => ⟨S80, .i32⟩
  | .hbm, ⟨17, _⟩ => ⟨S80, .i32⟩
  | .hbm, ⟨18, _⟩ => ⟨S_, .i32⟩
  | .hbm, ⟨19, _⟩ => ⟨S3x5120x80, .i32⟩
  | .hbm, ⟨20, _⟩ => ⟨S3x5120x80, .i1⟩
  | .hbm, ⟨21, _⟩ => ⟨S_, .i32⟩
  | .hbm, ⟨22, _⟩ => ⟨S3x5120x80, .i32⟩
  | .hbm, ⟨23, _⟩ => ⟨S3x5120x80, .i32⟩
  | .hbm, ⟨24, _⟩ => ⟨S3x5120x80, .i32⟩
  | .hbm, ⟨25, _⟩ => ⟨S3x5120x80, .i32⟩
  | .hbm, ⟨26, _⟩ => ⟨S3x5120x80x1, .i32⟩
  | .hbm, ⟨27, _⟩ => ⟨S3x5120x80x1, .i32⟩
  | .hbm, ⟨28, _⟩ => ⟨S3x5120x80x2, .i32⟩
  | .hbm, ⟨29, _⟩ => ⟨S3x5120x80x32, .bf16⟩
  | .hbm, ⟨30, _⟩ => ⟨S3x5120x2560, .bf16⟩
  | .hbm, ⟨31, _⟩ => ⟨S3x1280x5120, .f32⟩
  | .hbm, ⟨32, _⟩ => ⟨S3x1280x5120, .f32⟩
  | .hbm, ⟨33, _⟩ => ⟨S3x1280x5120, .f32⟩
  | .hbm, ⟨34, _⟩ => ⟨S_, .f32⟩
  | .hbm, ⟨35, _⟩ => ⟨S_, .f32⟩
  | .hbm, ⟨36, _⟩ => ⟨S3x1280x5120, .f32⟩
  | .hbm, ⟨37, _⟩ => ⟨S3x1280x5120, .f32⟩
  | .hbm, ⟨38, _⟩ => ⟨S_, .f32⟩
  | .hbm, ⟨39, _⟩ => ⟨S3x1280, .f32⟩
  | .hbm, ⟨40, _⟩ => ⟨S_, .f32⟩
  | .hbm, ⟨41, _⟩ => ⟨S3x1280, .f32⟩
  | .hbm, ⟨42, _⟩ => ⟨S3x1280, .f32⟩
  | .hbm, ⟨43, _⟩ => ⟨S3x1280x1, .f32⟩
  | .hbm, ⟨44, _⟩ => ⟨S3x1280x5120, .f32⟩
  | .hbm, ⟨45, _⟩ => ⟨S3x1280x5120, .f32⟩
  | .hbm, ⟨46, _⟩ => ⟨S3x1280x5120, .f32⟩
  | .hbm, ⟨47, _⟩ => ⟨S_, .f32⟩
  | .hbm, ⟨48, _⟩ => ⟨S3x1280, .f32⟩
  | .hbm, ⟨49, _⟩ => ⟨S3x1280x1, .f32⟩
  | .hbm, ⟨50, _⟩ => ⟨S3x1280x1, .f32⟩
  | .hbm, ⟨51, _⟩ => ⟨S3x1280x5120, .f32⟩
  | .hbm, ⟨52, _⟩ => ⟨S3x1280x5120, .f32⟩
  | .hbm, ⟨53, _⟩ => ⟨S3x1280x1, .i32⟩
  | .hbm, ⟨54, _⟩ => ⟨S_, .i32⟩
  | .hbm, ⟨55, _⟩ => ⟨S3x1280x1, .i32⟩
  | .hbm, ⟨56, _⟩ => ⟨S3x1280x1, .i1⟩
  | .hbm, ⟨57, _⟩ => ⟨S_, .i32⟩
  | .hbm, ⟨58, _⟩ => ⟨S3x1280x1, .i32⟩
  | .hbm, ⟨59, _⟩ => ⟨S3x1280x1, .i32⟩
  | .hbm, ⟨60, _⟩ => ⟨S3x1280x1, .i32⟩
  | .hbm, ⟨61, _⟩ => ⟨S3x1280x1x1, .i32⟩
  | .hbm, ⟨62, _⟩ => ⟨S1, .i32⟩
  | .hbm, ⟨63, _⟩ => ⟨S_, .i32⟩
  | .hbm, ⟨64, _⟩ => ⟨S3x1280x1x1, .i32⟩
  | .hbm, ⟨65, _⟩ => ⟨S3x1280x1x1, .i1⟩
  | .hbm, ⟨66, _⟩ => ⟨S1x1x1x1, .i32⟩
  | .hbm, ⟨67, _⟩ => ⟨S3x1280x1x1, .i32⟩
  | .hbm, ⟨68, _⟩ => ⟨S3x1280x1x1, .i1⟩
  | .hbm, ⟨69, _⟩ => ⟨S3x1280x1x1, .i1⟩
  | .hbm, ⟨70, _⟩ => ⟨S_, .i1⟩
  | .hbm, ⟨71, _⟩ => ⟨S3x1280x1, .i1⟩
  | .hbm, ⟨72, _⟩ => ⟨S3x1280x1, .f32⟩
  | .hbm, ⟨73, _⟩ => ⟨S_, .f32⟩
  | .hbm, ⟨74, _⟩ => ⟨S3x1280x1, .f32⟩
  | .hbm, ⟨75, _⟩ => ⟨S3x1280x1, .f32⟩
  | .hbm, ⟨76, _⟩ => ⟨S3x1280, .f32⟩
  | .hbm, ⟨77, _⟩ => ⟨S3x1280, .f32⟩
  | .hbm, ⟨78, _⟩ => ⟨S3x1280x1, .i32⟩
  | .hbm, ⟨79, _⟩ => ⟨S5120, .i32⟩
  | .hbm, ⟨80, _⟩ => ⟨S1x1x5120, .i32⟩
  | .hbm, ⟨81, _⟩ => ⟨S3x1280x5120, .i32⟩
  | .hbm, ⟨82, _⟩ => ⟨S3x1280x5120, .i32⟩
  | .hbm, ⟨83, _⟩ => ⟨S3x1280x5120, .i1⟩
  | .hbm, ⟨84, _⟩ => ⟨S3x1280x5120, .f32⟩
  | .hbm, ⟨85, _⟩ => ⟨S3x1280x5120, .f32⟩
  | .hbm, ⟨86, _⟩ => ⟨S3x1280x5120, .f32⟩
  | .hbm, ⟨87, _⟩ => ⟨S3x1280x5120, .bf16⟩
  | .hbm, ⟨88, _⟩ => ⟨S3x1280x1, .f32⟩
  | .local _ .vmem, ⟨0, _⟩ => ⟨S3x1280x2560, .bf16⟩
  | .local _ .vmem, ⟨1, _⟩ => ⟨S3x1280x2560, .fp8e4m3⟩
  | .local _ .vmem, ⟨2, _⟩ => ⟨S3x1280x2560, .bf16⟩
  | .local _ .vmem, ⟨3, _⟩ => ⟨S3x1280x1, .f32⟩
  | _, _ => ⟨S3x1280x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_call1_cst_0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_cst_1 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_v24 : Ref sig .tc := ⟨.hbm, 52, rfl⟩
abbrev main_v25 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x1280x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1280x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1280x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1280x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.DocValue.lean ====
/- What the document-gradient kernel computes, over the extended reals: its result array is the reference's, element by
   element — the sum over the queries of gradient times dequantised query, times the constant 1/rows. -/
module

public import proofs.«01_k».proof.Defs
public import proofs.«01_k».proof.Proof.Gen.DocKernelIdeal.Value
public import proofs.«01_k».proof.Proof.Gen.DocReferenceIdeal.Value
public import Idealize.ShloMosaic.Lib.Pointwise
public import Idealize.ShloMosaic.Lib.Pipeline.Value
public import Idealize.ShloMosaic.Lib.Tactic

@[expose] public section

set_option maxRecDepth 16384

noncomputable section

namespace Cert.DocKernelIdeal.Sum

open Cert.DocKernelIdeal Cert.DocKernelIdeal.Gen Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

section Generic
variable {F : FTy → Type} [FloatOps F]
variable (m : (ℓ : Loc nD τ sig) → Buf (Elt F) ℓ)

variable (c : Dev nD) (i : grid0.Coords) (arg2 : Memref sig .tc .vmem S1x1280x512 .bf16) (harg2 : arg2.IsWhole) (arg3 : Memref sig .tc .vmem S1x1280x2560 .fp8e4m3) (harg3 : arg3.IsWhole) (arg4 : Memref sig .tc .vmem S1x1280x1 .f32) (harg4 : arg4.IsWhole) (arg5 : Memref sig .tc .vmem S1x512x2560 .f32) (harg5 : arg5.IsWhole) (arg6 : Memref sig .tc .vmem S1280x2560 .bf16) (harg6 : arg6.IsWhole)
  (x0 : Vec F S1x1280x512 .bf16) (x1 : Vec F S1x1280x2560 .fp8e4m3) (x2 : Vec F S1x1280x1 .f32)

/-- At the first document tile of a batch the body leaves the dequantised queries in the scratch. -/
theorem sout_A (hc0 : cond0_0 i) : sout0_A_0 c i arg2 harg2 arg3 harg3 arg4 harg4 arg5 harg5 arg6 harg6 hc0 x0 x1 x2 = k0_pay1 x1 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg3.read_unread, harg4.read_unread, View.ld_unit_zero (S := S1x1280x2560) hz3, View.ld_unit_zero (S := S1x1280x1) hz3]

/-- … and in the output block the product of the gradient block with those queries. -/
theorem out_A (hc0 : cond0_0 i) : out0_A_3 c i arg2 harg2 arg3 harg3 arg4 harg4 arg5 harg5 arg6 harg6 hc0 x0 x1 x2 = k0_pay2 x0 (k0_pay1 x1 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3, View.readCov_unit_zero (S := S1280x2560) _ hz2]
  simp only [View.readAt_eq_ld, harg2.read_unread, harg3.read_unread, harg4.read_unread, View.ld_unit_zero (S := S1x1280x512) hz3, View.ld_unit_zero (S := S1x1280x2560) hz3, View.ld_unit_zero (S := S1x1280x1) hz3]

/-- At a later document tile: the product of the gradient block with the queries the scratch holds. -/
theorem out_B (hc0 : ¬cond0_0 i) (xs : Vec F S1280x2560 .bf16) : out0_B_3 c i arg2 harg2 arg3 harg3 arg4 harg4 arg5 harg5 arg6 harg6 hc0 x0 x1 x2 xs = k0_pay2 x0 xs := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  rw [View.canon_unit_zero hz3]
  simp only [View.readAt_eq_ld, harg2.read_unread, harg6.read_unread, View.ld_unit_zero (S := S1x1280x512) hz3, View.ld_unit_zero (S := S1280x2560) hz2]

end Generic

section Points
variable {F : FTy → Type} [FloatOps F]
variable (m : (ℓ : Loc nD τ sig) → Buf (Elt F) ℓ)

/-- Which blocks a point's windows are: batch `t / 10`, document tile `t % 10`. -/
theorem idx_facts : ∀ t : Fin cfg0.N,
    (win0_0.index t (0 : Fin 3) = t.val / 10 ∧ win0_0.index t (1 : Fin 3) = 0 ∧ win0_0.index t (2 : Fin 3) = t.val % 10)
    ∧ (win0_1.index t (0 : Fin 3) = t.val / 10 ∧ win0_1.index t (1 : Fin 3) = 0 ∧ win0_1.index t (2 : Fin 3) = 0)
    ∧ (win0_2.index t (0 : Fin 3) = t.val / 10 ∧ win0_2.index t (1 : Fin 3) = 0 ∧ win0_2.index t (2 : Fin 3) = 0)
    ∧ (win0_3.index t (0 : Fin 3) = t.val / 10 ∧ win0_3.index t (1 : Fin 3) = t.val % 10 ∧ win0_3.index t (2 : Fin 3) = 0) :=
  (by decide +kernel : ∀ t : Fin grid0.N, _)

theorem lt_N (t : Fin cfg0.N) : t.val < 30 := lt_of_lt_of_eq t.isLt N_0

theorem div_lt (t : Fin cfg0.N) : t.val / 10 < 3 := by have := lt_N t; omega

/-- The gradient block at a point: rows of the point's batch, columns of its document tile. -/
theorem iblk0_apply (c : Dev nD) (t : Fin cfg0.N) (q : Fin 1280) (d : Fin 512) (h : t.val % 10 * 512 + d.val < 5120) :
    iblk m c 0 t (ix3 0 q d) = m ((c : Thread nD τ).loc main_arg0) (ix3 ⟨t.val / 10, div_lt t⟩ q ⟨t.val % 10 * 512 + d.val, h⟩) := by
  obtain ⟨⟨a, b, e⟩, -⟩ := idx_facts t
  show V m c main_arg0 (((cfg0.win 0).blk t).view.emb (ix3 0 q d)) = _
  rw [V_main_arg0]
  congr 1
  funext x; apply Fin.ext
  match x with
  | ⟨0, _⟩ => show win0_0.index t (0 : Fin 3) * 1 + 1 * 0 = t.val / 10; omega
  | ⟨1, _⟩ => show win0_0.index t (1 : Fin 3) * 1280 + 1 * q.val = q.val; omega
  | ⟨2, _⟩ => show win0_0.index t (2 : Fin 3) * 512 + 1 * d.val = t.val % 10 * 512 + d.val; omega

/-- The codes' block at a point is its batch's codes. -/
theorem iblk1_apply (c : Dev nD) (t : Fin cfg0.N) (q : Fin 1280) (k : Fin 2560) :
    iblk m c 1 t (ix3 0 q k) = m ((c : Thread nD τ).loc main_arg1) (ix3 ⟨t.val / 10, div_lt t⟩ q k) := by
  obtain ⟨-, ⟨a, b, e⟩, -⟩ := idx_facts t
  show V m c main_arg1 (((cfg0.win 1).blk t).view.emb (ix3 0 q k)) = _
  rw [V_main_arg1]
  congr 1
  funext x; apply Fin.ext
  match x with
  | ⟨0, _⟩ => show win0_1.index t (0 : Fin 3) * 1 + 1 * 0 = t.val / 10; omega
  | ⟨1, _⟩ => show win0_1.index t (1 : Fin 3) * 1280 + 1 * q.val = q.val; omega
  | ⟨2, _⟩ => show win0_1.index t (2 : Fin 3) * 2560 + 1 * k.val = k.val; omega

/-- The scales' block at a point is its batch's scales. -/
theorem iblk2_apply (c : Dev nD) (t : Fin cfg0.N) (q : Fin 1280) :
    iblk m c 2 t (ix3 0 q 0) = m ((c : Thread nD τ).loc main_arg2) (ix3 ⟨t.val / 10, div_lt t⟩ q 0) := by
  obtain ⟨-, -, ⟨a, b, e⟩, -⟩ := idx_facts t
  show V m c main_arg2 (((cfg0.win 2).blk t).view.emb (ix3 0 q 0)) = _
  rw [V_main_arg2]
  congr 1
  funext x; apply Fin.ext
  match x with
  | ⟨0, _⟩ => show win0_2.index t (0 : Fin 3) * 1 + 1 * 0 = t.val / 10; omega
  | ⟨1, _⟩ => show win0_2.index t (1 : Fin 3) * 1280 + 1 * q.val = q.val; omega
  | ⟨2, _⟩ => show win0_2.index t (2 : Fin 3) * 1 + 1 * 0 = 0; omega

/-- Two points of one batch see the same codes. -/
theorem iblk1_congr (c : Dev nD) (t t' : Fin cfg0.N) (h : t.val / 10 = t'.val / 10) : iblk m c 1 t = iblk m c 1 t' := by
  funext j
  obtain ⟨-, ⟨a, b, e⟩, -⟩ := idx_facts t
  obtain ⟨-, ⟨a', b', e'⟩, -⟩ := idx_facts t'
  show V m c main_arg1 (((cfg0.win 1).blk t).view.emb j) = V m c main_arg1 (((cfg0.win 1).blk t').view.emb j)
  congr 1
  funext x; apply Fin.ext
  match x with
  | ⟨0, _⟩ => show win0_1.index t (0 : Fin 3) * 1 + 1 * (j 0).val = win0_1.index t' (0 : Fin 3) * 1 + 1 * (j 0).val; rw [a, a', h]
  | ⟨1, _⟩ => show win0_1.index t (1 : Fin 3) * 1280 + 1 * (j 1).val = win0_1.index t' (1 : Fin 3) * 1280 + 1 * (j 1).val; rw [b, b']
  | ⟨2, _⟩ => show win0_1.index t (2 : Fin 3) * 2560 + 1 * (j 2).val = win0_1.index t' (2 : Fin 3) * 2560 + 1 * (j 2).val; rw [e, e']

/-- Two points of one batch see the same scales. -/
theorem iblk2_congr (c : Dev nD) (t t' : Fin cfg0.N) (h : t.val / 10 = t'.val / 10) : iblk m c 2 t = iblk m c 2 t' := by
  funext j
  obtain ⟨-, -, ⟨a, b, e⟩, -⟩ := idx_facts t
  obtain ⟨-, -, ⟨a', b', e'⟩, -⟩ := idx_facts t'
  show V m c main_arg2 (((cfg0.win 2).blk t).view.emb j) = V m c main_arg2 (((cfg0.win 2).blk t').view.emb j)
  congr 1
  funext x; apply Fin.ext
  match x with
  | ⟨0, _⟩ => show win0_2.index t (0 : Fin 3) * 1 + 1 * (j 0).val = win0_2.index t' (0 : Fin 3) * 1 + 1 * (j 0).val; rw [a, a', h]
  | ⟨1, _⟩ => show win0_2.index t (1 : Fin 3) * 1280 + 1 * (j 1).val = win0_2.index t' (1 : Fin 3) * 1280 + 1 * (j 1).val; rw [b, b']
  | ⟨2, _⟩ => show win0_2.index t (2 : Fin 3) * 1 + 1 * (j 2).val = win0_2.index t' (2 : Fin 3) * 1 + 1 * (j 2).val; rw [e, e']

/-- After every point, the output block is the gradient block's product with the batch's dequantised queries, and the
    scratch holds those queries. -/
theorem outsAt_eq (c : Dev nD) : ∀ (n : ℕ) (h : n < cfg0.N), outsAt0 m c n h
    = (k0_pay2 (iblk m c 0 ⟨n, h⟩) (k0_pay1 (iblk m c 1 ⟨n, h⟩) (iblk m c 2 ⟨n, h⟩)), k0_pay1 (iblk m c 1 ⟨n, h⟩) (iblk m c 2 ⟨n, h⟩))
  | 0, h => by
    rw [outsAt0_A m c ⟨0, h⟩ rfl, sout_A, out_A]
  | n + 1, h => by
    by_cases h0 : (n + 1) % 10 = 0
    · rw [outsAt0_A m c ⟨n + 1, h⟩ h0, sout_A, out_A]
    · rw [outsAt0_B m c ⟨n + 1, h⟩ h0, out_B]
      show (k0_pay2 _ (outsAt0 m c n _).2, (outsAt0 m c n _).2) = _
      rw [outsAt_eq c n]
      have e : n / 10 = (n + 1) / 10 := by omega
      rw [iblk1_congr m c ⟨n, Nat.lt_of_succ_lt h⟩ ⟨n + 1, h⟩ e, iblk2_congr m c ⟨n, Nat.lt_of_succ_lt h⟩ ⟨n + 1, h⟩ e]

end Points

section AtIdeal
variable (m : (ℓ : Loc nD τ sig) → Buf (Elt Ideal) ℓ)

/-- One element of the kernel's output block, from the blocks it reads. -/
theorem pay2_apply (g : Vec Ideal S1x1280x512 .bf16) (qc : Vec Ideal S1x1280x2560 .fp8e4m3) (qs : Vec Ideal S1x1280x1 .f32) (d : Fin 512) (x : Fin 2560) :
    k0_pay2 g (k0_pay1 qc qs) (ix3 0 d x) = (∑ q : Fin 1280, g (ix3 0 q d) * (qc (ix3 0 q x) * qs (ix3 0 q 0))) * Ideal.ofBits .f32 0x39888889#32 := by
  pointwise [k0_pay2, k0_pay1]

/-- One element of the reference's value, from the argument arrays. -/
theorem ref_apply (g : Vec Ideal Cert.DocReferenceIdeal.S3x1280x5120 .bf16) (qc : Vec Ideal Cert.DocReferenceIdeal.S3x1280x2560 .fp8e4m3) (qs : Vec Ideal Cert.DocReferenceIdeal.S3x1280x1 .f32) (b : Fin 3) (d : Fin 5120) (x : Fin 2560) :
    Cert.DocReferenceIdeal.Value.G3 (F := Ideal) g qc qs (ix3 b d x) = (∑ q : Fin 1280, g (ix3 b q d) * (qc (ix3 b q x) * qs (ix3 b q 0))) * Ideal.ofBits .f32 0x39888889#32 := by
  pointwise [Cert.DocReferenceIdeal.Value.G3, Cert.DocReferenceIdeal.Gen.k0_pay1]

/-- What a point writes back is its block of the reference's value of the argument arrays. -/
theorem flushed_eq (c : Dev nD) (t : Fin cfg0.N) :
    (dats m 0 c).flushed 3 t = ((cfg0.win 3).blk t).view.read (Elt Ideal)
      (Cert.DocReferenceIdeal.Value.G3 (F := Ideal) (m ((c : Thread nD τ).loc main_arg0)) (m ((c : Thread nD τ).loc main_arg1)) (m ((c : Thread nD τ).loc main_arg2))) := by
  rw [Value.flushed3, outsAt_eq]
  obtain ⟨-, -, -, a, b, e⟩ := idx_facts t
  have hN := lt_N t
  funext j
  obtain ⟨z, d, x, rfl⟩ : ∃ (z : Fin 1) (d : Fin 512) (x : Fin 2560), j = ix3 z d x := ⟨j 0, j 1, j 2, eq_ix3 j⟩
  obtain rfl : z = 0 := Subsingleton.elim _ _
  have hd : t.val % 10 * 512 + d.val < 5120 := by have := d.isLt; omega
  show k0_pay2 (F := Ideal) (iblk m c 0 t) (k0_pay1 (iblk m c 1 t) (iblk m c 2 t)) (ix3 0 d x) = Cert.DocReferenceIdeal.Value.G3 (F := Ideal) _ _ _ (((cfg0.win 3).blk t).view.emb (ix3 0 d x))
  have hi : ((cfg0.win 3).blk t).view.emb (ix3 0 d x) = ix3 ⟨t.val / 10, div_lt t⟩ ⟨t.val % 10 * 512 + d.val, hd⟩ x := by
    funext y; apply Fin.ext
    match y with
    | ⟨0, _⟩ => show win0_3.index t (0 : Fin 3) * 1 + 1 * 0 = t.val / 10; omega
    | ⟨1, _⟩ => show win0_3.index t (1 : Fin 3) * 512 + 1 * d.val = t.val % 10 * 512 + d.val; omega
    | ⟨2, _⟩ => show win0_3.index t (2 : Fin 3) * 2560 + 1 * x.val = x.val; omega
  rw [hi, pay2_apply, ref_apply]
  simp only [iblk0_apply m c t _ d hd, iblk1_apply, iblk2_apply]

/-- The kernel's result array is the reference's value of the argument arrays. -/
theorem final_eq (c : Dev nD) : (dats m 0 c).arrAt 3 cfg0.N
    = Cert.DocReferenceIdeal.Value.G3 (F := Ideal) (m ((c : Thread nD τ).loc main_arg0)) (m ((c : Thread nD τ).loc main_arg1)) (m ((c : Thread nD τ).loc main_arg2)) :=
  (dats m 0 c).arrAt_eq_of_cover 3 _ (fun t _ => flushed_eq m c t) (fun i => (Value.covered_iff3 i).2 (by
    have h0 : (i 0).val < 3 := (i 0).isLt; have h1 : (i 1).val < 5120 := (i 1).isLt; have h2 : (i 2).val < 2560 := (i 2).isLt; omega))

/-- The common result: the reference's value of the kernel's argument arrays. -/
def result (c : Dev nD) : Buf (Elt Ideal) ((c.tc : Thread nD τ).loc main_v0) :=
  Cert.DocReferenceIdeal.Value.G3 (F := Ideal) (m ((c : Thread nD τ).loc main_arg0)) (m ((c : Thread nD τ).loc main_arg1)) (m ((c : Thread nD τ).loc main_arg2))

end AtIdeal

end Cert.DocKernelIdeal.Sum

end
-- ==== Proof.QueryKernelGather.lean ====
module

public import proofs.«01_k».proof.Proof.Gen.QueryKernel.Loops

/-! The gather loop of `QueryKernel`: the offsets of its accesses in closed form, one trip, and its invariant. -/

@[expose] public section

set_option maxRecDepth 8192
set_option maxHeartbeats 4000000

noncomputable section

namespace Cert.QueryKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The word `a` is the `r`-th multiple of `u`, and `r < B`: how the unrolled gather spells its row and lane constants. -/
class Mult (u B : Nat) (a : BitVec 32) (r : outParam Nat) : Prop where
  eq : a = BitVec.ofNat 32 (u * r)
  lt : r < B

instance : Mult 16 8 0#32 0 := ⟨by decide, by decide⟩
instance : Mult 16 8 16#32 1 := ⟨by decide, by decide⟩
instance : Mult 16 8 32#32 2 := ⟨by decide, by decide⟩
instance : Mult 16 8 48#32 3 := ⟨by decide, by decide⟩
instance : Mult 16 8 64#32 4 := ⟨by decide, by decide⟩
instance : Mult 16 8 80#32 5 := ⟨by decide, by decide⟩
instance : Mult 16 8 96#32 6 := ⟨by decide, by decide⟩
instance : Mult 16 8 112#32 7 := ⟨by decide, by decide⟩
instance : Mult 8 2 0#32 0 := ⟨by decide, by decide⟩
instance : Mult 8 2 8#32 1 := ⟨by decide, by decide⟩
instance : Mult 128 4 0#32 0 := ⟨by decide, by decide⟩
instance : Mult 128 4 128#32 1 := ⟨by decide, by decide⟩
instance : Mult 128 4 256#32 2 := ⟨by decide, by decide⟩
instance : Mult 128 4 384#32 3 := ⟨by decide, by decide⟩

theorem k0_off1_eq : ∀ k : Fin k0_t1_loop.trips, k0_off1 k = ![8 * (k.val / 10), 512 * (k.val % 10)] := by decide +kernel
theorem k0_off2_eq : ∀ (k : Fin k0_t1_loop.trips) (r₁ : Fin 8) (r₂ : Fin 2),
    k0_off2 k (BitVec.ofNat 32 (16 * r₁.val)) (BitVec.ofNat 32 (8 * r₂.val))
      = ![128 * (k.val / 10) + 16 * r₁.val + 8 * r₂.val, 0] := by decide +kernel
theorem k0_off3_eq : ∀ (k : Fin k0_t1_loop.trips) (r₁ : Fin 8) (r₂ : Fin 2),
    k0_off3 k (BitVec.ofNat 32 (16 * r₁.val)) (BitVec.ofNat 32 (8 * r₂.val))
      = ![128 * (k.val / 10) + 16 * r₁.val + 8 * r₂.val, 128] := by decide +kernel
theorem k0_off4_eq : ∀ (k : Fin k0_t1_loop.trips) (r₁ : Fin 8) (r₂ : Fin 2) (r₃ : Fin 4),
    k0_off4 k (BitVec.ofNat 32 (16 * r₁.val)) (BitVec.ofNat 32 (8 * r₂.val)) (BitVec.ofNat 32 (128 * r₃.val))
      = ![128 * (k.val / 10) + 16 * r₁.val + 8 * r₂.val, 512 * (k.val % 10) + 128 * r₃.val] := by decide +kernel

instance (k : Fin k0_t1_loop.trips) : ClosedOff (k0_off1 k) := ⟨![8 * (k.val / 10), 512 * (k.val % 10)], k0_off1_eq k⟩
instance (k : Fin k0_t1_loop.trips) (a b : BitVec 32) (r s : Nat) [ha : Mult 16 8 a r] [hb : Mult 8 2 b s] :
    ClosedOff (k0_off2 k a b) :=
  ⟨![128 * (k.val / 10) + 16 * r + 8 * s, 0], by rw [ha.eq, hb.eq]; exact k0_off2_eq k ⟨r, ha.lt⟩ ⟨s, hb.lt⟩⟩
instance (k : Fin k0_t1_loop.trips) (a b : BitVec 32) (r s : Nat) [ha : Mult 16 8 a r] [hb : Mult 8 2 b s] :
    ClosedOff (k0_off3 k a b) :=
  ⟨![128 * (k.val / 10) + 16 * r + 8 * s, 128], by rw [ha.eq, hb.eq]; exact k0_off3_eq k ⟨r, ha.lt⟩ ⟨s, hb.lt⟩⟩
instance (k : Fin k0_t1_loop.trips) (a b d : BitVec 32) (r s t : Nat) [ha : Mult 16 8 a r] [hb : Mult 8 2 b s]
    [hd : Mult 128 4 d t] : ClosedOff (k0_off4 k a b d) :=
  ⟨![128 * (k.val / 10) + 16 * r + 8 * s, 512 * (k.val % 10) + 128 * t],
    by rw [ha.eq, hb.eq, hd.eq]; exact k0_off4_eq k ⟨r, ha.lt⟩ ⟨s, hb.lt⟩ ⟨t, hd.lt⟩⟩

/-! ### `k0_t1_loop`: the generated invariant (classifier: affine) -/

/-- One trip's resources: what the region reads (arg3, arg4) at its contents, what it writes (arg6)
   at any. -/
abbrev Trip_k0_t1 (c : Dev nD) (arg3 : Memref sig .tc .vmem S16x5120 .i32) (arg4 : Memref sig .tc .vmem S256x256 .i32) (arg6 : Memref sig .tc .vmem S256x5120 .i32) (X_arg3 : BufTy.Contents (Elt F) arg3.view.ty) (X_arg4 : BufTy.Contents (Elt F) arg4.view.ty) (f_arg6 : BufTy.Contents (Elt F) arg6.view.ty) : sProp 𝕄G :=
  iprop((arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} f_arg6))

/-- ONE TRIP of `k0_t1_loop` at a symbolic `k`, run by `sl_exec` (its rectangles' offsets closed
   forms of `k`, their geometry linear arithmetic): the pieces it writes into arg6 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (k : Fin k0_t1_loop.trips) :
    { L_arg6 : List (View.Piece (Elt F) S256x5120 .i32) // ∀ (E : Set ℕ) (f_arg6 : BufTy.Contents (Elt F) arg6.view.ty),
      Trip_k0_t1 (F := F) c arg3 arg4 arg6 X_arg3 X_arg4 f_arg6
      ⊢ wp frame (wpE (defs₀ (F := F)) 𝒱 (c : Thread nD τ) bd) E (k0_t1_body (F := F) i arg2 harg2 arg3 harg3 arg4 harg4 arg5 harg5 arg6 harg6 k PUnit.unit)
          (fun _ => Trip_k0_t1 (F := F) c arg3 arg4 arg6 X_arg3 X_arg4 (arg6.view.writes (Elt F) f_arg6 L_arg6)) } := by
  have hk : k.val < 20 := Nat.lt_of_lt_of_le k.isLt k0_t1_abs.2.1
  refine ⟨?_, fun E f_arg6 => ?run⟩
  case run =>
    unfold k0_t1_body
    iintro ⟨HR_arg3, HR_arg4, HW_arg6⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (k : Fin k0_t1_loop.trips) : List (View.Piece (Elt F) S256x5120 .i32) :=
  (trip_k0_t1 (F := F) 𝒱 c bd i arg2 harg2 arg3 harg3 arg4 harg4 arg5 harg5 arg6 harg6 X_arg3 X_arg4 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (k : ℕ) (prev : List (View.Piece (Elt F) S256x5120 .i32)) : List (View.Piece (Elt F) S256x5120 .i32) :=
  if h : k < k0_t1_loop.trips then
    (tripL_k0_t1 (F := F) 𝒱 c bd i arg2 harg2 arg3 harg3 arg4 harg4 arg5 harg5 arg6 harg6 X_arg3 X_arg4 ⟨k, h⟩) ++ prev
  else prev

/-- The pieces of the trips before `k` (last first), per written memref. -/
def pb_k0_t1 (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) : ℕ → List (View.Piece (Elt F) S256x5120 .i32)
  | 0 => []
  | k + 1 => pb_k0_t1Step 𝒱 c bd i arg2 harg2 arg3 harg3 arg4 harg4 arg5 harg5 arg6 harg6 X_arg3 X_arg4 k (pb_k0_t1 𝒱 c bd i arg2 harg2 arg3 harg3 arg4 harg4 arg5 harg5 arg6 harg6 X_arg3 X_arg4 k)

theorem pb_k0_t1_succ (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (k : Fin k0_t1_loop.trips) :
    pb_k0_t1 (F := F) 𝒱 c bd i arg2 harg2 arg3 harg3 arg4 harg4 arg5 harg5 arg6 harg6 X_arg3 X_arg4 (k.val + 1)
      = (tripL_k0_t1 (F := F) 𝒱 c bd i arg2 harg2 arg3 harg3 arg4 harg4 arg5 harg5 arg6 harg6 X_arg3 X_arg4 k) ++ (pb_k0_t1 (F := F) 𝒱 c bd i arg2 harg2 arg3 harg3 arg4 harg4 arg5 harg5 arg6 harg6 X_arg3 X_arg4 k.val) := by
  rw [pb_k0_t1.eq_2]; unfold pb_k0_t1Step; exact dif_pos k.isLt

/-- THE INVARIANT before trip `k`: arg3, arg4 read at `X_·`; arg6 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (G_arg6 : BufTy.Contents (Elt F) arg6.view.ty) (k : ℕ) (_u : PUnit) : sProp 𝕄G :=
  iprop((arg3.view.loc (c : Thread nD τ) ↦[arg3.view.set]{fullShare} X_arg3) ∗ (arg4.view.loc (c : Thread nD τ) ↦[arg4.view.set]{fullShare} X_arg4) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 X_arg3 X_arg4 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (G_arg6 : BufTy.Contents (Elt F) arg6.view.ty) :
    LoopInvTy_k0_t1 (F := F) Unit ℕ (UR sig nD τ) ℕ 𝒱 c bd E i arg2 harg2 arg3 harg3 arg4 harg4 arg5 harg5 arg6 harg6 where
  inv := inv_k0_t1 (F := F) 𝒱 c bd i arg2 harg2 arg3 harg3 arg4 harg4 arg5 harg5 arg6 harg6 X_arg3 X_arg4 G_arg6
  step k acc := by
    iintro ⟨HR_arg3, HR_arg4, ⟨%f_arg6, HW_arg6, %h_arg6⟩⟩
    iapply (wp_wand_r Idealize.ShloMosaic.frame (wpE (defs₀ (F := F)) 𝒱 (c : Thread nD τ) bd) E)
    isplitl [HR_arg3 HR_arg4 HW_arg6]
    · iapply ((trip_k0_t1 (F := F) 𝒱 c bd i arg2 harg2 arg3 harg3 arg4 harg4 arg5 harg5 arg6 harg6 X_arg3 X_arg4 k).2 E f_arg6)
      isplitl [HR_arg3]; · iexact HR_arg3
      isplitl [HR_arg4]; · iexact HR_arg4
      iexact HW_arg6
    · iintro %_ ⟨HR_arg3, HR_arg4, HW_arg6⟩
      isplitl [HR_arg3]; · iexact HR_arg3
      isplitl [HR_arg4]; · iexact HR_arg4
      rw [pb_k0_t1_succ]
      iexists _; isplitl [HW_arg6]; · iexact HW_arg6
      ipureintro; rw [h_arg6, ← View.writes_append]

end Cert.QueryKernel.Gen

end
-- ==== Proof.QueryKernelKit.lean ====
module

public import proofs.«01_k».proof.Proof.Gen.QueryKernel.Launch
public import proofs.«01_k».proof.Proof.Gen.QueryKernel.Skeleton
public import proofs.«01_k».proof.Proof.Gen.QueryKernel.Loops
public import proofs.«01_k».proof.Proof.Gen.QueryKernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.QueryKernelGather

/-! The launch of `QueryKernel` up to its call, the blocks of its windows and the frame claim off a frame run. -/

@[expose] public section

set_option maxRecDepth 16384

noncomputable section

namespace Cert.QueryKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_QueryKernel`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The kernel body on any staging memrefs: a subtype the run finds -/

/-- One staging buffer of output window 3, through which its contents are stated (`View.read_writes_of_cover`: the
    choice does not matter). -/
abbrev VO0_3 : View sig .tc .vmem S1x1280x512 .f32 := (Memref.whole cc0_stg3_0 : Memref sig .tc .vmem S1x1280x512 .f32).view
/-- Each window's current staging memref at point `t`, spelled as the pipeline passes it (`bodyAt0`), and its wholeness. -/
abbrev ms0_0 (t : Fin cfg0.N) : Memref sig .tc .vmem S1x1280x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x5120 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280x512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x5120 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.QueryKernel.Gen

end
-- ==== Proof.QueryKernelRunA.lean ====
module

public import proofs.«01_k».proof.Proof.QueryKernelKit

/-! The body of the kernel of `QueryKernel` run once, in case A of its branch. -/

@[expose] public section

set_option maxRecDepth 16384

noncomputable section

namespace Cert.QueryKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole)
    (x0 : Vec F S1x1280x5120 .bf16) (x1 : Vec F S16x5120 .i32) (x2 : Vec F S256x256 .i32) :
    { L3 : List (View.Piece (Elt F) S1x1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d)) -∗ K ⟨⟩))
          ⊢ wp frame (wpE (defs₀ (F := F)) Variants.none c none) E (cc0_query_grads i arg2 harg2 arg3 harg3 arg4 harg4 arg5 harg5 arg6 harg6) K } := by
  refine ⟨?_, fun E K => ?run⟩
  case run =>
    simp only [cc0_query_grads_eq_skeleton]; unfold cc0_query_grads_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    have hrd0 : ∀ (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (hrdF : BufTy.Contents (Elt F) arg6.view.ty) (hrdB : LoadRect S256x5120), arg6.view.readAt (Elt F) hrdB (arg6.view.writes (Elt F) hrdF (pb_k0_t1 (F := F) 𝒱 c bd i arg2 harg2 arg3 harg3 arg4 harg4 arg5 harg5 arg6 harg6 X_arg3 X_arg4 (Scf.trips k0_t1_loop.lb k0_t1_loop.ub k0_t1_loop.st))) = arg6.view.readCov (pb_k0_t1 (F := F) 𝒱 c bd i arg2 harg2 arg3 harg3 arg4 harg4 arg5 harg5 arg6 harg6 X_arg3 X_arg4 (Scf.trips k0_t1_loop.lb k0_t1_loop.ub k0_t1_loop.st)) hrdB := fun 𝒱 c bd i arg2 harg2 arg3 harg3 arg4 harg4 arg5 harg5 arg6 harg6 X_arg3 X_arg4 hrdF hrdB => View.readAt_writes_of_cover _ hrdF _ hrdB (fun hrdJ => View.cover_of_tiledL (pb_k0_t1 (F := F) 𝒱 c bd i arg2 harg2 arg3 harg3 arg4 harg4 arg5 harg5 arg6 harg6 X_arg3 X_arg4 (Scf.trips k0_t1_loop.lb k0_t1_loop.ub k0_t1_loop.st)) S8x128.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.QueryKernel.Gen

end
-- ==== Proof.QueryKernelFrame.lean ====
module

public import proofs.«01_k».proof.Proof.QueryKernelRunA
public import Idealize.ShloMosaic.Lib.Claim

/-! What the outputs of `QueryKernel` hold after each grid point, and its frame. -/

@[expose] public section

set_option maxRecDepth 16384

noncomputable section

namespace Cert.QueryKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 3 tile its block (1 store of `S1x1280x512`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole)
    (x0 : Vec F S1x1280x5120 .bf16) (x1 : Vec F S16x5120 .i32) (x2 : Vec F S256x256 .i32) (y : S1x1280x512.Idx) :
    ∃ pc ∈ (kernelRun0_A c i arg2 harg2 arg3 harg3 arg4 harg4 arg5 harg5 arg6 harg6 x0 x1 x2).1, y ∈ pc.1.set :=
  View.cover_of_tiledL (kernelRun0_A c i arg2 harg2 arg3 harg3 arg4 harg4 arg5 harg5 arg6 harg6 x0 x1 x2).1 S1x1280x512.size (by sl_kernel_rfl) y

/-- What the run leaves in output 3's staging buffer: its pieces read back over junk. -/
def out0_A_3 (c : Dev nD) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole)
    (x0 : Vec F S1x1280x5120 .bf16) (x1 : Vec F S16x5120 .i32) (x2 : Vec F S256x256 .i32) : Vec F S1x1280x512 .f32 :=
  VO0_3.read (Elt F) (VO0_3.writes (Elt F) VO0_3.junk (kernelRun0_A c i arg2 harg2 arg3 harg3 arg4 harg4 arg5 harg5 arg6 harg6 x0 x1 x2).1)

/-! ## What the outputs hold after each point -/

/-- What the outputs' staging buffers hold after the body at point `t`: the run's contents at
    the point's memrefs and input blocks. -/
def outsAt0 (c : Dev nD) (t : Fin cfg0.N) : Vec F S1x1280x512 .f32 :=
  out0_A_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_3
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_QueryKernel`'s statement (Defs.lean) at any `F` — Proof.lean cites it at `Bits`:
    `theorem Cert.Proof.claim : Cert.Claim := ⟨Cert.QueryKernel.Gen.facts, fun m ρ _ => Cert.QueryKernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.QueryKernel.Gen

end
-- ==== Proof.QueryKernelIdealGather.lean ====
module

public import proofs.«01_k».proof.Proof.Gen.QueryKernelIdeal.Loops

/-! The gather loop of `QueryKernelIdeal`: the offsets of its accesses in closed form, one trip, and its invariant. -/

@[expose] public section

set_option maxRecDepth 8192
set_option maxHeartbeats 4000000

noncomputable section

namespace Cert.QueryKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The word `a` is the `r`-th multiple of `u`, and `r < B`: how the unrolled gather spells its row and lane constants. -/
class Mult (u B : Nat) (a : BitVec 32) (r : outParam Nat) : Prop where
  eq : a = BitVec.ofNat 32 (u * r)
  lt : r < B

instance : Mult 16 8 0#32 0 := ⟨by decide, by decide⟩
instance : Mult 16 8 16#32 1 := ⟨by decide, by decide⟩
instance : Mult 16 8 32#32 2 := ⟨by decide, by decide⟩
instance : Mult 16 8 48#32 3 := ⟨by decide, by decide⟩
instance : Mult 16 8 64#32 4 := ⟨by decide, by decide⟩
instance : Mult 16 8 80#32 5 := ⟨by decide, by decide⟩
instance : Mult 16 8 96#32 6 := ⟨by decide, by decide⟩
instance : Mult 16 8 112#32 7 := ⟨by decide, by decide⟩
instance : Mult 8 2 0#32 0 := ⟨by decide, by decide⟩
instance : Mult 8 2 8#32 1 := ⟨by decide, by decide⟩
instance : Mult 128 4 0#32 0 := ⟨by decide, by decide⟩
instance : Mult 128 4 128#32 1 := ⟨by decide, by decide⟩
instance : Mult 128 4 256#32 2 := ⟨by decide, by decide⟩
instance : Mult 128 4 384#32 3 := ⟨by decide, by decide⟩

theorem k0_off1_eq : ∀ k : Fin k0_t1_loop.trips, k0_off1 k = ![8 * (k.val / 10), 512 * (k.val % 10)] := by decide +kernel
theorem k0_off2_eq : ∀ (k : Fin k0_t1_loop.trips) (r₁ : Fin 8) (r₂ : Fin 2),
    k0_off2 k (BitVec.ofNat 32 (16 * r₁.val)) (BitVec.ofNat 32 (8 * r₂.val))
      = ![128 * (k.val / 10) + 16 * r₁.val + 8 * r₂.val, 0] := by decide +kernel
theorem k0_off3_eq : ∀ (k : Fin k0_t1_loop.trips) (r₁ : Fin 8) (r₂ : Fin 2),
    k0_off3 k (BitVec.ofNat 32 (16 * r₁.val)) (BitVec.ofNat 32 (8 * r₂.val))
      = ![128 * (k.val / 10) + 16 * r₁.val + 8 * r₂.val, 128] := by decide +kernel
theorem k0_off4_eq : ∀ (k : Fin k0_t1_loop.trips) (r₁ : Fin 8) (r₂ : Fin 2) (r₃ : Fin 4),
    k0_off4 k (BitVec.ofNat 32 (16 * r₁.val)) (BitVec.ofNat 32 (8 * r₂.val)) (BitVec.ofNat 32 (128 * r₃.val))
      = ![128 * (k.val / 10) + 16 * r₁.val + 8 * r₂.val, 512 * (k.val % 10) + 128 * r₃.val] := by decide +kernel

instance (k : Fin k0_t1_loop.trips) : ClosedOff (k0_off1 k) := ⟨![8 * (k.val / 10), 512 * (k.val % 10)], k0_off1_eq k⟩
instance (k : Fin k0_t1_loop.trips) (a b : BitVec 32) (r s : Nat) [ha : Mult 16 8 a r] [hb : Mult 8 2 b s] :
    ClosedOff (k0_off2 k a b) :=
  ⟨![128 * (k.val / 10) + 16 * r + 8 * s, 0], by rw [ha.eq, hb.eq]; exact k0_off2_eq k ⟨r, ha.lt⟩ ⟨s, hb.lt⟩⟩
instance (k : Fin k0_t1_loop.trips) (a b : BitVec 32) (r s : Nat) [ha : Mult 16 8 a r] [hb : Mult 8 2 b s] :
    ClosedOff (k0_off3 k a b) :=
  ⟨![128 * (k.val / 10) + 16 * r + 8 * s, 128], by rw [ha.eq, hb.eq]; exact k0_off3_eq k ⟨r, ha.lt⟩ ⟨s, hb.lt⟩⟩
instance (k : Fin k0_t1_loop.trips) (a b d : BitVec 32) (r s t : Nat) [ha : Mult 16 8 a r] [hb : Mult 8 2 b s]
    [hd : Mult 128 4 d t] : ClosedOff (k0_off4 k a b d) :=
  ⟨![128 * (k.val / 10) + 16 * r + 8 * s, 512 * (k.val % 10) + 128 * t],
    by rw [ha.eq, hb.eq, hd.eq]; exact k0_off4_eq k ⟨r, ha.lt⟩ ⟨s, hb.lt⟩ ⟨t, hd.lt⟩⟩

/-! ### `k0_t1_loop`: the generated invariant (classifier: affine) -/

/-- One trip's resources: what the region reads (arg3, arg4) at its contents, what it writes (arg6)
   at any. -/
abbrev Trip_k0_t1 (c : Dev nD) (arg3 : Memref sig .tc .vmem S16x5120 .i32) (arg4 : Memref sig .tc .vmem S256x256 .i32) (arg6 : Memref sig .tc .vmem S256x5120 .i32) (X_arg3 : BufTy.Contents (Elt F) arg3.view.ty) (X_arg4 : BufTy.Contents (Elt F) arg4.view.ty) (f_arg6 : BufTy.Contents (Elt F) arg6.view.ty) : sProp 𝕄G :=
  iprop((arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} f_arg6))

/-- ONE TRIP of `k0_t1_loop` at a symbolic `k`, run by `sl_exec` (its rectangles' offsets closed
   forms of `k`, their geometry linear arithmetic): the pieces it writes into arg6 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (k : Fin k0_t1_loop.trips) :
    { L_arg6 : List (View.Piece (Elt F) S256x5120 .i32) // ∀ (E : Set ℕ) (f_arg6 : BufTy.Contents (Elt F) arg6.view.ty),
      Trip_k0_t1 (F := F) c arg3 arg4 arg6 X_arg3 X_arg4 f_arg6
      ⊢ wp frame (wpE (defs₀ (F := F)) 𝒱 (c : Thread nD τ) bd) E (k0_t1_body (F := F) i arg2 harg2 arg3 harg3 arg4 harg4 arg5 harg5 arg6 harg6 k PUnit.unit)
          (fun _ => Trip_k0_t1 (F := F) c arg3 arg4 arg6 X_arg3 X_arg4 (arg6.view.writes (Elt F) f_arg6 L_arg6)) } := by
  have hk : k.val < 20 := Nat.lt_of_lt_of_le k.isLt k0_t1_abs.2.1
  refine ⟨?_, fun E f_arg6 => ?run⟩
  case run =>
    unfold k0_t1_body
    iintro ⟨HR_arg3, HR_arg4, HW_arg6⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (k : Fin k0_t1_loop.trips) : List (View.Piece (Elt F) S256x5120 .i32) :=
  (trip_k0_t1 (F := F) 𝒱 c bd i arg2 harg2 arg3 harg3 arg4 harg4 arg5 harg5 arg6 harg6 X_arg3 X_arg4 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (k : ℕ) (prev : List (View.Piece (Elt F) S256x5120 .i32)) : List (View.Piece (Elt F) S256x5120 .i32) :=
  if h : k < k0_t1_loop.trips then
    (tripL_k0_t1 (F := F) 𝒱 c bd i arg2 harg2 arg3 harg3 arg4 harg4 arg5 harg5 arg6 harg6 X_arg3 X_arg4 ⟨k, h⟩) ++ prev
  else prev

/-- The pieces of the trips before `k` (last first), per written memref. -/
def pb_k0_t1 (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) : ℕ → List (View.Piece (Elt F) S256x5120 .i32)
  | 0 => []
  | k + 1 => pb_k0_t1Step 𝒱 c bd i arg2 harg2 arg3 harg3 arg4 harg4 arg5 harg5 arg6 harg6 X_arg3 X_arg4 k (pb_k0_t1 𝒱 c bd i arg2 harg2 arg3 harg3 arg4 harg4 arg5 harg5 arg6 harg6 X_arg3 X_arg4 k)

theorem pb_k0_t1_succ (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (k : Fin k0_t1_loop.trips) :
    pb_k0_t1 (F := F) 𝒱 c bd i arg2 harg2 arg3 harg3 arg4 harg4 arg5 harg5 arg6 harg6 X_arg3 X_arg4 (k.val + 1)
      = (tripL_k0_t1 (F := F) 𝒱 c bd i arg2 harg2 arg3 harg3 arg4 harg4 arg5 harg5 arg6 harg6 X_arg3 X_arg4 k) ++ (pb_k0_t1 (F := F) 𝒱 c bd i arg2 harg2 arg3 harg3 arg4 harg4 arg5 harg5 arg6 harg6 X_arg3 X_arg4 k.val) := by
  rw [pb_k0_t1.eq_2]; unfold pb_k0_t1Step; exact dif_pos k.isLt

/-- THE INVARIANT before trip `k`: arg3, arg4 read at `X_·`; arg6 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (G_arg6 : BufTy.Contents (Elt F) arg6.view.ty) (k : ℕ) (_u : PUnit) : sProp 𝕄G :=
  iprop((arg3.view.loc (c : Thread nD τ) ↦[arg3.view.set]{fullShare} X_arg3) ∗ (arg4.view.loc (c : Thread nD τ) ↦[arg4.view.set]{fullShare} X_arg4) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 X_arg3 X_arg4 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (G_arg6 : BufTy.Contents (Elt F) arg6.view.ty) :
    LoopInvTy_k0_t1 (F := F) Unit ℕ (UR sig nD τ) ℕ 𝒱 c bd E i arg2 harg2 arg3 harg3 arg4 harg4 arg5 harg5 arg6 harg6 where
  inv := inv_k0_t1 (F := F) 𝒱 c bd i arg2 harg2 arg3 harg3 arg4 harg4 arg5 harg5 arg6 harg6 X_arg3 X_arg4 G_arg6
  step k acc := by
    iintro ⟨HR_arg3, HR_arg4, ⟨%f_arg6, HW_arg6, %h_arg6⟩⟩
    iapply (wp_wand_r Idealize.ShloMosaic.frame (wpE (defs₀ (F := F)) 𝒱 (c : Thread nD τ) bd) E)
    isplitl [HR_arg3 HR_arg4 HW_arg6]
    · iapply ((trip_k0_t1 (F := F) 𝒱 c bd i arg2 harg2 arg3 harg3 arg4 harg4 arg5 harg5 arg6 harg6 X_arg3 X_arg4 k).2 E f_arg6)
      isplitl [HR_arg3]; · iexact HR_arg3
      isplitl [HR_arg4]; · iexact HR_arg4
      iexact HW_arg6
    · iintro %_ ⟨HR_arg3, HR_arg4, HW_arg6⟩
      isplitl [HR_arg3]; · iexact HR_arg3
      isplitl [HR_arg4]; · iexact HR_arg4
      rw [pb_k0_t1_succ]
      iexists _; isplitl [HW_arg6]; · iexact HW_arg6
      ipureintro; rw [h_arg6, ← View.writes_append]

end Cert.QueryKernelIdeal.Gen

end
-- ==== Proof.QueryKernelIdealKit.lean ====
module

public import proofs.«01_k».proof.Proof.Gen.QueryKernelIdeal.Launch
public import proofs.«01_k».proof.Proof.Gen.QueryKernelIdeal.Skeleton
public import proofs.«01_k».proof.Proof.Gen.QueryKernelIdeal.Loops
public import proofs.«01_k».proof.Proof.Gen.QueryKernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.QueryKernelIdealGather

/-! The launch of `QueryKernelIdeal` up to its call, the blocks of its windows and the frame claim off a frame run. -/

@[expose] public section

set_option maxRecDepth 16384

noncomputable section

namespace Cert.QueryKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_QueryKernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The kernel body on any staging memrefs: a subtype the run finds -/

/-- One staging buffer of output window 3, through which its contents are stated (`View.read_writes_of_cover`: the
    choice does not matter). -/
abbrev VO0_3 : View sig .tc .vmem S1x1280x512 .f32 := (Memref.whole cc0_stg3_0 : Memref sig .tc .vmem S1x1280x512 .f32).view
/-- Each window's current staging memref at point `t`, spelled as the pipeline passes it (`bodyAt0`), and its wholeness. -/
abbrev ms0_0 (t : Fin cfg0.N) : Memref sig .tc .vmem S1x1280x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x5120 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280x512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x5120 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.QueryKernelIdeal.Gen

end
-- ==== Proof.QueryKernelIdealRunA.lean ====
module

public import proofs.«01_k».proof.Proof.QueryKernelIdealKit

/-! The body of the kernel of `QueryKernelIdeal` run once, in case A of its branch. -/

@[expose] public section

set_option maxRecDepth 16384

noncomputable section

namespace Cert.QueryKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole)
    (x0 : Vec F S1x1280x5120 .bf16) (x1 : Vec F S16x5120 .i32) (x2 : Vec F S256x256 .i32) :
    { L3 : List (View.Piece (Elt F) S1x1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d)) -∗ K ⟨⟩))
          ⊢ wp frame (wpE (defs₀ (F := F)) Variants.none c none) E (cc0_query_grads i arg2 harg2 arg3 harg3 arg4 harg4 arg5 harg5 arg6 harg6) K } := by
  refine ⟨?_, fun E K => ?run⟩
  case run =>
    simp only [cc0_query_grads_eq_skeleton]; unfold cc0_query_grads_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    have hrd0 : ∀ (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty) (hrdF : BufTy.Contents (Elt F) arg6.view.ty) (hrdB : LoadRect S256x5120), arg6.view.readAt (Elt F) hrdB (arg6.view.writes (Elt F) hrdF (pb_k0_t1 (F := F) 𝒱 c bd i arg2 harg2 arg3 harg3 arg4 harg4 arg5 harg5 arg6 harg6 X_arg3 X_arg4 (Scf.trips k0_t1_loop.lb k0_t1_loop.ub k0_t1_loop.st))) = arg6.view.readCov (pb_k0_t1 (F := F) 𝒱 c bd i arg2 harg2 arg3 harg3 arg4 harg4 arg5 harg5 arg6 harg6 X_arg3 X_arg4 (Scf.trips k0_t1_loop.lb k0_t1_loop.ub k0_t1_loop.st)) hrdB := fun 𝒱 c bd i arg2 harg2 arg3 harg3 arg4 harg4 arg5 harg5 arg6 harg6 X_arg3 X_arg4 hrdF hrdB => View.readAt_writes_of_cover _ hrdF _ hrdB (fun hrdJ => View.cover_of_tiledL (pb_k0_t1 (F := F) 𝒱 c bd i arg2 harg2 arg3 harg3 arg4 harg4 arg5 harg5 arg6 harg6 X_arg3 X_arg4 (Scf.trips k0_t1_loop.lb k0_t1_loop.ub k0_t1_loop.st)) S8x128.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.QueryKernelIdeal.Gen

end
-- ==== Proof.QueryKernelIdealFrame.lean ====
module

public import proofs.«01_k».proof.Proof.QueryKernelIdealRunA
public import Idealize.ShloMosaic.Lib.Claim

/-! What the outputs of `QueryKernelIdeal` hold after each grid point, and its frame. -/

@[expose] public section

set_option maxRecDepth 16384

noncomputable section

namespace Cert.QueryKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 3 tile its block (1 store of `S1x1280x512`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole)
    (x0 : Vec F S1x1280x5120 .bf16) (x1 : Vec F S16x5120 .i32) (x2 : Vec F S256x256 .i32) (y : S1x1280x512.Idx) :
    ∃ pc ∈ (kernelRun0_A c i arg2 harg2 arg3 harg3 arg4 harg4 arg5 harg5 arg6 harg6 x0 x1 x2).1, y ∈ pc.1.set :=
  View.cover_of_tiledL (kernelRun0_A c i arg2 harg2 arg3 harg3 arg4 harg4 arg5 harg5 arg6 harg6 x0 x1 x2).1 S1x1280x512.size (by sl_kernel_rfl) y

/-- What the run leaves in output 3's staging buffer: its pieces read back over junk. -/
def out0_A_3 (c : Dev nD) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole)
    (x0 : Vec F S1x1280x5120 .bf16) (x1 : Vec F S16x5120 .i32) (x2 : Vec F S256x256 .i32) : Vec F S1x1280x512 .f32 :=
  VO0_3.read (Elt F) (VO0_3.writes (Elt F) VO0_3.junk (kernelRun0_A c i arg2 harg2 arg3 harg3 arg4 harg4 arg5 harg5 arg6 harg6 x0 x1 x2).1)

/-! ## What the outputs hold after each point -/

/-- What the outputs' staging buffers hold after the body at point `t`: the run's contents at
    the point's memrefs and input blocks. -/
def outsAt0 (c : Dev nD) (t : Fin cfg0.N) : Vec F S1x1280x512 .f32 :=
  out0_A_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_3
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_QueryKernelIdeal`'s statement (Defs.lean) at any `F` — Proof.lean cites it at `Bits`:
    `theorem Cert.Proof.claim : Cert.Claim := ⟨Cert.QueryKernelIdeal.Gen.facts, fun m ρ _ => Cert.QueryKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.QueryKernelIdeal.Gen

end
-- ==== Proof.QueryKernelIdealBlocks.lean ====
module

public import proofs.«01_k».proof.Proof.QueryKernelIdealFrame
public import Idealize.ShloMosaic.Lib.Pipeline.Value

/-! Each output array of `QueryKernelIdeal` after the run, block by block. -/

@[expose] public section

noncomputable section

namespace Cert.QueryKernelIdeal.Value

open Cert.QueryKernelIdeal Cert.QueryKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t)) := by
  simp only [flushed3, outsAt0]

/-- The index map sends distinct grid points to distinct block indices (decided over the 15 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S3x1280x2560.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v7) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v7) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.QueryKernelIdeal.Value

end
-- ==== Proof.QueryKernelGatherValue.lean ====
/- What the gather loop of `QueryKernelIdeal` leaves in its scratch: at row `r` and document `d` the word of the table's row `r`
   that the document's code for the row's subvector names. -/
module

public import proofs.«01_k».proof.Proof.QueryKernelIdealGather
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Ring

@[expose] public section

set_option maxRecDepth 8192
set_option maxHeartbeats 4000000

noncomputable section

namespace Cert.QueryKernelIdeal.Gather

open Cert.QueryKernelIdeal Cert.QueryKernelIdeal.Gen Idealize.ShloMosaic Idealize.ShloMosaic.TcCoe

variable {F : FTy → Type} [FloatOps F]

/-- One gathered piece: lanes of one row of codes select, by their low seven bits, a lane of the first or of the second half
    of eight table rows. -/
def piece (C : IVec S8x512 32) (t0 t1 : IVec S8x128 32) (o : Fin 2 → Nat) (ho : S8x512.Slices o S1x128) : IVec S8x128 32 :=
  have idx : IVec S8x128 32 := broadcastTo S8x128 (shapeCast S1x128 (extractStridedSlice S1x128 o (shapeCast S8x512 C shapeCasts_S8x512_S8x512) ho) shapeCasts_S1x128_S1x128) broadcasts_S1x128_S8x128
  have low : IVec S8x128 32 := andi idx (broadcast S8x128 127#32)
  have lane : IVec S8x128 32 := shapeCast S8x128 (shapeCast S8x128x1 (select (cmpi .slt low (broadcast S8x128 0#32)) (addi low (broadcast S8x128 128#32)) low) shapeCasts_S8x128_S8x128x1) shapeCasts_S8x128x1_S8x128
  shapeCast S8x128 (select (cmpi .slt idx (broadcast S8x128 128#32)) (dynamicGather 1 (shapeCast S8x128 t0 shapeCasts_S8x128_S8x128) lane) (dynamicGather 1 (shapeCast S8x128 t1 shapeCasts_S8x128_S8x128) lane)) shapeCasts_S8x128_S8x128

/-- The seven low bits of a word are never negative, and they are the word modulo 128. -/
theorem low_eq (w : BitVec 32) : Scalar.select (IntOp.cmpi CmpIPredicate.slt (IntOp.andi w 127#32) 0#32) (IntOp.addi (IntOp.andi w 127#32) 128#32) (IntOp.andi w 127#32) = IntOp.andi w 127#32 := by
  have h : (w &&& 127#32).slt 0#32 = false := by
    rw [BitVec.slt_zero_eq_msb, BitVec.msb_and, show (127#32).msb = false from rfl, Bool.and_false]
  show (if BitVec.ofBool ((w &&& 127#32).slt 0#32) = 1#1 then _ else _) = _
  rw [h]; rfl

theorem toNat_low (w : BitVec 32) : (IntOp.andi w 127#32).toNat % 128 = w.toNat % 128 := by
  show (w &&& 127#32).toNat % 128 = _
  rw [BitVec.toNat_and]
  show (w.toNat &&& (2 ^ 7 - 1)) % 128 = _
  rw [Nat.and_two_pow_sub_one_eq_mod]
  omega

theorem piece_apply (C : IVec S8x512 32) (t0 t1 : IVec S8x128 32) (r t : Nat) (ho : S8x512.Slices ![r, 128 * t] S1x128) (a : Fin 8) (l : Fin 128)
    (hr : r < 8) (hl : 128 * t + l.val < 512) :
    piece C t0 t1 ![r, 128 * t] ho (ix2 a l)
      = if (C (ix2 ⟨r, hr⟩ ⟨128 * t + l.val, hl⟩)).slt 128#32 then t0 (ix2 a ⟨(C (ix2 ⟨r, hr⟩ ⟨128 * t + l.val, hl⟩)).toNat % 128, Nat.mod_lt _ (by decide)⟩)
        else t1 (ix2 a ⟨(C (ix2 ⟨r, hr⟩ ⟨128 * t + l.val, hl⟩)).toNat % 128, Nat.mod_lt _ (by decide)⟩) := by
  unfold piece
  pointwise
  simp only [low_eq, toNat_low]
  show (if BitVec.ofBool (BitVec.slt (C (ix2 ⟨r, hr⟩ ⟨128 * t + l.val, hl⟩)) 128#32) = 1#1 then _ else _) = _
  cases BitVec.slt (C (ix2 ⟨r, hr⟩ ⟨128 * t + l.val, hl⟩)) 128#32 <;> rfl

/-- The table lane a code names. -/
def lane (w : BitVec 32) : Fin 256 :=
  if w.slt 128#32 then ⟨w.toNat % 128, by omega⟩ else ⟨128 + w.toNat % 128, by omega⟩

/-- A code below 256 names the lane of its own number. -/
theorem lane_val (w : BitVec 32) (h : w.toNat < 256) : (lane w).val = w.toNat := by
  unfold lane
  have : w.slt 128#32 = decide (w.toNat < 128) := by
    rw [BitVec.slt_eq_decide, BitVec.toInt_eq_toNat_of_lt (by omega)]
    simp only [show (128#32).toInt = 128 from by decide]
    exact decide_eq_decide.mpr (by omega)
  rw [this]
  by_cases h' : w.toNat < 128
  · simp only [h', decide_true, if_true]; omega
  · simp only [h', decide_false, Bool.false_eq_true, if_false]; omega

/-- The table looked up: at row `r` and document `d`, the word of row `r` that the code of subvector `r / 16` names. -/
def look (codes : Vec F S16x5120 .i32) (tab : Vec F S256x256 .i32) : S256x5120.Idx → BitVec 32 := fun y =>
  tab (ix2 (y 0) (lane (codes (ix2 ⟨(y 0).val / 16, by have : (y 0).val < 256 := (y 0).isLt; omega⟩ (y 1)))))

theorem look_of (codes : Vec F S16x5120 .i32) (tab : Vec F S256x256 .i32) (y : S256x5120.Idx) (u : S16x5120.Idx) (v : S256x256.Idx)
    (h0 : (u 0).val = (y 0).val / 16) (h1 : (u 1).val = (y 1).val) (h2 : (v 0).val = (y 0).val) (h3 : (v 1).val = (lane (codes u)).val) :
    look codes tab y = tab v := by
  have hu : (ix2 ⟨(y 0).val / 16, by have : (y 0).val < 256 := (y 0).isLt; omega⟩ (y 1) : S16x5120.Idx) = u := by
    funext a; apply Fin.ext
    match a with
    | ⟨0, _⟩ => exact h0.symm
    | ⟨1, _⟩ => exact h1.symm
  unfold look
  rw [hu]
  congr 1
  funext a; apply Fin.ext
  match a with
  | ⟨0, _⟩ => exact h2.symm
  | ⟨1, _⟩ => exact h3.symm

theorem inb1 (k : Fin k0_t1_loop.trips) : ∀ a, k0_off1 k a + S8x512.size a ≤ S16x5120.size a := by
  have h := k0_off1_eq k
  have hk : k.val < 20 := k.isLt
  rw [h]; intro a
  match a with
  | ⟨0, _⟩ => show 8 * (k.val / 10) + 8 ≤ 16; omega
  | ⟨1, _⟩ => show 512 * (k.val % 10) + 512 ≤ 5120; omega

theorem inb2 (k : Fin k0_t1_loop.trips) (a b : BitVec 32) (r s : Nat) [ha : Mult 16 8 a r] [hb : Mult 8 2 b s] :
    ∀ x, k0_off2 k a b x + S8x128.size x ≤ S256x256.size x := by
  have h : k0_off2 k a b = ![128 * (k.val / 10) + 16 * r + 8 * s, 0] := by rw [ha.eq, hb.eq]; exact k0_off2_eq k ⟨r, ha.lt⟩ ⟨s, hb.lt⟩
  have hk : k.val < 20 := k.isLt
  have := ha.lt; have := hb.lt
  rw [h]; intro x
  match x with
  | ⟨0, _⟩ => show 128 * (k.val / 10) + 16 * r + 8 * s + 8 ≤ 256; omega
  | ⟨1, _⟩ => show 0 + 128 ≤ 256; omega

theorem inb3 (k : Fin k0_t1_loop.trips) (a b : BitVec 32) (r s : Nat) [ha : Mult 16 8 a r] [hb : Mult 8 2 b s] :
    ∀ x, k0_off3 k a b x + S8x128.size x ≤ S256x256.size x := by
  have h : k0_off3 k a b = ![128 * (k.val / 10) + 16 * r + 8 * s, 128] := by rw [ha.eq, hb.eq]; exact k0_off3_eq k ⟨r, ha.lt⟩ ⟨s, hb.lt⟩
  have hk : k.val < 20 := k.isLt
  have := ha.lt; have := hb.lt
  rw [h]; intro x
  match x with
  | ⟨0, _⟩ => show 128 * (k.val / 10) + 16 * r + 8 * s + 8 ≤ 256; omega
  | ⟨1, _⟩ => show 128 + 128 ≤ 256; omega

theorem inb4 (k : Fin k0_t1_loop.trips) (a b d : BitVec 32) (r s t : Nat) [ha : Mult 16 8 a r] [hb : Mult 8 2 b s] [hd : Mult 128 4 d t] :
    ∀ x, k0_off4 k a b d x + ![8, 128] x ≤ S256x5120.size x := by
  have h : k0_off4 k a b d = ![128 * (k.val / 10) + 16 * r + 8 * s, 512 * (k.val % 10) + 128 * t] := by
    rw [ha.eq, hb.eq, hd.eq]; exact k0_off4_eq k ⟨r, ha.lt⟩ ⟨s, hb.lt⟩ ⟨t, hd.lt⟩
  have hk : k.val < 20 := k.isLt
  have := ha.lt; have := hb.lt; have := hd.lt
  rw [h]; intro x
  match x with
  | ⟨0, _⟩ => show 128 * (k.val / 10) + 16 * r + 8 * s + 8 ≤ 256; omega
  | ⟨1, _⟩ => show 512 * (k.val % 10) + 128 * t + 128 ≤ 5120; omega

/-- Every gathered piece is a block of the table looked up. -/
theorem agree (codes : Vec F S16x5120 .i32) (tab : Vec F S256x256 .i32) (k : Fin k0_t1_loop.trips) (a b d : BitVec 32) (r s t : Nat)
    [ha : Mult 16 8 a r] [hb : Mult 8 2 b s] [hd : Mult 128 4 d t] (i1 i2 i3 i4) (o : Fin 2 → Nat) (ho : S8x512.Slices o S1x128) (hot : o = ![r, 128 * t])
    (x : (Rect.unit (s := S256x5120) (k0_off4 k a b d) ![8, 128] i4).shape.Idx) :
    piece (View.ld codes (Rect.unit (s := S16x5120) (k0_off1 k) S8x512.size i1)) (View.ld tab (Rect.unit (s := S256x256) (k0_off2 k a b) S8x128.size i2))
        (View.ld tab (Rect.unit (s := S256x256) (k0_off3 k a b) S8x128.size i3)) o ho x
      = look codes tab ((Rect.unit (s := S256x5120) (k0_off4 k a b d) ![8, 128] i4).emb x) := by
  subst hot
  have h4 : k0_off4 k a b d = ![128 * (k.val / 10) + 16 * r + 8 * s, 512 * (k.val % 10) + 128 * t] := by
    rw [ha.eq, hb.eq, hd.eq]; exact k0_off4_eq k ⟨r, ha.lt⟩ ⟨s, hb.lt⟩ ⟨t, hd.lt⟩
  have h2 : k0_off2 k a b = ![128 * (k.val / 10) + 16 * r + 8 * s, 0] := by
    rw [ha.eq, hb.eq]; exact k0_off2_eq k ⟨r, ha.lt⟩ ⟨s, hb.lt⟩
  have h3 : k0_off3 k a b = ![128 * (k.val / 10) + 16 * r + 8 * s, 128] := by
    rw [ha.eq, hb.eq]; exact k0_off3_eq k ⟨r, ha.lt⟩ ⟨s, hb.lt⟩
  have h1 := k0_off1_eq k
  have hr := ha.lt; have hs := hb.lt; have ht := hd.lt
  have h40 : k0_off4 k a b d 0 = 128 * (k.val / 10) + 16 * r + 8 * s := by rw [h4]; rfl
  have h41 : k0_off4 k a b d 1 = 512 * (k.val % 10) + 128 * t := by rw [h4]; rfl
  have h20 : k0_off2 k a b 0 = 128 * (k.val / 10) + 16 * r + 8 * s := by rw [h2]; rfl
  have h21 : k0_off2 k a b 1 = 0 := by rw [h2]; rfl
  have h30 : k0_off3 k a b 0 = 128 * (k.val / 10) + 16 * r + 8 * s := by rw [h3]; rfl
  have h31 : k0_off3 k a b 1 = 128 := by rw [h3]; rfl
  have h10 : k0_off1 k 0 = 8 * (k.val / 10) := by rw [h1]; rfl
  have h11 : k0_off1 k 1 = 512 * (k.val % 10) := by rw [h1]; rfl
  obtain ⟨p, q, rfl⟩ : ∃ (p : Fin 8) (q : Fin 128), x = ix2 p q := ⟨x 0, x 1, by funext a; match a with | ⟨0, _⟩ => rfl | ⟨1, _⟩ => rfl⟩
  have hp := p.isLt; have hq := q.isLt
  refine (piece_apply _ _ _ r t ho p q hr (by omega)).trans ?_
  generalize hw : View.ld codes (Rect.unit (s := S16x5120) (k0_off1 k) S8x512.size i1) (ix2 ⟨r, hr⟩ ⟨128 * t + q.val, by omega⟩) = w
  have key : ∀ v : S256x256.Idx, (v 0).val = 128 * (k.val / 10) + 16 * r + 8 * s + p.val → (v 1).val = (lane w).val →
      look codes tab ((Rect.unit (s := S256x5120) (k0_off4 k a b d) ![8, 128] i4).emb (ix2 p q)) = tab v := by
    intro v hv0 hv1
    refine look_of codes tab _ ((Rect.unit (s := S16x5120) (k0_off1 k) S8x512.size i1).idx (ix2 ⟨r, hr⟩ ⟨128 * t + q.val, by omega⟩)) v ?_ ?_ ?_ ?_
    · show k0_off1 k 0 + 1 * r = (k0_off4 k a b d 0 + 1 * p.val) / 16; omega
    · show k0_off1 k 1 + 1 * (128 * t + q.val) = k0_off4 k a b d 1 + 1 * q.val; omega
    · show _ = k0_off4 k a b d 0 + 1 * p.val; omega
    · rw [hv1, ← hw]
  by_cases hlt : w.slt 128#32 = true
  · rw [if_pos hlt, key ((Rect.unit (s := S256x256) (k0_off2 k a b) S8x128.size i2).idx (ix2 p ⟨w.toNat % 128, Nat.mod_lt _ (by decide)⟩))]
    · show k0_off2 k a b 0 + 1 * p.val = _; omega
    · unfold lane; rw [if_pos hlt]; show k0_off2 k a b 1 + 1 * (w.toNat % 128) = w.toNat % 128; omega
  · rw [if_neg hlt, key ((Rect.unit (s := S256x256) (k0_off3 k a b) S8x128.size i3).idx (ix2 p ⟨w.toNat % 128, Nat.mod_lt _ (by decide)⟩))]
    · show k0_off3 k a b 0 + 1 * p.val = _; omega
    · unfold lane; rw [if_neg hlt]; show k0_off3 k a b 1 + 1 * (w.toNat % 128) = 128 + w.toNat % 128; omega

section Loop

variable (𝒱 : Variants) (c : Dev nD) (bd : Option 𝒱.V) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole) (X_arg3 : BufTy.Contents (Elt F) arg3.view.ty) (X_arg4 : BufTy.Contents (Elt F) arg4.view.ty)

instance mult16 (r : Fin 8) : Mult 16 8 (BitVec.ofNat 32 (16 * r.val)) r.val := ⟨rfl, r.isLt⟩
instance mult8 (s : Fin 2) : Mult 8 2 (BitVec.ofNat 32 (8 * s.val)) s.val := ⟨rfl, s.isLt⟩
instance mult128 (t : Fin 4) : Mult 128 4 (BitVec.ofNat 32 (128 * t.val)) t.val := ⟨rfl, t.isLt⟩

theorem slices (r : Fin 8) (t : Fin 4) : S8x512.Slices ![r.val, 128 * t.val] S1x128 :=
  ⟨rfl, fun a => by
    have := r.isLt; have := t.isLt
    match a with
    | ⟨0, _⟩ => show r.val + 1 ≤ 8; omega
    | ⟨1, _⟩ => show 128 * t.val + 128 ≤ 512; omega⟩

/-- The store of trip `k` at code row `r`, lane block `t` and row half `s`. -/
def store (codes : Vec F S16x5120 .i32) (tab : Vec F S256x256 .i32) (k : Fin k0_t1_loop.trips) (r : Fin 8) (t : Fin 4) (s : Fin 2) : View.Piece (Elt F) S256x5120 .i32 :=
  ⟨Rect.unit (s := S256x5120) (k0_off4 k (BitVec.ofNat 32 (16 * r.val)) (BitVec.ofNat 32 (8 * s.val)) (BitVec.ofNat 32 (128 * t.val))) ![8, 128] (inb4 k _ _ _ r.val s.val t.val),
    piece (View.ld codes (Rect.unit (s := S16x5120) (k0_off1 k) S8x512.size (inb1 k)))
      (View.ld tab (Rect.unit (s := S256x256) (k0_off2 k (BitVec.ofNat 32 (16 * r.val)) (BitVec.ofNat 32 (8 * s.val))) S8x128.size (inb2 k _ _ r.val s.val)))
      (View.ld tab (Rect.unit (s := S256x256) (k0_off3 k (BitVec.ofNat 32 (16 * r.val)) (BitVec.ofNat 32 (8 * s.val))) S8x128.size (inb3 k _ _ r.val s.val)))
      ![r.val, 128 * t.val] (slices r t)⟩

/-- The 64 stores of a trip, last first. -/
theorem trip_eq (k : Fin k0_t1_loop.trips) :
    tripL_k0_t1 (F := F) 𝒱 c bd i arg2 harg2 arg3 harg3 arg4 harg4 arg5 harg5 arg6 harg6 X_arg3 X_arg4 k
      = ([7, 6, 5, 4, 3, 2, 1, 0] : List (Fin 8)).flatMap fun r => ([3, 2, 1, 0] : List (Fin 4)).flatMap fun t => ([1, 0] : List (Fin 2)).map fun s =>
          store (arg3.view.read (Elt F) X_arg3) (arg4.view.read (Elt F) X_arg4) k r t s := by
  sl_kernel_rfl

/-- One trip's stores are blocks of the table looked up. -/
theorem trip_pieces (k : Fin k0_t1_loop.trips) : ∀ p ∈ tripL_k0_t1 (F := F) 𝒱 c bd i arg2 harg2 arg3 harg3 arg4 harg4 arg5 harg5 arg6 harg6 X_arg3 X_arg4 k, ∀ x : p.1.shape.Idx,
    p.2 x = look (arg3.view.read (Elt F) X_arg3) (arg4.view.read (Elt F) X_arg4) (p.1.emb x) := by
  intro p hp x
  rw [trip_eq] at hp
  obtain ⟨r, -, hp⟩ := List.mem_flatMap.mp hp
  obtain ⟨t, -, hp⟩ := List.mem_flatMap.mp hp
  obtain ⟨s, -, rfl⟩ := List.mem_map.mp hp
  exact agree (arg3.view.read (Elt F) X_arg3) (arg4.view.read (Elt F) X_arg4) k _ _ _ r.val s.val t.val (inb1 k) (inb2 k _ _ r.val s.val) (inb3 k _ _ r.val s.val) (inb4 k _ _ _ r.val s.val t.val) _ (slices r t) rfl x

/-- So are the stores of any number of trips. -/
theorem loop_pieces : ∀ n, n ≤ k0_t1_loop.trips → ∀ p ∈ pb_k0_t1 (F := F) 𝒱 c bd i arg2 harg2 arg3 harg3 arg4 harg4 arg5 harg5 arg6 harg6 X_arg3 X_arg4 n, ∀ x : p.1.shape.Idx,
    p.2 x = look (arg3.view.read (Elt F) X_arg3) (arg4.view.read (Elt F) X_arg4) (p.1.emb x)
  | 0, _, p, hp, _ => absurd hp List.not_mem_nil
  | n + 1, h, p, hp, x => by
    rw [show n + 1 = (⟨n, h⟩ : Fin k0_t1_loop.trips).val + 1 from rfl, pb_k0_t1_succ] at hp
    rcases List.mem_append.mp hp with hp | hp
    · exact trip_pieces 𝒱 c bd i arg2 harg2 arg3 harg3 arg4 harg4 arg5 harg5 arg6 harg6 X_arg3 X_arg4 ⟨n, h⟩ p hp x
    · exact loop_pieces n (by omega) p hp x

/-- After the loop the scratch holds the table looked up. -/
theorem scratch_eq : View.canon (pb_k0_t1 (F := F) 𝒱 c bd i arg2 harg2 arg3 harg3 arg4 harg4 arg5 harg5 arg6 harg6 X_arg3 X_arg4 (Scf.trips k0_t1_loop.lb k0_t1_loop.ub k0_t1_loop.st))
    = look (arg3.view.read (Elt F) X_arg3) (arg4.view.read (Elt F) X_arg4) :=
  funext fun y => View.canon_apply_of_pieces _ _ (loop_pieces 𝒱 c bd i arg2 harg2 arg3 harg3 arg4 harg4 arg5 harg5 arg6 harg6 X_arg3 X_arg4 _ le_rfl) y
    (View.cover_of_tiledL (pb_k0_t1 (F := F) 𝒱 c bd i arg2 harg2 arg3 harg3 arg4 harg4 arg5 harg5 arg6 harg6 X_arg3 X_arg4 (Scf.trips k0_t1_loop.lb k0_t1_loop.ub k0_t1_loop.st)) S8x128.size (by sl_kernel_rfl) y)

end Loop

end Cert.QueryKernelIdeal.Gather

end
-- ==== Proof.Spec.lean ====
/- The decoded documents, on the arguments' words: subvector `s` of document `d` of batch `b` is the row of table `s` that
   the document's code for `s` names. -/
module

public import Idealize.ShloMosaic.Lib.Pointwise

@[expose] public section

noncomputable section

namespace Cert.Spec

open Idealize.ShloMosaic

/-- The shapes of the documents' codes and of the codebook. -/
abbrev SCodes : Shape := ⟨3, ![3, 5120, 80]⟩
abbrev SBook : Shape := ⟨3, ![80, 256, 32]⟩

/-- The word of coordinate `e` of document `d` of batch `b`. -/
def hat (codes : SCodes.Idx → BitVec 8) (bits : SBook.Idx → BitVec 16) (b : Fin 3) (d : Fin 5120) (e : Fin 2560) : BitVec 16 :=
  bits (ix3 ⟨e.val / 32, by omega⟩ ⟨(codes (ix3 b d ⟨e.val / 32, by omega⟩)).toNat, BitVec.isLt _⟩ ⟨e.val % 32, Nat.mod_lt _ (by decide)⟩)

end Cert.Spec

end
-- ==== Proof.QueryKernelHost.lean ====
/- What the host operations of `QueryKernelIdeal` hand to its kernel: the codes transposed and widened, and the codebook as a table
   of pairs of half words. -/
module

public import proofs.«01_k».proof.Proof.Spec
public import proofs.«01_k».proof.Proof.QueryKernelIdealKit
public import Idealize.ShloMosaic.Lib.Pointwise
public import Idealize.ShloMosaic.Lib.BitcastConvert
public import Idealize.ShloMosaic.Lib.Tactic

@[expose] public section

set_option maxRecDepth 100000

noncomputable section

namespace Cert.QueryKernelIdeal.Host

open Cert.QueryKernelIdeal Cert.QueryKernelIdeal.Gen Cert.Spec Idealize.ShloMosaic Idealize.ShloMosaic.TcCoe Idealize.ShloMosaic.StableHlo

variable {F : FTy → Type} [FloatOps F]
variable (m : (ℓ : Loc nD τ sig) → Buf (Elt F) ℓ) (c : Dev nD)

theorem V_codes : V m c main_v2 = extui 32 (transpose S80x15360 [1, 0] (shapeCast S15360x80 (m ((c : Thread nD τ).loc main_arg1)) shapeCasts_S3x5120x80_S15360x80) transposes_S15360x80_S80x15360_1_0) natLt_8_32 := by
  unfold V
  after_results <;> rfl

theorem V_tab : V m c main_v6 = shapeCast S1280x256 (transpose S80x16x256 [0, 2, 1] (Host.bitcastConvertWiden S80x256x16 32 (shapeCast S80x256x16x2 (m ((c : Thread nD τ).loc main_arg2)) shapeCasts_S80x256x32_S80x256x16x2) splits_S80x256x16_w32_S80x256x16x2_w16) transposes_S80x256x16_S80x16x256_0_2_1) shapeCasts_S80x16x256_S1280x256 := by
  unfold V
  after_results <;> rfl

theorem transposed (a : IVec S3x5120x80 8) (s : Fin 80) (e : Fin 15360) :
    transpose S80x15360 [1, 0] (shapeCast S15360x80 a shapeCasts_S3x5120x80_S15360x80) transposes_S15360x80_S80x15360_1_0 (ix2 s e) = a (ix3 ⟨e.val / 5120, by omega⟩ ⟨e.val % 5120, Nat.mod_lt _ (by decide)⟩ s) := by
  rw [transpose_apply [1, 0] _ _ (ix2 s e) (ix2 e s) (fun b => by fin_cases b <;> rfl)]
  pointwise

/-- The codes handed to the kernel: row `s`, column `5120 b + d`. -/
theorem codes_apply (s : Fin 80) (e : Fin 15360) :
    V m c main_v2 (ix2 s e) = (m ((c : Thread nD τ).loc main_arg1) (ix3 ⟨e.val / 5120, by omega⟩ ⟨e.val % 5120, Nat.mod_lt _ (by decide)⟩ s)).zeroExtend 32 := by
  rw [V_codes]
  exact congrArg (BitVec.zeroExtend 32) (transposed _ s e)

/-- The table handed to the kernel: row `16 s + w`, lane `l` holds the half words `2 w` (low) and `2 w + 1` (high) of
    the codebook's entry `(s, l)`. -/
theorem tab_apply (r : Fin 1280) (l : Fin 256) :
    V m c main_v6 (ix2 r l)
      = (id (m ((c : Thread nD τ).loc main_arg2)) : S80x256x32.Idx → BitVec 16) (ix3 ⟨r.val / 16, by omega⟩ l ⟨r.val % 16 * 2 + 1, by omega⟩)
        ++ (id (m ((c : Thread nD τ).loc main_arg2)) : S80x256x32.Idx → BitVec 16) (ix3 ⟨r.val / 16, by omega⟩ l ⟨r.val % 16 * 2 + 0, by omega⟩) := by
  rw [V_tab]
  pointwise
  rfl

theorem append_low (a b : BitVec 16) : (a ++ b).extractLsb' 0 16 = b := by
  apply BitVec.eq_of_getLsbD_eq; intro i hi
  rw [BitVec.getLsbD_extractLsb', BitVec.getLsbD_append]
  simp [hi]

theorem append_high (a b : BitVec 16) : (a ++ b).extractLsb' 16 16 = a := by
  apply BitVec.eq_of_getLsbD_eq; intro i hi
  rw [BitVec.getLsbD_extractLsb', BitVec.getLsbD_append]
  simp [hi]

/-- Half `p` of a table word. -/
theorem tab_half (r : Fin 1280) (l : Fin 256) (p : ℕ) (hp : p < 2) :
    (V m c main_v6 (ix2 r l) : BitVec 32).extractLsb' (16 * p) 16
      = m ((c : Thread nD τ).loc main_arg2) (ix3 ⟨r.val / 16, by omega⟩ l ⟨r.val % 16 * 2 + p, by omega⟩) := by
  rw [tab_apply]
  match p, hp with
  | 0, _ => exact append_low _ _
  | 1, _ => exact append_high _ _

end Cert.QueryKernelIdeal.Host

end
-- ==== Proof.QueryReferenceHat.lean ====
/- The reference's decoded documents, read at an index. -/
module

public import proofs.«01_k».proof.Proof.Spec
public import proofs.«01_k».proof.Proof.Gen.QueryReferenceIdeal.Run
public import Idealize.ShloMosaic.Lib.Pointwise
public import Idealize.ShloMosaic.Lib.Pipeline.Value

@[expose] public section

set_option maxRecDepth 8192

noncomputable section

namespace Cert.QueryReferenceIdeal.Hat

open Cert.QueryReferenceIdeal Cert.QueryReferenceIdeal.Gen Cert.Spec Idealize.ShloMosaic Idealize.ShloMosaic.TcCoe

variable {α : Type}

abbrev gd : GatherDims S80x256x32 S3x5120x80x2 S3x5120x80x32 := gather_S80x256x32_S3x5120x80x2_S3x5120x80x32_3_01_n_n_01_3_1132

/-- The host's gather at an index: the operand at the two start indices, each read signed and clamped. -/
theorem gather_apply (x : S80x256x32.Idx → α) (idx : IVec S3x5120x80x2 32) (b : Fin 3) (d : Fin 5120) (s : Fin 80) (w : Fin 32) :
    Host.gather gd x idx (ix4 b d s w)
      = x (ix3 ⟨min (idx (ix4 b d s 0)).toInt.toNat 79, by omega⟩ ⟨min (idx (ix4 b d s 1)).toInt.toNat 255, by omega⟩ w) := by
  unfold Host.gather
  congr 1
  funext a
  refine Fin.ext ?_
  show gd.start (ix4 b d s w) idx a + gd.batchCoord (ix4 b d s w) a + gd.offCoord (ix4 b d s w) a = _
  rw [GatherDims.batchCoord_eq_zero _ _ _ List.not_mem_nil]
  have hsi : ∀ k : Fin 2, gd.siIdx (ix4 b d s w) k = ix4 b d s k := by
    intro k
    funext y; refine Fin.ext ?_
    match y with
    | ⟨0, _⟩ => rfl
    | ⟨1, _⟩ => rfl
    | ⟨2, _⟩ => rfl
    | ⟨3, _⟩ => rfl
  match a with
  | ⟨0, _⟩ =>
    show gd.start (ix4 b d s w) idx (0 : Fin 3) + 0 + gd.offCoord (ix4 b d s w) (0 : Fin 3) = _
    rw [GatherDims.offCoord_eq_zero _ _ _ (fun h => ((GatherDims.mem_sKept _ _).mp h).1 (by decide))]
    unfold GatherDims.start
    rw [dif_pos (show (0 : Fin 3) ∈ gd.startIndexMap from by decide)]
    show min (idx (gd.siIdx _ (0 : Fin 2))).toInt.toNat 79 + 0 + 0 = min (idx (ix4 b d s 0)).toInt.toNat 79
    rw [hsi, Nat.add_zero]
  | ⟨1, _⟩ =>
    show gd.start (ix4 b d s w) idx (1 : Fin 3) + 0 + gd.offCoord (ix4 b d s w) (1 : Fin 3) = _
    rw [GatherDims.offCoord_eq_zero _ _ _ (fun h => ((GatherDims.mem_sKept _ _).mp h).1 (by decide))]
    unfold GatherDims.start
    rw [dif_pos (show (1 : Fin 3) ∈ gd.startIndexMap from by decide)]
    show min (idx (gd.siIdx _ (1 : Fin 2))).toInt.toNat 255 + 0 + 0 = min (idx (ix4 b d s 1)).toInt.toNat 255
    rw [hsi, Nat.add_zero]
  | ⟨2, _⟩ =>
    show gd.start (ix4 b d s w) idx (2 : Fin 3) + 0 + gd.offCoord (ix4 b d s w) (2 : Fin 3) = _
    unfold GatherDims.start
    rw [dif_neg (show (2 : Fin 3) ∉ gd.startIndexMap from by decide)]
    show 0 + 0 + gd.offCoord (ix4 b d s w) 2 = w.val
    rw [Nat.add_zero, Nat.zero_add]
    rfl

/-- A host index word that is not negative is left as it is by the wrap of negative indices. -/
theorem wrap_eq (w n : BitVec 32) (h : w.toNat < 256) : Scalar.select (IntOp.cmpi CmpIPredicate.slt w 0#32) (IntOp.addi w n) w = w := by
  have h : w.slt 0#32 = false := by
    rw [BitVec.slt_zero_eq_msb, BitVec.msb_eq_decide]; simp; omega
  show (if BitVec.ofBool (w.slt 0#32) = 1#1 then _ else _) = _
  rw [h]; rfl

theorem toInt_toNat (w : BitVec 32) (h : w.toNat < 256) : w.toInt.toNat = w.toNat := by
  rw [BitVec.toInt_eq_toNat_of_lt (by omega)]; rfl

/-- The reference's table of start indices. -/
def starts (codes : IVec S3x5120x80 8) : IVec S3x5120x80x2 32 :=
  concatenate S3x5120x80x2 3 [⟨S3x5120x80x1, broadcastInDim S3x5120x80x1 ![0, 1, 2] bcast_S3x5120x80_S3x5120x80x1_0_1_2 (broadcastInDim S3x5120x80 ![2] bcast_S80_S3x5120x80_2
      (select (cmpi .slt (iotaInDim S80 32 0) (broadcastInDim S80 ![] bcast_S_S80 (constantI S_ 32 0#32))) (addi (iotaInDim S80 32 0) (broadcastInDim S80 ![] bcast_S_S80 (constantI S_ 32 80#32))) (iotaInDim S80 32 0)))⟩,
    ⟨S3x5120x80x1, broadcastInDim S3x5120x80x1 ![0, 1, 2] bcast_S3x5120x80_S3x5120x80x1_0_1_2
      (select (cmpi .slt (extui 32 codes natLt_8_32) (broadcastInDim S3x5120x80 ![] bcast_S_S3x5120x80 (constantI S_ 32 0#32))) (addi (extui 32 codes natLt_8_32) (broadcastInDim S3x5120x80 ![] bcast_S_S3x5120x80 (constantI S_ 32 256#32))) (extui 32 codes natLt_8_32))⟩] concatenates_S3x5120x80x1_S3x5120x80x1_S3x5120x80x2_d3

theorem starts_0 (codes : IVec S3x5120x80 8) (b : Fin 3) (d : Fin 5120) (s : Fin 80) : starts codes (ix4 b d s 0) = BitVec.ofNat 32 s.val := by
  unfold starts
  pointwise
  exact wrap_eq _ _ (by rw [BitVec.toNat_ofNat]; omega)

theorem starts_1 (codes : IVec S3x5120x80 8) (b : Fin 3) (d : Fin 5120) (s : Fin 80) : starts codes (ix4 b d s 1) = (codes (ix3 b d s)).zeroExtend 32 := by
  unfold starts
  pointwise
  exact wrap_eq _ _ (by rw [BitVec.toNat_setWidth]; omega)

/-- The reference's decoded documents. -/
theorem hat_apply (codes : IVec S3x5120x80 8) (x : S80x256x32.Idx → α) (b : Fin 3) (d : Fin 5120) (e : Fin 2560) :
    shapeCast S3x5120x2560 (Host.gather gd x (starts codes)) shapeCasts_S3x5120x80x32_S3x5120x2560 (ix3 b d e)
      = x (ix3 ⟨e.val / 32, by omega⟩ ⟨(codes (ix3 b d ⟨e.val / 32, by omega⟩)).toNat, BitVec.isLt _⟩ ⟨e.val % 32, Nat.mod_lt _ (by decide)⟩) := by
  pointwise
  have hb : (codes (ix3 b d ⟨e.val / 32, by omega⟩)).toNat < 256 := BitVec.isLt _
  rw [gather_apply]
  congr 2
  · refine Fin.ext ?_
    show min (starts codes (ix4 b d ⟨e.val / 32, by omega⟩ 0)).toInt.toNat 79 = e.val / 32
    have hw : (BitVec.ofNat 32 (e.val / 32)).toNat = e.val / 32 := by rw [BitVec.toNat_ofNat]; omega
    rw [starts_0]
    show min (BitVec.ofNat 32 (e.val / 32)).toInt.toNat 79 = e.val / 32
    rw [toInt_toNat _ (by omega), hw]; omega
  · refine Fin.ext ?_
    show min (starts codes (ix4 b d ⟨e.val / 32, by omega⟩ 1)).toInt.toNat 255 = (codes (ix3 b d ⟨e.val / 32, by omega⟩)).toNat
    rw [starts_1, toInt_toNat _ (by rw [BitVec.toNat_setWidth]; omega), BitVec.toNat_setWidth]; omega

end Cert.QueryReferenceIdeal.Hat

end
-- ==== Proof.QueryValue.lean ====
/- What the query-gradient kernel computes, over the extended reals: its result array is the reference's, element by
   element — the sum over the documents of gradient times decoded document, times the constant 1/rows. -/
module

public import proofs.«01_k».proof.Proof.QueryKernelIdealBlocks
public import proofs.«01_k».proof.Proof.QueryKernelGatherValue
public import proofs.«01_k».proof.Proof.QueryKernelHost
public import proofs.«01_k».proof.Proof.QueryReferenceHat

@[expose] public section

set_option maxRecDepth 16384

noncomputable section

namespace Cert.QueryKernelIdeal.Sum

open Cert.QueryKernelIdeal Cert.QueryKernelIdeal.Gen Cert.Spec Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

section Generic
variable {F : FTy → Type} [FloatOps F]
variable (m : (ℓ : Loc nD τ sig) → Buf (Elt F) ℓ)

variable (c : Dev nD) (i : grid0.Coords) (arg2 : Memref sig .tc .vmem S1x1280x5120 .bf16) (harg2 : arg2.IsWhole) (arg3 : Memref sig .tc .vmem S16x5120 .i32) (harg3 : arg3.IsWhole) (arg4 : Memref sig .tc .vmem S256x256 .i32) (harg4 : arg4.IsWhole) (arg5 : Memref sig .tc .vmem S1x1280x512 .f32) (harg5 : arg5.IsWhole) (arg6 : Memref sig .tc .vmem S256x5120 .i32) (harg6 : arg6.IsWhole)
  (x0 : Vec F S1x1280x5120 .bf16) (x1 : Vec F S16x5120 .i32) (x2 : Vec F S256x256 .i32)

/-- Read back whole after the loop, the scratch is the table looked up. -/
theorem scratch_read : arg6.view.readCov (pb_k0_t1 (F := F) Variants.none c none i arg2 harg2 arg3 harg3 arg4 harg4 arg5 harg5 arg6 harg6 (harg3.unread x1) (harg4.unread x2) (Scf.trips k0_t1_loop.lb k0_t1_loop.ub k0_t1_loop.st))
    (Rect.unit ![0, 0] ![256, 5120] inb_S256x5120_S256x5120_0_0).toLoadRect = Gather.look x1 x2 := by
  rw [View.readCov_eq_canon_ld _ _ (Rect.unit (s := S256x5120) ![0, 0] ![256, 5120] inb_S256x5120_S256x5120_0_0) (fun y => View.cover_of_tiledL (pb_k0_t1 (F := F) Variants.none c none i arg2 harg2 arg3 harg3 arg4 harg4 arg5 harg5 arg6 harg6 (harg3.unread x1) (harg4.unread x2) (Scf.trips k0_t1_loop.lb k0_t1_loop.ub k0_t1_loop.st)) S8x128.size (by sl_kernel_rfl) y),
    Gather.scratch_eq, harg3.read_unread, harg4.read_unread]
  exact View.ld_unit_zero (S := S256x5120) hz2 _ _

/-- The body leaves in the output block the product of the gradient block with the words looked up in the table. -/
theorem out_A : out0_A_3 c i arg2 harg2 arg3 harg3 arg4 harg4 arg5 harg5 arg6 harg6 x0 x1 x2 = k0_pay2 x0 (Gather.look x1 x2) := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero hz3]
  refine congrArg₂ k0_pay2 ?_ (scratch_read c i arg2 harg2 arg3 harg3 arg4 harg4 arg5 harg5 arg6 harg6 x1 x2)
  rw [View.readAt_eq_ld, harg2.read_unread, View.ld_unit_zero (S := S1x1280x5120) hz3]

end Generic

section Points
variable {F : FTy → Type} [FloatOps F]
variable (m : (ℓ : Loc nD τ sig) → Buf (Elt F) ℓ)

/-- Which blocks a point's windows are: batch `t / 5`, feature tile `t % 5`. -/
theorem idx_facts : ∀ t : Fin cfg0.N,
    (win0_0.index t (0 : Fin 3) = t.val / 5 ∧ win0_0.index t (1 : Fin 3) = 0 ∧ win0_0.index t (2 : Fin 3) = 0)
    ∧ (win0_1.index t (0 : Fin 2) = t.val % 5 ∧ win0_1.index t (1 : Fin 2) = t.val / 5)
    ∧ (win0_2.index t (0 : Fin 2) = t.val % 5 ∧ win0_2.index t (1 : Fin 2) = 0)
    ∧ (win0_3.index t (0 : Fin 3) = t.val / 5 ∧ win0_3.index t (1 : Fin 3) = 0 ∧ win0_3.index t (2 : Fin 3) = t.val % 5) :=
  (by decide +kernel : ∀ t : Fin grid0.N, _)

theorem lt_N (t : Fin cfg0.N) : t.val < 15 := lt_of_lt_of_eq t.isLt N_0

theorem div_lt (t : Fin cfg0.N) : t.val / 5 < 3 := by have := lt_N t; omega

/-- The gradient block at a point is its batch's gradient. -/
theorem iblk0_apply (c : Dev nD) (t : Fin cfg0.N) (q : Fin 1280) (d : Fin 5120) :
    iblk m c 0 t (ix3 0 q d) = m ((c : Thread nD τ).loc main_arg0) (ix3 ⟨t.val / 5, div_lt t⟩ q d) := by
  obtain ⟨⟨a, b, e⟩, -⟩ := idx_facts t
  show V m c main_arg0 (((cfg0.win 0).blk t).view.emb (ix3 0 q d)) = _
  rw [V_main_arg0]
  congr 1
  funext x; apply Fin.ext
  match x with
  | ⟨0, _⟩ => show win0_0.index t (0 : Fin 3) * 1 + 1 * 0 = t.val / 5; omega
  | ⟨1, _⟩ => show win0_0.index t (1 : Fin 3) * 1280 + 1 * q.val = q.val; omega
  | ⟨2, _⟩ => show win0_0.index t (2 : Fin 3) * 5120 + 1 * d.val = d.val; omega

/-- The codes' block at a point: the codes of the tile's sixteen subvectors for its batch's documents. -/
theorem iblk1_apply (c : Dev nD) (t : Fin cfg0.N) (s : Fin 16) (d : Fin 5120) :
    iblk m c 1 t (ix2 s d) = (m ((c : Thread nD τ).loc main_arg1) (ix3 ⟨t.val / 5, div_lt t⟩ d ⟨t.val % 5 * 16 + s.val, by have := lt_N t; omega⟩)).zeroExtend 32 := by
  obtain ⟨-, ⟨a, b⟩, -⟩ := idx_facts t
  have ht := lt_N t
  have hd := d.isLt
  have hx : ((cfg0.win 1).blk t).view.emb (ix2 s d) = ix2 ⟨t.val % 5 * 16 + s.val, by omega⟩ ⟨t.val / 5 * 5120 + d.val, by omega⟩ := by
    funext x; apply Fin.ext
    match x with
    | ⟨0, _⟩ => show win0_1.index t (0 : Fin 2) * 16 + 1 * s.val = t.val % 5 * 16 + s.val; omega
    | ⟨1, _⟩ => show win0_1.index t (1 : Fin 2) * 5120 + 1 * d.val = t.val / 5 * 5120 + d.val; omega
  show V m c main_v2 (((cfg0.win 1).blk t).view.emb (ix2 s d)) = _
  rw [hx, Host.codes_apply]
  have e0 : (t.val / 5 * 5120 + d.val) / 5120 = t.val / 5 := by omega
  have e1 : (t.val / 5 * 5120 + d.val) % 5120 = d.val := by omega
  congr 3 <;> exact Fin.ext (by assumption)

/-- The table's block at a point: the tile's 256 rows. -/
theorem iblk2_apply (c : Dev nD) (t : Fin cfg0.N) (r : Fin 256) (l : Fin 256) :
    iblk m c 2 t (ix2 r l) = V m c main_v6 (ix2 ⟨t.val % 5 * 256 + r.val, by have := lt_N t; omega⟩ l) := by
  obtain ⟨-, -, ⟨a, b⟩, -⟩ := idx_facts t
  show V m c main_v6 (((cfg0.win 2).blk t).view.emb (ix2 r l)) = _
  congr 1
  funext x; apply Fin.ext
  match x with
  | ⟨0, _⟩ => show win0_2.index t (0 : Fin 2) * 256 + 1 * r.val = t.val % 5 * 256 + r.val; omega
  | ⟨1, _⟩ => show win0_2.index t (1 : Fin 2) * 256 + 1 * l.val = l.val; omega

/-- A half of a word looked up at a point is the decoded documents' word. -/
theorem look_half (c : Dev nD) (t : Fin cfg0.N) (x : Fin 512) (d : Fin 5120) (hx : t.val % 5 * 512 + x.val < 2560) :
    (Gather.look (F := F) (iblk m c 1 t) (iblk m c 2 t) (ix2 ⟨x.val / 2, by omega⟩ d)).extractLsb' (16 * (x.val % 2)) 16
      = hat (m ((c : Thread nD τ).loc main_arg1)) (m ((c : Thread nD τ).loc main_arg2)) ⟨t.val / 5, div_lt t⟩ d ⟨t.val % 5 * 512 + x.val, hx⟩ := by
  have ht := lt_N t
  show (iblk m c 2 t (ix2 ⟨x.val / 2, _⟩ (Gather.lane (iblk m c 1 t (ix2 ⟨x.val / 2 / 16, _⟩ d)))) : BitVec 32).extractLsb' (16 * (x.val % 2)) 16 = _
  rw [iblk2_apply, Host.tab_half m c _ _ _ (Nat.mod_lt _ (by decide)), iblk1_apply]
  unfold hat
  have e0 : t.val % 5 * 16 + x.val / 2 / 16 = (t.val % 5 * 512 + x.val) / 32 := by omega
  have e1 : (t.val % 5 * 256 + x.val / 2) / 16 = (t.val % 5 * 512 + x.val) / 32 := by omega
  have e2 : (t.val % 5 * 256 + x.val / 2) % 16 * 2 + x.val % 2 = (t.val % 5 * 512 + x.val) % 32 := by omega
  congr 1
  have hl : ∀ w : BitVec 8, (Gather.lane (w.zeroExtend 32)).val = w.toNat := fun w => by
    have hw := w.isLt
    have h : (w.zeroExtend 32).toNat = w.toNat := by rw [BitVec.toNat_setWidth]; omega
    exact (Gather.lane_val (w.zeroExtend 32) (by omega)).trans h
  funext a; apply Fin.ext
  match a with
  | ⟨0, _⟩ => exact e1
  | ⟨1, _⟩ =>
    refine (hl _).trans ?_
    exact congrArg (fun z : Fin 80 => BitVec.toNat (w := 8) (m ((c : Thread nD τ).loc main_arg1) (ix3 ⟨t.val / 5, div_lt t⟩ d z))) (a₁ := ⟨_, by omega⟩) (a₂ := ⟨_, by omega⟩) (Fin.ext e0)
  | ⟨2, _⟩ => exact e2

end Points

section AtIdeal
variable (m : (ℓ : Loc nD τ sig) → Buf (Elt Ideal) ℓ)

theorem halves_apply (w : IVec S256x5120 32) (x : Fin 512) (d : Fin 5120) :
    bitcast S512x5120 16 w bitcasts_S256x5120_w32_S512x5120_w16 (ix2 x d) = (w (ix2 ⟨x.val / 2, by omega⟩ d)).extractLsb' (16 * (x.val % 2)) 16 := by
  rw [bitcast_32_16]
  have hr : S512x5120.row (ix2 x d) = x.val := rfl
  congr 2
  funext a; apply Fin.ext
  match a with
  | ⟨0, _⟩ => rfl
  | ⟨1, _⟩ => rfl

/-- One element of the kernel's output block, from the blocks it reads. -/
theorem pay2_apply (g : Vec Ideal S1x1280x5120 .bf16) (w : Vec Ideal S256x5120 .i32) (q : Fin 1280) (x : Fin 512) :
    k0_pay2 g w (ix3 0 q x) = (∑ d : Fin 5120, g (ix3 0 q d) * Ideal.ofBits .bf16 ((w (ix2 ⟨x.val / 2, by omega⟩ d)).extractLsb' (16 * (x.val % 2)) 16)) * Ideal.ofBits .f32 0x39888889#32 := by
  pointwise [k0_pay2]
  congr 1
  refine Finset.sum_congr rfl fun d _ => ?_
  rw [halves_apply]

/-- The reference's value, from the argument arrays. -/
def refVal (g : Vec Ideal Cert.QueryReferenceIdeal.S3x1280x5120 .bf16) (codes : IVec Cert.QueryReferenceIdeal.S3x5120x80 8) (bits : IVec Cert.QueryReferenceIdeal.S80x256x32 16) : Vec Ideal Cert.QueryReferenceIdeal.S3x1280x2560 .f32 :=
  mulf (Host.dotGeneral (φ₁ := .bf16) Cert.QueryReferenceIdeal.dot_S3x1280x5120_S3x5120x2560_S3x1280x2560_2_1_1_2_0_0 none g
      (shapeCast _ (Host.gather Cert.QueryReferenceIdeal.Hat.gd (bitcastToFloat (F := Ideal) .bf16 bits) (Cert.QueryReferenceIdeal.Hat.starts codes)) Cert.QueryReferenceIdeal.Gen.shapeCasts_S3x5120x80x32_S3x5120x2560))
    (broadcastInDim Cert.QueryReferenceIdeal.S3x1280x2560 ![] Cert.QueryReferenceIdeal.Gen.bcast_S_S3x1280x2560 (constant Cert.QueryReferenceIdeal.S_ .f32 0x39888889#32))

theorem ref_apply (g : Vec Ideal Cert.QueryReferenceIdeal.S3x1280x5120 .bf16) (codes : IVec Cert.QueryReferenceIdeal.S3x5120x80 8) (bits : IVec Cert.QueryReferenceIdeal.S80x256x32 16) (b : Fin 3) (q : Fin 1280) (e : Fin 2560) :
    refVal g codes bits (ix3 b q e) = (∑ d : Fin 5120, g (ix3 b q d) * Ideal.ofBits .bf16 (hat codes bits b d e)) * Ideal.ofBits .f32 0x39888889#32 := by
  unfold refVal
  generalize hH : shapeCast _ (Host.gather Cert.QueryReferenceIdeal.Hat.gd (bitcastToFloat (F := Ideal) .bf16 bits) (Cert.QueryReferenceIdeal.Hat.starts codes)) Cert.QueryReferenceIdeal.Gen.shapeCasts_S3x5120x80x32_S3x5120x2560 = H
  have h : ∀ d : Fin 5120, H (ix3 b d e) = Ideal.ofBits .bf16 (hat codes bits b d e) := fun d => by
    rw [← hH, Cert.QueryReferenceIdeal.Hat.hat_apply]; rfl
  pointwise
  simp only [h]

/-- What a point writes back is its block of the reference's value of the argument arrays. -/
theorem flushed_eq (c : Dev nD) (t : Fin cfg0.N) :
    (dats m 0 c).flushed 3 t = ((cfg0.win 3).blk t).view.read (Elt Ideal)
      (refVal (m ((c : Thread nD τ).loc main_arg0)) (m ((c : Thread nD τ).loc main_arg1)) (m ((c : Thread nD τ).loc main_arg2))) := by
  rw [Value.flushed3_A, out_A]
  obtain ⟨-, -, -, a, b, e⟩ := idx_facts t
  have hN := lt_N t
  funext j
  obtain ⟨z, q, x, rfl⟩ : ∃ (z : Fin 1) (q : Fin 1280) (x : Fin 512), j = ix3 z q x := ⟨j 0, j 1, j 2, eq_ix3 j⟩
  obtain rfl : z = 0 := Subsingleton.elim _ _
  have hd : t.val % 5 * 512 + x.val < 2560 := by have := x.isLt; omega
  show k0_pay2 (F := Ideal) (iblk m c 0 t) (Gather.look (F := Ideal) (iblk m c 1 t) (iblk m c 2 t)) (ix3 0 q x) = refVal _ _ _ (((cfg0.win 3).blk t).view.emb (ix3 0 q x))
  have hi : ((cfg0.win 3).blk t).view.emb (ix3 0 q x) = ix3 ⟨t.val / 5, div_lt t⟩ q ⟨t.val % 5 * 512 + x.val, hd⟩ := by
    funext y; apply Fin.ext
    match y with
    | ⟨0, _⟩ => show win0_3.index t (0 : Fin 3) * 1 + 1 * 0 = t.val / 5; omega
    | ⟨1, _⟩ => show win0_3.index t (1 : Fin 3) * 1280 + 1 * q.val = q.val; omega
    | ⟨2, _⟩ => show win0_3.index t (2 : Fin 3) * 512 + 1 * x.val = t.val % 5 * 512 + x.val; omega
  rw [hi, pay2_apply, ref_apply]
  simp only [iblk0_apply, look_half m c t x _ hd]

/-- An index of the array is in point `t`'s block when its batch is the point's and its column is in the point's tile. -/
theorem mem_blk3 (t : Fin cfg0.N) (i : S3x1280x2560.Idx) (h0 : (i 0).val = t.val / 5) (h2 : (i 2).val / 512 = t.val % 5) : i ∈ ((cfg0.win 3).blk t).view.set := by
  show i ∈ ((View.whole main_v7).slice (win0_3.rect t)).set
  rw [View.set_slice_whole, Rect.mem_set_unit]
  obtain ⟨-, -, -, a, b, e⟩ := idx_facts t
  have h1 : (i 1).val < 1280 := (i 1).isLt
  have hd := Nat.div_add_mod (i 2).val 512
  have hm := Nat.mod_lt (i 2).val (show 512 > 0 by decide)
  intro y
  match y with
  | ⟨0, _⟩ => show win0_3.index t (0 : Fin 3) * 1 ≤ (i 0).val ∧ (i 0).val < win0_3.index t (0 : Fin 3) * 1 + 1; omega
  | ⟨1, _⟩ => show win0_3.index t (1 : Fin 3) * 1280 ≤ (i 1).val ∧ (i 1).val < win0_3.index t (1 : Fin 3) * 1280 + 1280; omega
  | ⟨2, _⟩ => show win0_3.index t (2 : Fin 3) * 512 ≤ (i 2).val ∧ (i 2).val < win0_3.index t (2 : Fin 3) * 512 + 512; omega

/-- The kernel's result array is the reference's value of the argument arrays. -/
theorem final_eq (c : Dev nD) : (dats m 0 c).arrAt 3 cfg0.N
    = refVal (m ((c : Thread nD τ).loc main_arg0)) (m ((c : Thread nD τ).loc main_arg1)) (m ((c : Thread nD τ).loc main_arg2)) :=
  (dats m 0 c).arrAt_eq_of_cover 3 _ (fun t _ => flushed_eq m c t) (fun i => by
    have h0 : (i 0).val < 3 := (i 0).isLt
    have h2 : (i 2).val < 2560 := (i 2).isLt
    have hN : (i 0).val * 5 + (i 2).val / 512 < cfg0.N := by rw [show cfg0.N = 15 from N_0]; omega
    exact ⟨⟨_, hN⟩, flush0_3 _, mem_blk3 _ i (by show _ = ((i 0).val * 5 + (i 2).val / 512) / 5; omega) (by show _ = ((i 0).val * 5 + (i 2).val / 512) % 5; omega)⟩)

/-- The common result: the reference's value of the kernel's argument arrays. -/
def result (c : Dev nD) : Buf (Elt Ideal) ((c.tc : Thread nD τ).loc main_v7) :=
  refVal (m ((c : Thread nD τ).loc main_arg0)) (m ((c : Thread nD τ).loc main_arg1)) (m ((c : Thread nD τ).loc main_arg2))

end AtIdeal

end Cert.QueryKernelIdeal.Sum

end
-- ==== Proof.ScoresKernelGather.lean ====
module

public import proofs.«01_k».proof.Proof.Gen.ScoresKernel.Loops

/-! The gather loop of `ScoresKernel`: the offsets of its accesses in closed form, one trip, and its invariant. -/

@[expose] public section

set_option maxRecDepth 8192
set_option maxHeartbeats 4000000

noncomputable section

namespace Cert.ScoresKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The word `a` is the `r`-th multiple of `u`, and `r < B`: how the unrolled gather spells its row and lane constants. -/
class Mult (u B : Nat) (a : BitVec 32) (r : outParam Nat) : Prop where
  eq : a = BitVec.ofNat 32 (u * r)
  lt : r < B

instance : Mult 16 8 0#32 0 := ⟨by decide, by decide⟩
instance : Mult 16 8 16#32 1 := ⟨by decide, by decide⟩
instance : Mult 16 8 32#32 2 := ⟨by decide, by decide⟩
instance : Mult 16 8 48#32 3 := ⟨by decide, by decide⟩
instance : Mult 16 8 64#32 4 := ⟨by decide, by decide⟩
instance : Mult 16 8 80#32 5 := ⟨by decide, by decide⟩
instance : Mult 16 8 96#32 6 := ⟨by decide, by decide⟩
instance : Mult 16 8 112#32 7 := ⟨by decide, by decide⟩
instance : Mult 8 2 0#32 0 := ⟨by decide, by decide⟩
instance : Mult 8 2 8#32 1 := ⟨by decide, by decide⟩
instance : Mult 128 4 0#32 0 := ⟨by decide, by decide⟩
instance : Mult 128 4 128#32 1 := ⟨by decide, by decide⟩
instance : Mult 128 4 256#32 2 := ⟨by decide, by decide⟩
instance : Mult 128 4 384#32 3 := ⟨by decide, by decide⟩

theorem k0_off1_eq : ∀ k : Fin k0_t1_loop.trips, k0_off1 k = ![8 * (k.val / 10), 512 * (k.val % 10)] := by decide +kernel
theorem k0_off2_eq : ∀ (k : Fin k0_t1_loop.trips) (r₁ : Fin 8) (r₂ : Fin 2),
    k0_off2 k (BitVec.ofNat 32 (16 * r₁.val)) (BitVec.ofNat 32 (8 * r₂.val))
      = ![128 * (k.val / 10) + 16 * r₁.val + 8 * r₂.val, 0] := by decide +kernel
theorem k0_off3_eq : ∀ (k : Fin k0_t1_loop.trips) (r₁ : Fin 8) (r₂ : Fin 2),
    k0_off3 k (BitVec.ofNat 32 (16 * r₁.val)) (BitVec.ofNat 32 (8 * r₂.val))
      = ![128 * (k.val / 10) + 16 * r₁.val + 8 * r₂.val, 128] := by decide +kernel
theorem k0_off4_eq : ∀ (k : Fin k0_t1_loop.trips) (r₁ : Fin 8) (r₂ : Fin 2) (r₃ : Fin 4),
    k0_off4 k (BitVec.ofNat 32 (16 * r₁.val)) (BitVec.ofNat 32 (8 * r₂.val)) (BitVec.ofNat 32 (128 * r₃.val))
      = ![128 * (k.val / 10) + 16 * r₁.val + 8 * r₂.val, 512 * (k.val % 10) + 128 * r₃.val] := by decide +kernel

instance (k : Fin k0_t1_loop.trips) : ClosedOff (k0_off1 k) := ⟨![8 * (k.val / 10), 512 * (k.val % 10)], k0_off1_eq k⟩
instance (k : Fin k0_t1_loop.trips) (a b : BitVec 32) (r s : Nat) [ha : Mult 16 8 a r] [hb : Mult 8 2 b s] :
    ClosedOff (k0_off2 k a b) :=
  ⟨![128 * (k.val / 10) + 16 * r + 8 * s, 0], by rw [ha.eq, hb.eq]; exact k0_off2_eq k ⟨r, ha.lt⟩ ⟨s, hb.lt⟩⟩
instance (k : Fin k0_t1_loop.trips) (a b : BitVec 32) (r s : Nat) [ha : Mult 16 8 a r] [hb : Mult 8 2 b s] :
    ClosedOff (k0_off3 k a b) :=
  ⟨![128 * (k.val / 10) + 16 * r + 8 * s, 128], by rw [ha.eq, hb.eq]; exact k0_off3_eq k ⟨r, ha.lt⟩ ⟨s, hb.lt⟩⟩
instance (k : Fin k0_t1_loop.trips) (a b d : BitVec 32) (r s t : Nat) [ha : Mult 16 8 a r] [hb : Mult 8 2 b s]
    [hd : Mult 128 4 d t] : ClosedOff (k0_off4 k a b d) :=
  ⟨![128 * (k.val / 10) + 16 * r + 8 * s, 512 * (k.val % 10) + 128 * t],
    by rw [ha.eq, hb.eq, hd.eq]; exact k0_off4_eq k ⟨r, ha.lt⟩ ⟨s, hb.lt⟩ ⟨t, hd.lt⟩⟩

/-! ### `k0_t1_loop`: the generated invariant (classifier: affine) -/

/-- One trip's resources: what the region reads (arg3, arg4) at its contents, what it writes (arg11)
   at any. -/
abbrev Trip_k0_t1 (c : Dev nD) (arg3 : Memref sig .tc .vmem S80x5120 .i32) (arg4 : Memref sig .tc .vmem S1280x256 .i32) (arg11 : Memref sig .tc .vmem S1280x5120 .i32) (X_arg3 : BufTy.Contents (Elt F) arg3.view.ty) (X_arg4 : BufTy.Contents (Elt F) arg4.view.ty) (f_arg11 : BufTy.Contents (Elt F) arg11.view.ty) : sProp 𝕄G :=
  iprop((arg3.view.loc (c : Thread nD τ) ↦[arg3.view.set]{fullShare} X_arg3) ∗ (arg4.view.loc (c : Thread nD τ) ↦[arg4.view.set]{fullShare} X_arg4) ∗ (arg11.view.loc (c : Thread nD τ) ↦[arg11.view.set]{fullShare} f_arg11))

/-- ONE TRIP of `k0_t1_loop` at a symbolic `k`, run by `sl_exec` (its rectangles' offsets closed
   forms of `k`, their geometry linear arithmetic): the pieces it writes into arg11 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (k : Fin k0_t1_loop.trips) :
    { L_arg11 : List (View.Piece (Elt F) S1280x5120 .i32) // ∀ (E : Set ℕ) (f_arg11 : BufTy.Contents (Elt F) arg11.view.ty),
      Trip_k0_t1 (F := F) c arg3 arg4 arg11 X_arg3 X_arg4 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 k0_h1 k PUnit.unit)
          (fun _ => Trip_k0_t1 (F := F) c arg3 arg4 arg11 X_arg3 X_arg4 (arg11.view.writes (Elt F) f_arg11 L_arg11)) } := by
  have hk : k.val < 100 := Nat.lt_of_lt_of_le k.isLt k0_t1_abs.2.1
  refine ⟨?_, fun E f_arg11 => ?run⟩
  case run =>
    unfold k0_t1_body
    iintro ⟨HR_arg3, HR_arg4, HW_arg11⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (k : Fin k0_t1_loop.trips) : List (View.Piece (Elt F) S1280x5120 .i32) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (k : ℕ) (prev : List (View.Piece (Elt F) S1280x5120 .i32)) : List (View.Piece (Elt F) S1280x5120 .i32) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 ⟨k, h⟩) ++ prev
  else prev

/-- The pieces of the trips before `k` (last first), per written memref. -/
def pb_k0_t1 (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) : ℕ → List (View.Piece (Elt F) S1280x5120 .i32)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k (pb_k0_t1 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k)

theorem pb_k0_t1_succ (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k.val) := by
  rw [pb_k0_t1.eq_2]; unfold pb_k0_t1Step; exact dif_pos k.isLt

/-- THE INVARIANT before trip `k`: arg3, arg4 read at `X_·`; arg11 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (G_arg11 : BufTy.Contents (Elt F) arg11.view.ty) (k : ℕ) (_u : PUnit) : sProp 𝕄G :=
  iprop((arg3.view.loc (c : Thread nD τ) ↦[arg3.view.set]{fullShare} X_arg3) ∗ (arg4.view.loc (c : Thread nD τ) ↦[arg4.view.set]{fullShare} X_arg4) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 k0_h1 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 G_arg11
  step k acc := by
    iintro ⟨HR_arg3, HR_arg4, ⟨%f_arg11, HW_arg11, %h_arg11⟩⟩
    iapply (wp_wand_r Idealize.ShloMosaic.frame (wpE (defs₀ (F := F)) 𝒱 (c : Thread nD τ) bd) E)
    isplitl [HR_arg3 HR_arg4 HW_arg11]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k).2 E f_arg11)
      isplitl [HR_arg3]; · iexact HR_arg3
      isplitl [HR_arg4]; · iexact HR_arg4
      iexact HW_arg11
    · iintro %_ ⟨HR_arg3, HR_arg4, HW_arg11⟩
      isplitl [HR_arg3]; · iexact HR_arg3
      isplitl [HR_arg4]; · iexact HR_arg4
      rw [pb_k0_t1_succ]
      iexists _; isplitl [HW_arg11]; · iexact HW_arg11
      ipureintro; rw [h_arg11, ← View.writes_append]

end Cert.ScoresKernel.Gen

end
-- ==== Proof.ScoresKernelKit.lean ====
module

public import proofs.«01_k».proof.Proof.Gen.ScoresKernel.Launch
public import proofs.«01_k».proof.Proof.Gen.ScoresKernel.Skeleton
public import proofs.«01_k».proof.Proof.Gen.ScoresKernel.Loops
public import proofs.«01_k».proof.Proof.Gen.ScoresKernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.ScoresKernelGather

/-! The launch of `ScoresKernel` up to its call, the blocks of its windows and the frame claim off a frame run. -/

@[expose] public section

set_option maxRecDepth 16384

noncomputable section

namespace Cert.ScoresKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ScoresKernel`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 5) — by arithmetic of the point. -/
theorem hcond0_0 : ∀ t : Fin cfg0.N, cond0_0 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

/-! ## The kernel body on any staging memrefs: a subtype the run finds -/

/-- One staging buffer of output window 5, through which its contents are stated (`View.read_writes_of_cover`: the
    choice does not matter). -/
abbrev VO0_5 : View sig .tc .vmem S1x256x1 .f32 := (Memref.whole cc0_stg5_0 : Memref sig .tc .vmem S1x256x1 .f32).view
/-- One staging buffer of output window 6, through which its contents are stated (`View.read_writes_of_cover`: the
    choice does not matter). -/
abbrev VO0_6 : View sig .tc .vmem S1x256x5120 .bf16 := (Memref.whole cc0_stg6_0 : Memref sig .tc .vmem S1x256x5120 .bf16).view
/-- One staging buffer of output window 7, through which its contents are stated (`View.read_writes_of_cover`: the
    choice does not matter). -/
abbrev VO0_7 : View sig .tc .vmem S1x256x2560 .fp8e4m3 := (Memref.whole cc0_stg7_0 : Memref sig .tc .vmem S1x256x2560 .fp8e4m3).view
/-- One staging buffer of output window 8, through which its contents are stated (`View.read_writes_of_cover`: the
    choice does not matter). -/
abbrev VO0_8 : View sig .tc .vmem S1x256x1 .f32 := (Memref.whole cc0_stg8_0 : Memref sig .tc .vmem S1x256x1 .f32).view
/-- Each window's current staging memref at point `t`, spelled as the pipeline passes it (`bodyAt0`), and its wholeness. -/
abbrev ms0_0 (t : Fin cfg0.N) : Memref sig .tc .vmem S1x256x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x5120 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x5120 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x2560 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1280x5120 .i32 := Memref.whole cc0_scratch0
abbrev scM0_1 : Memref sig .tc .vmem S256x5120 .f32 := Memref.whole cc0_scratch1
abbrev scM0_2 : Memref sig .tc .vmem S256x2560 .bf16 := Memref.whole cc0_scratch2
/-- The scratch `arg11` the kernel carries between points, as a view: what it holds is stated through it. -/
abbrev VS0_0 : View sig .tc .vmem S1280x5120 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.ScoresKernel.Gen

end
-- ==== Proof.ScoresKernelSteps.lean ====
module

public import proofs.«01_k».proof.Proof.ScoresKernelKit

public import Idealize.ShloMosaic.Lib.Pointwise
public import Idealize.ShloMosaic.Lib.WritesUnit
public import Idealize.ShloMosaic.Lib.VecWindow
public import Idealize.ShloMosaic.Lib.Pipeline.ValueKit

/-! The three column loops of the kernel of `ScoresKernel` as values: what each leaves in its buffer and what it carries, chunk by chunk of 512 columns. -/

@[expose] public section

set_option maxRecDepth 16384

noncomputable section

namespace Cert.ScoresKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Stores made chunk by chunk along one axis -/

section Chunks

variable {sig' : RefSig} {κ : Kind} {sp : Space} {s : Shape} {e : EltTy} {Val : EltTy → Type}
variable (v : View sig' κ sp s e) (f : v.ty.Contents Val) {T : ℕ} (L : ℕ → List (View.Piece Val s e)) (off : Fin T → Fin s.rank → ℕ) (size : Fin s.rank → ℕ)
  (inb : ∀ k a, off k a + size a ≤ s.size a) (w : (k : Fin T) → (Rect.unit (off k) size (inb k)).shape.Idx → Val e)
  (h0 : L 0 = []) (hs : ∀ k : Fin T, L (k.val + 1) = ⟨Rect.unit (off k) size (inb k), w k⟩ :: L k.val)
  (ax : Fin s.rank) (W : ℕ) (hoff : ∀ k, off k ax = W * k.val) (hsz : size ax = W)

include h0 hs hoff hsz in
/-- What lies past the chunks stored so far is as it was. -/
theorem read_chunks_past : ∀ n, n ≤ T → ∀ y : s.Idx, W * n ≤ (y ax).val → v.read Val (v.writes Val f (L n)) y = v.read Val f y
  | 0, _, y, _ => by rw [h0]; rfl
  | n + 1, hn, y, hy => by
    rw [hs ⟨n, hn⟩, View.read_writes_cons_unit_of_not_mem v f (inb ⟨n, hn⟩) (w ⟨n, hn⟩) (L n) y rfl ax (Or.inr (by
      rw [hoff, hsz]; show W * n + W ≤ _; rw [Nat.mul_succ] at hy; exact hy))]
    exact read_chunks_past n (by omega) y (by rw [Nat.mul_succ] at hy; omega)

include hs hoff hsz in
/-- A chunk stored holds what was stored. -/
theorem read_chunks : ∀ n, n ≤ T → ∀ (k : Fin T), k.val < n → ∀ (y : s.Idx) (x : (Rect.unit (off k) size (inb k)).shape.Idx),
    (∀ a, (y a).val = off k a + (x a).val) → v.read Val (v.writes Val f (L n)) y = w k x
  | 0, _, _, hk, _, _, _ => absurd hk (Nat.not_lt_zero _)
  | n + 1, hn, k, hk, y, x, hx => by
    rw [hs ⟨n, hn⟩]
    by_cases hkn : k.val = n
    · obtain rfl : k = ⟨n, hn⟩ := Fin.ext hkn
      exact View.read_writes_cons_unit_of_mem v f (inb ⟨n, hn⟩) (w ⟨n, hn⟩) (L n) y x rfl hx
    · have hlt : (x ax).val < size ax := (x ax).isLt
      have hy := hx ax
      rw [View.read_writes_cons_unit_of_not_mem v f (inb ⟨n, hn⟩) (w ⟨n, hn⟩) (L n) y rfl ax (Or.inl (by
        rw [hoff] at hy ⊢; rw [hsz] at hlt
        have : W * (k.val + 1) ≤ W * n := Nat.mul_le_mul_left _ (by omega)
        rw [Nat.mul_succ] at this
        show _ < W * n; omega))]
      exact read_chunks n (by omega) k (by omega) y x hx

end Chunks

/-! ## The chunks' offsets -/

theorem off5_eq : ∀ k : Fin k0_t2_loop.trips, k0_off5 k = ![0, 512 * k.val] := by decide +kernel
theorem off6_eq : ∀ k : Fin k0_t2_loop.trips, k0_off6 k = ![0, 0, 512 * k.val] := by decide +kernel
theorem off7_eq : ∀ k : Fin k0_t2_loop.trips, k0_off7 k = ![0, 512 * k.val] := by decide +kernel
theorem off8_eq : ∀ k : Fin k0_t3_loop.trips, k0_off8 k = ![0, 512 * k.val] := by decide +kernel
theorem off9_eq : ∀ k : Fin k0_t4_loop.trips, k0_off9 k = ![0, 512 * k.val] := by decide +kernel
theorem off10_eq : ∀ k : Fin k0_t4_loop.trips, k0_off10 k = ![0, 0, 512 * k.val] := by decide +kernel

theorem trips2 : k0_t2_loop.trips = 10 := by decide +kernel
theorem trips3 : k0_t3_loop.trips = 10 := by decide +kernel
theorem trips4 : k0_t4_loop.trips = 10 := by decide +kernel

/-! ## The values -/

/-- The 512 columns of chunk `n`. -/
def colD (D : Vec F S1280x5120 .i32) (n : ℕ) : Vec F S1280x512 .i32 := fun x => D (ix2 (n0 := 1280) (n1 := 5120) (x 0) ⟨(512 * n + (x 1).val) % 5120, Nat.mod_lt _ (by decide)⟩)
def colM (x4 : Vec F S1x256x5120 .i8) (n : ℕ) : Vec F S1x256x512 .i8 := fun x => x4 (ix3 (n0 := 1) (n1 := 256) (n2 := 5120) (x 0) (x 1) ⟨(512 * n + (x 2).val) % 5120, Nat.mod_lt _ (by decide)⟩)

/-- The masked scores of chunk `n`, and the running row maximum before it. -/
def scs (v35 : FVec F S256x1 .f32) (q : Vec F S256x2560 .bf16) (D : Vec F S1280x5120 .i32) (x4 : Vec F S1x256x5120 .i8) (n : ℕ) : FVec F S256x512 .f32 :=
  k0_pay260 v35 (colD D n) q (colM x4 n)
def mx (v35 : FVec F S256x1 .f32) (q : Vec F S256x2560 .bf16) (D : Vec F S1280x5120 .i32) (x4 : Vec F S1x256x5120 .i8) : ℕ → FVec F S256x1 .f32
  | 0 => k0_pay258
  | n + 1 => k0_pay261 v35 (mx v35 q D x4 n) (colD D n) q (colM x4 n)

def f3 (n : ℕ) : Fin k0_t3_loop.trips := ⟨n % 10, by rw [trips3]; exact Nat.mod_lt _ (by decide)⟩
def f4 (n : ℕ) : Fin k0_t4_loop.trips := ⟨n % 10, by rw [trips4]; exact Nat.mod_lt _ (by decide)⟩

/-- The running sum of the exponentials and of the label's score before chunk `n`. -/
def zs (v59 : Vec F S1x256x1 .i32) (v63 : FVec F S256x1 .f32) (P : ℕ → FVec F S256x512 .f32) : ℕ → FVec F S256x1 .f32 × FVec F S256x1 .f32
  | 0 => (k0_pay262, k0_pay262)
  | n + 1 => (k0_pay266 v63 (zs v59 v63 P n).1 (P n), k0_pay267 v59 v63 (f3 n) (zs v59 v63 P n).2 (P n))

/-- Ten chunks side by side. -/
def asm (P : ℕ → FVec F S256x512 .f32) : Vec F S256x5120 .f32 := fun y => P ((y 1).val / 512) (ix2 (n0 := 256) (n1 := 512) (y 0) ⟨(y 1).val % 512, Nat.mod_lt _ (by decide)⟩)
def asm3 (P : ℕ → FVec F S1x256x512 .bf16) : Vec F S1x256x5120 .bf16 := fun y => P ((y 2).val / 512) (ix3 (n0 := 1) (n1 := 256) (n2 := 512) (y 0) (y 1) ⟨(y 2).val % 512, Nat.mod_lt _ (by decide)⟩)

section

variable (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole)
variable (v35 : FVec F S256x1 .f32) (v38 : FVec F S256x1 .f32) (v39 : FVec F S256x2560 .f32)

theorem hz2 : (![0, 0] : Fin 2 → Nat) = fun _ => 0 := funext fun a => by fin_cases a <;> rfl
theorem hz3 : (![0, 0, 0] : Fin 3 → Nat) = fun _ => 0 := funext fun a => by fin_cases a <;> rfl

theorem readAt_colD (D : Vec F S1280x5120 .i32) (k : Fin k0_t2_loop.trips) :
    arg11.view.readAt (Elt F) (Rect.unit (s := S1280x5120) (k0_off5 k) S1280x512.size (k0_off5_inb k)).toLoadRect (harg11.unread D) = colD D k.val := by
  have hk : k.val < 10 := lt_of_lt_of_eq k.isLt trips2
  rw [View.readAt_eq_ld, harg11.read_unread]
  funext x
  refine congrArg D (funext fun a => Fin.ext ?_)
  have h := off5_eq k
  fin_cases a
  · show k0_off5 k 0 + 1 * (x 0).val = (x 0).val
    have e : k0_off5 k 0 = 0 := congrFun h 0
    omega
  · show k0_off5 k 1 + 1 * (x 1).val = (512 * k.val + (x 1).val) % 5120
    have : (x 1).val < 512 := (x 1).isLt
    have e : k0_off5 k 1 = 512 * k.val := congrFun h 1
    omega

theorem readAt_colM (x4 : Vec F S1x256x5120 .i8) (k : Fin k0_t2_loop.trips) :
    arg6.view.readAt (Elt F) (Rect.unit (s := S1x256x5120) (k0_off6 k) S1x256x512.size (k0_off6_inb k)).toLoadRect (harg6.unread x4) = colM x4 k.val := by
  have hk : k.val < 10 := lt_of_lt_of_eq k.isLt trips2
  rw [View.readAt_eq_ld, harg6.read_unread]
  funext x
  refine congrArg x4 (funext fun a => Fin.ext ?_)
  have h := off6_eq k
  fin_cases a
  · show k0_off6 k 0 + 1 * (x 0).val = (x 0).val
    have e : k0_off6 k 0 = 0 := congrFun h 0
    omega
  · show k0_off6 k 1 + 1 * (x 1).val = (x 1).val
    have e : k0_off6 k 1 = 0 := congrFun h 1
    omega
  · show k0_off6 k 2 + 1 * (x 2).val = (512 * k.val + (x 2).val) % 5120
    have : (x 2).val < 512 := (x 2).isLt
    have e : k0_off6 k 2 = 512 * k.val := congrFun h 2
    omega

theorem trip2 (X6 : BufTy.Contents (Elt F) arg6.view.ty) (X11 : BufTy.Contents (Elt F) arg11.view.ty) (X13 : BufTy.Contents (Elt F) arg13.view.ty) (k : Fin k0_t2_loop.trips) (acc : FVec F S256x1 .f32) :
    tripR_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 X6 X11 X13 k acc
      = k0_pay261 v35 acc (arg11.view.readAt (Elt F) (Rect.unit (s := S1280x5120) (k0_off5 k) S1280x512.size (k0_off5_inb k)).toLoadRect X11)
          (arg13.view.readAt (Elt F) (Rect.unit (s := S256x2560) ![0, 0] S256x2560.size inb_S256x2560_S256x2560_0_0).toLoadRect X13)
          (arg6.view.readAt (Elt F) (Rect.unit (s := S1x256x5120) (k0_off6 k) S1x256x512.size (k0_off6_inb k)).toLoadRect X6) := by sl_kernel_rfl

theorem trip2L (X6 : BufTy.Contents (Elt F) arg6.view.ty) (X11 : BufTy.Contents (Elt F) arg11.view.ty) (X13 : BufTy.Contents (Elt F) arg13.view.ty) (k : Fin k0_t2_loop.trips) (acc : FVec F S256x1 .f32) :
    tripL_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 X6 X11 X13 k acc
      = [⟨Rect.unit (s := S256x5120) (k0_off7 k) S256x512.size (k0_off7_inb k), k0_pay260 v35 (arg11.view.readAt (Elt F) (Rect.unit (s := S1280x5120) (k0_off5 k) S1280x512.size (k0_off5_inb k)).toLoadRect X11)
          (arg13.view.readAt (Elt F) (Rect.unit (s := S256x2560) ![0, 0] S256x2560.size inb_S256x2560_S256x2560_0_0).toLoadRect X13)
          (arg6.view.readAt (Elt F) (Rect.unit (s := S1x256x5120) (k0_off6 k) S1x256x512.size (k0_off6_inb k)).toLoadRect X6)⟩] := by sl_kernel_rfl

theorem trip3 (v59 : Vec F S1x256x1 .i32) (v63 : FVec F S256x1 .f32) (f : BufTy.Contents (Elt F) arg12.view.ty) (k : Fin k0_t3_loop.trips) (acc : FVec F S256x1 .f32 × FVec F S256x1 .f32) :
    tripR_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 k acc f
      = (k0_pay266 v63 acc.1 (arg12.view.readAt (Elt F) (Rect.unit (s := S256x5120) (k0_off8 k) S256x512.size (k0_off8_inb k)).toLoadRect f),
         k0_pay267 v59 v63 k acc.2 (arg12.view.readAt (Elt F) (Rect.unit (s := S256x5120) (k0_off8 k) S256x512.size (k0_off8_inb k)).toLoadRect f)) := by sl_kernel_rfl

theorem trip3L (v59 : Vec F S1x256x1 .i32) (v63 : FVec F S256x1 .f32) (f : BufTy.Contents (Elt F) arg12.view.ty) (k : Fin k0_t3_loop.trips) (acc : FVec F S256x1 .f32 × FVec F S256x1 .f32) :
    tripL_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 k acc f
      = [⟨Rect.unit (s := S256x5120) (k0_off8 k) S256x512.size (k0_off8_inb k), k0_pay265 v63 (arg12.view.readAt (Elt F) (Rect.unit (s := S256x5120) (k0_off8 k) S256x512.size (k0_off8_inb k)).toLoadRect f)⟩] := by sl_kernel_rfl

theorem trip4L (v60 : IVec S256x1 32) (v66 : FVec F S256x1 .f32) (f : BufTy.Contents (Elt F) arg12.view.ty) (k : Fin k0_t4_loop.trips) :
    tripL_k0_t4 (F := F) Variants.none c none i arg2 harg2 arg3 harg3 arg4 harg4 arg5 harg5 arg6 harg6 arg7 harg7 arg8 harg8 arg9 harg9 arg10 harg10 arg11 harg11 arg12 harg12 arg13 harg13 v60 v66 f k
      = [⟨Rect.unit (s := S1x256x5120) (k0_off10 k) S1x256x512.size (k0_off10_inb k), k0_pay2 v60 v66 k (arg12.view.readAt (Elt F) (Rect.unit (s := S256x5120) (k0_off9 k) S256x512.size (k0_off9_inb k)).toLoadRect f)⟩] := by sl_kernel_rfl

/-! ## The loops as values -/

section

variable (x4 : Vec F S1x256x5120 .i8) (D : Vec F S1280x5120 .i32) (q : Vec F S256x2560 .bf16) (X13 : BufTy.Contents (Elt F) arg13.view.ty)
  (hq : arg13.view.readAt (Elt F) (Rect.unit (s := S256x2560) ![0, 0] S256x2560.size inb_S256x2560_S256x2560_0_0).toLoadRect X13 = q)

include hq in
theorem st2_fst : ∀ n, n ≤ k0_t2_loop.trips →
    (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 n).1 = mx v35 q D x4 n
  | 0, _ => rfl
  | n + 1, hn => by
    rw [st_k0_t2_succ (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 ⟨n, hn⟩]
    show tripR_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 ⟨n, hn⟩ _ = _
    rw [trip2, readAt_colD, readAt_colM, hq, st2_fst n (by omega)]
    rfl

include hq in
theorem st2_snd (k : Fin k0_t2_loop.trips) :
    (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 (k.val + 1)).2
      = ⟨Rect.unit (s := S256x5120) (k0_off7 k) S256x512.size (k0_off7_inb k), scs v35 q D x4 k.val⟩
        :: (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 k.val).2 := by
  rw [st_k0_t2_succ (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 k]
  show tripL_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k _ ++ _ = _
  rw [trip2L, readAt_colD, readAt_colM, hq]
  rfl

include hq in
/-- After the first column loop the buffer holds the masked scores. -/
theorem after2 (f12 : BufTy.Contents (Elt F) arg12.view.ty) :
    arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 k0_t2_loop.trips).2
      = harg12.unread (asm (scs v35 q D x4)) := by
  refine harg12.eq_unread (funext fun y => ?_)
  have hy : (y 1).val < 5120 := (y 1).isLt
  refine read_chunks arg12.view f12 (fun n => (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 n).2)
    (fun k => k0_off7 k) S256x512.size k0_off7_inb (fun k => scs v35 q D x4 k.val)
    (fun k => st2_snd c i arg2 harg2 arg3 harg3 arg4 harg4 arg5 harg5 arg6 harg6 arg7 harg7 arg8 harg8 arg9 harg9 arg10 harg10 arg11 harg11 arg12 harg12 arg13 harg13 v35 v38 v39 x4 D q X13 hq k) 1 512 (fun k => by rw [off7_eq k]; rfl) rfl
    k0_t2_loop.trips le_rfl ⟨(y 1).val / 512, by rw [trips2]; omega⟩ (by show (y 1).val / 512 < k0_t2_loop.trips; rw [trips2]; omega) y
    (ix2 (n0 := 256) (n1 := 512) (y 0) ⟨(y 1).val % 512, Nat.mod_lt _ (by decide)⟩) (fun a => ?_)
  have h := off7_eq ⟨(y 1).val / 512, by rw [trips2]; omega⟩
  fin_cases a
  · show (y 0).val = k0_off7 _ 0 + (y 0).val
    rw [h]; show _ = 0 + _; omega
  · show (y 1).val = k0_off7 _ 1 + (y 1).val % 512
    rw [h]; show _ = 512 * ((y 1).val / 512) + _; omega

end

/-- A chunk of the buffer is the chunk stored there. -/
theorem read_asm (off : Fin 2 → ℕ) (inb : ∀ a, off a + S256x512.size a ≤ S256x5120.size a) (k : ℕ) (hk : k < 10) (h : off = ![0, 512 * k])
    (P : ℕ → FVec F S256x512 .f32) (f : BufTy.Contents (Elt F) arg12.view.ty)
    (hf : ∀ y : S256x5120.Idx, 512 * k ≤ (y 1).val → (y 1).val < 512 * k + 512 → arg12.view.read (Elt F) f y = asm P y) :
    arg12.view.readAt (Elt F) (Rect.unit (s := S256x5120) off S256x512.size inb).toLoadRect f = P k := by
  rw [View.readAt_eq_ld]
  funext x
  have hx0 : (x 0).val < 256 := (x 0).isLt
  have hx1 : (x 1).val < 512 := (x 1).isLt
  have e1 : (((Rect.unit (s := S256x5120) off S256x512.size inb).idx x) 1).val = 512 * k + (x 1).val := by
    show off 1 + 1 * (x 1).val = _
    have e : off 1 = 512 * k := congrFun h 1
    omega
  have e0 : (((Rect.unit (s := S256x5120) off S256x512.size inb).idx x) 0).val = (x 0).val := by
    show off 0 + 1 * (x 0).val = _
    have e : off 0 = 0 := congrFun h 0
    omega
  show arg12.view.read (Elt F) f ((Rect.unit (s := S256x5120) off S256x512.size inb).idx x) = _
  rw [hf _ (by rw [e1]; omega) (by rw [e1]; omega)]
  show P ((((Rect.unit (s := S256x5120) off S256x512.size inb).idx x) 1).val / 512) _ = _
  rw [show (((Rect.unit (s := S256x5120) off S256x512.size inb).idx x) 1).val / 512 = k by rw [e1]; omega]
  refine congrArg (P k) (funext fun a => Fin.ext ?_)
  fin_cases a
  · exact e0
  · show (((Rect.unit (s := S256x5120) off S256x512.size inb).idx x) 1).val % 512 = (x 1).val
    rw [e1]; omega

section

variable (v59 : Vec F S1x256x1 .i32) (v63 : FVec F S256x1 .f32) (P : ℕ → FVec F S256x512 .f32)

/-- Both facts of a trip of the second column loop, from the chunk it finds. -/
theorem st3_step (k : Fin k0_t3_loop.trips)
    (h : arg12.view.readAt (Elt F) (Rect.unit (s := S256x5120) (k0_off8 k) S256x512.size (k0_off8_inb k)).toLoadRect
      (arg12.view.writes (Elt F) (harg12.unread (asm P)) (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).2) = P k.val) :
    (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) (k.val + 1))
      = ((k0_pay266 v63 (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).1.1 (P k.val),
          k0_pay267 v59 v63 k (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).1.2 (P k.val)),
         ⟨Rect.unit (s := S256x5120) (k0_off8 k) S256x512.size (k0_off8_inb k), k0_pay265 v63 (P k.val)⟩
          :: (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).2) := by
  rw [st_k0_t3_succ (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k]
  refine Prod.ext ?_ ?_
  · show tripR_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 k _ _ = _
    rw [trip3, h]
  · show tripL_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 k _ _ ++ _ = _
    rw [trip3L, h]; rfl

/-- Every trip of the second column loop finds its chunk as the first loop left it. -/
theorem st3_find : ∀ n, n ≤ k0_t3_loop.trips → ∀ y : S256x5120.Idx, 512 * n ≤ (y 1).val →
    arg12.view.read (Elt F) (arg12.view.writes (Elt F) (harg12.unread (asm P)) (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).2) y = asm P y
  | 0, _, y, _ => by
    show arg12.view.read (Elt F) (harg12.unread (asm P)) y = _
    rw [harg12.read_unread]
  | n + 1, hn, y, hy => by
    have hn10 : n < 10 := lt_of_lt_of_eq hn trips3
    have h := read_asm arg12 (k0_off8 ⟨n, hn⟩) (k0_off8_inb ⟨n, hn⟩) n hn10 (off8_eq ⟨n, hn⟩) P _ (fun y h1 _ => st3_find n (by omega) y h1)
    rw [st3_step c i arg2 harg2 arg3 harg3 arg4 harg4 arg5 harg5 arg6 harg6 arg7 harg7 arg8 harg8 arg9 harg9 arg10 harg10 arg11 harg11 arg12 harg12 arg13 harg13 v35 v38 v39 v59 v63 P ⟨n, hn⟩ h,
      View.read_writes_cons_unit_of_not_mem arg12.view _ (k0_off8_inb ⟨n, hn⟩) _ _ y (off8_eq ⟨n, hn⟩) 1 (Or.inr (by show 512 * n + 512 ≤ _; omega))]
    exact st3_find n (by omega) y (by omega)

theorem st3_chunk (k : Fin k0_t3_loop.trips) :
    arg12.view.readAt (Elt F) (Rect.unit (s := S256x5120) (k0_off8 k) S256x512.size (k0_off8_inb k)).toLoadRect
      (arg12.view.writes (Elt F) (harg12.unread (asm P)) (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).2) = P k.val :=
  read_asm arg12 (k0_off8 k) (k0_off8_inb k) k.val (lt_of_lt_of_eq k.isLt trips3) (off8_eq k) P _ (fun y h1 _ => st3_find c i arg2 harg2 arg3 harg3 arg4 harg4 arg5 harg5 arg6 harg6 arg7 harg7 arg8 harg8 arg9 harg9 arg10 harg10 arg11 harg11 arg12 harg12 arg13 harg13 v35 v38 v39 v59 v63 P k.val k.isLt.le y h1)

theorem st3_fst : ∀ n, n ≤ k0_t3_loop.trips →
    (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).1 = zs v59 v63 P n
  | 0, _ => rfl
  | n + 1, hn => by
    rw [st3_step c i arg2 harg2 arg3 harg3 arg4 harg4 arg5 harg5 arg6 harg6 arg7 harg7 arg8 harg8 arg9 harg9 arg10 harg10 arg11 harg11 arg12 harg12 arg13 harg13 v35 v38 v39 v59 v63 P ⟨n, hn⟩ (st3_chunk c i arg2 harg2 arg3 harg3 arg4 harg4 arg5 harg5 arg6 harg6 arg7 harg7 arg8 harg8 arg9 harg9 arg10 harg10 arg11 harg11 arg12 harg12 arg13 harg13 v35 v38 v39 v59 v63 P ⟨n, hn⟩)]
    show (k0_pay266 v63 (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).1.1 _, k0_pay267 v59 v63 ⟨n, hn⟩ (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).1.2 _) = (_, _)
    rw [st3_fst n (by omega)]
    have : f3 n = ⟨n, hn⟩ := Fin.ext (Nat.mod_eq_of_lt (lt_of_lt_of_eq hn trips3))
    rw [this]

/-- After the second column loop the buffer holds the exponentials. -/
theorem after3 :
    arg12.view.writes (Elt F) (harg12.unread (asm P)) (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k0_t3_loop.trips).2
      = harg12.unread (asm (fun n => k0_pay265 v63 (P n))) := by
  refine harg12.eq_unread (funext fun y => ?_)
  have hy : (y 1).val < 5120 := (y 1).isLt
  refine read_chunks arg12.view _ (fun n => (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).2)
    (fun k => k0_off8 k) S256x512.size k0_off8_inb (fun k => k0_pay265 v63 (P k.val))
    (fun k => by rw [st3_step c i arg2 harg2 arg3 harg3 arg4 harg4 arg5 harg5 arg6 harg6 arg7 harg7 arg8 harg8 arg9 harg9 arg10 harg10 arg11 harg11 arg12 harg12 arg13 harg13 v35 v38 v39 v59 v63 P k (st3_chunk c i arg2 harg2 arg3 harg3 arg4 harg4 arg5 harg5 arg6 harg6 arg7 harg7 arg8 harg8 arg9 harg9 arg10 harg10 arg11 harg11 arg12 harg12 arg13 harg13 v35 v38 v39 v59 v63 P k)]) 1 512 (fun k => by rw [off8_eq k]; rfl) rfl
    k0_t3_loop.trips le_rfl ⟨(y 1).val / 512, by rw [trips3]; omega⟩ (by show (y 1).val / 512 < k0_t3_loop.trips; rw [trips3]; omega) y
    (ix2 (n0 := 256) (n1 := 512) (y 0) ⟨(y 1).val % 512, Nat.mod_lt _ (by decide)⟩) (fun a => ?_)
  have h := off8_eq ⟨(y 1).val / 512, by rw [trips3]; omega⟩
  fin_cases a
  · show (y 0).val = k0_off8 _ 0 + (y 0).val
    rw [h]; show _ = 0 + _; omega
  · show (y 1).val = k0_off8 _ 1 + (y 1).val % 512
    rw [h]; show _ = 512 * ((y 1).val / 512) + _; omega

end

/-- After the third column loop the output holds the gradient of the scores. -/
theorem after4 (v60 : IVec S256x1 32) (v66 : FVec F S256x1 .f32) (P : ℕ → FVec F S256x512 .f32) (f8 : BufTy.Contents (Elt F) arg8.view.ty) :
    arg8.view.writes (Elt F) f8 (pb_k0_t4 (F := F) Variants.none c none i arg2 harg2 arg3 harg3 arg4 harg4 arg5 harg5 arg6 harg6 arg7 harg7 arg8 harg8 arg9 harg9 arg10 harg10 arg11 harg11 arg12 harg12 arg13 harg13 v60 v66 (harg12.unread (asm P)) k0_t4_loop.trips)
      = harg8.unread (asm3 (fun n => k0_pay2 v60 v66 (f4 n) (P n))) := by
  refine harg8.eq_unread (funext fun y => ?_)
  have hy : (y 2).val < 5120 := (y 2).isLt
  refine read_chunks arg8.view f8 (fun n => pb_k0_t4 (F := F) Variants.none c none i arg2 harg2 arg3 harg3 arg4 harg4 arg5 harg5 arg6 harg6 arg7 harg7 arg8 harg8 arg9 harg9 arg10 harg10 arg11 harg11 arg12 harg12 arg13 harg13 v60 v66 (harg12.unread (asm P)) n)
    (fun k => k0_off10 k) S1x256x512.size k0_off10_inb (fun k => k0_pay2 v60 v66 (f4 k.val) (P k.val))
    (fun k => ?_) 2 512 (fun k => by rw [off10_eq k]; rfl) rfl
    k0_t4_loop.trips le_rfl ⟨(y 2).val / 512, by rw [trips4]; omega⟩ (by show (y 2).val / 512 < k0_t4_loop.trips; rw [trips4]; omega) y
    (ix3 (n0 := 1) (n1 := 256) (n2 := 512) (y 0) (y 1) ⟨(y 2).val % 512, Nat.mod_lt _ (by decide)⟩) (fun a => ?_)
  · have hk : f4 k.val = k := Fin.ext (Nat.mod_eq_of_lt (lt_of_lt_of_eq k.isLt trips4))
    show pb_k0_t4 (F := F) Variants.none c none i arg2 harg2 arg3 harg3 arg4 harg4 arg5 harg5 arg6 harg6 arg7 harg7 arg8 harg8 arg9 harg9 arg10 harg10 arg11 harg11 arg12 harg12 arg13 harg13 v60 v66 (harg12.unread (asm P)) (k.val + 1) = _
    rw [pb_k0_t4_succ, trip4L, hk, read_asm arg12 (k0_off9 k) (k0_off9_inb k) k.val (lt_of_lt_of_eq k.isLt trips4) (off9_eq k) P _ (fun y _ _ => by rw [harg12.read_unread])]
    rfl
  have h := off10_eq ⟨(y 2).val / 512, by rw [trips4]; omega⟩
  fin_cases a
  · show (y 0).val = k0_off10 _ 0 + (y 0).val
    rw [h]; show _ = 0 + _; omega
  · show (y 1).val = k0_off10 _ 1 + (y 1).val
    rw [h]; show _ = 0 + _; omega
  · show (y 2).val = k0_off10 _ 2 + (y 2).val % 512
    rw [h]; show _ = 512 * ((y 2).val / 512) + _; omega

end

end Cert.ScoresKernel.Gen

end
-- ==== Proof.ScoresKernelRun.lean ====
module

public import proofs.«01_k».proof.Proof.ScoresKernelSteps

/-! The body of the kernel of `ScoresKernel` run once: its three parts, and the whole body in both cases of its branch. -/

@[expose] public section

set_option maxRecDepth 16384

noncomputable section

namespace Cert.ScoresKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first part of the body where the documents' words are gathered. -/
theorem part51_A (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : k0_cond1 i = 1#1)
    (f2 : BufTy.Contents (Elt F) arg2.view.ty)
    (f3 : BufTy.Contents (Elt F) arg3.view.ty)
    (f4 : BufTy.Contents (Elt F) arg4.view.ty)
    (f11 : BufTy.Contents (Elt F) arg11.view.ty)
    (Q : (Σ' (v35 : FVec F S256x1 .f32) (v38 : FVec F S256x1 .f32), FVec F S256x2560 .f32) → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg11.view.loc (c : Thread nD τ) ↦[arg11.view.set]{fullShare} f11)
      ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg11.view.loc (c : Thread nD τ) ↦[arg11.view.set]{fullShare} (arg11.view.writes (Elt F) f11 (pb_k0_t1 (F := F) Variants.none c none i arg2 harg2 arg3 harg3 arg4 harg4 arg5 harg5 arg6 harg6 arg7 harg7 arg8 harg8 arg9 harg9 arg10 harg10 arg11 harg11 arg12 harg12 arg13 harg13 hc0 f3 f4 k0_t1_loop.trips))))
          -∗ Q ⟨k0_pay250 (arg2.view.readAt (Elt F) (Rect.unit (s := S1x256x2560) ![0, 0, 0] S1x256x2560.size inb_S1x256x2560_S1x256x2560_0_0_0).toLoadRect f2), k0_pay251 (arg2.view.readAt (Elt F) (Rect.unit (s := S1x256x2560) ![0, 0, 0] S1x256x2560.size inb_S1x256x2560_S1x256x2560_0_0_0).toLoadRect f2), k0_pay252 (arg2.view.readAt (Elt F) (Rect.unit (s := S1x256x2560) ![0, 0, 0] S1x256x2560.size inb_S1x256x2560_S1x256x2560_0_0_0).toLoadRect f2)⟩))
     ⊢ wp frame (wpE (defs₀ (F := F)) Variants.none c none) E (k0_part51 i arg2 harg2 arg3 harg3 arg4 harg4 arg5 harg5 arg6 harg6 arg7 harg7 arg8 harg8 arg9 harg9 arg10 harg10 arg11 harg11 arg12 harg12 arg13 harg13) Q := by
  simp only [k0_part51_eq_skeleton]; unfold k0_part51_skel
  iintro ⟨H2, H3, H4, H11, Hk⟩
  sl_exec (disch := first | sl_exact hc0)
  sl_step
  iapply Hk
  isplitl [H2]; · iexact H2
  isplitl [H3]; · iexact H3
  isplitl [H4]; · iexact H4
  iexact H11

/-- The first part of the body where the gathered words are kept. -/
theorem part51_B (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : ¬k0_cond1 i = 1#1)
    (f2 : BufTy.Contents (Elt F) arg2.view.ty)
    (Q : (Σ' (v35 : FVec F S256x1 .f32) (v38 : FVec F S256x1 .f32), FVec F S256x2560 .f32) → sProp 𝕄) :
    iprop((arg2.view.loc (c : Thread nD τ) ↦[arg2.view.set]{fullShare} f2) ∗ ((arg2.view.loc (c : Thread nD τ) ↦[arg2.view.set]{fullShare} f2) -∗ Q ⟨k0_pay250 (arg2.view.readAt (Elt F) (Rect.unit (s := S1x256x2560) ![0, 0, 0] S1x256x2560.size inb_S1x256x2560_S1x256x2560_0_0_0).toLoadRect f2), k0_pay251 (arg2.view.readAt (Elt F) (Rect.unit (s := S1x256x2560) ![0, 0, 0] S1x256x2560.size inb_S1x256x2560_S1x256x2560_0_0_0).toLoadRect f2), k0_pay252 (arg2.view.readAt (Elt F) (Rect.unit (s := S1x256x2560) ![0, 0, 0] S1x256x2560.size inb_S1x256x2560_S1x256x2560_0_0_0).toLoadRect f2)⟩))
     ⊢ wp frame (wpE (defs₀ (F := F)) Variants.none c none) E (k0_part51 i arg2 harg2 arg3 harg3 arg4 harg4 arg5 harg5 arg6 harg6 arg7 harg7 arg8 harg8 arg9 harg9 arg10 harg10 arg11 harg11 arg12 harg12 arg13 harg13) Q := by
  simp only [k0_part51_eq_skeleton]; unfold k0_part51_skel
  iintro ⟨H2, Hk⟩
  sl_exec (disch := first | sl_exact hc0)
  sl_step
  iapply Hk
  iexact H2

/-- The row's running sums after all the chunks, from the scale, the codes and the gathered words. -/
def sums (v35 : FVec F S256x1 .f32) (q : Vec F S256x2560 .bf16) (D : Vec F S1280x5120 .i32) (x3 : Vec F S1x256x1 .i32) (x4 : Vec F S1x256x5120 .i8) : FVec F S256x1 .f32 × FVec F S256x1 .f32 :=
  zs x3 (mx v35 q D x4 10) (scs v35 q D x4) 10

/-- Chunk `n` of the exponentials of the scores above the row's maximum. -/
def expo (v35 : FVec F S256x1 .f32) (q : Vec F S256x2560 .bf16) (D : Vec F S1280x5120 .i32) (x4 : Vec F S1x256x5120 .i8) (n : ℕ) : FVec F S256x512 .f32 :=
  k0_pay265 (mx v35 q D x4 10) (scs v35 q D x4 n)

theorem whole1 {κ : Kind} {sp : Space} (M : Memref sig κ sp S1x256x1 .i32) (hM : M.IsWhole) (x : Vec F S1x256x1 .i32) :
    M.view.readAt (Elt F) (Rect.unit (s := S1x256x1) ![0, 0, 0] S1x256x1.size inb_S1x256x1_S1x256x1_0_0_0).toLoadRect (hM.unread x) = x := by
  rw [View.readAt_eq_ld, hM.read_unread]; exact View.ld_unit_zero (S := S1x256x1) hz3 _ _

theorem wholeX {κ : Kind} {sp : Space} (M : Memref sig κ sp S1x256x2560 .bf16) (hM : M.IsWhole) (x : Vec F S1x256x2560 .bf16) :
    M.view.readAt (Elt F) (Rect.unit (s := S1x256x2560) ![0, 0, 0] S1x256x2560.size inb_S1x256x2560_S1x256x2560_0_0_0).toLoadRect (hM.unread x) = x := by
  rw [View.readAt_eq_ld, hM.read_unread]; exact View.ld_unit_zero (S := S1x256x2560) hz3 _ _

section

variable (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (v35 : FVec F S256x1 .f32) (v38 : FVec F S256x1 .f32) (v39 : FVec F S256x2560 .f32)
    (x3 : Vec F S1x256x1 .i32) (x4 : Vec F S1x256x5120 .i8) (D : Vec F S1280x5120 .i32) (f12 : BufTy.Contents (Elt F) arg12.view.ty)

theorem codes_read : arg13.view.readAt (Elt F) (Rect.unit (s := S256x2560) ![0, 0] S256x2560.size inb_S256x2560_S256x2560_0_0).toLoadRect (arg13.view.writes (Elt F) arg13.view.junk [⟨(Rect.unit (s := S256x2560) ![0, 0] S256x2560.size inb_S256x2560_S256x2560_0_0), k0_pay256 v38 v39⟩]) = k0_pay256 v38 v39 :=
  View.readAt_writes_full arg13.view arg13.view.junk inb_S256x2560_S256x2560_0_0 inb_S256x2560_S256x2560_0_0 _ []

theorem sums_eq : (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).1 = sums v35 (k0_pay256 v38 v39) D x3 x4 := by
  rw [after2 c i arg2 harg2 arg3 harg3 arg4 harg4 arg5 harg5 arg6 harg6 arg7 harg7 arg8 harg8 arg9 harg9 arg10 harg10 arg11 harg11 arg12 harg12 arg13 harg13 v35 v38 v39 x4 D (k0_pay256 v38 v39) _ (codes_read arg13 v38 v39) f12,
    st2_fst c i arg2 harg2 arg3 harg3 arg4 harg4 arg5 harg5 arg6 harg6 arg7 harg7 arg8 harg8 arg9 harg9 arg10 harg10 arg11 harg11 arg12 harg12 arg13 harg13 v35 v38 v39 x4 D (k0_pay256 v38 v39) _ (codes_read arg13 v38 v39) _ le_rfl, whole1 arg5 harg5 x3,
    st3_fst c i arg2 harg2 arg3 harg3 arg4 harg4 arg5 harg5 arg6 harg6 arg7 harg7 arg8 harg8 arg9 harg9 arg10 harg10 arg11 harg11 arg12 harg12 arg13 harg13 v35 v38 v39 x3 _ _ _ le_rfl, trips2]
  rfl

theorem expo_eq : arg12.view.writes (Elt F) f12 ((st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).2 ++ (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) = harg12.unread (asm (expo v35 (k0_pay256 v38 v39) D x4)) := by
  rw [View.writes_append, after2 c i arg2 harg2 arg3 harg3 arg4 harg4 arg5 harg5 arg6 harg6 arg7 harg7 arg8 harg8 arg9 harg9 arg10 harg10 arg11 harg11 arg12 harg12 arg13 harg13 v35 v38 v39 x4 D (k0_pay256 v38 v39) _ (codes_read arg13 v38 v39) f12,
    st2_fst c i arg2 harg2 arg3 harg3 arg4 harg4 arg5 harg5 arg6 harg6 arg7 harg7 arg8 harg8 arg9 harg9 arg10 harg10 arg11 harg11 arg12 harg12 arg13 harg13 v35 v38 v39 x4 D (k0_pay256 v38 v39) _ (codes_read arg13 v38 v39) _ le_rfl,
    after3 c i arg2 harg2 arg3 harg3 arg4 harg4 arg5 harg5 arg6 harg6 arg7 harg7 arg8 harg8 arg9 harg9 arg10 harg10 arg11 harg11 arg12 harg12 arg13 harg13 v35 v38 v39 _ _ _, trips2]
  rfl

end

/-- The second part of the body: the codes and their scale are stored, then the scores and their exponentials are left in
    the buffer `arg12`. -/
theorem part52 (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (v35 : FVec F S256x1 .f32) (v38 : FVec F S256x1 .f32) (v39 : FVec F S256x2560 .f32)
    (x3 : Vec F S1x256x1 .i32) (x4 : Vec F S1x256x5120 .i8) (D : Vec F S1280x5120 .i32)
    (f9 : BufTy.Contents (Elt F) arg9.view.ty)
    (f10 : BufTy.Contents (Elt F) arg10.view.ty)
    (f12 : BufTy.Contents (Elt F) arg12.view.ty)
    (f13 : BufTy.Contents (Elt F) arg13.view.ty)
    (Q : (Σ' (v60 : IVec S256x1 32) (v66_0 : FVec F S256x1 .f32), FVec F S256x1 .f32) → sProp 𝕄) :
    iprop((arg5.view.loc (c : Thread nD τ) ↦[arg5.view.set]{fullShare} (harg5.unread x3)) ∗ (arg6.view.loc (c : Thread nD τ) ↦[arg6.view.set]{fullShare} (harg6.unread x4)) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (harg11.unread D)) ∗ (arg12.view.loc (c : Thread nD τ) ↦[arg12.view.set]{fullShare} f12) ∗ (arg13.view.loc (c : Thread nD τ) ↦[arg13.view.set]{fullShare} f13)
      ∗ (∀ r, iprop(⌜r = ⟨k0_pay257 x3, (sums v35 (k0_pay256 v38 v39) D x3 x4).1, k0_pay268 (sums v35 (k0_pay256 v38 v39) D x3 x4).1 (sums v35 (k0_pay256 v38 v39) D x3 x4).2⟩⌝
            ∗ (arg5.view.loc (c : Thread nD τ) ↦[arg5.view.set]{fullShare} (harg5.unread x3)) ∗ (arg6.view.loc (c : Thread nD τ) ↦[arg6.view.set]{fullShare} (harg6.unread x4)) ∗ (∃ f, (arg9.view.loc (c : Thread nD τ) ↦[arg9.view.set]{fullShare} (arg9.view.writes (Elt F) f [⟨(Rect.unit (s := S1x256x2560) ![0, 0, 0] S1x256x2560.size inb_S1x256x2560_S1x256x2560_0_0_0), k0_pay254 v38 v39⟩]))) ∗ (∃ f, (arg10.view.loc (c : Thread nD τ) ↦[arg10.view.set]{fullShare} (arg10.view.writes (Elt F) f [⟨(Rect.unit (s := S1x256x1) ![0, 0, 0] S1x256x1.size inb_S1x256x1_S1x256x1_0_0_0), k0_pay255 v35⟩])))
            ∗ (arg11.view.loc (c : Thread nD τ) ↦[arg11.view.set]{fullShare} (harg11.unread D)) ∗ (∃ f, (arg12.view.loc (c : Thread nD τ) ↦[arg12.view.set]{fullShare} f) ∗ ⌜f = harg12.unread (asm (expo v35 (k0_pay256 v38 v39) D x4))⌝) ∗ (∃ f, (arg13.view.loc (c : Thread nD τ) ↦[arg13.view.set]{fullShare} f)))
          -∗ Q r))
     ⊢ wp frame (wpE (defs₀ (F := F)) Variants.none c none) E (k0_part52 i arg2 harg2 arg3 harg3 arg4 harg4 arg5 harg5 arg6 harg6 arg7 harg7 arg8 harg8 arg9 harg9 arg10 harg10 arg11 harg11 arg12 harg12 arg13 harg13 v35 v38 v39) Q := by
  simp only [k0_part52_eq_skeleton]; unfold k0_part52_skel
  iintro ⟨H5, H6, H9, H10, H11, H12, H13, Hk⟩
  sl_exec
  sl_step
  iapply Hk
  isplitr
  · ipureintro
    refine Eq.trans (b := ⟨k0_pay257 (arg5.view.readAt (Elt F) (Rect.unit (s := S1x256x1) ![0, 0, 0] S1x256x1.size inb_S1x256x1_S1x256x1_0_0_0).toLoadRect (harg5.unread x3)), (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).1.1, k0_pay268 (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).1.1 (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).1.2⟩) (by sl_kernel_rfl) ?_
    rw [sums_eq, whole1 arg5 harg5 x3]
  isplitl [H5]; · iexact H5
  isplitl [H6]; · iexact H6
  isplitl [H9]; · iexists _; iexact H9
  isplitl [H10]; · iexists _; iexact H10
  isplitl [H11]; · iexact H11
  isplitl [H12]
  · iexists _; isplitl [H12]; · iexact H12
    ipureintro
    exact Eq.trans (b := arg12.view.writes (Elt F) f12 ((st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).2 ++ (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2)) (by sl_kernel_rfl) (expo_eq c i arg2 harg2 arg3 harg3 arg4 harg4 arg5 harg5 arg6 harg6 arg7 harg7 arg8 harg8 arg9 harg9 arg10 harg10 arg11 harg11 arg12 harg12 arg13 harg13 v35 v38 v39 x3 x4 D f12)
  iexists _; iexact H13

/-! ## What a point leaves, as values of its blocks and of the gathered words -/

def scale (x0 : Vec F S1x256x2560 .bf16) : FVec F S256x1 .f32 := k0_pay250 x0
def codes (x0 : Vec F S1x256x2560 .bf16) : Vec F S256x2560 .bf16 := k0_pay256 (k0_pay251 x0) (k0_pay252 x0)
def lossV (x0 : Vec F S1x256x2560 .bf16) (D : Vec F S1280x5120 .i32) (x3 : Vec F S1x256x1 .i32) (x4 : Vec F S1x256x5120 .i8) : Vec F S1x256x1 .f32 :=
  k0_pay1 (k0_pay268 (sums (scale x0) (codes x0) D x3 x4).1 (sums (scale x0) (codes x0) D x3 x4).2)
def gradV (x0 : Vec F S1x256x2560 .bf16) (D : Vec F S1280x5120 .i32) (x3 : Vec F S1x256x1 .i32) (x4 : Vec F S1x256x5120 .i8) : Vec F S1x256x5120 .bf16 :=
  asm3 (fun n => k0_pay2 (k0_pay257 x3) (sums (scale x0) (codes x0) D x3 x4).1 (f4 n) (expo (scale x0) (codes x0) D x4 n))
def codeV (x0 : Vec F S1x256x2560 .bf16) : Vec F S1x256x2560 .fp8e4m3 := k0_pay254 (k0_pay251 x0) (k0_pay252 x0)
def scaleV (x0 : Vec F S1x256x2560 .bf16) : Vec F S1x256x1 .f32 := k0_pay255 (scale x0)

def whole5 (x : Vec F S1x256x1 .f32) : View.Piece (Elt F) S1x256x1 .f32 := ⟨(Rect.unit (s := S1x256x1) ![0, 0, 0] S1x256x1.size inb_S1x256x1_S1x256x1_0_0_0), x⟩
def whole7 (x : Vec F S1x256x2560 .fp8e4m3) : View.Piece (Elt F) S1x256x2560 .fp8e4m3 := ⟨(Rect.unit (s := S1x256x2560) ![0, 0, 0] S1x256x2560.size inb_S1x256x2560_S1x256x2560_0_0_0), x⟩
def whole6 (x : Vec F S1x256x5120 .bf16) : View.Piece (Elt F) S1x256x5120 .bf16 := ⟨Rect.unit (s := S1x256x5120) ![0, 0, 0] S1x256x5120.size (by decide), x⟩
def wholeS (x : Vec F S1280x5120 .i32) : View.Piece (Elt F) S1280x5120 .i32 := ⟨Rect.unit (s := S1280x5120) ![0, 0] S1280x5120.size (by decide), x⟩

/-- The last part of the body: the loss is stored, then the gradient of the scores. -/
theorem tail (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (v60 : IVec S256x1 32) (v66 v70 : FVec F S256x1 .f32) (P : ℕ → FVec F S256x512 .f32)
    (f7 : BufTy.Contents (Elt F) arg7.view.ty)
    (f8 : BufTy.Contents (Elt F) arg8.view.ty) (K : PUnit → sProp 𝕄) :
    iprop((arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} (harg12.unread (asm P)))
      ∗ (iprop((∃ f, arg7.view.loc (c : Thread nD τ) ↦[arg7.view.set]{fullShare} arg7.view.writes (Elt F) f [whole5 (k0_pay1 v70)]) ∗ (∃ f, arg8.view.loc (c : Thread nD τ) ↦[arg8.view.set]{fullShare} arg8.view.writes (Elt F) f [whole6 (asm3 (fun n => k0_pay2 v60 v66 (f4 n) (P n)))]) ∗ (∃ f, (arg12.view.loc (c : Thread nD τ) ↦[arg12.view.set]{fullShare} f))) -∗ K ⟨⟩))
     ⊢ wp frame (wpE (defs₀ (F := F)) Variants.none c none) E (do
        let v71 : Vec F S1x256x1 .f32 ← Prog.lift (.load arg7 (Rect.unit (s := S1x256x1) ![0, 0, 0] S1x256x1.size inb_S1x256x1_S1x256x1_0_0_0).toLoadRect (View.loadsAt_vmem h_S1x256x1))
        Prog.lift (.store arg7 (Rect.unit (s := S1x256x1) ![0, 0, 0] S1x256x1.size inb_S1x256x1_S1x256x1_0_0_0) (k0_pay1 v70) Finset.univ (View.stores_vmem_bits_univ h_S1x256x1 rfl) (.inl rfl))
        Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 v60 v66)
        pure ⟨⟩) K := by
  iintro ⟨H7, H8, H12, Hk⟩
  sl_exec
  sl_step
  iapply Hk
  isplitl [H7]; · iexists _; iexact H7
  isplitl [H8]
  · iexists f8
    have e : arg8.view.writes (Elt F) f8 (pb_k0_t4 (F := F) Variants.none c none i arg2 harg2 arg3 harg3 arg4 harg4 arg5 harg5 arg6 harg6 arg7 harg7 arg8 harg8 arg9 harg9 arg10 harg10 arg11 harg11 arg12 harg12 arg13 harg13 v60 v66 (harg12.unread (asm P)) k0_t4_loop.trips)
        = arg8.view.writes (Elt F) f8 [whole6 (asm3 (fun n => k0_pay2 v60 v66 (f4 n) (P n)))] := by
      rw [after4]
      exact (harg8.eq_unread (View.read_writes_full arg8.view f8 _ _ [])).symm
    rw [← e]
    iexact H8
  iexists _; iexact H12

/-- The body after the gather, in both cases: the words of the documents are in `arg11`. -/
theorem rest (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole)
    (x0 : Vec F S1x256x2560 .bf16) (D : Vec F S1280x5120 .i32) (x3 : Vec F S1x256x1 .i32) (x4 : Vec F S1x256x5120 .i8)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f12 : BufTy.Contents (Elt F) arg12.view.ty)
    (f13 : BufTy.Contents (Elt F) arg13.view.ty) (K : PUnit → sProp 𝕄) :
    iprop((arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (harg11.unread D)) ∗ (arg12.view.loc (c : Thread nD τ) ↦[arg12.view.set]{fullShare} f12) ∗ (arg13.view.loc (c : Thread nD τ) ↦[arg13.view.set]{fullShare} f13)
      ∗ (iprop((arg5.view.loc (c : Thread nD τ) ↦[arg5.view.set]{fullShare} (harg5.unread x3)) ∗ (arg6.view.loc (c : Thread nD τ) ↦[arg6.view.set]{fullShare} (harg6.unread x4)) ∗ (∃ f, arg7.view.loc (c : Thread nD τ) ↦[arg7.view.set]{fullShare} arg7.view.writes (Elt F) f [whole5 (lossV x0 D x3 x4)]) ∗ (∃ f, arg8.view.loc (c : Thread nD τ) ↦[arg8.view.set]{fullShare} arg8.view.writes (Elt F) f [whole6 (gradV x0 D x3 x4)]) ∗ (∃ f, arg9.view.loc (c : Thread nD τ) ↦[arg9.view.set]{fullShare} arg9.view.writes (Elt F) f [whole7 (codeV x0)]) ∗ (∃ f, arg10.view.loc (c : Thread nD τ) ↦[arg10.view.set]{fullShare} arg10.view.writes (Elt F) f [whole5 (scaleV x0)])
            ∗ (arg11.view.loc (c : Thread nD τ) ↦[arg11.view.set]{fullShare} (harg11.unread D)) ∗ (∃ f, (arg12.view.loc (c : Thread nD τ) ↦[arg12.view.set]{fullShare} f)) ∗ (∃ f, (arg13.view.loc (c : Thread nD τ) ↦[arg13.view.set]{fullShare} f))) -∗ K ⟨⟩))
     ⊢ wp frame (wpE (defs₀ (F := F)) Variants.none c none) E (do
        let ⟨v60, v66_0, v70⟩ : (Σ' (v60 : IVec S256x1 32) (v66_0 : FVec F S256x1 .f32), FVec F S256x1 .f32) ← k0_part52 i arg2 harg2 arg3 harg3 arg4 harg4 arg5 harg5 arg6 harg6 arg7 harg7 arg8 harg8 arg9 harg9 arg10 harg10 arg11 harg11 arg12 harg12 arg13 harg13 (k0_pay250 x0) (k0_pay251 x0) (k0_pay252 x0)
        let v71 : Vec F S1x256x1 .f32 ← Prog.lift (.load arg7 (Rect.unit (s := S1x256x1) ![0, 0, 0] S1x256x1.size inb_S1x256x1_S1x256x1_0_0_0).toLoadRect (View.loadsAt_vmem h_S1x256x1))
        Prog.lift (.store arg7 (Rect.unit (s := S1x256x1) ![0, 0, 0] S1x256x1.size inb_S1x256x1_S1x256x1_0_0_0) (k0_pay1 v70) Finset.univ (View.stores_vmem_bits_univ h_S1x256x1 rfl) (.inl rfl))
        Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 v60 v66_0)
        pure ⟨⟩) K := by
  iintro ⟨H5, H6, H7, H8, H9, H10, H11, H12, H13, Hk⟩
  rw [wp_bind]
  iapply (part52 c E i arg2 harg2 arg3 harg3 arg4 harg4 arg5 harg5 arg6 harg6 arg7 harg7 arg8 harg8 arg9 harg9 arg10 harg10 arg11 harg11 arg12 harg12 arg13 harg13 (k0_pay250 x0) (k0_pay251 x0) (k0_pay252 x0) x3 x4 D f9 f10 f12 f13 _)
  isplitl [H5]; · iexact H5
  isplitl [H6]; · iexact H6
  isplitl [H9]; · iexact H9
  isplitl [H10]; · iexact H10
  isplitl [H11]; · iexact H11
  isplitl [H12]; · iexact H12
  isplitl [H13]; · iexact H13
  iintro %r ⟨%hr, H5, H6, H9, H10, H11, ⟨%g12, H12, %hg12⟩, H13⟩
  subst hr; subst hg12
  iapply (tail c E i arg2 harg2 arg3 harg3 arg4 harg4 arg5 harg5 arg6 harg6 arg7 harg7 arg8 harg8 arg9 harg9 arg10 harg10 arg11 harg11 arg12 harg12 arg13 harg13 _ _ _ _ f7 f8 K)
  isplitl [H7]; · iexact H7
  isplitl [H8]; · iexact H8
  isplitl [H12]; · iexact H12
  iintro ⟨H7, H8, H12⟩
  iapply Hk
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The gathered words: what the gather loop's stores leave. -/
def gathered (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : k0_cond1 i = 1#1) (x1 : Vec F S80x5120 .i32) (x2 : Vec F S1280x256 .i32) : Vec F S1280x5120 .i32 :=
  View.canon (pb_k0_t1 (F := F) Variants.none c none i arg2 harg2 arg3 harg3 arg4 harg4 arg5 harg5 arg6 harg6 arg7 harg7 arg8 harg8 arg9 harg9 arg10 harg10 arg11 harg11 arg12 harg12 arg13 harg13 hc0 (harg3.unread x1) (harg4.unread x2) k0_t1_loop.trips)

theorem gathered_unread (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : k0_cond1 i = 1#1) (x1 : Vec F S80x5120 .i32) (x2 : Vec F S1280x256 .i32) (f : BufTy.Contents (Elt F) arg11.view.ty) :
    arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 hc0 (harg3.unread x1) (harg4.unread x2) k0_t1_loop.trips)
      = harg11.unread (gathered c i arg2 harg2 arg3 harg3 arg4 harg4 arg5 harg5 arg6 harg6 arg7 harg7 arg8 harg8 arg9 harg9 arg10 harg10 arg11 harg11 arg12 harg12 arg13 harg13 hc0 x1 x2) :=
  harg11.eq_unread (View.read_writes_eq_canon arg11.view f _ (fun y =>
    View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 hc0 (harg3.unread x1) (harg4.unread x2) k0_t1_loop.trips) S8x128.size (by sl_kernel_rfl) y))

/-- What the body's stores leave in each output's staging memref IN CASE A (the documents are gathered: points 0, 5, 10), one piece per output, with the proof that on whole
    staging memrefs the body runs to the continuation holding the inputs' as they were and each output's buffer with its piece written. -/
noncomputable def kernelRun0_A (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : cond0_0 i)
    (x0 : Vec F S1x256x2560 .bf16) (x1 : Vec F S80x5120 .i32) (x2 : Vec F S1280x256 .i32) (x3 : Vec F S1x256x1 .i32) (x4 : Vec F S1x256x5120 .i8) :
    Σ' (L5 : List (View.Piece (Elt F) S1x256x1 .f32)), Σ' (L6 : List (View.Piece (Elt F) S1x256x5120 .bf16)), Σ' (L7 : List (View.Piece (Elt F) S1x256x2560 .fp8e4m3)), Σ' (L8 : List (View.Piece (Elt F) S1x256x1 .f32)), { LS0 : List (View.Piece (Elt F) S1280x5120 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d)) -∗ K ⟨⟩))
          ⊢ wp frame (wpE (defs₀ (F := F)) Variants.none c none) E (cc0_scores i arg2 harg2 arg3 harg3 arg4 harg4 arg5 harg5 arg6 harg6 arg7 harg7 arg8 harg8 arg9 harg9 arg10 harg10 arg11 harg11 arg12 harg12 arg13 harg13) K } := by
  refine ⟨[whole5 (lossV x0 (gathered c i arg2 harg2 arg3 harg3 arg4 harg4 arg5 harg5 arg6 harg6 arg7 harg7 arg8 harg8 arg9 harg9 arg10 harg10 arg11 harg11 arg12 harg12 arg13 harg13 hc0 x1 x2) x3 x4)], [whole6 (gradV x0 (gathered c i arg2 harg2 arg3 harg3 arg4 harg4 arg5 harg5 arg6 harg6 arg7 harg7 arg8 harg8 arg9 harg9 arg10 harg10 arg11 harg11 arg12 harg12 arg13 harg13 hc0 x1 x2) x3 x4)], [whole7 (codeV x0)], [whole5 (scaleV x0)], [wholeS (gathered c i arg2 harg2 arg3 harg3 arg4 harg4 arg5 harg5 arg6 harg6 arg7 harg7 arg8 harg8 arg9 harg9 arg10 harg10 arg11 harg11 arg12 harg12 arg13 harg13 hc0 x1 x2)], fun E K => ?run⟩
  case run =>
    simp only [cc0_scores_eq_skeleton]; unfold cc0_scores_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    skip
    rw [wp_bind]
    iapply (part51_A c E i arg2 harg2 arg3 harg3 arg4 harg4 arg5 harg5 arg6 harg6 arg7 harg7 arg8 harg8 arg9 harg9 arg10 harg10 arg11 harg11 arg12 harg12 arg13 harg13 hc0 (harg2.unread x0) (harg3.unread x1) (harg4.unread x2) fs0 _)
    isplitl [H0]; · iexact H0
    isplitl [H1]; · iexact H1
    isplitl [H2]; · iexact H2
    isplitl [HS0]; · iexact HS0
    iintro ⟨H0, H1, H2, HS0⟩
    rw [wholeX arg2 harg2 x0, gathered_unread c i arg2 harg2 arg3 harg3 arg4 harg4 arg5 harg5 arg6 harg6 arg7 harg7 arg8 harg8 arg9 harg9 arg10 harg10 arg11 harg11 arg12 harg12 arg13 harg13 hc0 x1 x2 fs0]
    iapply (rest c E i arg2 harg2 arg3 harg3 arg4 harg4 arg5 harg5 arg6 harg6 arg7 harg7 arg8 harg8 arg9 harg9 arg10 harg10 arg11 harg11 arg12 harg12 arg13 harg13 x0 (gathered c i arg2 harg2 arg3 harg3 arg4 harg4 arg5 harg5 arg6 harg6 arg7 harg7 arg8 harg8 arg9 harg9 arg10 harg10 arg11 harg11 arg12 harg12 arg13 harg13 hc0 x1 x2) x3 x4 f5 f6 f7 f8 fs1 fs2 K)
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H3, H4, H5, H6, H7, H8, HS0, ⟨%g1, HS1⟩, ⟨%g2, HS2⟩⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]; · iexact H6
    isplitl [H7]; · iexact H7
    isplitl [H8]; · iexact H8
    isplitl [HS0]
    · iexists (harg11.unread (gathered c i arg2 harg2 arg3 harg3 arg4 harg4 arg5 harg5 arg6 harg6 arg7 harg7 arg8 harg8 arg9 harg9 arg10 harg10 arg11 harg11 arg12 harg12 arg13 harg13 hc0 x1 x2))
      rw [show arg11.view.writes (Elt F) (harg11.unread (gathered c i arg2 harg2 arg3 harg3 arg4 harg4 arg5 harg5 arg6 harg6 arg7 harg7 arg8 harg8 arg9 harg9 arg10 harg10 arg11 harg11 arg12 harg12 arg13 harg13 hc0 x1 x2)) [wholeS (gathered c i arg2 harg2 arg3 harg3 arg4 harg4 arg5 harg5 arg6 harg6 arg7 harg7 arg8 harg8 arg9 harg9 arg10 harg10 arg11 harg11 arg12 harg12 arg13 harg13 hc0 x1 x2)] = harg11.unread (gathered c i arg2 harg2 arg3 harg3 arg4 harg4 arg5 harg5 arg6 harg6 arg7 harg7 arg8 harg8 arg9 harg9 arg10 harg10 arg11 harg11 arg12 harg12 arg13 harg13 hc0 x1 x2) from
        harg11.eq_unread (View.read_writes_full arg11.view _ _ _ [])]
      iexact HS0
    isplitl [HS1]
    · iexists _, _; isplitr; swap; · iexact HS1
      ipureintro; rfl
    iexists _, _; isplitr; swap; · iexact HS2
    ipureintro; rfl

/-- What the body's stores leave in each output's staging memref IN CASE B (the gathered words are kept), one piece per output, with the proof that on whole
    staging memrefs the body runs to the continuation holding the inputs' as they were and each output's buffer with its piece written. -/
noncomputable def kernelRun0_B (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) :
    Σ' (L5 : List (View.Piece (Elt F) S1x256x1 .f32)), Σ' (L6 : List (View.Piece (Elt F) S1x256x5120 .bf16)), Σ' (L7 : List (View.Piece (Elt F) S1x256x2560 .fp8e4m3)), Σ' (L8 : List (View.Piece (Elt F) S1x256x1 .f32)), { LS0 : List (View.Piece (Elt F) S1280x5120 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0 ∗ (∃ d, owns (c : Thread nD τ) arg12 fullShare d) ∗ (∃ d, owns (c : Thread nD τ) arg13 fullShare d)) -∗ K ⟨⟩))
          ⊢ wp frame (wpE (defs₀ (F := F)) Variants.none c none) E (cc0_scores i arg2 harg2 arg3 harg3 arg4 harg4 arg5 harg5 arg6 harg6 arg7 harg7 arg8 harg8 arg9 harg9 arg10 harg10 arg11 harg11 arg12 harg12 arg13 harg13) K } := by
  refine ⟨[whole5 (lossV x0 xs0 x3 x4)], [whole6 (gradV x0 xs0 x3 x4)], [whole7 (codeV x0)], [whole5 (scaleV x0)], [], fun E K => ?run⟩
  case run =>
    simp only [cc0_scores_eq_skeleton]; unfold cc0_scores_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg11.eq_unread hfs0
    rw [wp_bind]
    iapply (part51_B c E i arg2 harg2 arg3 harg3 arg4 harg4 arg5 harg5 arg6 harg6 arg7 harg7 arg8 harg8 arg9 harg9 arg10 harg10 arg11 harg11 arg12 harg12 arg13 harg13 hc0 (harg2.unread x0) _)
    isplitl [H0]; · iexact H0
    iintro H0
    rw [wholeX arg2 harg2 x0]
    iapply (rest c E i arg2 harg2 arg3 harg3 arg4 harg4 arg5 harg5 arg6 harg6 arg7 harg7 arg8 harg8 arg9 harg9 arg10 harg10 arg11 harg11 arg12 harg12 arg13 harg13 x0 xs0 x3 x4 f5 f6 f7 f8 fs1 fs2 K)
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H3, H4, H5, H6, H7, H8, HS0, ⟨%g1, HS1⟩, ⟨%g2, HS2⟩⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]; · iexact H6
    isplitl [H7]; · iexact H7
    isplitl [H8]; · iexact H8
    isplitl [HS0]
    · iexists _; isplitr; · ipureintro; exact harg11.read_unread _
      iexact HS0
    isplitl [HS1]
    · iexists _, _; isplitr; swap; · iexact HS1
      ipureintro; rfl
    iexists _, _; isplitr; swap; · iexact HS2
    ipureintro; rfl

end Cert.ScoresKernel.Gen

end
-- ==== Proof.ScoresKernelFrame.lean ====
module

public import proofs.«01_k».proof.Proof.ScoresKernelRun
public import Idealize.ShloMosaic.Lib.Claim

/-! What the outputs of `ScoresKernel` hold after each grid point, and its frame. -/

@[expose] public section

set_option maxRecDepth 16384

noncomputable section

namespace Cert.ScoresKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole)

/-- Case A's pieces for output 5 tile its block (1 store of `S1x256x1`, checked by the kernel's evaluation: Lib/Ring.lean `Piece.tiledL`, linear in the pieces), so they cover it. -/
theorem cover0_A_5 (hc0 : cond0_0 i)
    (x0 : Vec F S1x256x2560 .bf16) (x1 : Vec F S80x5120 .i32) (x2 : Vec F S1280x256 .i32) (x3 : Vec F S1x256x1 .i32) (x4 : Vec F S1x256x5120 .i8) (y : S1x256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1 S1x256x1.size (by sl_kernel_rfl) y

/-- What case A leaves in output 5's staging buffer: its pieces read back over junk. -/
def out0_A_5 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1x256x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1)

/-- Case A's pieces for output 6 tile its block (1 store of `S1x256x5120`, checked by the kernel's evaluation: Lib/Ring.lean `Piece.tiledL`, linear in the pieces), so they cover it. -/
theorem cover0_A_6 (hc0 : cond0_0 i)
    (x0 : Vec F S1x256x2560 .bf16) (x1 : Vec F S80x5120 .i32) (x2 : Vec F S1280x256 .i32) (x3 : Vec F S1x256x1 .i32) (x4 : Vec F S1x256x5120 .i8) (y : S1x256x5120.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1 S1x256x5120.size (by sl_kernel_rfl) y

/-- What case A leaves in output 6's staging buffer: its pieces read back over junk. -/
def out0_A_6 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1x256x5120 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1)

/-- Case A's pieces for output 7 tile its block (1 store of `S1x256x2560`, checked by the kernel's evaluation: Lib/Ring.lean `Piece.tiledL`, linear in the pieces), so they cover it. -/
theorem cover0_A_7 (hc0 : cond0_0 i)
    (x0 : Vec F S1x256x2560 .bf16) (x1 : Vec F S80x5120 .i32) (x2 : Vec F S1280x256 .i32) (x3 : Vec F S1x256x1 .i32) (x4 : Vec F S1x256x5120 .i8) (y : S1x256x2560.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1 S1x256x2560.size (by sl_kernel_rfl) y

/-- What case A leaves in output 7's staging buffer: its pieces read back over junk. -/
def out0_A_7 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1x256x2560 .fp8e4m3 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1)

/-- Case A's pieces for output 8 tile its block (1 store of `S1x256x1`, checked by the kernel's evaluation: Lib/Ring.lean `Piece.tiledL`, linear in the pieces), so they cover it. -/
theorem cover0_A_8 (hc0 : cond0_0 i)
    (x0 : Vec F S1x256x2560 .bf16) (x1 : Vec F S80x5120 .i32) (x2 : Vec F S1280x256 .i32) (x3 : Vec F S1x256x1 .i32) (x4 : Vec F S1x256x5120 .i8) (y : S1x256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1 S1x256x1.size (by sl_kernel_rfl) y

/-- What case A leaves in output 8's staging buffer: its pieces read back over junk. -/
def out0_A_8 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1x256x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1)

/-- Case A's pieces for scratch `arg11`, which the kernel carries between points, cover it: one piece of the whole (Lib/Ring.lean `Piece.tiledL`). -/
theorem scover0_A_0 (hc0 : cond0_0 i)
    (x0 : Vec F S1x256x2560 .bf16) (x1 : Vec F S80x5120 .i32) (x2 : Vec F S1280x256 .i32) (x3 : Vec F S1x256x1 .i32) (x4 : Vec F S1x256x5120 .i8) (y : S1280x5120.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1 S1280x5120.size (by sl_kernel_rfl) y

/-- What case A leaves in scratch `arg11`: its pieces read back over junk. -/
def sout0_A_0 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1280x5120 .i32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1)

/-- Case B's pieces for output 5 tile its block (1 store of `S1x256x1`, checked by the kernel's evaluation: Lib/Ring.lean `Piece.tiledL`, linear in the pieces), so they cover it. -/
theorem cover0_B_5 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) (y : S1x256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).1 S1x256x1.size (by sl_kernel_rfl) y

/-- What case B leaves in output 5's staging buffer: its pieces read back over junk. -/
def out0_B_5 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1x256x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).1)

/-- Case B's pieces for output 6 tile its block (1 store of `S1x256x5120`, checked by the kernel's evaluation: Lib/Ring.lean `Piece.tiledL`, linear in the pieces), so they cover it. -/
theorem cover0_B_6 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) (y : S1x256x5120.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.1 S1x256x5120.size (by sl_kernel_rfl) y

/-- What case B leaves in output 6's staging buffer: its pieces read back over junk. -/
def out0_B_6 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1x256x5120 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.1)

/-- Case B's pieces for output 7 tile its block (1 store of `S1x256x2560`, checked by the kernel's evaluation: Lib/Ring.lean `Piece.tiledL`, linear in the pieces), so they cover it. -/
theorem cover0_B_7 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) (y : S1x256x2560.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.1 S1x256x2560.size (by sl_kernel_rfl) y

/-- What case B leaves in output 7's staging buffer: its pieces read back over junk. -/
def out0_B_7 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1x256x2560 .fp8e4m3 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.1)

/-- Case B's pieces for output 8 tile its block (1 store of `S1x256x1`, checked by the kernel's evaluation: Lib/Ring.lean `Piece.tiledL`, linear in the pieces), so they cover it. -/
theorem cover0_B_8 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) (y : S1x256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.2.1 S1x256x1.size (by sl_kernel_rfl) y

/-- What case B leaves in output 8's staging buffer: its pieces read back over junk. -/
def out0_B_8 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1x256x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.2.1)

end

/-- Case B stores nothing into scratch `arg11`: it holds what the point before left. -/
def sout0_B_0 (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1280x5120 .i32 := xs0

/-! ## What the outputs hold after each point -/

/-- What a point of case A leaves (the outputs in window order, then the scratch), and what one of case B leaves over the scratch `xs0`. -/
def caseA (c : Dev nD) (t : Fin cfg0.N) (h0 : t.val % 5 = 0) : Vec F S1x256x1 .f32 × Vec F S1x256x5120 .bf16 × Vec F S1x256x2560 .fp8e4m3 × Vec F S1x256x1 .f32 × Vec F S1280x5120 .i32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t))
def caseB (c : Dev nD) (t : Fin cfg0.N) (h0 : ¬t.val % 5 = 0) (xs0 : Vec F S1280x5120 .i32) : Vec F S1x256x1 .f32 × Vec F S1x256x5120 .bf16 × Vec F S1x256x2560 .fp8e4m3 × Vec F S1x256x1 .f32 × Vec F S1280x5120 .i32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1 .f32 × Vec F S1x256x5120 .bf16 × Vec F S1x256x2560 .fp8e4m3 × Vec F S1x256x1 .f32 × Vec F S1280x5120 .i32
  | 0, hn => caseA m c ⟨0, hn⟩ (Nat.zero_mod _)
  | n + 1, hn => if h0 : (n + 1) % 5 = 0 then caseA m c ⟨n + 1, hn⟩ h0 else caseB m c ⟨n + 1, hn⟩ h0 (outsAt0 c n (Nat.lt_of_succ_lt hn)).2.2.2.2

/-- `outsAt0` at a point of case A: that case's contents. -/
theorem outsAt0_A (c : Dev nD) (t : Fin cfg0.N) (h0 : t.val % 5 = 0) :
    outsAt0 m c t.val t.isLt = caseA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 5 = 0) :
    outsAt0 m c t.val t.isLt = caseB m c t h0 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 15 := lt_of_lt_of_eq t.isLt (show cfg0.N = 15 from N_0)
  by_cases h0 : t.val % 5 = 0
  · by_cases hz : t.val = 0
    · rw [PhiS_castSucc m c t, PhiS_zero m c _ _ hz, PhiA0_eq]
      rw [outsAt0_A m c t h0]; unfold caseA
      unfold out0_A_5 out0_A_6 out0_A_7 out0_A_8 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    · rw [PhiS_castSucc m c t, PhiS_pos m c _ _ hz]
      rw [outsAt0_A m c t h0]; unfold caseA
      unfold out0_A_5 out0_A_6 out0_A_7 out0_A_8 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexists _; iexact HS0
      isplitl [HS1]; · iexact HS1
      isplitl [HS2]; · iexact HS2
      iintro ⟨H0, H1, H2, H3, H4, ⟨%e5, H5⟩, ⟨%e6, H6⟩, ⟨%e7, H7⟩, ⟨%e8, H8⟩, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
  · by_cases hz : t.val = 0
    · exfalso; have hN : t.val < 15 := lt_of_lt_of_eq t.isLt (show cfg0.N = 15 from N_0); omega
    · rw [PhiS_castSucc m c t, PhiS_pos m c _ _ hz]
      rw [outsAt0_B m c t h0]; unfold caseB
      unfold out0_B_5 out0_B_6 out0_B_7 out0_B_8 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_ScoresKernel`'s statement (Defs.lean) at any `F` — Proof.lean cites it at `Bits`:
    `theorem Cert.Proof.claim : Cert.Claim := ⟨Cert.ScoresKernel.Gen.facts, fun m ρ _ => Cert.ScoresKernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ScoresKernel.Gen

end
-- ==== Proof.ScoresMath.lean ====
/- The arithmetic of the scores kernel over the extended reals: exponentials in base two of scores scaled by the inverse
   of log 2, sums and maxima taken in chunks, the softmax of a row, and the power-of-two scale of a row. -/
module

public import Idealize.ShloMosaic.PureOps.Ideal.Laws
public import Mathlib.Data.EReal.Inv

@[expose] public section

noncomputable section

namespace Cert.ScoresMath

open Idealize.ShloMosaic

/-- The inverse of `log 2`, and `log 2`. -/
abbrev L2 : EReal := ((Real.log 2)⁻¹ : ℝ)
abbrev N2 : EReal := (Real.log 2 : ℝ)

theorem log2_pos : (0 : ℝ) < Real.log 2 := Real.log_pos (by norm_num)

theorem inv_pos : (0 : ℝ) < (Real.log 2)⁻¹ := _root_.inv_pos.mpr log2_pos

theorem bot_mul : (⊥ : EReal) * L2 = ⊥ := EReal.bot_mul_coe_of_pos inv_pos
theorem top_mul : (⊤ : EReal) * L2 = ⊤ := EReal.top_mul_coe_of_pos inv_pos

/-- The exponential in base two of a scaled score is the exponential of the score. -/
theorem exp2_mul (t : EReal) : Ideal.exp2 (t * L2) = Ideal.exp t := by
  induction t with
  | bot => rw [bot_mul]; rfl
  | top => rw [top_mul]; rfl
  | coe r =>
    rw [← EReal.coe_mul]
    show ((Real.rpow 2 (r * (Real.log 2)⁻¹) : ℝ) : EReal) = (Real.exp r : ℝ)
    congr 1
    show (2 : ℝ) ^ (r * (Real.log 2)⁻¹) = _
    rw [Real.rpow_def_of_pos (by norm_num)]
    congr 1
    field_simp [log2_pos.ne']

theorem sub_mul (a b : EReal) : a * L2 - b * L2 = (a - b) * L2 := by
  induction a with
  | bot => simp only [bot_mul, EReal.bot_sub]
  | top =>
    induction b with
    | bot => simp only [bot_mul, top_mul, EReal.top_sub_bot]
    | top => simp only [top_mul, EReal.sub_top, bot_mul]
    | coe s => rw [top_mul, ← EReal.coe_mul, EReal.top_sub_coe, EReal.top_sub_coe, top_mul]
  | coe r =>
    induction b with
    | bot => rw [bot_mul, ← EReal.coe_mul, EReal.coe_sub_bot, EReal.coe_sub_bot, top_mul]
    | top => simp only [top_mul, EReal.sub_top, bot_mul]
    | coe s => rw [← EReal.coe_mul, ← EReal.coe_mul, ← EReal.coe_sub, ← EReal.coe_sub, ← EReal.coe_mul]; congr 1; ring

theorem mul_mul (t : EReal) : t * L2 * N2 = t := by
  rw [mul_assoc, ← EReal.coe_mul, inv_mul_cancel₀ log2_pos.ne', EReal.coe_one, mul_one]

theorem mono_mul : Monotone fun t : EReal => t * L2 := fun _ _ h => mul_le_mul_of_nonneg_right h (EReal.coe_nonneg.mpr inv_pos.le)

theorem sup_mul {ι : Type} (s : Finset ι) (f : ι → EReal) : s.sup (fun j => f j * L2) = s.sup f * L2 :=
  (Finset.apply_sup_eq_sup_comp (fun t : EReal => t * L2) (fun _ _ => mono_mul.map_sup _ _) bot_mul).symm

/-! ## Chunks of 512 -/

variable {α : Type}

/-- Column `j`, wrapped around. -/
def at5120 (s : Fin 5120 → α) (j : ℕ) : α := s ⟨j % 5120, Nat.mod_lt _ (by decide)⟩

theorem at5120_val (s : Fin 5120 → α) (j : Fin 5120) : at5120 s j.val = s j := congrArg s (Fin.ext (Nat.mod_eq_of_lt j.isLt))

theorem sum_chunks [AddCommMonoid α] (s : Fin 5120 → α) (a : ℕ → α) (h0 : a 0 = 0)
    (h : ∀ n, n < 10 → a (n + 1) = a n + ∑ x : Fin 512, at5120 s (512 * n + x.val)) : a 10 = ∑ j, s j := by
  have key : ∀ n, n ≤ 10 → a n = ∑ j ∈ Finset.range (512 * n), at5120 s j := by
    intro n
    induction n with
    | zero => intro _; simpa using h0
    | succ n ih =>
      intro hn
      rw [h n (by omega), ih (by omega), show 512 * (n + 1) = 512 * n + 512 by ring, Finset.sum_range_add, Finset.sum_range (fun x => at5120 s (512 * n + x))]
  rw [key 10 le_rfl, Finset.sum_range]
  exact Finset.sum_congr rfl fun j _ => at5120_val s j

theorem sup_chunks (s : Fin 5120 → EReal) (a : ℕ → EReal) (h0 : a 0 = ⊥)
    (h : ∀ n, n < 10 → a (n + 1) = max (a n) (Finset.univ.sup fun x : Fin 512 => at5120 s (512 * n + x.val))) : a 10 = Finset.univ.sup s := by
  have key : ∀ n, n ≤ 10 → a n = (Finset.range (512 * n)).sup (at5120 s) := by
    intro n
    induction n with
    | zero => intro _; simpa using h0
    | succ n ih =>
      intro hn
      rw [h n (by omega), ih (by omega)]
      apply le_antisymm
      · refine max_le (Finset.sup_mono (Finset.range_mono (by omega))) (Finset.sup_le fun x _ => ?_)
        exact Finset.le_sup (f := at5120 s) (Finset.mem_range.mpr (by omega))
      · refine Finset.sup_le fun j hj => ?_
        have hj := Finset.mem_range.mp hj
        by_cases hl : j < 512 * n
        · exact le_max_of_le_left (Finset.le_sup (f := at5120 s) (Finset.mem_range.mpr hl))
        · refine le_max_of_le_right ?_
          have e := Finset.le_sup (f := fun x : Fin 512 => at5120 s (512 * n + x.val)) (Finset.mem_univ ⟨j - 512 * n, by omega⟩)
          have e1 : 512 * n + (j - 512 * n) = j := by omega
          simpa only [e1] using e
  rw [key 10 le_rfl]
  apply le_antisymm
  · exact Finset.sup_le fun j _ => Finset.le_sup (f := s) (Finset.mem_univ _)
  · refine Finset.sup_le fun j _ => ?_
    rw [← at5120_val s j]
    exact Finset.le_sup (f := at5120 s) (Finset.mem_range.mpr (by omega))

/-! ## The softmax of a row -/

section Row
variable {ι : Type} [Fintype ι] (s : ι → EReal)

/-- The row's maximum, and the sum of the exponentials of the scores above it. -/
def rowMax : EReal := Finset.univ.sup s
def rowSum : EReal := ∑ j, Ideal.exp (s j - rowMax s)

variable (hs : ∀ j, s j ≠ ⊤) (h0 : ∃ j, s j ≠ ⊥)
include hs h0

theorem rowMax_real : ∃ r : ℝ, rowMax s = (r : EReal) := by
  obtain ⟨j, hj⟩ := h0
  have h1 : rowMax s ≠ ⊥ := fun e => hj (le_bot_iff.mp (e ▸ Finset.le_sup (f := s) (Finset.mem_univ j)))
  have h2 : rowMax s ≠ ⊤ := ne_of_lt ((Finset.sup_lt_iff (by exact bot_lt_top)).mpr fun j _ => lt_top_iff_ne_top.mpr (hs j))
  exact ⟨_, (EReal.coe_toReal h2 h1).symm⟩

theorem diff_cases (j : ι) : s j - rowMax s = ⊥ ∨ ∃ r : ℝ, s j - rowMax s = (r : EReal) := by
  obtain ⟨m, hm⟩ := rowMax_real s hs h0
  rw [hm]
  rcases eq_or_ne (s j) ⊥ with h | h
  · left; rw [h, EReal.bot_sub]
  · right
    refine ⟨(s j).toReal - m, ?_⟩
    rw [EReal.coe_sub, EReal.coe_toReal (hs j) h]

theorem exp_real (j : ι) : ∃ r : ℝ, 0 ≤ r ∧ (s j ≠ ⊥ → 0 < r) ∧ Ideal.exp (s j - rowMax s) = (r : EReal) := by
  obtain ⟨m, hm⟩ := rowMax_real s hs h0
  rw [hm]
  rcases eq_or_ne (s j) ⊥ with h | h
  · exact ⟨0, le_rfl, fun h' => absurd h h', by rw [h, EReal.bot_sub]; rfl⟩
  · refine ⟨Real.exp ((s j).toReal - m), (Real.exp_pos _).le, fun _ => Real.exp_pos _, ?_⟩
    rw [← EReal.coe_toReal (hs j) h, ← EReal.coe_sub]; rfl

theorem rowSum_real : ∃ z : ℝ, 0 < z ∧ rowSum s = (z : EReal) := by
  choose f hf using exp_real s hs h0
  refine ⟨∑ j, f j, ?_, ?_⟩
  · obtain ⟨j, hj⟩ := h0
    exact Finset.sum_pos' (fun j _ => (hf j).1) ⟨j, Finset.mem_univ _, (hf j).2.1 hj⟩
  · unfold rowSum
    rw [Finset.sum_congr rfl fun j _ => (hf j).2.2]
    exact (map_sum (⟨⟨((↑) : ℝ → EReal), EReal.coe_zero⟩, EReal.coe_add⟩ : ℝ →+ EReal) f Finset.univ).symm

/-- The exponential over the sum is the exponential of the score above the maximum, less the sum's logarithm. -/
theorem prob_eq (j : ι) : Ideal.exp (s j - rowMax s) * Ideal.div 1 (rowSum s) = Ideal.exp (s j - rowMax s - Ideal.log (rowSum s)) := by
  obtain ⟨z, hz, e⟩ := rowSum_real s hs h0
  rw [e, Ideal.log_coe, if_neg (not_le.mpr hz)]
  unfold Ideal.div
  rw [if_neg (by exact_mod_cast hz.ne'), one_mul, ← EReal.coe_inv]
  rcases diff_cases s hs h0 j with h | ⟨r, h⟩
  · rw [h, EReal.bot_sub]; show (0 : EReal) * _ = 0; rw [zero_mul]
  · rw [h, ← EReal.coe_sub, Ideal.exp_coe, Ideal.exp_coe, ← EReal.coe_mul, Real.exp_sub, Real.exp_log hz, div_eq_mul_inv]

/-- The loss. -/
theorem loss_eq (j : ι) : Ideal.log (rowSum s) - (s j - rowMax s) * L2 * N2 = -(s j - rowMax s - Ideal.log (rowSum s)) := by
  obtain ⟨z, hz, e⟩ := rowSum_real s hs h0
  rw [mul_mul, e, Ideal.log_coe, if_neg (not_le.mpr hz)]
  rcases diff_cases s hs h0 j with h | ⟨r, h⟩
  · rw [h, EReal.bot_sub, EReal.coe_sub_bot, EReal.neg_bot]
  · rw [h, ← EReal.coe_sub, ← EReal.coe_sub, ← EReal.coe_neg, neg_sub]

end Row

/-! ## The scale of a row -/

/-- The kernel's exponent: the floor of the logarithm in base two, corrected either way, plus one. -/
def expK (T y : EReal) : EReal :=
  if y < T then 0 else
    ((Ideal.liftRound Int.floor (Ideal.log y * L2) + (if Ideal.exp2 (Ideal.liftRound Int.floor (Ideal.log y * L2) + 1) ≤ y then 1 else 0))
      - (if y < Ideal.exp2 (Ideal.liftRound Int.floor (Ideal.log y * L2)) then 1 else 0)) + 1

/-- The reference's. -/
def expR (T y : EReal) : EReal :=
  if (if y < T then 0 else y) = 0 then 0 else Ideal.liftRound Int.floor (Ideal.div (Ideal.log (if y < T then 0 else y)) N2) + 1

theorem div_N2 (t : EReal) : Ideal.div t N2 = t * L2 := by
  unfold Ideal.div
  rw [if_neg (EReal.coe_ne_zero.mpr log2_pos.ne'), ← EReal.coe_inv]

theorem exp_eq (T : ℝ) (hT : 0 < T) (y : EReal) : expK T y = expR T y := by
  unfold expK expR
  by_cases h : y < T
  · simp only [if_pos h, if_true]
  · have hy : y ≠ 0 := fun e => h (by rw [e]; exact_mod_cast hT)
    simp only [if_neg h, if_neg hy, div_N2]
    induction y with
    | bot => exact absurd (EReal.bot_lt_coe T) h
    | top =>
      have e : Ideal.liftRound Int.floor (Ideal.log ⊤ * L2) = ⊤ := by
        show Ideal.liftRound Int.floor (⊤ * L2) = ⊤
        rw [top_mul]; rfl
      rw [e, if_pos le_top, if_neg (not_lt.mpr le_top)]
      rfl
    | coe r =>
      have hr : T ≤ r := by exact_mod_cast not_lt.mp h
      have hr0 : 0 < r := lt_of_lt_of_le hT hr
      have e : Ideal.liftRound Int.floor (Ideal.log (r : EReal) * L2) = ((⌊Real.log r * (Real.log 2)⁻¹⌋ : ℝ) : EReal) := by
        rw [Ideal.log_coe, if_neg (not_le.mpr hr0), ← EReal.coe_mul]; rfl
      have hp : ∀ k : ℝ, Ideal.exp2 (k : EReal) = (((2 : ℝ) ^ k : ℝ) : EReal) := fun k => rfl
      have hlog : ∀ k : ℝ, (2 : ℝ) ^ k ≤ r ↔ k ≤ Real.log r * (Real.log 2)⁻¹ := fun k => by
        rw [← Real.log_le_log_iff (Real.rpow_pos_of_pos (by norm_num) k) hr0, Real.log_rpow (by norm_num), ← div_eq_mul_inv, le_div_iff₀ log2_pos]
      have h1 : ¬ Ideal.exp2 (((⌊Real.log r * (Real.log 2)⁻¹⌋ : ℝ) : EReal) + 1) ≤ (r : EReal) := by
        rw [← EReal.coe_one, ← EReal.coe_add, hp, EReal.coe_le_coe_iff, hlog]
        exact not_le.mpr (Int.lt_floor_add_one _)
      have h2 : ¬ (r : EReal) < Ideal.exp2 ((⌊Real.log r * (Real.log 2)⁻¹⌋ : ℝ) : EReal) := by
        rw [hp, EReal.coe_lt_coe_iff, not_lt, hlog]
        exact Int.floor_le _
      rw [e, if_neg h1, if_neg h2, add_zero, sub_zero]

end Cert.ScoresMath

end
-- ==== Proof.ScoresKernelIdealGather.lean ====
module

public import proofs.«01_k».proof.Proof.Gen.ScoresKernelIdeal.Loops

/-! The gather loop of `ScoresKernelIdeal`: the offsets of its accesses in closed form, one trip, and its invariant. -/

@[expose] public section

set_option maxRecDepth 8192
set_option maxHeartbeats 4000000

noncomputable section

namespace Cert.ScoresKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

/-- The word `a` is the `r`-th multiple of `u`, and `r < B`: how the unrolled gather spells its row and lane constants. -/
class Mult (u B : Nat) (a : BitVec 32) (r : outParam Nat) : Prop where
  eq : a = BitVec.ofNat 32 (u * r)
  lt : r < B

instance : Mult 16 8 0#32 0 := ⟨by decide, by decide⟩
instance : Mult 16 8 16#32 1 := ⟨by decide, by decide⟩
instance : Mult 16 8 32#32 2 := ⟨by decide, by decide⟩
instance : Mult 16 8 48#32 3 := ⟨by decide, by decide⟩
instance : Mult 16 8 64#32 4 := ⟨by decide, by decide⟩
instance : Mult 16 8 80#32 5 := ⟨by decide, by decide⟩
instance : Mult 16 8 96#32 6 := ⟨by decide, by decide⟩
instance : Mult 16 8 112#32 7 := ⟨by decide, by decide⟩
instance : Mult 8 2 0#32 0 := ⟨by decide, by decide⟩
instance : Mult 8 2 8#32 1 := ⟨by decide, by decide⟩
instance : Mult 128 4 0#32 0 := ⟨by decide, by decide⟩
instance : Mult 128 4 128#32 1 := ⟨by decide, by decide⟩
instance : Mult 128 4 256#32 2 := ⟨by decide, by decide⟩
instance : Mult 128 4 384#32 3 := ⟨by decide, by decide⟩

theorem k0_off1_eq : ∀ k : Fin k0_t1_loop.trips, k0_off1 k = ![8 * (k.val / 10), 512 * (k.val % 10)] := by decide +kernel
theorem k0_off2_eq : ∀ (k : Fin k0_t1_loop.trips) (r₁ : Fin 8) (r₂ : Fin 2),
    k0_off2 k (BitVec.ofNat 32 (16 * r₁.val)) (BitVec.ofNat 32 (8 * r₂.val))
      = ![128 * (k.val / 10) + 16 * r₁.val + 8 * r₂.val, 0] := by decide +kernel
theorem k0_off3_eq : ∀ (k : Fin k0_t1_loop.trips) (r₁ : Fin 8) (r₂ : Fin 2),
    k0_off3 k (BitVec.ofNat 32 (16 * r₁.val)) (BitVec.ofNat 32 (8 * r₂.val))
      = ![128 * (k.val / 10) + 16 * r₁.val + 8 * r₂.val, 128] := by decide +kernel
theorem k0_off4_eq : ∀ (k : Fin k0_t1_loop.trips) (r₁ : Fin 8) (r₂ : Fin 2) (r₃ : Fin 4),
    k0_off4 k (BitVec.ofNat 32 (16 * r₁.val)) (BitVec.ofNat 32 (8 * r₂.val)) (BitVec.ofNat 32 (128 * r₃.val))
      = ![128 * (k.val / 10) + 16 * r₁.val + 8 * r₂.val, 512 * (k.val % 10) + 128 * r₃.val] := by decide +kernel

instance (k : Fin k0_t1_loop.trips) : ClosedOff (k0_off1 k) := ⟨![8 * (k.val / 10), 512 * (k.val % 10)], k0_off1_eq k⟩
instance (k : Fin k0_t1_loop.trips) (a b : BitVec 32) (r s : Nat) [ha : Mult 16 8 a r] [hb : Mult 8 2 b s] :
    ClosedOff (k0_off2 k a b) :=
  ⟨![128 * (k.val / 10) + 16 * r + 8 * s, 0], by rw [ha.eq, hb.eq]; exact k0_off2_eq k ⟨r, ha.lt⟩ ⟨s, hb.lt⟩⟩
instance (k : Fin k0_t1_loop.trips) (a b : BitVec 32) (r s : Nat) [ha : Mult 16 8 a r] [hb : Mult 8 2 b s] :
    ClosedOff (k0_off3 k a b) :=
  ⟨![128 * (k.val / 10) + 16 * r + 8 * s, 128], by rw [ha.eq, hb.eq]; exact k0_off3_eq k ⟨r, ha.lt⟩ ⟨s, hb.lt⟩⟩
instance (k : Fin k0_t1_loop.trips) (a b d : BitVec 32) (r s t : Nat) [ha : Mult 16 8 a r] [hb : Mult 8 2 b s]
    [hd : Mult 128 4 d t] : ClosedOff (k0_off4 k a b d) :=
  ⟨![128 * (k.val / 10) + 16 * r + 8 * s, 512 * (k.val % 10) + 128 * t],
    by rw [ha.eq, hb.eq, hd.eq]; exact k0_off4_eq k ⟨r, ha.lt⟩ ⟨s, hb.lt⟩ ⟨t, hd.lt⟩⟩

/-! ### `k0_t1_loop`: the generated invariant (classifier: affine) -/

/-- One trip's resources: what the region reads (arg3, arg4) at its contents, what it writes (arg11)
   at any. -/
abbrev Trip_k0_t1 (c : Dev nD) (arg3 : Memref sig .tc .vmem S80x5120 .i32) (arg4 : Memref sig .tc .vmem S1280x256 .i32) (arg11 : Memref sig .tc .vmem S1280x5120 .i32) (X_arg3 : BufTy.Contents (Elt F) arg3.view.ty) (X_arg4 : BufTy.Contents (Elt F) arg4.view.ty) (f_arg11 : BufTy.Contents (Elt F) arg11.view.ty) : sProp 𝕄G :=
  iprop((arg3.view.loc (c : Thread nD τ) ↦[arg3.view.set]{fullShare} X_arg3) ∗ (arg4.view.loc (c : Thread nD τ) ↦[arg4.view.set]{fullShare} X_arg4) ∗ (arg11.view.loc (c : Thread nD τ) ↦[arg11.view.set]{fullShare} f_arg11))

/-- ONE TRIP of `k0_t1_loop` at a symbolic `k`, run by `sl_exec` (its rectangles' offsets closed
   forms of `k`, their geometry linear arithmetic): the pieces it writes into arg11 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (k : Fin k0_t1_loop.trips) :
    { L_arg11 : List (View.Piece (Elt F) S1280x5120 .i32) // ∀ (E : Set ℕ) (f_arg11 : BufTy.Contents (Elt F) arg11.view.ty),
      Trip_k0_t1 (F := F) c arg3 arg4 arg11 X_arg3 X_arg4 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 k0_h1 k PUnit.unit)
          (fun _ => Trip_k0_t1 (F := F) c arg3 arg4 arg11 X_arg3 X_arg4 (arg11.view.writes (Elt F) f_arg11 L_arg11)) } := by
  have hk : k.val < 100 := Nat.lt_of_lt_of_le k.isLt k0_t1_abs.2.1
  refine ⟨?_, fun E f_arg11 => ?run⟩
  case run =>
    unfold k0_t1_body
    iintro ⟨HR_arg3, HR_arg4, HW_arg11⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (k : Fin k0_t1_loop.trips) : List (View.Piece (Elt F) S1280x5120 .i32) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (k : ℕ) (prev : List (View.Piece (Elt F) S1280x5120 .i32)) : List (View.Piece (Elt F) S1280x5120 .i32) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 ⟨k, h⟩) ++ prev
  else prev

/-- The pieces of the trips before `k` (last first), per written memref. -/
def pb_k0_t1 (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) : ℕ → List (View.Piece (Elt F) S1280x5120 .i32)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k (pb_k0_t1 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k)

theorem pb_k0_t1_succ (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k.val) := by
  rw [pb_k0_t1.eq_2]; unfold pb_k0_t1Step; exact dif_pos k.isLt

/-- THE INVARIANT before trip `k`: arg3, arg4 read at `X_·`; arg11 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (G_arg11 : BufTy.Contents (Elt F) arg11.view.ty) (k : ℕ) (_u : PUnit) : sProp 𝕄G :=
  iprop((arg3.view.loc (c : Thread nD τ) ↦[arg3.view.set]{fullShare} X_arg3) ∗ (arg4.view.loc (c : Thread nD τ) ↦[arg4.view.set]{fullShare} X_arg4) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 k0_h1 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 G_arg11
  step k acc := by
    iintro ⟨HR_arg3, HR_arg4, ⟨%f_arg11, HW_arg11, %h_arg11⟩⟩
    iapply (wp_wand_r Idealize.ShloMosaic.frame (wpE (defs₀ (F := F)) 𝒱 (c : Thread nD τ) bd) E)
    isplitl [HR_arg3 HR_arg4 HW_arg11]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k).2 E f_arg11)
      isplitl [HR_arg3]; · iexact HR_arg3
      isplitl [HR_arg4]; · iexact HR_arg4
      iexact HW_arg11
    · iintro %_ ⟨HR_arg3, HR_arg4, HW_arg11⟩
      isplitl [HR_arg3]; · iexact HR_arg3
      isplitl [HR_arg4]; · iexact HR_arg4
      rw [pb_k0_t1_succ]
      iexists _; isplitl [HW_arg11]; · iexact HW_arg11
      ipureintro; rw [h_arg11, ← View.writes_append]

end Cert.ScoresKernelIdeal.Gen

end
-- ==== Proof.ScoresKernelIdealKit.lean ====
module

public import proofs.«01_k».proof.Proof.Gen.ScoresKernelIdeal.Launch
public import proofs.«01_k».proof.Proof.Gen.ScoresKernelIdeal.Skeleton
public import proofs.«01_k».proof.Proof.Gen.ScoresKernelIdeal.Loops
public import proofs.«01_k».proof.Proof.Gen.ScoresKernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.ScoresKernelIdealGather

/-! The launch of `ScoresKernelIdeal` up to its call, the blocks of its windows and the frame claim off a frame run. -/

@[expose] public section

set_option maxRecDepth 16384

noncomputable section

namespace Cert.ScoresKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ScoresKernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 5) — by arithmetic of the point. -/
theorem hcond0_0 : ∀ t : Fin cfg0.N, cond0_0 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

/-! ## The kernel body on any staging memrefs: a subtype the run finds -/

/-- One staging buffer of output window 5, through which its contents are stated (`View.read_writes_of_cover`: the
    choice does not matter). -/
abbrev VO0_5 : View sig .tc .vmem S1x256x1 .f32 := (Memref.whole cc0_stg5_0 : Memref sig .tc .vmem S1x256x1 .f32).view
/-- One staging buffer of output window 6, through which its contents are stated (`View.read_writes_of_cover`: the
    choice does not matter). -/
abbrev VO0_6 : View sig .tc .vmem S1x256x5120 .bf16 := (Memref.whole cc0_stg6_0 : Memref sig .tc .vmem S1x256x5120 .bf16).view
/-- One staging buffer of output window 7, through which its contents are stated (`View.read_writes_of_cover`: the
    choice does not matter). -/
abbrev VO0_7 : View sig .tc .vmem S1x256x2560 .fp8e4m3 := (Memref.whole cc0_stg7_0 : Memref sig .tc .vmem S1x256x2560 .fp8e4m3).view
/-- One staging buffer of output window 8, through which its contents are stated (`View.read_writes_of_cover`: the
    choice does not matter). -/
abbrev VO0_8 : View sig .tc .vmem S1x256x1 .f32 := (Memref.whole cc0_stg8_0 : Memref sig .tc .vmem S1x256x1 .f32).view
/-- Each window's current staging memref at point `t`, spelled as the pipeline passes it (`bodyAt0`), and its wholeness. -/
abbrev ms0_0 (t : Fin cfg0.N) : Memref sig .tc .vmem S1x256x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x5120 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x5120 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x2560 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1280x5120 .i32 := Memref.whole cc0_scratch0
abbrev scM0_1 : Memref sig .tc .vmem S256x5120 .f32 := Memref.whole cc0_scratch1
abbrev scM0_2 : Memref sig .tc .vmem S256x2560 .bf16 := Memref.whole cc0_scratch2
/-- The scratch `arg11` the kernel carries between points, as a view: what it holds is stated through it. -/
abbrev VS0_0 : View sig .tc .vmem S1280x5120 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.ScoresKernelIdeal.Gen

end
-- ==== Proof.ScoresKernelIdealSteps.lean ====
module

public import proofs.«01_k».proof.Proof.ScoresKernelIdealKit

public import Idealize.ShloMosaic.Lib.Pointwise
public import Idealize.ShloMosaic.Lib.WritesUnit
public import Idealize.ShloMosaic.Lib.VecWindow
public import Idealize.ShloMosaic.Lib.Pipeline.ValueKit

/-! The three column loops of the kernel of `ScoresKernelIdeal` as values: what each leaves in its buffer and what it carries, chunk by chunk of 512 columns. -/

@[expose] public section

set_option maxRecDepth 16384

noncomputable section

namespace Cert.ScoresKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Stores made chunk by chunk along one axis -/

section Chunks

variable {sig' : RefSig} {κ : Kind} {sp : Space} {s : Shape} {e : EltTy} {Val : EltTy → Type}
variable (v : View sig' κ sp s e) (f : v.ty.Contents Val) {T : ℕ} (L : ℕ → List (View.Piece Val s e)) (off : Fin T → Fin s.rank → ℕ) (size : Fin s.rank → ℕ)
  (inb : ∀ k a, off k a + size a ≤ s.size a) (w : (k : Fin T) → (Rect.unit (off k) size (inb k)).shape.Idx → Val e)
  (h0 : L 0 = []) (hs : ∀ k : Fin T, L (k.val + 1) = ⟨Rect.unit (off k) size (inb k), w k⟩ :: L k.val)
  (ax : Fin s.rank) (W : ℕ) (hoff : ∀ k, off k ax = W * k.val) (hsz : size ax = W)

include h0 hs hoff hsz in
/-- What lies past the chunks stored so far is as it was. -/
theorem read_chunks_past : ∀ n, n ≤ T → ∀ y : s.Idx, W * n ≤ (y ax).val → v.read Val (v.writes Val f (L n)) y = v.read Val f y
  | 0, _, y, _ => by rw [h0]; rfl
  | n + 1, hn, y, hy => by
    rw [hs ⟨n, hn⟩, View.read_writes_cons_unit_of_not_mem v f (inb ⟨n, hn⟩) (w ⟨n, hn⟩) (L n) y rfl ax (Or.inr (by
      rw [hoff, hsz]; show W * n + W ≤ _; rw [Nat.mul_succ] at hy; exact hy))]
    exact read_chunks_past n (by omega) y (by rw [Nat.mul_succ] at hy; omega)

include hs hoff hsz in
/-- A chunk stored holds what was stored. -/
theorem read_chunks : ∀ n, n ≤ T → ∀ (k : Fin T), k.val < n → ∀ (y : s.Idx) (x : (Rect.unit (off k) size (inb k)).shape.Idx),
    (∀ a, (y a).val = off k a + (x a).val) → v.read Val (v.writes Val f (L n)) y = w k x
  | 0, _, _, hk, _, _, _ => absurd hk (Nat.not_lt_zero _)
  | n + 1, hn, k, hk, y, x, hx => by
    rw [hs ⟨n, hn⟩]
    by_cases hkn : k.val = n
    · obtain rfl : k = ⟨n, hn⟩ := Fin.ext hkn
      exact View.read_writes_cons_unit_of_mem v f (inb ⟨n, hn⟩) (w ⟨n, hn⟩) (L n) y x rfl hx
    · have hlt : (x ax).val < size ax := (x ax).isLt
      have hy := hx ax
      rw [View.read_writes_cons_unit_of_not_mem v f (inb ⟨n, hn⟩) (w ⟨n, hn⟩) (L n) y rfl ax (Or.inl (by
        rw [hoff] at hy ⊢; rw [hsz] at hlt
        have : W * (k.val + 1) ≤ W * n := Nat.mul_le_mul_left _ (by omega)
        rw [Nat.mul_succ] at this
        show _ < W * n; omega))]
      exact read_chunks n (by omega) k (by omega) y x hx

end Chunks

/-! ## The chunks' offsets -/

theorem off5_eq : ∀ k : Fin k0_t2_loop.trips, k0_off5 k = ![0, 512 * k.val] := by decide +kernel
theorem off6_eq : ∀ k : Fin k0_t2_loop.trips, k0_off6 k = ![0, 0, 512 * k.val] := by decide +kernel
theorem off7_eq : ∀ k : Fin k0_t2_loop.trips, k0_off7 k = ![0, 512 * k.val] := by decide +kernel
theorem off8_eq : ∀ k : Fin k0_t3_loop.trips, k0_off8 k = ![0, 512 * k.val] := by decide +kernel
theorem off9_eq : ∀ k : Fin k0_t4_loop.trips, k0_off9 k = ![0, 512 * k.val] := by decide +kernel
theorem off10_eq : ∀ k : Fin k0_t4_loop.trips, k0_off10 k = ![0, 0, 512 * k.val] := by decide +kernel

theorem trips2 : k0_t2_loop.trips = 10 := by decide +kernel
theorem trips3 : k0_t3_loop.trips = 10 := by decide +kernel
theorem trips4 : k0_t4_loop.trips = 10 := by decide +kernel

/-! ## The values -/

/-- The 512 columns of chunk `n`. -/
def colD (D : Vec F S1280x5120 .i32) (n : ℕ) : Vec F S1280x512 .i32 := fun x => D (ix2 (n0 := 1280) (n1 := 5120) (x 0) ⟨(512 * n + (x 1).val) % 5120, Nat.mod_lt _ (by decide)⟩)
def colM (x4 : Vec F S1x256x5120 .i8) (n : ℕ) : Vec F S1x256x512 .i8 := fun x => x4 (ix3 (n0 := 1) (n1 := 256) (n2 := 5120) (x 0) (x 1) ⟨(512 * n + (x 2).val) % 5120, Nat.mod_lt _ (by decide)⟩)

/-- The masked scores of chunk `n`, and the running row maximum before it. -/
def scs (v35 : FVec F S256x1 .f32) (q : Vec F S256x2560 .bf16) (D : Vec F S1280x5120 .i32) (x4 : Vec F S1x256x5120 .i8) (n : ℕ) : FVec F S256x512 .f32 :=
  k0_pay260 v35 (colD D n) q (colM x4 n)
def mx (v35 : FVec F S256x1 .f32) (q : Vec F S256x2560 .bf16) (D : Vec F S1280x5120 .i32) (x4 : Vec F S1x256x5120 .i8) : ℕ → FVec F S256x1 .f32
  | 0 => k0_pay258
  | n + 1 => k0_pay261 v35 (mx v35 q D x4 n) (colD D n) q (colM x4 n)

def f3 (n : ℕ) : Fin k0_t3_loop.trips := ⟨n % 10, by rw [trips3]; exact Nat.mod_lt _ (by decide)⟩
def f4 (n : ℕ) : Fin k0_t4_loop.trips := ⟨n % 10, by rw [trips4]; exact Nat.mod_lt _ (by decide)⟩

/-- The running sum of the exponentials and of the label's score before chunk `n`. -/
def zs (v59 : Vec F S1x256x1 .i32) (v63 : FVec F S256x1 .f32) (P : ℕ → FVec F S256x512 .f32) : ℕ → FVec F S256x1 .f32 × FVec F S256x1 .f32
  | 0 => (k0_pay262, k0_pay262)
  | n + 1 => (k0_pay266 v63 (zs v59 v63 P n).1 (P n), k0_pay267 v59 v63 (f3 n) (zs v59 v63 P n).2 (P n))

/-- Ten chunks side by side. -/
def asm (P : ℕ → FVec F S256x512 .f32) : Vec F S256x5120 .f32 := fun y => P ((y 1).val / 512) (ix2 (n0 := 256) (n1 := 512) (y 0) ⟨(y 1).val % 512, Nat.mod_lt _ (by decide)⟩)
def asm3 (P : ℕ → FVec F S1x256x512 .bf16) : Vec F S1x256x5120 .bf16 := fun y => P ((y 2).val / 512) (ix3 (n0 := 1) (n1 := 256) (n2 := 512) (y 0) (y 1) ⟨(y 2).val % 512, Nat.mod_lt _ (by decide)⟩)

section

variable (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole)
variable (v35 : FVec F S256x1 .f32) (v38 : FVec F S256x1 .f32) (v39 : FVec F S256x2560 .f32)

theorem hz2 : (![0, 0] : Fin 2 → Nat) = fun _ => 0 := funext fun a => by fin_cases a <;> rfl
theorem hz3 : (![0, 0, 0] : Fin 3 → Nat) = fun _ => 0 := funext fun a => by fin_cases a <;> rfl

theorem readAt_colD (D : Vec F S1280x5120 .i32) (k : Fin k0_t2_loop.trips) :
    arg11.view.readAt (Elt F) (Rect.unit (s := S1280x5120) (k0_off5 k) S1280x512.size (k0_off5_inb k)).toLoadRect (harg11.unread D) = colD D k.val := by
  have hk : k.val < 10 := lt_of_lt_of_eq k.isLt trips2
  rw [View.readAt_eq_ld, harg11.read_unread]
  funext x
  refine congrArg D (funext fun a => Fin.ext ?_)
  have h := off5_eq k
  fin_cases a
  · show k0_off5 k 0 + 1 * (x 0).val = (x 0).val
    have e : k0_off5 k 0 = 0 := congrFun h 0
    omega
  · show k0_off5 k 1 + 1 * (x 1).val = (512 * k.val + (x 1).val) % 5120
    have : (x 1).val < 512 := (x 1).isLt
    have e : k0_off5 k 1 = 512 * k.val := congrFun h 1
    omega

theorem readAt_colM (x4 : Vec F S1x256x5120 .i8) (k : Fin k0_t2_loop.trips) :
    arg6.view.readAt (Elt F) (Rect.unit (s := S1x256x5120) (k0_off6 k) S1x256x512.size (k0_off6_inb k)).toLoadRect (harg6.unread x4) = colM x4 k.val := by
  have hk : k.val < 10 := lt_of_lt_of_eq k.isLt trips2
  rw [View.readAt_eq_ld, harg6.read_unread]
  funext x
  refine congrArg x4 (funext fun a => Fin.ext ?_)
  have h := off6_eq k
  fin_cases a
  · show k0_off6 k 0 + 1 * (x 0).val = (x 0).val
    have e : k0_off6 k 0 = 0 := congrFun h 0
    omega
  · show k0_off6 k 1 + 1 * (x 1).val = (x 1).val
    have e : k0_off6 k 1 = 0 := congrFun h 1
    omega
  · show k0_off6 k 2 + 1 * (x 2).val = (512 * k.val + (x 2).val) % 5120
    have : (x 2).val < 512 := (x 2).isLt
    have e : k0_off6 k 2 = 512 * k.val := congrFun h 2
    omega

theorem trip2 (X6 : BufTy.Contents (Elt F) arg6.view.ty) (X11 : BufTy.Contents (Elt F) arg11.view.ty) (X13 : BufTy.Contents (Elt F) arg13.view.ty) (k : Fin k0_t2_loop.trips) (acc : FVec F S256x1 .f32) :
    tripR_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 X6 X11 X13 k acc
      = k0_pay261 v35 acc (arg11.view.readAt (Elt F) (Rect.unit (s := S1280x5120) (k0_off5 k) S1280x512.size (k0_off5_inb k)).toLoadRect X11)
          (arg13.view.readAt (Elt F) (Rect.unit (s := S256x2560) ![0, 0] S256x2560.size inb_S256x2560_S256x2560_0_0).toLoadRect X13)
          (arg6.view.readAt (Elt F) (Rect.unit (s := S1x256x5120) (k0_off6 k) S1x256x512.size (k0_off6_inb k)).toLoadRect X6) := by sl_kernel_rfl

theorem trip2L (X6 : BufTy.Contents (Elt F) arg6.view.ty) (X11 : BufTy.Contents (Elt F) arg11.view.ty) (X13 : BufTy.Contents (Elt F) arg13.view.ty) (k : Fin k0_t2_loop.trips) (acc : FVec F S256x1 .f32) :
    tripL_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 X6 X11 X13 k acc
      = [⟨Rect.unit (s := S256x5120) (k0_off7 k) S256x512.size (k0_off7_inb k), k0_pay260 v35 (arg11.view.readAt (Elt F) (Rect.unit (s := S1280x5120) (k0_off5 k) S1280x512.size (k0_off5_inb k)).toLoadRect X11)
          (arg13.view.readAt (Elt F) (Rect.unit (s := S256x2560) ![0, 0] S256x2560.size inb_S256x2560_S256x2560_0_0).toLoadRect X13)
          (arg6.view.readAt (Elt F) (Rect.unit (s := S1x256x5120) (k0_off6 k) S1x256x512.size (k0_off6_inb k)).toLoadRect X6)⟩] := by sl_kernel_rfl

theorem trip3 (v59 : Vec F S1x256x1 .i32) (v63 : FVec F S256x1 .f32) (f : BufTy.Contents (Elt F) arg12.view.ty) (k : Fin k0_t3_loop.trips) (acc : FVec F S256x1 .f32 × FVec F S256x1 .f32) :
    tripR_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 k acc f
      = (k0_pay266 v63 acc.1 (arg12.view.readAt (Elt F) (Rect.unit (s := S256x5120) (k0_off8 k) S256x512.size (k0_off8_inb k)).toLoadRect f),
         k0_pay267 v59 v63 k acc.2 (arg12.view.readAt (Elt F) (Rect.unit (s := S256x5120) (k0_off8 k) S256x512.size (k0_off8_inb k)).toLoadRect f)) := by sl_kernel_rfl

theorem trip3L (v59 : Vec F S1x256x1 .i32) (v63 : FVec F S256x1 .f32) (f : BufTy.Contents (Elt F) arg12.view.ty) (k : Fin k0_t3_loop.trips) (acc : FVec F S256x1 .f32 × FVec F S256x1 .f32) :
    tripL_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 k acc f
      = [⟨Rect.unit (s := S256x5120) (k0_off8 k) S256x512.size (k0_off8_inb k), k0_pay265 v63 (arg12.view.readAt (Elt F) (Rect.unit (s := S256x5120) (k0_off8 k) S256x512.size (k0_off8_inb k)).toLoadRect f)⟩] := by sl_kernel_rfl

theorem trip4L (v60 : IVec S256x1 32) (v66 : FVec F S256x1 .f32) (f : BufTy.Contents (Elt F) arg12.view.ty) (k : Fin k0_t4_loop.trips) :
    tripL_k0_t4 (F := F) Variants.none c none i arg2 harg2 arg3 harg3 arg4 harg4 arg5 harg5 arg6 harg6 arg7 harg7 arg8 harg8 arg9 harg9 arg10 harg10 arg11 harg11 arg12 harg12 arg13 harg13 v60 v66 f k
      = [⟨Rect.unit (s := S1x256x5120) (k0_off10 k) S1x256x512.size (k0_off10_inb k), k0_pay2 v60 v66 k (arg12.view.readAt (Elt F) (Rect.unit (s := S256x5120) (k0_off9 k) S256x512.size (k0_off9_inb k)).toLoadRect f)⟩] := by sl_kernel_rfl

/-! ## The loops as values -/

section

variable (x4 : Vec F S1x256x5120 .i8) (D : Vec F S1280x5120 .i32) (q : Vec F S256x2560 .bf16) (X13 : BufTy.Contents (Elt F) arg13.view.ty)
  (hq : arg13.view.readAt (Elt F) (Rect.unit (s := S256x2560) ![0, 0] S256x2560.size inb_S256x2560_S256x2560_0_0).toLoadRect X13 = q)

include hq in
theorem st2_fst : ∀ n, n ≤ k0_t2_loop.trips →
    (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 n).1 = mx v35 q D x4 n
  | 0, _ => rfl
  | n + 1, hn => by
    rw [st_k0_t2_succ (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 ⟨n, hn⟩]
    show tripR_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 ⟨n, hn⟩ _ = _
    rw [trip2, readAt_colD, readAt_colM, hq, st2_fst n (by omega)]
    rfl

include hq in
theorem st2_snd (k : Fin k0_t2_loop.trips) :
    (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 (k.val + 1)).2
      = ⟨Rect.unit (s := S256x5120) (k0_off7 k) S256x512.size (k0_off7_inb k), scs v35 q D x4 k.val⟩
        :: (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 k.val).2 := by
  rw [st_k0_t2_succ (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 k]
  show tripL_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k _ ++ _ = _
  rw [trip2L, readAt_colD, readAt_colM, hq]
  rfl

include hq in
/-- After the first column loop the buffer holds the masked scores. -/
theorem after2 (f12 : BufTy.Contents (Elt F) arg12.view.ty) :
    arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 k0_t2_loop.trips).2
      = harg12.unread (asm (scs v35 q D x4)) := by
  refine harg12.eq_unread (funext fun y => ?_)
  have hy : (y 1).val < 5120 := (y 1).isLt
  refine read_chunks arg12.view f12 (fun n => (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) X13 k0_pay258 n).2)
    (fun k => k0_off7 k) S256x512.size k0_off7_inb (fun k => scs v35 q D x4 k.val)
    (fun k => st2_snd c i arg2 harg2 arg3 harg3 arg4 harg4 arg5 harg5 arg6 harg6 arg7 harg7 arg8 harg8 arg9 harg9 arg10 harg10 arg11 harg11 arg12 harg12 arg13 harg13 v35 v38 v39 x4 D q X13 hq k) 1 512 (fun k => by rw [off7_eq k]; rfl) rfl
    k0_t2_loop.trips le_rfl ⟨(y 1).val / 512, by rw [trips2]; omega⟩ (by show (y 1).val / 512 < k0_t2_loop.trips; rw [trips2]; omega) y
    (ix2 (n0 := 256) (n1 := 512) (y 0) ⟨(y 1).val % 512, Nat.mod_lt _ (by decide)⟩) (fun a => ?_)
  have h := off7_eq ⟨(y 1).val / 512, by rw [trips2]; omega⟩
  fin_cases a
  · show (y 0).val = k0_off7 _ 0 + (y 0).val
    rw [h]; show _ = 0 + _; omega
  · show (y 1).val = k0_off7 _ 1 + (y 1).val % 512
    rw [h]; show _ = 512 * ((y 1).val / 512) + _; omega

end

/-- A chunk of the buffer is the chunk stored there. -/
theorem read_asm (off : Fin 2 → ℕ) (inb : ∀ a, off a + S256x512.size a ≤ S256x5120.size a) (k : ℕ) (hk : k < 10) (h : off = ![0, 512 * k])
    (P : ℕ → FVec F S256x512 .f32) (f : BufTy.Contents (Elt F) arg12.view.ty)
    (hf : ∀ y : S256x5120.Idx, 512 * k ≤ (y 1).val → (y 1).val < 512 * k + 512 → arg12.view.read (Elt F) f y = asm P y) :
    arg12.view.readAt (Elt F) (Rect.unit (s := S256x5120) off S256x512.size inb).toLoadRect f = P k := by
  rw [View.readAt_eq_ld]
  funext x
  have hx0 : (x 0).val < 256 := (x 0).isLt
  have hx1 : (x 1).val < 512 := (x 1).isLt
  have e1 : (((Rect.unit (s := S256x5120) off S256x512.size inb).idx x) 1).val = 512 * k + (x 1).val := by
    show off 1 + 1 * (x 1).val = _
    have e : off 1 = 512 * k := congrFun h 1
    omega
  have e0 : (((Rect.unit (s := S256x5120) off S256x512.size inb).idx x) 0).val = (x 0).val := by
    show off 0 + 1 * (x 0).val = _
    have e : off 0 = 0 := congrFun h 0
    omega
  show arg12.view.read (Elt F) f ((Rect.unit (s := S256x5120) off S256x512.size inb).idx x) = _
  rw [hf _ (by rw [e1]; omega) (by rw [e1]; omega)]
  show P ((((Rect.unit (s := S256x5120) off S256x512.size inb).idx x) 1).val / 512) _ = _
  rw [show (((Rect.unit (s := S256x5120) off S256x512.size inb).idx x) 1).val / 512 = k by rw [e1]; omega]
  refine congrArg (P k) (funext fun a => Fin.ext ?_)
  fin_cases a
  · exact e0
  · show (((Rect.unit (s := S256x5120) off S256x512.size inb).idx x) 1).val % 512 = (x 1).val
    rw [e1]; omega

section

variable (v59 : Vec F S1x256x1 .i32) (v63 : FVec F S256x1 .f32) (P : ℕ → FVec F S256x512 .f32)

/-- Both facts of a trip of the second column loop, from the chunk it finds. -/
theorem st3_step (k : Fin k0_t3_loop.trips)
    (h : arg12.view.readAt (Elt F) (Rect.unit (s := S256x5120) (k0_off8 k) S256x512.size (k0_off8_inb k)).toLoadRect
      (arg12.view.writes (Elt F) (harg12.unread (asm P)) (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).2) = P k.val) :
    (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) (k.val + 1))
      = ((k0_pay266 v63 (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).1.1 (P k.val),
          k0_pay267 v59 v63 k (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).1.2 (P k.val)),
         ⟨Rect.unit (s := S256x5120) (k0_off8 k) S256x512.size (k0_off8_inb k), k0_pay265 v63 (P k.val)⟩
          :: (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).2) := by
  rw [st_k0_t3_succ (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k]
  refine Prod.ext ?_ ?_
  · show tripR_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 k _ _ = _
    rw [trip3, h]
  · show tripL_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 k _ _ ++ _ = _
    rw [trip3L, h]; rfl

/-- Every trip of the second column loop finds its chunk as the first loop left it. -/
theorem st3_find : ∀ n, n ≤ k0_t3_loop.trips → ∀ y : S256x5120.Idx, 512 * n ≤ (y 1).val →
    arg12.view.read (Elt F) (arg12.view.writes (Elt F) (harg12.unread (asm P)) (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).2) y = asm P y
  | 0, _, y, _ => by
    show arg12.view.read (Elt F) (harg12.unread (asm P)) y = _
    rw [harg12.read_unread]
  | n + 1, hn, y, hy => by
    have hn10 : n < 10 := lt_of_lt_of_eq hn trips3
    have h := read_asm arg12 (k0_off8 ⟨n, hn⟩) (k0_off8_inb ⟨n, hn⟩) n hn10 (off8_eq ⟨n, hn⟩) P _ (fun y h1 _ => st3_find n (by omega) y h1)
    rw [st3_step c i arg2 harg2 arg3 harg3 arg4 harg4 arg5 harg5 arg6 harg6 arg7 harg7 arg8 harg8 arg9 harg9 arg10 harg10 arg11 harg11 arg12 harg12 arg13 harg13 v35 v38 v39 v59 v63 P ⟨n, hn⟩ h,
      View.read_writes_cons_unit_of_not_mem arg12.view _ (k0_off8_inb ⟨n, hn⟩) _ _ y (off8_eq ⟨n, hn⟩) 1 (Or.inr (by show 512 * n + 512 ≤ _; omega))]
    exact st3_find n (by omega) y (by omega)

theorem st3_chunk (k : Fin k0_t3_loop.trips) :
    arg12.view.readAt (Elt F) (Rect.unit (s := S256x5120) (k0_off8 k) S256x512.size (k0_off8_inb k)).toLoadRect
      (arg12.view.writes (Elt F) (harg12.unread (asm P)) (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k.val).2) = P k.val :=
  read_asm arg12 (k0_off8 k) (k0_off8_inb k) k.val (lt_of_lt_of_eq k.isLt trips3) (off8_eq k) P _ (fun y h1 _ => st3_find c i arg2 harg2 arg3 harg3 arg4 harg4 arg5 harg5 arg6 harg6 arg7 harg7 arg8 harg8 arg9 harg9 arg10 harg10 arg11 harg11 arg12 harg12 arg13 harg13 v35 v38 v39 v59 v63 P k.val k.isLt.le y h1)

theorem st3_fst : ∀ n, n ≤ k0_t3_loop.trips →
    (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).1 = zs v59 v63 P n
  | 0, _ => rfl
  | n + 1, hn => by
    rw [st3_step c i arg2 harg2 arg3 harg3 arg4 harg4 arg5 harg5 arg6 harg6 arg7 harg7 arg8 harg8 arg9 harg9 arg10 harg10 arg11 harg11 arg12 harg12 arg13 harg13 v35 v38 v39 v59 v63 P ⟨n, hn⟩ (st3_chunk c i arg2 harg2 arg3 harg3 arg4 harg4 arg5 harg5 arg6 harg6 arg7 harg7 arg8 harg8 arg9 harg9 arg10 harg10 arg11 harg11 arg12 harg12 arg13 harg13 v35 v38 v39 v59 v63 P ⟨n, hn⟩)]
    show (k0_pay266 v63 (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).1.1 _, k0_pay267 v59 v63 ⟨n, hn⟩ (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).1.2 _) = (_, _)
    rw [st3_fst n (by omega)]
    have : f3 n = ⟨n, hn⟩ := Fin.ext (Nat.mod_eq_of_lt (lt_of_lt_of_eq hn trips3))
    rw [this]

/-- After the second column loop the buffer holds the exponentials. -/
theorem after3 :
    arg12.view.writes (Elt F) (harg12.unread (asm P)) (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) k0_t3_loop.trips).2
      = harg12.unread (asm (fun n => k0_pay265 v63 (P n))) := by
  refine harg12.eq_unread (funext fun y => ?_)
  have hy : (y 1).val < 5120 := (y 1).isLt
  refine read_chunks arg12.view _ (fun n => (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 v59 v63 (harg12.unread (asm P)) (k0_pay262, k0_pay262) n).2)
    (fun k => k0_off8 k) S256x512.size k0_off8_inb (fun k => k0_pay265 v63 (P k.val))
    (fun k => by rw [st3_step c i arg2 harg2 arg3 harg3 arg4 harg4 arg5 harg5 arg6 harg6 arg7 harg7 arg8 harg8 arg9 harg9 arg10 harg10 arg11 harg11 arg12 harg12 arg13 harg13 v35 v38 v39 v59 v63 P k (st3_chunk c i arg2 harg2 arg3 harg3 arg4 harg4 arg5 harg5 arg6 harg6 arg7 harg7 arg8 harg8 arg9 harg9 arg10 harg10 arg11 harg11 arg12 harg12 arg13 harg13 v35 v38 v39 v59 v63 P k)]) 1 512 (fun k => by rw [off8_eq k]; rfl) rfl
    k0_t3_loop.trips le_rfl ⟨(y 1).val / 512, by rw [trips3]; omega⟩ (by show (y 1).val / 512 < k0_t3_loop.trips; rw [trips3]; omega) y
    (ix2 (n0 := 256) (n1 := 512) (y 0) ⟨(y 1).val % 512, Nat.mod_lt _ (by decide)⟩) (fun a => ?_)
  have h := off8_eq ⟨(y 1).val / 512, by rw [trips3]; omega⟩
  fin_cases a
  · show (y 0).val = k0_off8 _ 0 + (y 0).val
    rw [h]; show _ = 0 + _; omega
  · show (y 1).val = k0_off8 _ 1 + (y 1).val % 512
    rw [h]; show _ = 512 * ((y 1).val / 512) + _; omega

end

/-- After the third column loop the output holds the gradient of the scores. -/
theorem after4 (v60 : IVec S256x1 32) (v66 : FVec F S256x1 .f32) (P : ℕ → FVec F S256x512 .f32) (f8 : BufTy.Contents (Elt F) arg8.view.ty) :
    arg8.view.writes (Elt F) f8 (pb_k0_t4 (F := F) Variants.none c none i arg2 harg2 arg3 harg3 arg4 harg4 arg5 harg5 arg6 harg6 arg7 harg7 arg8 harg8 arg9 harg9 arg10 harg10 arg11 harg11 arg12 harg12 arg13 harg13 v60 v66 (harg12.unread (asm P)) k0_t4_loop.trips)
      = harg8.unread (asm3 (fun n => k0_pay2 v60 v66 (f4 n) (P n))) := by
  refine harg8.eq_unread (funext fun y => ?_)
  have hy : (y 2).val < 5120 := (y 2).isLt
  refine read_chunks arg8.view f8 (fun n => pb_k0_t4 (F := F) Variants.none c none i arg2 harg2 arg3 harg3 arg4 harg4 arg5 harg5 arg6 harg6 arg7 harg7 arg8 harg8 arg9 harg9 arg10 harg10 arg11 harg11 arg12 harg12 arg13 harg13 v60 v66 (harg12.unread (asm P)) n)
    (fun k => k0_off10 k) S1x256x512.size k0_off10_inb (fun k => k0_pay2 v60 v66 (f4 k.val) (P k.val))
    (fun k => ?_) 2 512 (fun k => by rw [off10_eq k]; rfl) rfl
    k0_t4_loop.trips le_rfl ⟨(y 2).val / 512, by rw [trips4]; omega⟩ (by show (y 2).val / 512 < k0_t4_loop.trips; rw [trips4]; omega) y
    (ix3 (n0 := 1) (n1 := 256) (n2 := 512) (y 0) (y 1) ⟨(y 2).val % 512, Nat.mod_lt _ (by decide)⟩) (fun a => ?_)
  · have hk : f4 k.val = k := Fin.ext (Nat.mod_eq_of_lt (lt_of_lt_of_eq k.isLt trips4))
    show pb_k0_t4 (F := F) Variants.none c none i arg2 harg2 arg3 harg3 arg4 harg4 arg5 harg5 arg6 harg6 arg7 harg7 arg8 harg8 arg9 harg9 arg10 harg10 arg11 harg11 arg12 harg12 arg13 harg13 v60 v66 (harg12.unread (asm P)) (k.val + 1) = _
    rw [pb_k0_t4_succ, trip4L, hk, read_asm arg12 (k0_off9 k) (k0_off9_inb k) k.val (lt_of_lt_of_eq k.isLt trips4) (off9_eq k) P _ (fun y _ _ => by rw [harg12.read_unread])]
    rfl
  have h := off10_eq ⟨(y 2).val / 512, by rw [trips4]; omega⟩
  fin_cases a
  · show (y 0).val = k0_off10 _ 0 + (y 0).val
    rw [h]; show _ = 0 + _; omega
  · show (y 1).val = k0_off10 _ 1 + (y 1).val
    rw [h]; show _ = 0 + _; omega
  · show (y 2).val = k0_off10 _ 2 + (y 2).val % 512
    rw [h]; show _ = 512 * ((y 2).val / 512) + _; omega

end

end Cert.ScoresKernelIdeal.Gen

end
-- ==== Proof.ScoresKernelIdealRun.lean ====
module

public import proofs.«01_k».proof.Proof.ScoresKernelIdealSteps

/-! The body of the kernel of `ScoresKernelIdeal` run once: its three parts, and the whole body in both cases of its branch. -/

@[expose] public section

set_option maxRecDepth 16384

noncomputable section

namespace Cert.ScoresKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first part of the body where the documents' words are gathered. -/
theorem part51_A (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : k0_cond1 i = 1#1)
    (f2 : BufTy.Contents (Elt F) arg2.view.ty)
    (f3 : BufTy.Contents (Elt F) arg3.view.ty)
    (f4 : BufTy.Contents (Elt F) arg4.view.ty)
    (f11 : BufTy.Contents (Elt F) arg11.view.ty)
    (Q : (Σ' (v35 : FVec F S256x1 .f32) (v38 : FVec F S256x1 .f32), FVec F S256x2560 .f32) → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg11.view.loc (c : Thread nD τ) ↦[arg11.view.set]{fullShare} f11)
      ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg11.view.loc (c : Thread nD τ) ↦[arg11.view.set]{fullShare} (arg11.view.writes (Elt F) f11 (pb_k0_t1 (F := F) Variants.none c none i arg2 harg2 arg3 harg3 arg4 harg4 arg5 harg5 arg6 harg6 arg7 harg7 arg8 harg8 arg9 harg9 arg10 harg10 arg11 harg11 arg12 harg12 arg13 harg13 hc0 f3 f4 k0_t1_loop.trips))))
          -∗ Q ⟨k0_pay250 (arg2.view.readAt (Elt F) (Rect.unit (s := S1x256x2560) ![0, 0, 0] S1x256x2560.size inb_S1x256x2560_S1x256x2560_0_0_0).toLoadRect f2), k0_pay251 (arg2.view.readAt (Elt F) (Rect.unit (s := S1x256x2560) ![0, 0, 0] S1x256x2560.size inb_S1x256x2560_S1x256x2560_0_0_0).toLoadRect f2), k0_pay252 (arg2.view.readAt (Elt F) (Rect.unit (s := S1x256x2560) ![0, 0, 0] S1x256x2560.size inb_S1x256x2560_S1x256x2560_0_0_0).toLoadRect f2)⟩))
     ⊢ wp frame (wpE (defs₀ (F := F)) Variants.none c none) E (k0_part51 i arg2 harg2 arg3 harg3 arg4 harg4 arg5 harg5 arg6 harg6 arg7 harg7 arg8 harg8 arg9 harg9 arg10 harg10 arg11 harg11 arg12 harg12 arg13 harg13) Q := by
  simp only [k0_part51_eq_skeleton]; unfold k0_part51_skel
  iintro ⟨H2, H3, H4, H11, Hk⟩
  sl_exec (disch := first | sl_exact hc0)
  sl_step
  iapply Hk
  isplitl [H2]; · iexact H2
  isplitl [H3]; · iexact H3
  isplitl [H4]; · iexact H4
  iexact H11

/-- The first part of the body where the gathered words are kept. -/
theorem part51_B (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : ¬k0_cond1 i = 1#1)
    (f2 : BufTy.Contents (Elt F) arg2.view.ty)
    (Q : (Σ' (v35 : FVec F S256x1 .f32) (v38 : FVec F S256x1 .f32), FVec F S256x2560 .f32) → sProp 𝕄) :
    iprop((arg2.view.loc (c : Thread nD τ) ↦[arg2.view.set]{fullShare} f2) ∗ ((arg2.view.loc (c : Thread nD τ) ↦[arg2.view.set]{fullShare} f2) -∗ Q ⟨k0_pay250 (arg2.view.readAt (Elt F) (Rect.unit (s := S1x256x2560) ![0, 0, 0] S1x256x2560.size inb_S1x256x2560_S1x256x2560_0_0_0).toLoadRect f2), k0_pay251 (arg2.view.readAt (Elt F) (Rect.unit (s := S1x256x2560) ![0, 0, 0] S1x256x2560.size inb_S1x256x2560_S1x256x2560_0_0_0).toLoadRect f2), k0_pay252 (arg2.view.readAt (Elt F) (Rect.unit (s := S1x256x2560) ![0, 0, 0] S1x256x2560.size inb_S1x256x2560_S1x256x2560_0_0_0).toLoadRect f2)⟩))
     ⊢ wp frame (wpE (defs₀ (F := F)) Variants.none c none) E (k0_part51 i arg2 harg2 arg3 harg3 arg4 harg4 arg5 harg5 arg6 harg6 arg7 harg7 arg8 harg8 arg9 harg9 arg10 harg10 arg11 harg11 arg12 harg12 arg13 harg13) Q := by
  simp only [k0_part51_eq_skeleton]; unfold k0_part51_skel
  iintro ⟨H2, Hk⟩
  sl_exec (disch := first | sl_exact hc0)
  sl_step
  iapply Hk
  iexact H2

/-- The row's running sums after all the chunks, from the scale, the codes and the gathered words. -/
def sums (v35 : FVec F S256x1 .f32) (q : Vec F S256x2560 .bf16) (D : Vec F S1280x5120 .i32) (x3 : Vec F S1x256x1 .i32) (x4 : Vec F S1x256x5120 .i8) : FVec F S256x1 .f32 × FVec F S256x1 .f32 :=
  zs x3 (mx v35 q D x4 10) (scs v35 q D x4) 10

/-- Chunk `n` of the exponentials of the scores above the row's maximum. -/
def expo (v35 : FVec F S256x1 .f32) (q : Vec F S256x2560 .bf16) (D : Vec F S1280x5120 .i32) (x4 : Vec F S1x256x5120 .i8) (n : ℕ) : FVec F S256x512 .f32 :=
  k0_pay265 (mx v35 q D x4 10) (scs v35 q D x4 n)

theorem whole1 {κ : Kind} {sp : Space} (M : Memref sig κ sp S1x256x1 .i32) (hM : M.IsWhole) (x : Vec F S1x256x1 .i32) :
    M.view.readAt (Elt F) (Rect.unit (s := S1x256x1) ![0, 0, 0] S1x256x1.size inb_S1x256x1_S1x256x1_0_0_0).toLoadRect (hM.unread x) = x := by
  rw [View.readAt_eq_ld, hM.read_unread]; exact View.ld_unit_zero (S := S1x256x1) hz3 _ _

theorem wholeX {κ : Kind} {sp : Space} (M : Memref sig κ sp S1x256x2560 .bf16) (hM : M.IsWhole) (x : Vec F S1x256x2560 .bf16) :
    M.view.readAt (Elt F) (Rect.unit (s := S1x256x2560) ![0, 0, 0] S1x256x2560.size inb_S1x256x2560_S1x256x2560_0_0_0).toLoadRect (hM.unread x) = x := by
  rw [View.readAt_eq_ld, hM.read_unread]; exact View.ld_unit_zero (S := S1x256x2560) hz3 _ _

section

variable (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (v35 : FVec F S256x1 .f32) (v38 : FVec F S256x1 .f32) (v39 : FVec F S256x2560 .f32)
    (x3 : Vec F S1x256x1 .i32) (x4 : Vec F S1x256x5120 .i8) (D : Vec F S1280x5120 .i32) (f12 : BufTy.Contents (Elt F) arg12.view.ty)

theorem codes_read : arg13.view.readAt (Elt F) (Rect.unit (s := S256x2560) ![0, 0] S256x2560.size inb_S256x2560_S256x2560_0_0).toLoadRect (arg13.view.writes (Elt F) arg13.view.junk [⟨(Rect.unit (s := S256x2560) ![0, 0] S256x2560.size inb_S256x2560_S256x2560_0_0), k0_pay256 v38 v39⟩]) = k0_pay256 v38 v39 :=
  View.readAt_writes_full arg13.view arg13.view.junk inb_S256x2560_S256x2560_0_0 inb_S256x2560_S256x2560_0_0 _ []

theorem sums_eq : (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).1 = sums v35 (k0_pay256 v38 v39) D x3 x4 := by
  rw [after2 c i arg2 harg2 arg3 harg3 arg4 harg4 arg5 harg5 arg6 harg6 arg7 harg7 arg8 harg8 arg9 harg9 arg10 harg10 arg11 harg11 arg12 harg12 arg13 harg13 v35 v38 v39 x4 D (k0_pay256 v38 v39) _ (codes_read arg13 v38 v39) f12,
    st2_fst c i arg2 harg2 arg3 harg3 arg4 harg4 arg5 harg5 arg6 harg6 arg7 harg7 arg8 harg8 arg9 harg9 arg10 harg10 arg11 harg11 arg12 harg12 arg13 harg13 v35 v38 v39 x4 D (k0_pay256 v38 v39) _ (codes_read arg13 v38 v39) _ le_rfl, whole1 arg5 harg5 x3,
    st3_fst c i arg2 harg2 arg3 harg3 arg4 harg4 arg5 harg5 arg6 harg6 arg7 harg7 arg8 harg8 arg9 harg9 arg10 harg10 arg11 harg11 arg12 harg12 arg13 harg13 v35 v38 v39 x3 _ _ _ le_rfl, trips2]
  rfl

theorem expo_eq : arg12.view.writes (Elt F) f12 ((st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).2 ++ (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) = harg12.unread (asm (expo v35 (k0_pay256 v38 v39) D x4)) := by
  rw [View.writes_append, after2 c i arg2 harg2 arg3 harg3 arg4 harg4 arg5 harg5 arg6 harg6 arg7 harg7 arg8 harg8 arg9 harg9 arg10 harg10 arg11 harg11 arg12 harg12 arg13 harg13 v35 v38 v39 x4 D (k0_pay256 v38 v39) _ (codes_read arg13 v38 v39) f12,
    st2_fst c i arg2 harg2 arg3 harg3 arg4 harg4 arg5 harg5 arg6 harg6 arg7 harg7 arg8 harg8 arg9 harg9 arg10 harg10 arg11 harg11 arg12 harg12 arg13 harg13 v35 v38 v39 x4 D (k0_pay256 v38 v39) _ (codes_read arg13 v38 v39) _ le_rfl,
    after3 c i arg2 harg2 arg3 harg3 arg4 harg4 arg5 harg5 arg6 harg6 arg7 harg7 arg8 harg8 arg9 harg9 arg10 harg10 arg11 harg11 arg12 harg12 arg13 harg13 v35 v38 v39 _ _ _, trips2]
  rfl

end

/-- The second part of the body: the codes and their scale are stored, then the scores and their exponentials are left in
    the buffer `arg12`. -/
theorem part52 (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (v35 : FVec F S256x1 .f32) (v38 : FVec F S256x1 .f32) (v39 : FVec F S256x2560 .f32)
    (x3 : Vec F S1x256x1 .i32) (x4 : Vec F S1x256x5120 .i8) (D : Vec F S1280x5120 .i32)
    (f9 : BufTy.Contents (Elt F) arg9.view.ty)
    (f10 : BufTy.Contents (Elt F) arg10.view.ty)
    (f12 : BufTy.Contents (Elt F) arg12.view.ty)
    (f13 : BufTy.Contents (Elt F) arg13.view.ty)
    (Q : (Σ' (v60 : IVec S256x1 32) (v66_0 : FVec F S256x1 .f32), FVec F S256x1 .f32) → sProp 𝕄) :
    iprop((arg5.view.loc (c : Thread nD τ) ↦[arg5.view.set]{fullShare} (harg5.unread x3)) ∗ (arg6.view.loc (c : Thread nD τ) ↦[arg6.view.set]{fullShare} (harg6.unread x4)) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (harg11.unread D)) ∗ (arg12.view.loc (c : Thread nD τ) ↦[arg12.view.set]{fullShare} f12) ∗ (arg13.view.loc (c : Thread nD τ) ↦[arg13.view.set]{fullShare} f13)
      ∗ (∀ r, iprop(⌜r = ⟨k0_pay257 x3, (sums v35 (k0_pay256 v38 v39) D x3 x4).1, k0_pay268 (sums v35 (k0_pay256 v38 v39) D x3 x4).1 (sums v35 (k0_pay256 v38 v39) D x3 x4).2⟩⌝
            ∗ (arg5.view.loc (c : Thread nD τ) ↦[arg5.view.set]{fullShare} (harg5.unread x3)) ∗ (arg6.view.loc (c : Thread nD τ) ↦[arg6.view.set]{fullShare} (harg6.unread x4)) ∗ (∃ f, (arg9.view.loc (c : Thread nD τ) ↦[arg9.view.set]{fullShare} (arg9.view.writes (Elt F) f [⟨(Rect.unit (s := S1x256x2560) ![0, 0, 0] S1x256x2560.size inb_S1x256x2560_S1x256x2560_0_0_0), k0_pay254 v38 v39⟩]))) ∗ (∃ f, (arg10.view.loc (c : Thread nD τ) ↦[arg10.view.set]{fullShare} (arg10.view.writes (Elt F) f [⟨(Rect.unit (s := S1x256x1) ![0, 0, 0] S1x256x1.size inb_S1x256x1_S1x256x1_0_0_0), k0_pay255 v35⟩])))
            ∗ (arg11.view.loc (c : Thread nD τ) ↦[arg11.view.set]{fullShare} (harg11.unread D)) ∗ (∃ f, (arg12.view.loc (c : Thread nD τ) ↦[arg12.view.set]{fullShare} f) ∗ ⌜f = harg12.unread (asm (expo v35 (k0_pay256 v38 v39) D x4))⌝) ∗ (∃ f, (arg13.view.loc (c : Thread nD τ) ↦[arg13.view.set]{fullShare} f)))
          -∗ Q r))
     ⊢ wp frame (wpE (defs₀ (F := F)) Variants.none c none) E (k0_part52 i arg2 harg2 arg3 harg3 arg4 harg4 arg5 harg5 arg6 harg6 arg7 harg7 arg8 harg8 arg9 harg9 arg10 harg10 arg11 harg11 arg12 harg12 arg13 harg13 v35 v38 v39) Q := by
  simp only [k0_part52_eq_skeleton]; unfold k0_part52_skel
  iintro ⟨H5, H6, H9, H10, H11, H12, H13, Hk⟩
  sl_exec
  sl_step
  iapply Hk
  isplitr
  · ipureintro
    refine Eq.trans (b := ⟨k0_pay257 (arg5.view.readAt (Elt F) (Rect.unit (s := S1x256x1) ![0, 0, 0] S1x256x1.size inb_S1x256x1_S1x256x1_0_0_0).toLoadRect (harg5.unread x3)), (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).1.1, k0_pay268 (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).1.1 (st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).1.2⟩) (by sl_kernel_rfl) ?_
    rw [sums_eq, whole1 arg5 harg5 x3]
  isplitl [H5]; · iexact H5
  isplitl [H6]; · iexact H6
  isplitl [H9]; · iexists _; iexact H9
  isplitl [H10]; · iexists _; iexact H10
  isplitl [H11]; · iexact H11
  isplitl [H12]
  · iexists _; isplitl [H12]; · iexact H12
    ipureintro
    exact Eq.trans (b := arg12.view.writes (Elt F) f12 ((st_k0_t3 (F := F) Variants.none c none i arg2 harg2 arg3 harg3 arg4 harg4 arg5 harg5 arg6 harg6 arg7 harg7 arg8 harg8 arg9 harg9 arg10 harg10 arg11 harg11 arg12 harg12 arg13 harg13 v35 v38 v39 (arg5.view.readAt (Elt F) (Rect.unit (s := S1x256x1) ![0, 0, 0] S1x256x1.size inb_S1x256x1_S1x256x1_0_0_0).toLoadRect (harg5.unread x3)) (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).1 (arg12.view.writes (Elt F) f12 (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2) (k0_pay262, k0_pay262) k0_t3_loop.trips).2 ++ (st_k0_t2 (F := F) Variants.none c none i arg2 harg2 arg3 harg3 arg4 harg4 arg5 harg5 arg6 harg6 arg7 harg7 arg8 harg8 arg9 harg9 arg10 harg10 arg11 harg11 arg12 harg12 arg13 harg13 v35 v38 v39 (harg6.unread x4) (harg11.unread D) (arg13.view.writes (Elt F) arg13.view.junk [⟨(Rect.unit (s := S256x2560) ![0, 0] S256x2560.size inb_S256x2560_S256x2560_0_0), k0_pay256 v38 v39⟩]) k0_pay258 k0_t2_loop.trips).2)) (by sl_kernel_rfl) (expo_eq c i arg2 harg2 arg3 harg3 arg4 harg4 arg5 harg5 arg6 harg6 arg7 harg7 arg8 harg8 arg9 harg9 arg10 harg10 arg11 harg11 arg12 harg12 arg13 harg13 v35 v38 v39 x3 x4 D f12)
  iexists _; iexact H13

/-! ## What a point leaves, as values of its blocks and of the gathered words -/

def scale (x0 : Vec F S1x256x2560 .bf16) : FVec F S256x1 .f32 := k0_pay250 x0
def codes (x0 : Vec F S1x256x2560 .bf16) : Vec F S256x2560 .bf16 := k0_pay256 (k0_pay251 x0) (k0_pay252 x0)
def lossV (x0 : Vec F S1x256x2560 .bf16) (D : Vec F S1280x5120 .i32) (x3 : Vec F S1x256x1 .i32) (x4 : Vec F S1x256x5120 .i8) : Vec F S1x256x1 .f32 :=
  k0_pay1 (k0_pay268 (sums (scale x0) (codes x0) D x3 x4).1 (sums (scale x0) (codes x0) D x3 x4).2)
def gradV (x0 : Vec F S1x256x2560 .bf16) (D : Vec F S1280x5120 .i32) (x3 : Vec F S1x256x1 .i32) (x4 : Vec F S1x256x5120 .i8) : Vec F S1x256x5120 .bf16 :=
  asm3 (fun n => k0_pay2 (k0_pay257 x3) (sums (scale x0) (codes x0) D x3 x4).1 (f4 n) (expo (scale x0) (codes x0) D x4 n))
def codeV (x0 : Vec F S1x256x2560 .bf16) : Vec F S1x256x2560 .fp8e4m3 := k0_pay254 (k0_pay251 x0) (k0_pay252 x0)
def scaleV (x0 : Vec F S1x256x2560 .bf16) : Vec F S1x256x1 .f32 := k0_pay255 (scale x0)

def whole5 (x : Vec F S1x256x1 .f32) : View.Piece (Elt F) S1x256x1 .f32 := ⟨(Rect.unit (s := S1x256x1) ![0, 0, 0] S1x256x1.size inb_S1x256x1_S1x256x1_0_0_0), x⟩
def whole7 (x : Vec F S1x256x2560 .fp8e4m3) : View.Piece (Elt F) S1x256x2560 .fp8e4m3 := ⟨(Rect.unit (s := S1x256x2560) ![0, 0, 0] S1x256x2560.size inb_S1x256x2560_S1x256x2560_0_0_0), x⟩
def whole6 (x : Vec F S1x256x5120 .bf16) : View.Piece (Elt F) S1x256x5120 .bf16 := ⟨Rect.unit (s := S1x256x5120) ![0, 0, 0] S1x256x5120.size (by decide), x⟩
def wholeS (x : Vec F S1280x5120 .i32) : View.Piece (Elt F) S1280x5120 .i32 := ⟨Rect.unit (s := S1280x5120) ![0, 0] S1280x5120.size (by decide), x⟩

/-- The last part of the body: the loss is stored, then the gradient of the scores. -/
theorem tail (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (v60 : IVec S256x1 32) (v66 v70 : FVec F S256x1 .f32) (P : ℕ → FVec F S256x512 .f32)
    (f7 : BufTy.Contents (Elt F) arg7.view.ty)
    (f8 : BufTy.Contents (Elt F) arg8.view.ty) (K : PUnit → sProp 𝕄) :
    iprop((arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} (harg12.unread (asm P)))
      ∗ (iprop((∃ f, arg7.view.loc (c : Thread nD τ) ↦[arg7.view.set]{fullShare} arg7.view.writes (Elt F) f [whole5 (k0_pay1 v70)]) ∗ (∃ f, arg8.view.loc (c : Thread nD τ) ↦[arg8.view.set]{fullShare} arg8.view.writes (Elt F) f [whole6 (asm3 (fun n => k0_pay2 v60 v66 (f4 n) (P n)))]) ∗ (∃ f, (arg12.view.loc (c : Thread nD τ) ↦[arg12.view.set]{fullShare} f))) -∗ K ⟨⟩))
     ⊢ wp frame (wpE (defs₀ (F := F)) Variants.none c none) E (do
        let v71 : Vec F S1x256x1 .f32 ← Prog.lift (.load arg7 (Rect.unit (s := S1x256x1) ![0, 0, 0] S1x256x1.size inb_S1x256x1_S1x256x1_0_0_0).toLoadRect (View.loadsAt_vmem h_S1x256x1))
        Prog.lift (.store arg7 (Rect.unit (s := S1x256x1) ![0, 0, 0] S1x256x1.size inb_S1x256x1_S1x256x1_0_0_0) (k0_pay1 v70) Finset.univ (View.stores_vmem_bits_univ h_S1x256x1 rfl) (.inl rfl))
        Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 v60 v66)
        pure ⟨⟩) K := by
  iintro ⟨H7, H8, H12, Hk⟩
  sl_exec
  sl_step
  iapply Hk
  isplitl [H7]; · iexists _; iexact H7
  isplitl [H8]
  · iexists f8
    have e : arg8.view.writes (Elt F) f8 (pb_k0_t4 (F := F) Variants.none c none i arg2 harg2 arg3 harg3 arg4 harg4 arg5 harg5 arg6 harg6 arg7 harg7 arg8 harg8 arg9 harg9 arg10 harg10 arg11 harg11 arg12 harg12 arg13 harg13 v60 v66 (harg12.unread (asm P)) k0_t4_loop.trips)
        = arg8.view.writes (Elt F) f8 [whole6 (asm3 (fun n => k0_pay2 v60 v66 (f4 n) (P n)))] := by
      rw [after4]
      exact (harg8.eq_unread (View.read_writes_full arg8.view f8 _ _ [])).symm
    rw [← e]
    iexact H8
  iexists _; iexact H12

/-- The body after the gather, in both cases: the words of the documents are in `arg11`. -/
theorem rest (c : Dev nD) (E : Set ℕ) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole)
    (x0 : Vec F S1x256x2560 .bf16) (D : Vec F S1280x5120 .i32) (x3 : Vec F S1x256x1 .i32) (x4 : Vec F S1x256x5120 .i8)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f12 : BufTy.Contents (Elt F) arg12.view.ty)
    (f13 : BufTy.Contents (Elt F) arg13.view.ty) (K : PUnit → sProp 𝕄) :
    iprop((arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (harg11.unread D)) ∗ (arg12.view.loc (c : Thread nD τ) ↦[arg12.view.set]{fullShare} f12) ∗ (arg13.view.loc (c : Thread nD τ) ↦[arg13.view.set]{fullShare} f13)
      ∗ (iprop((arg5.view.loc (c : Thread nD τ) ↦[arg5.view.set]{fullShare} (harg5.unread x3)) ∗ (arg6.view.loc (c : Thread nD τ) ↦[arg6.view.set]{fullShare} (harg6.unread x4)) ∗ (∃ f, arg7.view.loc (c : Thread nD τ) ↦[arg7.view.set]{fullShare} arg7.view.writes (Elt F) f [whole5 (lossV x0 D x3 x4)]) ∗ (∃ f, arg8.view.loc (c : Thread nD τ) ↦[arg8.view.set]{fullShare} arg8.view.writes (Elt F) f [whole6 (gradV x0 D x3 x4)]) ∗ (∃ f, arg9.view.loc (c : Thread nD τ) ↦[arg9.view.set]{fullShare} arg9.view.writes (Elt F) f [whole7 (codeV x0)]) ∗ (∃ f, arg10.view.loc (c : Thread nD τ) ↦[arg10.view.set]{fullShare} arg10.view.writes (Elt F) f [whole5 (scaleV x0)])
            ∗ (arg11.view.loc (c : Thread nD τ) ↦[arg11.view.set]{fullShare} (harg11.unread D)) ∗ (∃ f, (arg12.view.loc (c : Thread nD τ) ↦[arg12.view.set]{fullShare} f)) ∗ (∃ f, (arg13.view.loc (c : Thread nD τ) ↦[arg13.view.set]{fullShare} f))) -∗ K ⟨⟩))
     ⊢ wp frame (wpE (defs₀ (F := F)) Variants.none c none) E (do
        let ⟨v60, v66_0, v70⟩ : (Σ' (v60 : IVec S256x1 32) (v66_0 : FVec F S256x1 .f32), FVec F S256x1 .f32) ← k0_part52 i arg2 harg2 arg3 harg3 arg4 harg4 arg5 harg5 arg6 harg6 arg7 harg7 arg8 harg8 arg9 harg9 arg10 harg10 arg11 harg11 arg12 harg12 arg13 harg13 (k0_pay250 x0) (k0_pay251 x0) (k0_pay252 x0)
        let v71 : Vec F S1x256x1 .f32 ← Prog.lift (.load arg7 (Rect.unit (s := S1x256x1) ![0, 0, 0] S1x256x1.size inb_S1x256x1_S1x256x1_0_0_0).toLoadRect (View.loadsAt_vmem h_S1x256x1))
        Prog.lift (.store arg7 (Rect.unit (s := S1x256x1) ![0, 0, 0] S1x256x1.size inb_S1x256x1_S1x256x1_0_0_0) (k0_pay1 v70) Finset.univ (View.stores_vmem_bits_univ h_S1x256x1 rfl) (.inl rfl))
        Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 v60 v66_0)
        pure ⟨⟩) K := by
  iintro ⟨H5, H6, H7, H8, H9, H10, H11, H12, H13, Hk⟩
  rw [wp_bind]
  iapply (part52 c E i arg2 harg2 arg3 harg3 arg4 harg4 arg5 harg5 arg6 harg6 arg7 harg7 arg8 harg8 arg9 harg9 arg10 harg10 arg11 harg11 arg12 harg12 arg13 harg13 (k0_pay250 x0) (k0_pay251 x0) (k0_pay252 x0) x3 x4 D f9 f10 f12 f13 _)
  isplitl [H5]; · iexact H5
  isplitl [H6]; · iexact H6
  isplitl [H9]; · iexact H9
  isplitl [H10]; · iexact H10
  isplitl [H11]; · iexact H11
  isplitl [H12]; · iexact H12
  isplitl [H13]; · iexact H13
  iintro %r ⟨%hr, H5, H6, H9, H10, H11, ⟨%g12, H12, %hg12⟩, H13⟩
  subst hr; subst hg12
  iapply (tail c E i arg2 harg2 arg3 harg3 arg4 harg4 arg5 harg5 arg6 harg6 arg7 harg7 arg8 harg8 arg9 harg9 arg10 harg10 arg11 harg11 arg12 harg12 arg13 harg13 _ _ _ _ f7 f8 K)
  isplitl [H7]; · iexact H7
  isplitl [H8]; · iexact H8
  isplitl [H12]; · iexact H12
  iintro ⟨H7, H8, H12⟩
  iapply Hk
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The gathered words: what the gather loop's stores leave. -/
def gathered (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : k0_cond1 i = 1#1) (x1 : Vec F S80x5120 .i32) (x2 : Vec F S1280x256 .i32) : Vec F S1280x5120 .i32 :=
  View.canon (pb_k0_t1 (F := F) Variants.none c none i arg2 harg2 arg3 harg3 arg4 harg4 arg5 harg5 arg6 harg6 arg7 harg7 arg8 harg8 arg9 harg9 arg10 harg10 arg11 harg11 arg12 harg12 arg13 harg13 hc0 (harg3.unread x1) (harg4.unread x2) k0_t1_loop.trips)

theorem gathered_unread (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : k0_cond1 i = 1#1) (x1 : Vec F S80x5120 .i32) (x2 : Vec F S1280x256 .i32) (f : BufTy.Contents (Elt F) arg11.view.ty) :
    arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 hc0 (harg3.unread x1) (harg4.unread x2) k0_t1_loop.trips)
      = harg11.unread (gathered c i arg2 harg2 arg3 harg3 arg4 harg4 arg5 harg5 arg6 harg6 arg7 harg7 arg8 harg8 arg9 harg9 arg10 harg10 arg11 harg11 arg12 harg12 arg13 harg13 hc0 x1 x2) :=
  harg11.eq_unread (View.read_writes_eq_canon arg11.view f _ (fun y =>
    View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 hc0 (harg3.unread x1) (harg4.unread x2) k0_t1_loop.trips) S8x128.size (by sl_kernel_rfl) y))

/-- What the body's stores leave in each output's staging memref IN CASE A (the documents are gathered: points 0, 5, 10), one piece per output, with the proof that on whole
    staging memrefs the body runs to the continuation holding the inputs' as they were and each output's buffer with its piece written. -/
noncomputable def kernelRun0_A (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : cond0_0 i)
    (x0 : Vec F S1x256x2560 .bf16) (x1 : Vec F S80x5120 .i32) (x2 : Vec F S1280x256 .i32) (x3 : Vec F S1x256x1 .i32) (x4 : Vec F S1x256x5120 .i8) :
    Σ' (L5 : List (View.Piece (Elt F) S1x256x1 .f32)), Σ' (L6 : List (View.Piece (Elt F) S1x256x5120 .bf16)), Σ' (L7 : List (View.Piece (Elt F) S1x256x2560 .fp8e4m3)), Σ' (L8 : List (View.Piece (Elt F) S1x256x1 .f32)), { LS0 : List (View.Piece (Elt F) S1280x5120 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d)) -∗ K ⟨⟩))
          ⊢ wp frame (wpE (defs₀ (F := F)) Variants.none c none) E (cc0_scores i arg2 harg2 arg3 harg3 arg4 harg4 arg5 harg5 arg6 harg6 arg7 harg7 arg8 harg8 arg9 harg9 arg10 harg10 arg11 harg11 arg12 harg12 arg13 harg13) K } := by
  refine ⟨[whole5 (lossV x0 (gathered c i arg2 harg2 arg3 harg3 arg4 harg4 arg5 harg5 arg6 harg6 arg7 harg7 arg8 harg8 arg9 harg9 arg10 harg10 arg11 harg11 arg12 harg12 arg13 harg13 hc0 x1 x2) x3 x4)], [whole6 (gradV x0 (gathered c i arg2 harg2 arg3 harg3 arg4 harg4 arg5 harg5 arg6 harg6 arg7 harg7 arg8 harg8 arg9 harg9 arg10 harg10 arg11 harg11 arg12 harg12 arg13 harg13 hc0 x1 x2) x3 x4)], [whole7 (codeV x0)], [whole5 (scaleV x0)], [wholeS (gathered c i arg2 harg2 arg3 harg3 arg4 harg4 arg5 harg5 arg6 harg6 arg7 harg7 arg8 harg8 arg9 harg9 arg10 harg10 arg11 harg11 arg12 harg12 arg13 harg13 hc0 x1 x2)], fun E K => ?run⟩
  case run =>
    simp only [cc0_scores_eq_skeleton]; unfold cc0_scores_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    skip
    rw [wp_bind]
    iapply (part51_A c E i arg2 harg2 arg3 harg3 arg4 harg4 arg5 harg5 arg6 harg6 arg7 harg7 arg8 harg8 arg9 harg9 arg10 harg10 arg11 harg11 arg12 harg12 arg13 harg13 hc0 (harg2.unread x0) (harg3.unread x1) (harg4.unread x2) fs0 _)
    isplitl [H0]; · iexact H0
    isplitl [H1]; · iexact H1
    isplitl [H2]; · iexact H2
    isplitl [HS0]; · iexact HS0
    iintro ⟨H0, H1, H2, HS0⟩
    rw [wholeX arg2 harg2 x0, gathered_unread c i arg2 harg2 arg3 harg3 arg4 harg4 arg5 harg5 arg6 harg6 arg7 harg7 arg8 harg8 arg9 harg9 arg10 harg10 arg11 harg11 arg12 harg12 arg13 harg13 hc0 x1 x2 fs0]
    iapply (rest c E i arg2 harg2 arg3 harg3 arg4 harg4 arg5 harg5 arg6 harg6 arg7 harg7 arg8 harg8 arg9 harg9 arg10 harg10 arg11 harg11 arg12 harg12 arg13 harg13 x0 (gathered c i arg2 harg2 arg3 harg3 arg4 harg4 arg5 harg5 arg6 harg6 arg7 harg7 arg8 harg8 arg9 harg9 arg10 harg10 arg11 harg11 arg12 harg12 arg13 harg13 hc0 x1 x2) x3 x4 f5 f6 f7 f8 fs1 fs2 K)
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H3, H4, H5, H6, H7, H8, HS0, ⟨%g1, HS1⟩, ⟨%g2, HS2⟩⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]; · iexact H6
    isplitl [H7]; · iexact H7
    isplitl [H8]; · iexact H8
    isplitl [HS0]
    · iexists (harg11.unread (gathered c i arg2 harg2 arg3 harg3 arg4 harg4 arg5 harg5 arg6 harg6 arg7 harg7 arg8 harg8 arg9 harg9 arg10 harg10 arg11 harg11 arg12 harg12 arg13 harg13 hc0 x1 x2))
      rw [show arg11.view.writes (Elt F) (harg11.unread (gathered c i arg2 harg2 arg3 harg3 arg4 harg4 arg5 harg5 arg6 harg6 arg7 harg7 arg8 harg8 arg9 harg9 arg10 harg10 arg11 harg11 arg12 harg12 arg13 harg13 hc0 x1 x2)) [wholeS (gathered c i arg2 harg2 arg3 harg3 arg4 harg4 arg5 harg5 arg6 harg6 arg7 harg7 arg8 harg8 arg9 harg9 arg10 harg10 arg11 harg11 arg12 harg12 arg13 harg13 hc0 x1 x2)] = harg11.unread (gathered c i arg2 harg2 arg3 harg3 arg4 harg4 arg5 harg5 arg6 harg6 arg7 harg7 arg8 harg8 arg9 harg9 arg10 harg10 arg11 harg11 arg12 harg12 arg13 harg13 hc0 x1 x2) from
        harg11.eq_unread (View.read_writes_full arg11.view _ _ _ [])]
      iexact HS0
    isplitl [HS1]
    · iexists _, _; isplitr; swap; · iexact HS1
      ipureintro; rfl
    iexists _, _; isplitr; swap; · iexact HS2
    ipureintro; rfl

/-- What the body's stores leave in each output's staging memref IN CASE B (the gathered words are kept), one piece per output, with the proof that on whole
    staging memrefs the body runs to the continuation holding the inputs' as they were and each output's buffer with its piece written. -/
noncomputable def kernelRun0_B (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) :
    Σ' (L5 : List (View.Piece (Elt F) S1x256x1 .f32)), Σ' (L6 : List (View.Piece (Elt F) S1x256x5120 .bf16)), Σ' (L7 : List (View.Piece (Elt F) S1x256x2560 .fp8e4m3)), Σ' (L8 : List (View.Piece (Elt F) S1x256x1 .f32)), { LS0 : List (View.Piece (Elt F) S1280x5120 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0 ∗ (∃ d, owns (c : Thread nD τ) arg12 fullShare d) ∗ (∃ d, owns (c : Thread nD τ) arg13 fullShare d)) -∗ K ⟨⟩))
          ⊢ wp frame (wpE (defs₀ (F := F)) Variants.none c none) E (cc0_scores i arg2 harg2 arg3 harg3 arg4 harg4 arg5 harg5 arg6 harg6 arg7 harg7 arg8 harg8 arg9 harg9 arg10 harg10 arg11 harg11 arg12 harg12 arg13 harg13) K } := by
  refine ⟨[whole5 (lossV x0 xs0 x3 x4)], [whole6 (gradV x0 xs0 x3 x4)], [whole7 (codeV x0)], [whole5 (scaleV x0)], [], fun E K => ?run⟩
  case run =>
    simp only [cc0_scores_eq_skeleton]; unfold cc0_scores_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg11.eq_unread hfs0
    rw [wp_bind]
    iapply (part51_B c E i arg2 harg2 arg3 harg3 arg4 harg4 arg5 harg5 arg6 harg6 arg7 harg7 arg8 harg8 arg9 harg9 arg10 harg10 arg11 harg11 arg12 harg12 arg13 harg13 hc0 (harg2.unread x0) _)
    isplitl [H0]; · iexact H0
    iintro H0
    rw [wholeX arg2 harg2 x0]
    iapply (rest c E i arg2 harg2 arg3 harg3 arg4 harg4 arg5 harg5 arg6 harg6 arg7 harg7 arg8 harg8 arg9 harg9 arg10 harg10 arg11 harg11 arg12 harg12 arg13 harg13 x0 xs0 x3 x4 f5 f6 f7 f8 fs1 fs2 K)
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H3, H4, H5, H6, H7, H8, HS0, ⟨%g1, HS1⟩, ⟨%g2, HS2⟩⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]; · iexact H6
    isplitl [H7]; · iexact H7
    isplitl [H8]; · iexact H8
    isplitl [HS0]
    · iexists _; isplitr; · ipureintro; exact harg11.read_unread _
      iexact HS0
    isplitl [HS1]
    · iexists _, _; isplitr; swap; · iexact HS1
      ipureintro; rfl
    iexists _, _; isplitr; swap; · iexact HS2
    ipureintro; rfl

end Cert.ScoresKernelIdeal.Gen

end
-- ==== Proof.ScoresRow.lean ====
/- One row of the scores kernel over the extended reals: its loss, its gradient, its codes and its scale, from the row of
   activations, the decoded documents, the row's mask and its label. -/
module

public import proofs.«01_k».proof.Proof.ScoresMath
public import proofs.«01_k».proof.Proof.ScoresKernelIdealRun
public import Idealize.ShloMosaic.Lib.BitcastPair

@[expose] public section

set_option maxRecDepth 16384

noncomputable section

namespace Cert.ScoresMath

open Idealize.ShloMosaic

theorem ofBits_bot : Ideal.ofBits .f32 0xFF800000#32 = ⊥ := by
  simp [Ideal.ofBits, Ideal.ieee]

theorem ofBits_tiny : ∃ T : ℝ, 0 < T ∧ Ideal.ofBits .f32 0x00800000#32 = (T : EReal) :=
  ⟨2 ^ 23 * 2 ^ (-149 : ℤ), by positivity, by simp [Ideal.ofBits, Ideal.ieee, -EReal.coe_mul]; norm_num⟩

theorem ofBits_high : Ideal.ofBits .f32 0x43E00000#32 = ((448 : ℝ) : EReal) := by
  simp [Ideal.ofBits, Ideal.ieee, -EReal.coe_mul]; norm_num

theorem ofBits_low : Ideal.ofBits .f32 0xC3E00000#32 = ((-448 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The exponent of a row's scale, the scale, and the row's codes. -/
def rowExp (x : Fin 2560 → EReal) : EReal :=
  expR (Ideal.ofBits .f32 0x00800000#32) ((Finset.univ.sup fun j => max (x j) (-x j)) * Ideal.ofBits .f32 0x3B124925#32)
def rowScale (x : Fin 2560 → EReal) : EReal := Ideal.exp2 (rowExp x)
def rowCode (x : Fin 2560 → EReal) (j : Fin 2560) : EReal :=
  min (Ideal.ofBits .f32 0x43E00000#32) (max (Ideal.ofBits .f32 0xC3E00000#32) (x j * Ideal.exp2 (0 - rowExp x)))

/-- A row's masked scores from its codes and its scale. -/
def scoreOf (σ : EReal) (c : Fin 2560 → EReal) (D : Fin 2560 → Fin 5120 → EReal) (M : Fin 5120 → BitVec 1) (j : Fin 5120) : EReal :=
  if M j = 1 then ⊥ else (∑ k, c k * D k j) * σ
/-- A row's masked scores. -/
def score (x : Fin 2560 → EReal) := scoreOf (rowScale x) (rowCode x)

/-- The logarithm of a row's softmax, the loss, and the gradient of the scores. -/
def logp (s : Fin 5120 → EReal) (j : Fin 5120) : EReal := s j - rowMax s - Ideal.log (rowSum s)
def loss (s : Fin 5120 → EReal) (l : Fin 5120) : EReal := -logp s l
def grad (s : Fin 5120 → EReal) (l : Fin 5120) (j : Fin 5120) : EReal := Ideal.exp (logp s j) - (if j = l then 1 else 0)

theorem rowExp_eq (x : Fin 2560 → EReal) :
    expK (Ideal.ofBits .f32 0x00800000#32) ((Finset.univ.sup fun j => max (x j) (-x j)) * Ideal.ofBits .f32 0x3B124925#32) = rowExp x := by
  obtain ⟨T, hT, e⟩ := ofBits_tiny
  unfold rowExp
  rw [e, exp_eq T hT]

theorem rowCode_real (x : Fin 2560 → EReal) (j : Fin 2560) : ∃ r : ℝ, rowCode x j = (r : EReal) := by
  unfold rowCode
  rw [ofBits_high, ofBits_low]
  have h1 : min ((448 : ℝ) : EReal) (max ((-448 : ℝ) : EReal) (x j * Ideal.exp2 (0 - rowExp x))) ≠ ⊤ :=
    ne_of_lt (lt_of_le_of_lt (min_le_left _ _) (EReal.coe_lt_top _))
  have h2 : min ((448 : ℝ) : EReal) (max ((-448 : ℝ) : EReal) (x j * Ideal.exp2 (0 - rowExp x))) ≠ ⊥ :=
    ne_of_gt (lt_min (EReal.bot_lt_coe _) (lt_of_lt_of_le (EReal.bot_lt_coe _) (le_max_left _ _)))
  exact ⟨_, (EReal.coe_toReal h1 h2).symm⟩

theorem expR_ne_bot (T : ℝ) (hT : 0 < T) (y : EReal) : expR T y ≠ ⊥ := by
  unfold expR
  by_cases h : y < T
  · simp [h]
  · have hy : y ≠ 0 := fun e => h (by rw [e]; exact_mod_cast hT)
    simp only [if_neg h, if_neg hy, div_N2]
    induction y with
    | bot => exact absurd (EReal.bot_lt_coe T) h
    | top =>
      have e : Ideal.liftRound Int.floor (Ideal.log ⊤ * L2) = ⊤ := by
        show Ideal.liftRound Int.floor (⊤ * L2) = ⊤
        rw [top_mul]; rfl
      rw [e]; exact top_ne_bot
    | coe r =>
      have hr : T ≤ r := by exact_mod_cast not_lt.mp h
      rw [Ideal.log_coe, if_neg (not_le.mpr (lt_of_lt_of_le hT hr)), ← EReal.coe_mul]
      show ((⌊Real.log r * (Real.log 2)⁻¹⌋ : ℝ) : EReal) + 1 ≠ ⊥
      rw [← EReal.coe_one, ← EReal.coe_add]
      exact EReal.coe_ne_bot _

theorem sum_real {ι : Type} [Fintype ι] (f : ι → EReal) (h : ∀ j, ∃ r : ℝ, f j = (r : EReal)) : ∃ r : ℝ, ∑ j, f j = (r : EReal) := by
  choose g hg using h
  refine ⟨∑ j, g j, ?_⟩
  rw [Finset.sum_congr rfl fun j _ => hg j]
  exact (map_sum (⟨⟨((↑) : ℝ → EReal), EReal.coe_zero⟩, EReal.coe_add⟩ : ℝ →+ EReal) g Finset.univ).symm

/-- The product of a row's codes and a document, scaled, is a real. -/
theorem scaled_real (x : Fin 2560 → EReal) (D : Fin 2560 → Fin 5120 → EReal) (hD : ∀ k j, ∃ r : ℝ, D k j = (r : EReal)) (j : Fin 5120) :
    ∃ r : ℝ, (∑ k, rowCode x k * D k j) * rowScale x = (r : EReal) := by
  obtain ⟨T, hT, e⟩ := ofBits_tiny
  have hb : rowExp x ≠ ⊥ := by unfold rowExp; rw [e]; exact expR_ne_bot T hT _
  by_cases ht : rowExp x = ⊤
  · refine ⟨0, ?_⟩
    have hc : ∀ k, rowCode x k = 0 := fun k => by
      unfold rowCode
      rw [ht, ofBits_high, ofBits_low, show Ideal.exp2 (0 - ⊤) = 0 by rw [EReal.sub_top]; rfl, mul_zero]
      rw [max_eq_right (by exact_mod_cast (by norm_num : (-448 : ℝ) ≤ 0)), min_eq_right (by exact_mod_cast (by norm_num : (0 : ℝ) ≤ 448))]
    rw [Finset.sum_congr rfl fun k _ => by rw [hc k, zero_mul], Finset.sum_const_zero, zero_mul, EReal.coe_zero]
  · obtain ⟨r, hr⟩ := sum_real (fun k => rowCode x k * D k j) fun k => by
      obtain ⟨a, ha⟩ := rowCode_real x k
      obtain ⟨b, hb⟩ := hD k j
      exact ⟨a * b, by rw [ha, hb, EReal.coe_mul]⟩
    rw [hr]
    unfold rowScale
    rw [← EReal.coe_toReal ht hb]
    exact ⟨r * Real.rpow 2 _, by rw [EReal.coe_mul]; rfl⟩

theorem score_ne_top (x : Fin 2560 → EReal) (D : Fin 2560 → Fin 5120 → EReal) (M : Fin 5120 → BitVec 1) (hD : ∀ k j, ∃ r : ℝ, D k j = (r : EReal)) (j : Fin 5120) :
    score x D M j ≠ ⊤ := by
  unfold score scoreOf
  split_ifs
  · exact bot_ne_top
  · obtain ⟨r, hr⟩ := scaled_real x D hD j
    rw [hr]; exact EReal.coe_ne_top _

theorem score_ne_bot (x : Fin 2560 → EReal) (D : Fin 2560 → Fin 5120 → EReal) (M : Fin 5120 → BitVec 1) (hD : ∀ k j, ∃ r : ℝ, D k j = (r : EReal)) (j : Fin 5120)
    (h : M j ≠ 1) : score x D M j ≠ ⊥ := by
  unfold score scoreOf
  rw [if_neg h]
  obtain ⟨r, hr⟩ := scaled_real x D hD j
  rw [hr]; exact EReal.coe_ne_bot _

end Cert.ScoresMath

namespace Cert.ScoresKernelIdeal.Row

open Cert.ScoresKernelIdeal Cert.ScoresKernelIdeal.Gen Cert.ScoresMath Idealize.ShloMosaic Idealize.ShloMosaic.TcCoe

theorem named_log2e : (Named.named (F := Ideal) κ "log2_e" (φ := .f32) 0x3FB8AA3B#32 : EReal) = L2 := IdealRules.named_const.ideal_named_scalar _ _ _ _ rfl
theorem named_ln2 : (Named.named (F := Ideal) κ "ln_2" (φ := .f32) 0x3F317218#32 : EReal) = N2 := IdealRules.named_const.ideal_named_scalar _ _ _ _ rfl

/-! ## The quantised row -/

section Quant
variable (x0 : Vec Ideal S1x256x2560 .bf16) (q : Fin 256)

theorem pay249_apply : k0_pay249 x0 (ix2 q 0) = rowExp fun j => x0 (ix3 0 q j) := by
  pointwise [k0_pay249, k0_pay248]
  rw [named_log2e, ofBits_bot]
  exact rowExp_eq fun j => x0 (ix3 0 q j)

theorem scale_apply : scale x0 (ix2 q 0) = rowScale fun j => x0 (ix3 0 q j) := by
  unfold scale
  pointwise [k0_pay250]
  rw [pay249_apply]; rfl

theorem pay251_apply : k0_pay251 x0 (ix2 q 0) = Ideal.exp2 (0 - rowExp fun j => x0 (ix3 0 q j)) := by
  pointwise [k0_pay251]
  rw [pay249_apply]; rfl

theorem pay252_apply (j : Fin 2560) : k0_pay252 x0 (ix2 q j) = x0 (ix3 0 q j) := by
  pointwise [k0_pay252, k0_pay248]

theorem codes_apply (j : Fin 2560) : codes x0 (ix2 q j) = rowCode (fun j => x0 (ix3 0 q j)) j := by
  unfold codes
  pointwise [k0_pay256, k0_pay253]
  rw [pay251_apply, pay252_apply]
  rfl

theorem codeV_apply (j : Fin 2560) : codeV x0 (ix3 0 q j) = rowCode (fun j => x0 (ix3 0 q j)) j := by
  unfold codeV
  pointwise [k0_pay254, k0_pay253]
  rw [pay251_apply, pay252_apply]
  rfl

theorem scaleV_apply : scaleV x0 (ix3 0 q 0) = rowScale fun j => x0 (ix3 0 q j) := by
  unfold scaleV
  pointwise [k0_pay255]
  exact scale_apply x0 q

end Quant

/-! ## The scores in chunks -/

theorem halves_apply (w : IVec S1280x512 32) (k : Fin 2560) (d : Fin 512) :
    bitcast S2560x512 16 w bitcasts_S1280x512_w32_S2560x512_w16 (ix2 k d) = (w (ix2 ⟨k.val / 2, by omega⟩ d)).extractLsb' (16 * (k.val % 2)) 16 := by
  rw [bitcast_32_16]
  have hr : S2560x512.row (ix2 k d) = k.val := rfl
  congr 2
  funext a; apply Fin.ext
  match a with
  | ⟨0, _⟩ => rfl
  | ⟨1, _⟩ => rfl

/-- A half of a word of the gathered documents, as an extended real. -/
def docOf (D : Vec Ideal S1280x5120 .i32) (k : Fin 2560) (d : Fin 5120) : EReal :=
  Ideal.ofBits .bf16 (BitVec.extractLsb' (n := 32) (16 * (k.val % 2)) 16 (D (ix2 ⟨k.val / 2, by omega⟩ d)))

section Chunks
variable (v35 : FVec Ideal S256x1 .f32) (c : Vec Ideal S256x2560 .bf16) (D : Vec Ideal S1280x5120 .i32) (x3 : Vec Ideal S1x256x1 .i32) (x4 : Vec Ideal S1x256x5120 .i8)
variable (q : Fin 256) (M : Fin 5120 → BitVec 1) (hM : ∀ j, x4 (ix3 0 q j) = (M j).setWidth 8)

/-- The row's scores. -/
abbrev sc : Fin 5120 → EReal := scoreOf (v35 (ix2 q 0)) (fun k => c (ix2 q k)) (docOf D) M

theorem mask_word : ∀ b : BitVec 1, IntOp.cmpi CmpIPredicate.ne (BitVec.signExtend 32 (b.setWidth 8)) 0#32 = b := by decide

include hM
theorem pay259_apply (n : ℕ) (x : Fin 512) :
    k0_pay259 v35 (colD D n) c (colM x4 n) (ix2 q x) = at5120 (fun j => sc v35 c D q M j * L2) (512 * n + x.val) := by
  pointwise [k0_pay259]
  rw [named_log2e, ofBits_bot]
  have e : colM x4 n (ix3 0 q x) = (M ⟨(512 * n + x.val) % 5120, Nat.mod_lt _ (by decide)⟩).setWidth 8 := hM _
  rw [e, mask_word, ← mul_assoc]
  simp only [at5120, sc, scoreOf, Scalar.select]
  split_ifs with h
  · exact bot_mul.symm
  · congr 2
    refine Finset.sum_congr rfl fun k _ => ?_
    rw [halves_apply]
    rfl

theorem scs_apply (n : ℕ) (x : Fin 512) : scs v35 c D x4 n (ix2 q x) = at5120 (fun j => sc v35 c D q M j * L2) (512 * n + x.val) := by
  rw [← pay259_apply v35 c D x4 q M hM n x]
  unfold scs
  pointwise [k0_pay260]

theorem mx_apply : mx v35 c D x4 10 (ix2 q 0) = rowMax (sc v35 c D q M) * L2 := by
  rw [rowMax, ← sup_mul]
  refine sup_chunks (fun j => sc v35 c D q M j * L2) (fun n => mx v35 c D x4 n (ix2 q 0)) ?_ fun n _ => ?_
  · exact ofBits_bot
  · show k0_pay261 v35 (mx v35 c D x4 n) (colD D n) c (colM x4 n) (ix2 q 0) = _
    pointwise [k0_pay261]
    rw [ofBits_bot]
    simp only [pay259_apply v35 c D x4 q M hM]
    rfl

theorem expo_apply (n : ℕ) (x : Fin 512) :
    expo v35 c D x4 n (ix2 q x) = at5120 (fun j => Ideal.exp (sc v35 c D q M j - rowMax (sc v35 c D q M))) (512 * n + x.val) := by
  unfold expo
  pointwise [k0_pay265, k0_pay264, k0_pay263]
  rw [scs_apply v35 c D x4 q M hM, mx_apply v35 c D x4 q M hM]
  show Ideal.exp2 (_ - _) = _
  unfold at5120
  rw [sub_mul, exp2_mul]

theorem sum_apply : (sums v35 c D x3 x4).1 (ix2 q 0) = rowSum (sc v35 c D q M) := by
  refine sum_chunks (fun j => Ideal.exp (sc v35 c D q M j - rowMax (sc v35 c D q M))) (fun n => (zs x3 (mx v35 c D x4 10) (scs v35 c D x4) n).1 (ix2 q 0)) ?_ fun n _ => ?_
  · exact Ideal.ofBits_zero_f32
  · show k0_pay266 (mx v35 c D x4 10) (zs x3 (mx v35 c D x4 10) (scs v35 c D x4) n).1 (scs v35 c D x4 n) (ix2 q 0) = _
    pointwise [k0_pay266, k0_pay264, k0_pay263]
    congr 1
    refine Finset.sum_congr rfl fun x _ => ?_
    rw [scs_apply v35 c D x4 q M hM, mx_apply v35 c D x4 q M hM]
    show Ideal.exp2 (_ - _) = _
    unfold at5120
    rw [sub_mul, exp2_mul]

omit hM in
theorem col_word (n x : ℕ) (hn : n < 10) : IntOp.addi (BitVec.ofNat 32 x) (Scalar.muli (Scf.iv 0#32 1#32 n) 512#32) = BitVec.ofNat 32 (512 * n + x) := by
  have h : Scalar.muli (Scf.iv 0#32 1#32 n) 512#32 = BitVec.ofNat 32 (512 * n) := by interval_cases n <;> rfl
  rw [h]
  show BitVec.ofNat 32 x + BitVec.ofNat 32 (512 * n) = _
  rw [← BitVec.ofNat_add, Nat.add_comm]

omit hM in
theorem hit (n : ℕ) (x : Fin 512) (hn : n < 10) (l : Fin 5120) :
    IntOp.cmpi .eq (IntOp.addi (BitVec.ofNat 32 x.val) (Scalar.muli (Scf.iv 0#32 1#32 n) 512#32)) (BitVec.ofNat 32 l.val)
      = BitVec.ofBool (decide ((⟨(512 * n + x.val) % 5120, Nat.mod_lt _ (by decide)⟩ : Fin 5120) = l)) := by
  rw [col_word n x.val hn]
  show BitVec.ofBool _ = _
  congr 1
  have hx := x.isLt
  have hl := l.isLt
  have e : (512 * n + x.val) % 5120 = 512 * n + x.val := Nat.mod_eq_of_lt (by omega)
  rw [beq_eq_decide]
  refine decide_eq_decide.mpr ⟨fun h => Fin.ext ?_, fun h => ?_⟩
  · have := congrArg BitVec.toNat h
    simp only [BitVec.toNat_ofNat] at this
    show (512 * n + x.val) % 5120 = l.val
    omega
  · rw [← h]
    show BitVec.ofNat 32 (512 * n + x.val) = BitVec.ofNat 32 ((512 * n + x.val) % 5120)
    rw [e]

variable (l : Fin 5120) (hl : x3 (ix3 0 q 0) = BitVec.ofNat 32 l.val)
include hl

theorem lab_apply : (sums v35 c D x3 x4).2 (ix2 q 0) = (sc v35 c D q M l - rowMax (sc v35 c D q M)) * L2 := by
  refine (sum_chunks (fun j => if j = l then (sc v35 c D q M j - rowMax (sc v35 c D q M)) * L2 else 0) (fun n => (zs x3 (mx v35 c D x4 10) (scs v35 c D x4) n).2 (ix2 q 0)) ?_ fun n hn => ?_).trans ?_
  · exact Ideal.ofBits_zero_f32
  · show k0_pay267 x3 (mx v35 c D x4 10) (f3 n) (zs x3 (mx v35 c D x4 10) (scs v35 c D x4) n).2 (scs v35 c D x4 n) (ix2 q 0) = _
    pointwise [k0_pay267, k0_pay263, k0_pay257]
    congr 1
    refine Finset.sum_congr rfl fun x _ => ?_
    have e : (f3 n).val = n := Nat.mod_eq_of_lt hn
    rw [scs_apply v35 c D x4 q M hM, mx_apply v35 c D x4 q M hM, hl, e, hit n x hn l, Scalar.select_ofBool]
    unfold at5120
    rw [sub_mul]
    simp only [decide_eq_true_eq]
  · rw [Finset.sum_ite_eq' Finset.univ l, if_pos (Finset.mem_univ _)]

end Chunks

/-! ## What a point leaves -/

section Out
variable (x0 : Vec Ideal S1x256x2560 .bf16) (D : Vec Ideal S1280x5120 .i32) (x3 : Vec Ideal S1x256x1 .i32) (x4 : Vec Ideal S1x256x5120 .i8)
variable (q : Fin 256) (M : Fin 5120 → BitVec 1) (hM : ∀ j, x4 (ix3 0 q j) = (M j).setWidth 8)
  (l : Fin 5120) (hl : x3 (ix3 0 q 0) = BitVec.ofNat 32 l.val)
  (hD : ∀ k j, ∃ r : ℝ, docOf D k j = (r : EReal)) (hU : ∃ j, M j ≠ 1)

theorem sc_eq : sc (scale x0) (codes x0) D q M = score (fun j => x0 (ix3 0 q j)) (docOf D) M := by
  unfold sc score
  rw [scale_apply, show (fun k => codes x0 (ix2 q k)) = rowCode fun j => x0 (ix3 0 q j) from funext fun k => codes_apply x0 q k]

include hM hl hD hU

theorem lossV_apply : lossV x0 D x3 x4 (ix3 0 q 0) = loss (score (fun j => x0 (ix3 0 q j)) (docOf D) M) l := by
  unfold lossV
  pointwise [k0_pay1, k0_pay268]
  rw [named_ln2, sum_apply _ _ D x3 x4 q M hM, lab_apply _ _ D x3 x4 q M hM l hl, sc_eq]
  obtain ⟨j, hj⟩ := hU
  exact loss_eq _ (score_ne_top _ _ _ hD) ⟨j, score_ne_bot _ _ _ hD j hj⟩ l

theorem gradV_apply (d : Fin 5120) : gradV x0 D x3 x4 (ix3 0 q d) = grad (score (fun j => x0 (ix3 0 q j)) (docOf D) M) l d := by
  have hd := d.isLt
  have hn : d.val / 512 < 10 := by omega
  have hx : d.val % 512 < 512 := Nat.mod_lt _ (by decide)
  show k0_pay2 (k0_pay257 x3) (sums (scale x0) (codes x0) D x3 x4).1 (f4 (d.val / 512)) (expo (scale x0) (codes x0) D x4 (d.val / 512)) (ix3 (n0 := 1) (n1 := 256) (n2 := 512) 0 q ⟨d.val % 512, hx⟩) = _
  pointwise [k0_pay2, k0_pay257]
  have e : (f4 (d.val / 512)).val = d.val / 512 := Nat.mod_eq_of_lt hn
  have ed : (⟨(512 * (d.val / 512) + d.val % 512) % 5120, Nat.mod_lt _ (by decide)⟩ : Fin 5120) = d := Fin.ext (by show _ % 5120 = d.val; omega)
  have e2 := hit (d.val / 512) ⟨d.val % 512, hx⟩ hn l
  rw [hl, e, e2, Scalar.select_ofBool, sum_apply _ _ D x3 x4 q M hM, expo_apply _ _ D x4 q M hM, sc_eq]
  unfold at5120
  simp only [ed]
  obtain ⟨j, hj⟩ := hU
  rw [prob_eq _ (score_ne_top _ _ _ hD) ⟨j, score_ne_bot _ _ _ hD j hj⟩ d]
  unfold grad logp
  simp only [decide_eq_true_eq]
  split_ifs
  · rfl
  · rw [sub_zero]

end Out

end Cert.ScoresKernelIdeal.Row

end
-- ==== Proof.ScoresSpec.lean ====
/- What the scores call leaves, as functions of its arguments: each row's loss, its gradient, its codes and its scale. -/
module

public import proofs.«01_k».proof.Proof.ScoresRow
public import proofs.«01_k».proof.Proof.Spec

@[expose] public section

noncomputable section

namespace Cert.ScoresSpec

open Idealize.ShloMosaic Cert.ScoresMath Cert.Spec

abbrev SX : Shape := ⟨3, ![3, 1280, 2560]⟩
abbrev SLabels : Shape := ⟨2, ![3, 1280]⟩
abbrev SMask : Shape := ⟨3, ![3, 1280, 5120]⟩
abbrev SRows : Shape := ⟨3, ![3, 1280, 1]⟩

/-- A property of every index of a rank three shape is one of every triple of coordinates. -/
theorem all3 {n0 n1 n2 : ℕ} {P : (⟨3, ![n0, n1, n2]⟩ : Shape).Idx → Prop} (h : ∀ (a : Fin n0) (b : Fin n1) (c : Fin n2), P (ix3 a b c)) (i : (⟨3, ![n0, n1, n2]⟩ : Shape).Idx) : P i := by
  have e : i = ix3 (i 0) (i 1) (i 2) := by
    funext a; apply Fin.ext
    match a with
    | ⟨0, _⟩ => rfl
    | ⟨1, _⟩ => rfl
    | ⟨2, _⟩ => rfl
  rw [e]; exact h _ _ _

section
variable (x : SX.Idx → EReal) (codes : SCodes.Idx → BitVec 8) (bits : SBook.Idx → BitVec 16) (labels : SLabels.Idx → BitVec 32) (mask : SMask.Idx → BitVec 1)

/-- A row's masked scores, and its label. -/
def scores (b : Fin 3) (q : Fin 1280) : Fin 5120 → EReal :=
  score (fun j => x (ix3 b q j)) (fun k d => Ideal.ofBits .bf16 (hat codes bits b d k)) (fun d => mask (ix3 b q d))
def label (b : Fin 3) (q : Fin 1280) : Fin 5120 := ⟨(labels (ix2 b q)).toNat % 5120, Nat.mod_lt _ (by decide)⟩

theorem label_eq (h : ∀ b q, (labels (ix2 b q)).toNat < 5120) (b : Fin 3) (q : Fin 1280) : labels (ix2 b q) = BitVec.ofNat 32 (label labels b q).val := by
  show _ = BitVec.ofNat 32 ((labels (ix2 b q)).toNat % 5120)
  rw [Nat.mod_eq_of_lt (h b q), BitVec.ofNat_toNat, BitVec.setWidth_eq]

def lossAll : SRows.Idx → EReal := fun i => loss (scores x codes bits mask (i 0) (i 1)) (label labels (i 0) (i 1))
def gradAll : SMask.Idx → EReal := fun i => grad (scores x codes bits mask (i 0) (i 1)) (label labels (i 0) (i 1)) (i 2)
def codeAll : SX.Idx → EReal := fun i => rowCode (fun j => x (ix3 (i 0) (i 1) j)) (i 2)
def scaleAll : SRows.Idx → EReal := fun i => rowScale fun j => x (ix3 (i 0) (i 1) j)

end

end Cert.ScoresSpec

end
-- ==== Proof.ScoresReferenceHat.lean ====
/- The reference's decoded documents, read at an index. -/
module

public import proofs.«01_k».proof.Proof.Spec
public import proofs.«01_k».proof.Proof.Gen.ScoresReferenceIdeal.Run
public import Idealize.ShloMosaic.Lib.Pointwise
public import Idealize.ShloMosaic.Lib.Pipeline.Value

@[expose] public section

set_option maxRecDepth 8192

noncomputable section

namespace Cert.ScoresReferenceIdeal.Hat

open Cert.ScoresReferenceIdeal Cert.ScoresReferenceIdeal.Gen Cert.Spec Idealize.ShloMosaic Idealize.ShloMosaic.TcCoe

variable {α : Type}

abbrev gd : GatherDims S80x256x32 S3x5120x80x2 S3x5120x80x32 := gather_S80x256x32_S3x5120x80x2_S3x5120x80x32_3_01_n_n_01_3_1132

/-- The host's gather at an index: the operand at the two start indices, each read signed and clamped. -/
theorem gather_apply (x : S80x256x32.Idx → α) (idx : IVec S3x5120x80x2 32) (b : Fin 3) (d : Fin 5120) (s : Fin 80) (w : Fin 32) :
    Host.gather gd x idx (ix4 b d s w)
      = x (ix3 ⟨min (idx (ix4 b d s 0)).toInt.toNat 79, by omega⟩ ⟨min (idx (ix4 b d s 1)).toInt.toNat 255, by omega⟩ w) := by
  unfold Host.gather
  congr 1
  funext a
  refine Fin.ext ?_
  show gd.start (ix4 b d s w) idx a + gd.batchCoord (ix4 b d s w) a + gd.offCoord (ix4 b d s w) a = _
  rw [GatherDims.batchCoord_eq_zero _ _ _ List.not_mem_nil]
  have hsi : ∀ k : Fin 2, gd.siIdx (ix4 b d s w) k = ix4 b d s k := by
    intro k
    funext y; refine Fin.ext ?_
    match y with
    | ⟨0, _⟩ => rfl
    | ⟨1, _⟩ => rfl
    | ⟨2, _⟩ => rfl
    | ⟨3, _⟩ => rfl
  match a with
  | ⟨0, _⟩ =>
    show gd.start (ix4 b d s w) idx (0 : Fin 3) + 0 + gd.offCoord (ix4 b d s w) (0 : Fin 3) = _
    rw [GatherDims.offCoord_eq_zero _ _ _ (fun h => ((GatherDims.mem_sKept _ _).mp h).1 (by decide))]
    unfold GatherDims.start
    rw [dif_pos (show (0 : Fin 3) ∈ gd.startIndexMap from by decide)]
    show min (idx (gd.siIdx _ (0 : Fin 2))).toInt.toNat 79 + 0 + 0 = min (idx (ix4 b d s 0)).toInt.toNat 79
    rw [hsi, Nat.add_zero]
  | ⟨1, _⟩ =>
    show gd.start (ix4 b d s w) idx (1 : Fin 3) + 0 + gd.offCoord (ix4 b d s w) (1 : Fin 3) = _
    rw [GatherDims.offCoord_eq_zero _ _ _ (fun h => ((GatherDims.mem_sKept _ _).mp h).1 (by decide))]
    unfold GatherDims.start
    rw [dif_pos (show (1 : Fin 3) ∈ gd.startIndexMap from by decide)]
    show min (idx (gd.siIdx _ (1 : Fin 2))).toInt.toNat 255 + 0 + 0 = min (idx (ix4 b d s 1)).toInt.toNat 255
    rw [hsi, Nat.add_zero]
  | ⟨2, _⟩ =>
    show gd.start (ix4 b d s w) idx (2 : Fin 3) + 0 + gd.offCoord (ix4 b d s w) (2 : Fin 3) = _
    unfold GatherDims.start
    rw [dif_neg (show (2 : Fin 3) ∉ gd.startIndexMap from by decide)]
    show 0 + 0 + gd.offCoord (ix4 b d s w) 2 = w.val
    rw [Nat.add_zero, Nat.zero_add]
    rfl

/-- A host index word that is not negative is left as it is by the wrap of negative indices. -/
theorem wrap_eq (w n : BitVec 32) (h : w.toNat < 256) : Scalar.select (IntOp.cmpi CmpIPredicate.slt w 0#32) (IntOp.addi w n) w = w := by
  have h : w.slt 0#32 = false := by
    rw [BitVec.slt_zero_eq_msb, BitVec.msb_eq_decide]; simp; omega
  show (if BitVec.ofBool (w.slt 0#32) = 1#1 then _ else _) = _
  rw [h]; rfl

theorem toInt_toNat (w : BitVec 32) (h : w.toNat < 256) : w.toInt.toNat = w.toNat := by
  rw [BitVec.toInt_eq_toNat_of_lt (by omega)]; rfl

/-- The reference's table of start indices. -/
def starts (codes : IVec S3x5120x80 8) : IVec S3x5120x80x2 32 :=
  concatenate S3x5120x80x2 3 [⟨S3x5120x80x1, broadcastInDim S3x5120x80x1 ![0, 1, 2] bcast_S3x5120x80_S3x5120x80x1_0_1_2 (broadcastInDim S3x5120x80 ![2] bcast_S80_S3x5120x80_2
      (select (cmpi .slt (iotaInDim S80 32 0) (broadcastInDim S80 ![] bcast_S_S80 (constantI S_ 32 0#32))) (addi (iotaInDim S80 32 0) (broadcastInDim S80 ![] bcast_S_S80 (constantI S_ 32 80#32))) (iotaInDim S80 32 0)))⟩,
    ⟨S3x5120x80x1, broadcastInDim S3x5120x80x1 ![0, 1, 2] bcast_S3x5120x80_S3x5120x80x1_0_1_2
      (select (cmpi .slt (extui 32 codes natLt_8_32) (broadcastInDim S3x5120x80 ![] bcast_S_S3x5120x80 (constantI S_ 32 0#32))) (addi (extui 32 codes natLt_8_32) (broadcastInDim S3x5120x80 ![] bcast_S_S3x5120x80 (constantI S_ 32 256#32))) (extui 32 codes natLt_8_32))⟩] concatenates_S3x5120x80x1_S3x5120x80x1_S3x5120x80x2_d3

theorem starts_0 (codes : IVec S3x5120x80 8) (b : Fin 3) (d : Fin 5120) (s : Fin 80) : starts codes (ix4 b d s 0) = BitVec.ofNat 32 s.val := by
  unfold starts
  pointwise
  exact wrap_eq _ _ (by rw [BitVec.toNat_ofNat]; omega)

theorem starts_1 (codes : IVec S3x5120x80 8) (b : Fin 3) (d : Fin 5120) (s : Fin 80) : starts codes (ix4 b d s 1) = (codes (ix3 b d s)).zeroExtend 32 := by
  unfold starts
  pointwise
  exact wrap_eq _ _ (by rw [BitVec.toNat_setWidth]; omega)

/-- The reference's decoded documents. -/
theorem hat_apply (codes : IVec S3x5120x80 8) (x : S80x256x32.Idx → α) (b : Fin 3) (d : Fin 5120) (e : Fin 2560) :
    shapeCast S3x5120x2560 (Host.gather gd x (starts codes)) shapeCasts_S3x5120x80x32_S3x5120x2560 (ix3 b d e)
      = x (ix3 ⟨e.val / 32, by omega⟩ ⟨(codes (ix3 b d ⟨e.val / 32, by omega⟩)).toNat, BitVec.isLt _⟩ ⟨e.val % 32, Nat.mod_lt _ (by decide)⟩) := by
  pointwise
  have hb : (codes (ix3 b d ⟨e.val / 32, by omega⟩)).toNat < 256 := BitVec.isLt _
  rw [gather_apply]
  congr 2
  · refine Fin.ext ?_
    show min (starts codes (ix4 b d ⟨e.val / 32, by omega⟩ 0)).toInt.toNat 79 = e.val / 32
    have hw : (BitVec.ofNat 32 (e.val / 32)).toNat = e.val / 32 := by rw [BitVec.toNat_ofNat]; omega
    rw [starts_0]
    show min (BitVec.ofNat 32 (e.val / 32)).toInt.toNat 79 = e.val / 32
    rw [toInt_toNat _ (by omega), hw]; omega
  · refine Fin.ext ?_
    show min (starts codes (ix4 b d ⟨e.val / 32, by omega⟩ 1)).toInt.toNat 255 = (codes (ix3 b d ⟨e.val / 32, by omega⟩)).toNat
    rw [starts_1, toInt_toNat _ (by rw [BitVec.toNat_setWidth]; omega), BitVec.toNat_setWidth]; omega

end Cert.ScoresReferenceIdeal.Hat

end
-- ==== Proof.ScoresReferenceRegion.lean ====
/- What the scores reference's quantising region leaves in its three arrays. -/
module

public import proofs.«01_k».proof.Proof.Gen.ScoresReferenceIdeal.Run
public import Idealize.ShloMosaic.Lib.Pipeline.Value

@[expose] public section

noncomputable section

namespace Cert.ScoresReferenceIdeal.Region

open Cert.ScoresReferenceIdeal Cert.ScoresReferenceIdeal.Gen Cert.ScoresReferenceIdeal.Value
open Idealize.ShloMosaic Idealize.ShloMosaic.TcCoe Idealize.SL.Sem

variable {F : FTy → Type} [FloatOps F]
variable (m : (ℓ : Loc nD τ sig) → Buf (Elt F) ℓ)

theorem hz : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (j : S3x1280x2560.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 1280 + 1 * (j 1).val = (j 1).val; omega
  | ⟨2, _⟩ => show win0_0.index t (2 : Fin 3) * 2560 + 1 * (j 2).val = (j 2).val; omega

theorem iblk0_eq (c : Dev nD) (t : Fin cfg0.N) : iblk m c 0 t = V m c main_arg0 := by
  funext j; show V m c main_arg0 (((cfg0.win 0).blk t).view.emb j) = V m c main_arg0 j; rw [emb0]

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (j : S3x1280x2560.Idx) : ((cfg0.win 1).blk t).view.emb j = j := by
  obtain ⟨e0, e1, e2⟩ := idx_zero1 t
  funext a; apply Fin.ext
  match a with
  | ⟨0, _⟩ => show win0_1.index t (0 : Fin 3) * 3 + 1 * (j 0).val = (j 0).val; omega
  | ⟨1, _⟩ => show win0_1.index t (1 : Fin 3) * 1280 + 1 * (j 1).val = (j 1).val; omega
  | ⟨2, _⟩ => show win0_1.index t (2 : Fin 3) * 2560 + 1 * (j 2).val = (j 2).val; omega

theorem out1_eq (a0 : Vec F S3x1280x2560 .bf16) : out0_1 (F := F) a0 = k0_pay3 a0 := by
  unfold out0_1
  rw [View.canon_unit_zero hz, View.ld_unit_zero (S := S3x1280x2560) hz _ a0]

theorem cut1_eq (t : Fin cfg0.N) (X : Vec F S3x1280x2560 .fp8e4m3) : (cfg0.win 1).cut (grid0.coords t) X = ((cfg0.win 1).blk t).view.read (Elt F) X := by
  funext j
  show X j = X (((cfg0.win 1).blk t).view.emb j)
  rw [emb1]

theorem flushed1_eq (c : Dev nD) (t : Fin cfg0.N) : (dats m 0 c).flushed 1 t = ((cfg0.win 1).blk t).view.read (Elt F) (k0_pay3 (V m c main_arg0)) := by
  show (cfg0.win 1).cut (grid0.coords t) ((dats m 0 c).after 1 t) = _
  rw [after0_1, out1_eq, iblk0_eq]
  exact cut1_eq t _

theorem covered1 (i : S3x1280x2560.Idx) : ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- The array of window 1 after the region. -/
theorem reg1 (c : Dev nD) : reg_main_v0_0 m c = k0_pay3 (m ((c : Thread nD τ).loc main_arg0)) :=
  ((dats m 0 c).arrAt_eq_of_cover 1 (k0_pay3 (V m c main_arg0)) (fun t _ => flushed1_eq m c t) covered1).trans (by rw [V_main_arg0])

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (j : S3x1280x2560.Idx) : ((cfg0.win 2).blk t).view.emb j = j := by
  obtain ⟨e0, e1, e2⟩ := idx_zero2 t
  funext a; apply Fin.ext
  match a with
  | ⟨0, _⟩ => show win0_2.index t (0 : Fin 3) * 3 + 1 * (j 0).val = (j 0).val; omega
  | ⟨1, _⟩ => show win0_2.index t (1 : Fin 3) * 1280 + 1 * (j 1).val = (j 1).val; omega
  | ⟨2, _⟩ => show win0_2.index t (2 : Fin 3) * 2560 + 1 * (j 2).val = (j 2).val; omega

theorem out2_eq (a0 : Vec F S3x1280x2560 .bf16) : out0_2 (F := F) a0 = k0_pay4 a0 := by
  unfold out0_2
  rw [View.canon_unit_zero hz, View.ld_unit_zero (S := S3x1280x2560) hz _ a0]

theorem cut2_eq (t : Fin cfg0.N) (X : Vec F S3x1280x2560 .bf16) : (cfg0.win 2).cut (grid0.coords t) X = ((cfg0.win 2).blk t).view.read (Elt F) X := by
  funext j
  show X j = X (((cfg0.win 2).blk t).view.emb j)
  rw [emb2]

theorem flushed2_eq (c : Dev nD) (t : Fin cfg0.N) : (dats m 0 c).flushed 2 t = ((cfg0.win 2).blk t).view.read (Elt F) (k0_pay4 (V m c main_arg0)) := by
  show (cfg0.win 2).cut (grid0.coords t) ((dats m 0 c).after 2 t) = _
  rw [after0_2, out2_eq, iblk0_eq]
  exact cut2_eq t _

theorem covered2 (i : S3x1280x2560.Idx) : ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- The array of window 2 after the region. -/
theorem reg2 (c : Dev nD) : reg_main_v0_1 m c = k0_pay4 (m ((c : Thread nD τ).loc main_arg0)) :=
  ((dats m 0 c).arrAt_eq_of_cover 2 (k0_pay4 (V m c main_arg0)) (fun t _ => flushed2_eq m c t) covered2).trans (by rw [V_main_arg0])

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb3 (t : Fin cfg0.N) (j : S3x1280x1.Idx) : ((cfg0.win 3).blk t).view.emb j = j := by
  obtain ⟨e0, e1, e2⟩ := idx_zero3 t
  funext a; apply Fin.ext
  match a with
  | ⟨0, _⟩ => show win0_3.index t (0 : Fin 3) * 3 + 1 * (j 0).val = (j 0).val; omega
  | ⟨1, _⟩ => show win0_3.index t (1 : Fin 3) * 1280 + 1 * (j 1).val = (j 1).val; omega
  | ⟨2, _⟩ => show win0_3.index t (2 : Fin 3) * 1 + 1 * (j 2).val = (j 2).val; omega

theorem out3_eq (a0 : Vec F S3x1280x2560 .bf16) : out0_3 (F := F) a0 = k0_pay5 a0 := by
  unfold out0_3
  rw [View.canon_unit_zero hz, View.ld_unit_zero (S := S3x1280x2560) hz _ a0]

theorem cut3_eq (t : Fin cfg0.N) (X : Vec F S3x1280x1 .f32) : (cfg0.win 3).cut (grid0.coords t) X = ((cfg0.win 3).blk t).view.read (Elt F) X := by
  funext j
  show X j = X (((cfg0.win 3).blk t).view.emb j)
  rw [emb3]

theorem flushed3_eq (c : Dev nD) (t : Fin cfg0.N) : (dats m 0 c).flushed 3 t = ((cfg0.win 3).blk t).view.read (Elt F) (k0_pay5 (V m c main_arg0)) := by
  show (cfg0.win 3).cut (grid0.coords t) ((dats m 0 c).after 3 t) = _
  rw [after0_3, out3_eq, iblk0_eq]
  exact cut3_eq t _

theorem covered3 (i : S3x1280x1.Idx) : ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- The array of window 3 after the region. -/
theorem reg3 (c : Dev nD) : reg_main_v0_2 m c = k0_pay5 (m ((c : Thread nD τ).loc main_arg0)) :=
  ((dats m 0 c).arrAt_eq_of_cover 3 (k0_pay5 (V m c main_arg0)) (fun t _ => flushed3_eq m c t) covered3).trans (by rw [V_main_arg0])

end Cert.ScoresReferenceIdeal.Region

end
-- ==== Proof.ScoresReferenceValue.lean ====
/- The scores reference at an index: the quantised rows, the masked scores, the logarithm of their softmax, the gradient and
   the loss. -/
module

public import proofs.«01_k».proof.Proof.ScoresSpec
public import proofs.«01_k».proof.Proof.ScoresReferenceHat
public import proofs.«01_k».proof.Proof.ScoresReferenceRegion
public import Idealize.ShloMosaic.Lib.Pipeline.Value
public import Idealize.ShloMosaic.Lib.ReduceAll
public import Idealize.ShloMosaic.Lib.KernelVsHost

@[expose] public section

set_option maxRecDepth 16384

noncomputable section

namespace Cert.ScoresReferenceIdeal.Math

open Cert.ScoresReferenceIdeal Cert.ScoresReferenceIdeal.Gen Cert.ScoresReferenceIdeal.Hat Cert.ScoresMath Cert.Spec
open Idealize.ShloMosaic Idealize.ShloMosaic.TcCoe Idealize.SL.Sem

section Quant
variable (x : Vec Ideal S3x1280x2560 .bf16) (b : Fin 3) (q : Fin 1280)

theorem log_two : Ideal.log (Ideal.ofBits .f32 0x40000000#32) = N2 := by
  rw [ofBits_two, Ideal.log_coe, if_neg (by norm_num)]

/-- The largest magnitude of each row, as a column. -/
def top : FVec Ideal S3x1280x1 .f32 :=
  shapeCast S3x1280x1 (multiReduction .maximumf [2] S3x1280 (absf (k0_pay1 x)) 0xFF800000#32 reduces_S3x1280x2560_S3x1280 (.inl rfl) rfl) shapeCasts_S3x1280_S3x1280x1

theorem top_apply : top x (ix3 b q 0) = Finset.univ.sup fun j => max (x (ix3 b q j)) (-x (ix3 b q j)) := by
  unfold top
  pointwise [k0_pay1]
  rw [ofBits_bot]
  rfl

/-- The exponents from the column of largest magnitudes. -/
def expo (v4 : FVec Ideal S3x1280x1 .f32) : FVec Ideal S3x1280x1 .f32 :=
  have v6 : FVec Ideal S3x1280x1 .f32 := mulf v4 (broadcast S3x1280x1 (Scalar.ofBits .f32 0x3B124925#32))
  have v10 : FVec Ideal S3x1280x1 .f32 := select (cmpf .olt v6 (broadcast S3x1280x1 (Scalar.ofBits .f32 0x00800000#32))) (broadcast S3x1280x1 (Scalar.ofBits .f32 0x00000000#32)) v6
  select (cmpf .oeq v10 (broadcast S3x1280x1 (Scalar.ofBits .f32 0x00000000#32))) (broadcast S3x1280x1 (Scalar.ofBits .f32 0x00000000#32))
    (addf (floor (divf (log v10) (log (broadcast S3x1280x1 (Scalar.ofBits .f32 0x40000000#32))))) (broadcast S3x1280x1 (Scalar.ofBits .f32 0x3F800000#32)))

theorem expo_apply (v4 : FVec Ideal S3x1280x1 .f32) : expo v4 (ix3 b q 0) = expR (Ideal.ofBits .f32 0x00800000#32) (v4 (ix3 b q 0) * Ideal.ofBits .f32 0x3B124925#32) := by
  pointwise [expo]
  unfold expR
  rw [← log_two]

theorem pay2_eq : k0_pay2 x = expo (top x) := rfl

theorem pay2_apply : k0_pay2 x (ix3 b q 0) = rowExp fun j => x (ix3 b q j) := by
  rw [pay2_eq, expo_apply, top_apply]
  unfold rowExp
  with_reducible rfl

/-- The codes from the activations and their exponents. -/
def code (v1 : FVec Ideal S3x1280x2560 .f32) (v21 : FVec Ideal S3x1280x1 .f32) : FVec Ideal S3x1280x2560 .fp8e4m3 :=
  truncf .fp8e4m3 (minimumf (broadcast S3x1280x2560 (Scalar.ofBits .f32 0x43E00000#32)) (maximumf (broadcast S3x1280x2560 (Scalar.ofBits .f32 0xC3E00000#32))
    (mulf v1 (broadcastTo S3x1280x2560 (exp2 (subf (broadcast S3x1280x1 (Scalar.ofBits .f32 0x00000000#32)) v21)) broadcasts_S3x1280x1_S3x1280x2560)))) bitsLt_fp8e4m3_f32

theorem code_apply (v1 : FVec Ideal S3x1280x2560 .f32) (v21 : FVec Ideal S3x1280x1 .f32) (j : Fin 2560) :
    code v1 v21 (ix3 b q j) = min (Ideal.ofBits .f32 0x43E00000#32) (max (Ideal.ofBits .f32 0xC3E00000#32) (v1 (ix3 b q j) * Ideal.exp2 (0 - v21 (ix3 b q 0)))) := by
  pointwise [code]
  rfl

theorem pay3_eq : k0_pay3 x = code x (k0_pay2 x) := rfl

theorem pay3_apply (j : Fin 2560) : k0_pay3 x (ix3 b q j) = rowCode (fun j => x (ix3 b q j)) j := by
  rw [pay3_eq, code_apply, pay2_apply]
  unfold rowCode
  with_reducible rfl

theorem pay4_apply (j : Fin 2560) : k0_pay4 x (ix3 b q j) = rowCode (fun j => x (ix3 b q j)) j := by
  rw [← pay3_apply]
  generalize e : k0_pay3 x = y
  unfold k0_pay4
  rw [e]
  rfl

theorem exp2_apply {S : Shape} (v : FVec Ideal S .f32) (i : S.Idx) : exp2 v i = Ideal.exp2 (v i) := rfl

theorem pay5_apply : k0_pay5 x (ix3 b q 0) = rowScale fun j => x (ix3 b q j) := by
  unfold k0_pay5
  rw [exp2_apply, pay2_apply]
  unfold rowScale
  with_reducible rfl

end Quant

section Scores

/-- The masked scores from the mask, the codes, the documents and the scales. -/
def masked (m4 : Vec Ideal S3x1280x5120 .i1) (c : FVec Ideal S3x1280x2560 .bf16) (D : FVec Ideal S3x5120x2560 .bf16) (σ : FVec Ideal S3x1280x1 .f32) : FVec Ideal S3x1280x5120 .f32 :=
  select m4 (broadcastInDim S3x1280x5120 ![] bcast_S_S3x1280x5120 (id (constant S_ .f32 0xFF800000#32)))
    (mulf (Host.dotGeneral dot_S3x1280x2560_S3x5120x2560_S3x1280x5120_2_2_1_1_0_0 none c D) (broadcastInDim S3x1280x5120 ![0, 1, 2] bcast_S3x1280x1_S3x1280x5120_0_1_2 σ))

theorem masked_apply (m4 : Vec Ideal S3x1280x5120 .i1) (c : FVec Ideal S3x1280x2560 .bf16) (D : FVec Ideal S3x5120x2560 .bf16) (σ : FVec Ideal S3x1280x1 .f32)
    (b : Fin 3) (q : Fin 1280) (d : Fin 5120) :
    masked m4 c D σ (ix3 b q d) = scoreOf (σ (ix3 b q 0)) (fun k => c (ix3 b q k)) (fun k d => D (ix3 b d k)) (fun d => m4 (ix3 b q d)) d := by
  pointwise [masked]
  show Scalar.select (m4 (ix3 b q d)) (Ideal.ofBits .f32 0xFF800000#32) _ = _
  rw [ofBits_bot]
  rfl

theorem red : S3x1280x5120.Reduces [2] S3x1280 := by decide

theorem lift_eq (b : Fin 3) (q : Fin 1280) (k : Fin 5120) : red.lift (ix2 b q) k = ix3 b q k := by
  funext a; apply Fin.ext
  match a with
  | ⟨0, _⟩ => rfl
  | ⟨1, _⟩ => rfl
  | ⟨2, _⟩ => rfl

theorem rowmax_apply (v : FVec Ideal S3x1280x5120 .f32) (b : Fin 3) (q : Fin 1280) :
    Host.reduce FloatOps.maximumf v (constant S_ .f32 0xFF800000#32) reducesTo_S3x1280x5120_S3x1280_d2 h_S_ (ix2 b q) = rowMax fun d => v (ix3 b q d) := by
  rw [hostReduce_maximumf_eq_multiReduction v 0xFF800000#32 reducesTo_S3x1280x5120_S3x1280_d2 h_S_ red (.inl rfl) rfl]
  refine (Ideal.multiReduction_maximumf_single v _ red (.inl rfl) rfl (ix2 b q)).trans ?_
  have e : v ∘ red.lift (ix2 b q) = fun d : Fin 5120 => v (ix3 b q d) := funext fun d => congrArg v (lift_eq b q d)
  rw [e]
  show Finset.univ.fold max (Ideal.ofBits .f32 0xFF800000#32) (fun d : Fin 5120 => v (ix3 b q d)) = _
  rw [ofBits_bot]
  rfl

theorem rowsum_apply (v : FVec Ideal S3x1280x5120 .f32) (b : Fin 3) (q : Fin 1280) :
    Host.reduceAdd v (constant S_ .f32 0x00000000#32) reducesTo_S3x1280x5120_S3x1280_d2 h_S_ (ix2 b q) = ∑ d : Fin 5120, v (ix3 b q d) := by
  show Ideal.hostReduceAdd reducesTo_S3x1280x5120_S3x1280_d2 v (Ideal.ofBits .f32 0x00000000#32) (ix2 b q) = _
  rw [Ideal.hostReduceAdd_single _ red, Ideal.ofBits_zero_f32, zero_add]
  exact Finset.sum_congr rfl fun d _ => congrArg v (lift_eq b q d)

/-- The scores less their row's maximum. -/
def shifted (v : FVec Ideal S3x1280x5120 .f32) (M : FVec Ideal S3x1280 .f32) : FVec Ideal S3x1280x5120 .f32 :=
  subf v (broadcastInDim S3x1280x5120 ![0, 1, 2] bcast_S3x1280x1_S3x1280x5120_0_1_2 (broadcastInDim S3x1280x1 ![0, 1] bcast_S3x1280_S3x1280x1_0_1 (maximumf (broadcastInDim S3x1280 ![] bcast_S_S3x1280 (constant S_ .f32 0xFF800000#32)) M)))

theorem shifted_apply (v : FVec Ideal S3x1280x5120 .f32) (M : FVec Ideal S3x1280 .f32) (b : Fin 3) (q : Fin 1280) (d : Fin 5120) :
    shifted v M (ix3 b q d) = v (ix3 b q d) - M (ix2 b q) := by
  pointwise [shifted]
  rw [ofBits_bot, max_eq_right bot_le]

/-- The shifted scores less the logarithm of their row's sum of exponentials. -/
def normed (v : FVec Ideal S3x1280x5120 .f32) (Z : FVec Ideal S3x1280 .f32) : FVec Ideal S3x1280x5120 .f32 :=
  subf v (broadcastInDim S3x1280x5120 ![0, 1, 2] bcast_S3x1280x1_S3x1280x5120_0_1_2 (Host.log (broadcastInDim S3x1280x1 ![0, 1] bcast_S3x1280_S3x1280x1_0_1 Z)))

theorem normed_apply (v : FVec Ideal S3x1280x5120 .f32) (Z : FVec Ideal S3x1280 .f32) (b : Fin 3) (q : Fin 1280) (d : Fin 5120) :
    normed v Z (ix3 b q d) = v (ix3 b q d) - Ideal.log (Z (ix2 b q)) := by
  pointwise [normed]

/-- The logarithm of the softmax of each row. -/
def logsm (v : FVec Ideal S3x1280x5120 .f32) : FVec Ideal S3x1280x5120 .f32 :=
  normed (shifted v (Host.reduce FloatOps.maximumf v (constant S_ .f32 0xFF800000#32) reducesTo_S3x1280x5120_S3x1280_d2 h_S_))
    (Host.reduceAdd (Host.exp (shifted v (Host.reduce FloatOps.maximumf v (constant S_ .f32 0xFF800000#32) reducesTo_S3x1280x5120_S3x1280_d2 h_S_))) (constant S_ .f32 0x00000000#32) reducesTo_S3x1280x5120_S3x1280_d2 h_S_)

theorem hexp_apply {S : Shape} (v : FVec Ideal S .f32) (i : S.Idx) : Host.exp v i = Ideal.exp (v i) := rfl

theorem logsm_apply (v : FVec Ideal S3x1280x5120 .f32) (b : Fin 3) (q : Fin 1280) (d : Fin 5120) : logsm v (ix3 b q d) = logp (fun d => v (ix3 b q d)) d := by
  unfold logsm
  rw [normed_apply, shifted_apply, rowmax_apply, rowsum_apply]
  simp only [hexp_apply, shifted_apply, rowmax_apply]
  unfold logp rowSum
  with_reducible rfl

/-- The gradient of the scores from the logarithms and the labels. -/
def gradOf (v : FVec Ideal S3x1280x5120 .f32) (lab : IVec S3x1280 32) : FVec Ideal S3x1280x5120 .bf16 :=
  truncf .bf16 (subf (Host.exp v) (uitofp .f32 (cmpi .eq (broadcastInDim S3x1280x5120 ![0, 1, 2] bcast_S3x1280x1_S3x1280x5120_0_1_2 (broadcastInDim S3x1280x1 ![0, 1] bcast_S3x1280_S3x1280x1_0_1 lab))
    (broadcastInDim S3x1280x5120 ![0, 1, 2] bcast_S1x1x5120_S3x1280x5120_0_1_2 (broadcastInDim S1x1x5120 ![2] bcast_S5120_S1x1x5120_2 (iotaInDim S5120 32 0)))))) bitsLt_bf16_f32

theorem one_hot (l d : Fin 5120) : (FloatOps.uitofp .f32 (IntOp.cmpi .eq (BitVec.ofNat 32 l.val) (BitVec.ofNat 32 d.val)) : Ideal .f32) = if d = l then (1 : EReal) else 0 := by
  have e : IntOp.cmpi .eq (BitVec.ofNat 32 l.val) (BitVec.ofNat 32 d.val) = BitVec.ofBool (decide (d = l)) := by
    show BitVec.ofBool _ = _
    congr 1
    rw [beq_eq_decide]
    refine decide_eq_decide.mpr ⟨fun h => Fin.ext ?_, fun h => by rw [h]⟩
    have := congrArg BitVec.toNat h
    simp only [BitVec.toNat_ofNat] at this
    have := l.isLt
    have := d.isLt
    omega
  rw [e]
  by_cases h : d = l
  · rw [if_pos h, decide_eq_true h]; show (((1 : ℕ) : ℝ) : EReal) = 1; norm_num
  · rw [if_neg h, decide_eq_false h]; show (((0 : ℕ) : ℝ) : EReal) = 0; norm_num

theorem gradOf_apply (v : FVec Ideal S3x1280x5120 .f32) (lab : IVec S3x1280 32) (b : Fin 3) (q : Fin 1280) (d l : Fin 5120) (hl : lab (ix2 b q) = BitVec.ofNat 32 l.val) :
    gradOf v lab (ix3 b q d) = Ideal.exp (v (ix3 b q d)) - (if d = l then 1 else 0) := by
  rw [← one_hot, ← hl]
  pointwise [gradOf]

end Scores

/-! ## The score at the label -/

section Pick
variable {α : Type}

abbrev gl : GatherDims S3x1280x5120 S3x1280x1x1 S3x1280x1 := gather_S3x1280x5120_S3x1280x1x1_S3x1280x1_n_2_01_01_2_3_111

/-- The host's gather along the last axis: the row at its start index, read signed and clamped. -/
theorem pick_apply (x : S3x1280x5120.Idx → α) (idx : IVec S3x1280x1x1 32) (b : Fin 3) (q : Fin 1280) :
    Host.gather gl x idx (ix3 b q 0) = x (ix3 b q ⟨min (idx (ix4 b q 0 0)).toInt.toNat 5119, by omega⟩) := by
  unfold Host.gather
  congr 1
  funext a
  refine Fin.ext ?_
  show gl.start (ix3 b q 0) idx a + gl.batchCoord (ix3 b q 0) a + gl.offCoord (ix3 b q 0) a = _
  have hsi : ∀ k : Fin 1, gl.siIdx (ix3 b q 0) k = ix4 b q 0 k := by
    intro k
    funext y; refine Fin.ext ?_
    match y with
    | ⟨0, _⟩ => rfl
    | ⟨1, _⟩ => rfl
    | ⟨2, _⟩ => rfl
    | ⟨3, _⟩ => rfl
  match a with
  | ⟨0, _⟩ =>
    show gl.start (ix3 b q 0) idx (0 : Fin 3) + gl.batchCoord (ix3 b q 0) (0 : Fin 3) + gl.offCoord (ix3 b q 0) (0 : Fin 3) = _
    rw [GatherDims.offCoord_eq_zero _ _ _ (fun h => ((GatherDims.mem_sKept _ _).mp h).2 (by decide))]
    unfold GatherDims.start
    rw [dif_neg (show (0 : Fin 3) ∉ gl.startIndexMap from by decide)]
    show 0 + gl.batchCoord (ix3 b q 0) 0 + 0 = b.val
    rw [Nat.add_zero, Nat.zero_add]
    rfl
  | ⟨1, _⟩ =>
    show gl.start (ix3 b q 0) idx (1 : Fin 3) + gl.batchCoord (ix3 b q 0) (1 : Fin 3) + gl.offCoord (ix3 b q 0) (1 : Fin 3) = _
    rw [GatherDims.offCoord_eq_zero _ _ _ (fun h => ((GatherDims.mem_sKept _ _).mp h).2 (by decide))]
    unfold GatherDims.start
    rw [dif_neg (show (1 : Fin 3) ∉ gl.startIndexMap from by decide)]
    show 0 + gl.batchCoord (ix3 b q 0) 1 + 0 = q.val
    rw [Nat.add_zero, Nat.zero_add]
    rfl
  | ⟨2, _⟩ =>
    show gl.start (ix3 b q 0) idx (2 : Fin 3) + gl.batchCoord (ix3 b q 0) (2 : Fin 3) + gl.offCoord (ix3 b q 0) (2 : Fin 3) = _
    rw [GatherDims.offCoord_eq_zero _ _ _ (fun h => ((GatherDims.mem_sKept _ _).mp h).1 (by decide)),
      GatherDims.batchCoord_eq_zero _ _ _ (by decide)]
    unfold GatherDims.start
    rw [dif_pos (show (2 : Fin 3) ∈ gl.startIndexMap from by decide)]
    show min (idx (gl.siIdx _ (0 : Fin 1))).toInt.toNat 5119 + 0 + 0 = min (idx (ix4 b q 0 0)).toInt.toNat 5119
    rw [hsi, Nat.add_zero]

/-- The labels as start indices, a negative one taken from the end. -/
def wrapped (lab : IVec S3x1280 32) : IVec S3x1280x1x1 32 :=
  shapeCast S3x1280x1x1 (select (cmpi .slt (broadcastInDim S3x1280x1 ![0, 1] bcast_S3x1280_S3x1280x1_0_1 lab) (broadcastInDim S3x1280x1 ![] bcast_S_S3x1280x1 (constantI S_ 32 0#32)))
    (addi (broadcastInDim S3x1280x1 ![0, 1] bcast_S3x1280_S3x1280x1_0_1 lab) (broadcastInDim S3x1280x1 ![] bcast_S_S3x1280x1 (constantI S_ 32 5120#32))) (broadcastInDim S3x1280x1 ![0, 1] bcast_S3x1280_S3x1280x1_0_1 lab)) shapeCasts_S3x1280x1_S3x1280x1x1

theorem keep (w n : BitVec 32) (h : w.toNat < 5120) : Scalar.select (IntOp.cmpi CmpIPredicate.slt w 0#32) (IntOp.addi w n) w = w := by
  have h : w.slt 0#32 = false := by
    rw [BitVec.slt_zero_eq_msb, BitVec.msb_eq_decide]; simp; omega
  show (if BitVec.ofBool (w.slt 0#32) = 1#1 then _ else _) = _
  rw [h]; rfl

variable (lab : IVec S3x1280 32) (hlab : ∀ b q, (lab (ix2 b q)).toNat < 5120)
include hlab

theorem wrapped_apply (b : Fin 3) (q : Fin 1280) : wrapped lab (ix4 b q 0 0) = lab (ix2 b q) := by
  pointwise [wrapped]
  exact keep _ _ (hlab b q)

/-- The range check of the start indices. -/
def inRange (idx : IVec S3x1280x1x1 32) : IVec S3x1280x1x1 1 :=
  andi (cmpi .sge idx (broadcastInDim S3x1280x1x1 ![] bcast_S_S3x1280x1x1 (constantI S_ 32 0#32)))
    (cmpi .sle idx (broadcastInDim S3x1280x1x1 ![0, 1, 2, 3] bcast_S1x1x1x1_S3x1280x1x1_0_1_2_3 (broadcastInDim S1x1x1x1 ![3] bcast_S1_S1x1x1x1_3 (constantI S1 32 5119#32))))

omit hlab in
theorem in_range_word (w : BitVec 32) (h : w.toNat < 5120) : IntOp.andi (IntOp.cmpi .sge w 0#32) (IntOp.cmpi .sle w 5119#32) = 1#1 := by
  have hi : w.toInt = w.toNat := BitVec.toInt_eq_toNat_of_lt (by omega)
  have h1 : IntOp.cmpi .sge w 0#32 = 1#1 := by
    show BitVec.ofBool ((0#32).sle w) = 1#1
    rw [show (0#32).sle w = true by rw [BitVec.sle_eq_decide, hi]; simp]; rfl
  have h2 : IntOp.cmpi .sle w 5119#32 = 1#1 := by
    show BitVec.ofBool (w.sle 5119#32) = 1#1
    rw [show w.sle 5119#32 = true by rw [BitVec.sle_eq_decide, hi, show (5119#32).toInt = 5119 from by decide]; simp; omega]; rfl
  rw [h1, h2]; rfl

theorem inRange_at (b : Fin 3) (q : Fin 1280) : inRange (wrapped lab) (ix4 b q 0 0) = 1#1 := by
  pointwise [inRange]
  rw [wrapped_apply lab hlab]
  exact in_range_word _ (hlab b q)

theorem inRange_one (i : S3x1280x1x1.Idx) : inRange (wrapped lab) i = 1#1 := by
  have hi : i = ix4 (n0 := 3) (n1 := 1280) (n2 := 1) (n3 := 1) (i 0) (i 1) 0 0 := by
    funext a; apply Fin.ext
    match a with
    | ⟨0, _⟩ => rfl
    | ⟨1, _⟩ => rfl
    | ⟨2, _⟩ => exact Nat.lt_one_iff.mp (i 2).isLt
    | ⟨3, _⟩ => exact Nat.lt_one_iff.mp (i 3).isLt
  rw [hi]
  exact inRange_at lab hlab _ _

/-- The loss from the logarithms and the start indices. -/
def lossOf (v : FVec Ideal S3x1280x5120 .f32) (idx : IVec S3x1280x1x1 32) : FVec Ideal S3x1280x1 .f32 :=
  broadcastInDim S3x1280x1 ![0, 1] bcast_S3x1280_S3x1280x1_0_1 (Host.negf (shapeCast S3x1280 (select
    (Host.reduce IntOp.andi (inRange idx) (constantI S_ 1 1#1) reducesTo_S3x1280x1x1_S3x1280x1_d3 h_S_)
    (Host.gather gl v idx) (broadcastInDim S3x1280x1 ![] bcast_S_S3x1280x1 (constant S_ .f32 0x7FC00000#32))) shapeCasts_S3x1280x1_S3x1280))

theorem lossOf_apply (v : FVec Ideal S3x1280x5120 .f32) (b : Fin 3) (q : Fin 1280) (l : Fin 5120) (hl : lab (ix2 b q) = BitVec.ofNat 32 l.val) :
    lossOf v (wrapped lab) (ix3 b q 0) = -v (ix3 b q l) := by
  have hp : Host.gather gl v (wrapped lab) (ix3 b q 0) = v (ix3 b q l) := by
    rw [pick_apply]
    congr 2
    refine Fin.ext ?_
    have hw : (BitVec.ofNat 32 l.val).toNat = l.val := by rw [BitVec.toNat_ofNat]; have := l.isLt; omega
    show min (wrapped lab (ix4 b q 0 0)).toInt.toNat 5119 = l.val
    rw [wrapped_apply lab hlab, hl, BitVec.toInt_eq_toNat_of_lt (by have := l.isLt; omega), hw]
    have := l.isLt
    show min l.val 5119 = l.val
    omega
  have ho : Host.reduce IntOp.andi (inRange (wrapped lab)) (constantI S_ 1 1#1) reducesTo_S3x1280x1x1_S3x1280x1_d3 h_S_ (ix3 b q 0) = 1#1 :=
    Host.reduce_andi_one _ _ _ _ _ rfl (inRange_one lab hlab)
  rw [← hp]
  unfold lossOf
  generalize Host.gather gl v (wrapped lab) = y
  revert ho
  generalize Host.reduce IntOp.andi (inRange (wrapped lab)) (constantI S_ 1 1#1) reducesTo_S3x1280x1x1_S3x1280x1_d3 h_S_ = o
  intro ho
  pointwise
  rw [ho]
  rfl

end Pick

/-! ## The run's results -/

section Results
variable (m : (ℓ : Loc nD τ sig) → Buf (Elt Ideal) ℓ) (c : Dev nD)

abbrev a0 : Vec Ideal S3x1280x2560 .bf16 := m ((c : Thread nD τ).loc main_arg0)
abbrev a1 : Vec Ideal S3x5120x80 .i8 := m ((c : Thread nD τ).loc main_arg1)
abbrev a2 : Vec Ideal S80x256x32 .i16 := m ((c : Thread nD τ).loc main_arg2)
abbrev a3 : Vec Ideal S3x1280 .i32 := m ((c : Thread nD τ).loc main_arg3)
abbrev a4 : Vec Ideal S3x1280x5120 .i1 := m ((c : Thread nD τ).loc main_arg4)

theorem v23_of (V0 : Valuation τ sig (Elt Ideal)) (x4 : Vec Ideal S3x1280x5120 .i1) (x1 : Vec Ideal S3x5120x80 .i8) (x2 : Vec Ideal S80x256x32 .i16)
    (cd : FVec Ideal S3x1280x2560 .bf16) (σ : FVec Ideal S3x1280x1 .f32)
    (h4 : V0 (Proc.devRef .tc main_arg4) = x4) (h1 : V0 (Proc.devRef .tc main_arg1) = x1) (h2 : V0 (Proc.devRef .tc main_arg2) = x2)
    (hc : V0 (Proc.devRef .tc main_v0_1) = cd) (hs : V0 (Proc.devRef .tc main_v0_2) = σ) :
    Value.res_main_v23 V0 = masked x4 cd (shapeCast S3x5120x2560 (Host.gather gd (bitcastToFloat (F := Ideal) .bf16 x2) (starts x1)) shapeCasts_S3x5120x80x32_S3x5120x2560) σ := by
  subst h4 h1 h2 hc hs
  rfl

theorem v23_eq : Value.res_main_v23 (Value.exitV m c)
    = masked (a4 m c) (k0_pay4 (a0 m c)) (shapeCast S3x5120x2560 (Host.gather gd (bitcastToFloat (F := Ideal) .bf16 (a2 m c)) (starts (a1 m c))) shapeCasts_S3x5120x80x32_S3x5120x2560) (k0_pay5 (a0 m c)) :=
  v23_of _ _ _ _ _ _ (Value.exit_main_arg4 m c) (Value.exit_main_arg1 m c) (Value.exit_main_arg2 m c)
    ((Value.exit_main_v0_1 m c).trans (Region.reg2 m c)) ((Value.exit_main_v0_2 m c).trans (Region.reg3 m c))

theorem v23_apply (b : Fin 3) (q : Fin 1280) (d : Fin 5120) : Value.res_main_v23 (Value.exitV m c) (ix3 b q d) = ScoresSpec.scores (a0 m c) (a1 m c) (a2 m c) (a4 m c) b q d := by
  rw [v23_eq, masked_apply, pay5_apply]
  simp only [pay4_apply, hat_apply]
  rfl

theorem v24_apply (b : Fin 3) (q : Fin 1280) (d : Fin 5120) :
    Value.res_main_v24 (Value.exitV m c) (ix3 b q d) = logp (ScoresSpec.scores (a0 m c) (a1 m c) (a2 m c) (a4 m c) b q) d := by
  have e : Value.res_main_v24 (Value.exitV m c) = logsm (Value.res_main_v23 (Value.exitV m c)) := by
    unfold Value.res_main_v24 Value.res_main_call1_v5
    generalize Value.res_main_v23 (Value.exitV m c) = v
    rfl
  rw [e, logsm_apply]
  congr 1
  funext d
  exact v23_apply m c b q d

theorem wrapped_eq : Value.res_main_call2_v5 (Value.exitV m c) = wrapped (a3 m c) := by
  have h (V0 : Valuation τ sig (Elt Ideal)) (x3 : Vec Ideal S3x1280 .i32) (h3 : V0 (Proc.devRef .tc main_arg3) = x3) : Value.res_main_call2_v5 V0 = wrapped x3 := by
    subst h3; rfl
  exact h _ _ (Value.exit_main_arg3 m c)

/-- The reference's run: each result at its function of the arguments, the arguments unchanged. -/
theorem run (hlab : ∀ c b q, (a3 m c (ix2 b q)).toNat < 5120) (ρ : Dev nD → PrngReg) :
    θ_run defs (onTc (τ := τ) (main (F := Ideal))) ⟨m, fun _ => 0, ρ⟩ fun r => ∀ c : Dev nD,
      r.2.mem ((c.tc : Thread nD τ).loc main_v39) = ScoresSpec.lossAll (a0 m c) (a1 m c) (a2 m c) (a3 m c) (a4 m c)
      ∧ r.2.mem ((c.tc : Thread nD τ).loc main_v38) = ScoresSpec.gradAll (a0 m c) (a1 m c) (a2 m c) (a3 m c) (a4 m c)
      ∧ r.2.mem ((c.tc : Thread nD τ).loc main_v0_0) = ScoresSpec.codeAll (a0 m c)
      ∧ r.2.mem ((c.tc : Thread nD τ).loc main_v0_2) = ScoresSpec.scaleAll (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2.1.trans ?_, (h c).2.2.2.2⟩) (Value.run m ρ)
  · have e : ∀ i : S3x1280x1.Idx, lossOf (Value.res_main_v24 (Value.exitV m c)) (Value.res_main_call2_v5 (Value.exitV m c)) i = ScoresSpec.lossAll (a0 m c) (a1 m c) (a2 m c) (a3 m c) (a4 m c) i := by
      refine ScoresSpec.all3 fun b q z => ?_
      obtain rfl : z = 0 := Subsingleton.elim _ _
      rw [wrapped_eq, lossOf_apply (a3 m c) (hlab c) _ b q _ (ScoresSpec.label_eq (a3 m c) (hlab c) b q), v24_apply]
      rfl
    exact funext e
  · have e : ∀ i : S3x1280x5120.Idx, gradOf (Value.res_main_v24 (Value.exitV m c)) (a3 m c) i = ScoresSpec.gradAll (a0 m c) (a1 m c) (a2 m c) (a3 m c) (a4 m c) i := by
      refine ScoresSpec.all3 fun b q d => ?_
      rw [gradOf_apply _ _ b q d _ (ScoresSpec.label_eq (a3 m c) (hlab c) b q), v24_apply]
      rfl
    have h (x3 : Vec Ideal S3x1280 .i32) (h3 : Value.exitV m c (Proc.devRef .tc main_arg3) = x3) :
        gradOf (Value.res_main_v24 (Value.exitV m c)) (Value.exitV m c (Proc.devRef .tc main_arg3)) = gradOf (Value.res_main_v24 (Value.exitV m c)) x3 := by subst h3; rfl
    exact (h _ (Value.exit_main_arg3 m c)).trans (funext e)
  · rw [Region.reg1]
    refine funext (ScoresSpec.all3 fun b q j => ?_)
    exact pay3_apply (a0 m c) b q j
  · rw [Region.reg3]
    refine funext (ScoresSpec.all3 fun b q z => ?_)
    obtain rfl : z = 0 := Subsingleton.elim _ _
    exact pay5_apply (a0 m c) b q

end Results

end Cert.ScoresReferenceIdeal.Math

end
-- ==== Proof.ScoresKernelIdealFrame.lean ====
module

public import proofs.«01_k».proof.Proof.ScoresKernelIdealRun
public import Idealize.ShloMosaic.Lib.Claim

/-! What the outputs of `ScoresKernelIdeal` hold after each grid point, and its frame. -/

@[expose] public section

set_option maxRecDepth 16384

noncomputable section

namespace Cert.ScoresKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole)

/-- Case A's pieces for output 5 tile its block (1 store of `S1x256x1`, checked by the kernel's evaluation: Lib/Ring.lean `Piece.tiledL`, linear in the pieces), so they cover it. -/
theorem cover0_A_5 (hc0 : cond0_0 i)
    (x0 : Vec F S1x256x2560 .bf16) (x1 : Vec F S80x5120 .i32) (x2 : Vec F S1280x256 .i32) (x3 : Vec F S1x256x1 .i32) (x4 : Vec F S1x256x5120 .i8) (y : S1x256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1 S1x256x1.size (by sl_kernel_rfl) y

/-- What case A leaves in output 5's staging buffer: its pieces read back over junk. -/
def out0_A_5 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1x256x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1)

/-- Case A's pieces for output 6 tile its block (1 store of `S1x256x5120`, checked by the kernel's evaluation: Lib/Ring.lean `Piece.tiledL`, linear in the pieces), so they cover it. -/
theorem cover0_A_6 (hc0 : cond0_0 i)
    (x0 : Vec F S1x256x2560 .bf16) (x1 : Vec F S80x5120 .i32) (x2 : Vec F S1280x256 .i32) (x3 : Vec F S1x256x1 .i32) (x4 : Vec F S1x256x5120 .i8) (y : S1x256x5120.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1 S1x256x5120.size (by sl_kernel_rfl) y

/-- What case A leaves in output 6's staging buffer: its pieces read back over junk. -/
def out0_A_6 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1x256x5120 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1)

/-- Case A's pieces for output 7 tile its block (1 store of `S1x256x2560`, checked by the kernel's evaluation: Lib/Ring.lean `Piece.tiledL`, linear in the pieces), so they cover it. -/
theorem cover0_A_7 (hc0 : cond0_0 i)
    (x0 : Vec F S1x256x2560 .bf16) (x1 : Vec F S80x5120 .i32) (x2 : Vec F S1280x256 .i32) (x3 : Vec F S1x256x1 .i32) (x4 : Vec F S1x256x5120 .i8) (y : S1x256x2560.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1 S1x256x2560.size (by sl_kernel_rfl) y

/-- What case A leaves in output 7's staging buffer: its pieces read back over junk. -/
def out0_A_7 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1x256x2560 .fp8e4m3 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1)

/-- Case A's pieces for output 8 tile its block (1 store of `S1x256x1`, checked by the kernel's evaluation: Lib/Ring.lean `Piece.tiledL`, linear in the pieces), so they cover it. -/
theorem cover0_A_8 (hc0 : cond0_0 i)
    (x0 : Vec F S1x256x2560 .bf16) (x1 : Vec F S80x5120 .i32) (x2 : Vec F S1280x256 .i32) (x3 : Vec F S1x256x1 .i32) (x4 : Vec F S1x256x5120 .i8) (y : S1x256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1 S1x256x1.size (by sl_kernel_rfl) y

/-- What case A leaves in output 8's staging buffer: its pieces read back over junk. -/
def out0_A_8 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1x256x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1)

/-- Case A's pieces for scratch `arg11`, which the kernel carries between points, cover it: one piece of the whole (Lib/Ring.lean `Piece.tiledL`). -/
theorem scover0_A_0 (hc0 : cond0_0 i)
    (x0 : Vec F S1x256x2560 .bf16) (x1 : Vec F S80x5120 .i32) (x2 : Vec F S1280x256 .i32) (x3 : Vec F S1x256x1 .i32) (x4 : Vec F S1x256x5120 .i8) (y : S1280x5120.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1 S1280x5120.size (by sl_kernel_rfl) y

/-- What case A leaves in scratch `arg11`: its pieces read back over junk. -/
def sout0_A_0 (hc0 : cond0_0 i)
    (x0 : Vec F S1x256x2560 .bf16) (x1 : Vec F S80x5120 .i32) (x2 : Vec F S1280x256 .i32) (x3 : Vec F S1x256x1 .i32) (x4 : Vec F S1x256x5120 .i8) : Vec F S1280x5120 .i32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1)

/-- Case B's pieces for output 5 tile its block (1 store of `S1x256x1`, checked by the kernel's evaluation: Lib/Ring.lean `Piece.tiledL`, linear in the pieces), so they cover it. -/
theorem cover0_B_5 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) (y : S1x256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).1 S1x256x1.size (by sl_kernel_rfl) y

/-- What case B leaves in output 5's staging buffer: its pieces read back over junk. -/
def out0_B_5 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1x256x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).1)

/-- Case B's pieces for output 6 tile its block (1 store of `S1x256x5120`, checked by the kernel's evaluation: Lib/Ring.lean `Piece.tiledL`, linear in the pieces), so they cover it. -/
theorem cover0_B_6 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) (y : S1x256x5120.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.1 S1x256x5120.size (by sl_kernel_rfl) y

/-- What case B leaves in output 6's staging buffer: its pieces read back over junk. -/
def out0_B_6 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1x256x5120 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.1)

/-- Case B's pieces for output 7 tile its block (1 store of `S1x256x2560`, checked by the kernel's evaluation: Lib/Ring.lean `Piece.tiledL`, linear in the pieces), so they cover it. -/
theorem cover0_B_7 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) (y : S1x256x2560.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.1 S1x256x2560.size (by sl_kernel_rfl) y

/-- What case B leaves in output 7's staging buffer: its pieces read back over junk. -/
def out0_B_7 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1x256x2560 .fp8e4m3 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.1)

/-- Case B's pieces for output 8 tile its block (1 store of `S1x256x1`, checked by the kernel's evaluation: Lib/Ring.lean `Piece.tiledL`, linear in the pieces), so they cover it. -/
theorem cover0_B_8 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) (y : S1x256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.2.1 S1x256x1.size (by sl_kernel_rfl) y

/-- What case B leaves in output 8's staging buffer: its pieces read back over junk. -/
def out0_B_8 (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1x256x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xs0).2.2.2.1)

end

/-- Case B stores nothing into scratch `arg11`: it holds what the point before left. -/
def sout0_B_0 (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (hc0 : ¬cond0_0 i)
    (x0 : Vec F S1x256x2560 .bf16) (x1 : Vec F S80x5120 .i32) (x2 : Vec F S1280x256 .i32) (x3 : Vec F S1x256x1 .i32) (x4 : Vec F S1x256x5120 .i8) (xs0 : Vec F S1280x5120 .i32) : Vec F S1280x5120 .i32 := xs0

/-! ## What the outputs hold after each point -/

/-- What a point of case A leaves (the outputs in window order, then the scratch), and what one of case B leaves over the scratch `xs0`. -/
def caseA (c : Dev nD) (t : Fin cfg0.N) (h0 : t.val % 5 = 0) : Vec F S1x256x1 .f32 × Vec F S1x256x5120 .bf16 × Vec F S1x256x2560 .fp8e4m3 × Vec F S1x256x1 .f32 × Vec F S1280x5120 .i32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t))
def caseB (c : Dev nD) (t : Fin cfg0.N) (h0 : ¬t.val % 5 = 0) (xs0 : Vec F S1280x5120 .i32) : Vec F S1x256x1 .f32 × Vec F S1x256x5120 .bf16 × Vec F S1x256x2560 .fp8e4m3 × Vec F S1x256x1 .f32 × Vec F S1280x5120 .i32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) xs0)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1 .f32 × Vec F S1x256x5120 .bf16 × Vec F S1x256x2560 .fp8e4m3 × Vec F S1x256x1 .f32 × Vec F S1280x5120 .i32
  | 0, hn => caseA m c ⟨0, hn⟩ (Nat.zero_mod _)
  | n + 1, hn => if h0 : (n + 1) % 5 = 0 then caseA m c ⟨n + 1, hn⟩ h0 else caseB m c ⟨n + 1, hn⟩ h0 (outsAt0 c n (Nat.lt_of_succ_lt hn)).2.2.2.2

/-- `outsAt0` at a point of case A: that case's contents. -/
theorem outsAt0_A (c : Dev nD) (t : Fin cfg0.N) (h0 : t.val % 5 = 0) :
    outsAt0 m c t.val t.isLt = caseA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 5 = 0) :
    outsAt0 m c t.val t.isLt = caseB m c t h0 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 15 := lt_of_lt_of_eq t.isLt (show cfg0.N = 15 from N_0)
  by_cases h0 : t.val % 5 = 0
  · by_cases hz : t.val = 0
    · rw [PhiS_castSucc m c t, PhiS_zero m c _ _ hz, PhiA0_eq]
      rw [outsAt0_A m c t h0]; unfold caseA
      unfold out0_A_5 out0_A_6 out0_A_7 out0_A_8 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    · rw [PhiS_castSucc m c t, PhiS_pos m c _ _ hz]
      rw [outsAt0_A m c t h0]; unfold caseA
      unfold out0_A_5 out0_A_6 out0_A_7 out0_A_8 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexists _; iexact HS0
      isplitl [HS1]; · iexact HS1
      isplitl [HS2]; · iexact HS2
      iintro ⟨H0, H1, H2, H3, H4, ⟨%e5, H5⟩, ⟨%e6, H6⟩, ⟨%e7, H7⟩, ⟨%e8, H8⟩, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
  · by_cases hz : t.val = 0
    · exfalso; have hN : t.val < 15 := lt_of_lt_of_eq t.isLt (show cfg0.N = 15 from N_0); omega
    · rw [PhiS_castSucc m c t, PhiS_pos m c _ _ hz]
      rw [outsAt0_B m c t h0]; unfold caseB
      unfold out0_B_5 out0_B_6 out0_B_7 out0_B_8 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_ScoresKernelIdeal`'s statement (Defs.lean) at any `F` — Proof.lean cites it at `Bits`:
    `theorem Cert.Proof.claim : Cert.Claim := ⟨Cert.ScoresKernelIdeal.Gen.facts, fun m ρ _ => Cert.ScoresKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ScoresKernelIdeal.Gen

end
-- ==== Proof.ScoresKernelIdealBlocks.lean ====
module

public import proofs.«01_k».proof.Proof.ScoresKernelIdealFrame
public import Idealize.ShloMosaic.Lib.Pipeline.Value

/-! Each output array of `ScoresKernelIdeal` after the run, block by block. -/

@[expose] public section

noncomputable section

namespace Cert.ScoresKernelIdeal.Value

open Cert.ScoresKernelIdeal Cert.ScoresKernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- WHAT POINT `t` WRITES BACK to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v9_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v9_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v9_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v9_3) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9_0) = (dats m 0 c).arrAt 5 cfg0.N
      ∧ r.2.mem ((c : Thread nD τ).loc main_v9_1) = (dats m 0 c).arrAt 6 cfg0.N
      ∧ r.2.mem ((c : Thread nD τ).loc main_v9_2) = (dats m 0 c).arrAt 7 cfg0.N
      ∧ r.2.mem ((c : Thread nD τ).loc main_v9_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

end Cert.ScoresKernelIdeal.Value

end
-- ==== Proof.ScoresKernelGatherValue.lean ====
/- What the gather loop of `ScoresKernelIdeal` leaves in its scratch: at row `r` and document `d` the word of the table's row `r`
   that the document's code for the row's subvector names. -/
module

public import proofs.«01_k».proof.Proof.ScoresKernelIdealGather
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Ring

@[expose] public section

set_option maxRecDepth 8192
set_option maxHeartbeats 4000000

noncomputable section

namespace Cert.ScoresKernelIdeal.Gather

open Cert.ScoresKernelIdeal Cert.ScoresKernelIdeal.Gen Idealize.ShloMosaic Idealize.ShloMosaic.TcCoe

variable {F : FTy → Type} [FloatOps F] [Named F]

/-- One gathered piece: lanes of one row of codes select, by their low seven bits, a lane of the first or of the second half
    of eight table rows. -/
def piece (C : IVec S8x512 32) (t0 t1 : IVec S8x128 32) (o : Fin 2 → Nat) (ho : S8x512.Slices o S1x128) : IVec S8x128 32 :=
  have idx : IVec S8x128 32 := broadcastTo S8x128 (shapeCast S1x128 (extractStridedSlice S1x128 o (shapeCast S8x512 C shapeCasts_S8x512_S8x512) ho) shapeCasts_S1x128_S1x128) broadcasts_S1x128_S8x128
  have low : IVec S8x128 32 := andi idx (broadcast S8x128 127#32)
  have lane : IVec S8x128 32 := shapeCast S8x128 (shapeCast S8x128x1 (select (cmpi .slt low (broadcast S8x128 0#32)) (addi low (broadcast S8x128 128#32)) low) shapeCasts_S8x128_S8x128x1) shapeCasts_S8x128x1_S8x128
  shapeCast S8x128 (select (cmpi .slt idx (broadcast S8x128 128#32)) (dynamicGather 1 (shapeCast S8x128 t0 shapeCasts_S8x128_S8x128) lane) (dynamicGather 1 (shapeCast S8x128 t1 shapeCasts_S8x128_S8x128) lane)) shapeCasts_S8x128_S8x128

/-- The seven low bits of a word are never negative, and they are the word modulo 128. -/
theorem low_eq (w : BitVec 32) : Scalar.select (IntOp.cmpi CmpIPredicate.slt (IntOp.andi w 127#32) 0#32) (IntOp.addi (IntOp.andi w 127#32) 128#32) (IntOp.andi w 127#32) = IntOp.andi w 127#32 := by
  have h : (w &&& 127#32).slt 0#32 = false := by
    rw [BitVec.slt_zero_eq_msb, BitVec.msb_and, show (127#32).msb = false from rfl, Bool.and_false]
  show (if BitVec.ofBool ((w &&& 127#32).slt 0#32) = 1#1 then _ else _) = _
  rw [h]; rfl

theorem toNat_low (w : BitVec 32) : (IntOp.andi w 127#32).toNat % 128 = w.toNat % 128 := by
  show (w &&& 127#32).toNat % 128 = _
  rw [BitVec.toNat_and]
  show (w.toNat &&& (2 ^ 7 - 1)) % 128 = _
  rw [Nat.and_two_pow_sub_one_eq_mod]
  omega

theorem piece_apply (C : IVec S8x512 32) (t0 t1 : IVec S8x128 32) (r t : Nat) (ho : S8x512.Slices ![r, 128 * t] S1x128) (a : Fin 8) (l : Fin 128)
    (hr : r < 8) (hl : 128 * t + l.val < 512) :
    piece C t0 t1 ![r, 128 * t] ho (ix2 a l)
      = if (C (ix2 ⟨r, hr⟩ ⟨128 * t + l.val, hl⟩)).slt 128#32 then t0 (ix2 a ⟨(C (ix2 ⟨r, hr⟩ ⟨128 * t + l.val, hl⟩)).toNat % 128, Nat.mod_lt _ (by decide)⟩)
        else t1 (ix2 a ⟨(C (ix2 ⟨r, hr⟩ ⟨128 * t + l.val, hl⟩)).toNat % 128, Nat.mod_lt _ (by decide)⟩) := by
  unfold piece
  pointwise
  simp only [low_eq, toNat_low]
  show (if BitVec.ofBool (BitVec.slt (C (ix2 ⟨r, hr⟩ ⟨128 * t + l.val, hl⟩)) 128#32) = 1#1 then _ else _) = _
  cases BitVec.slt (C (ix2 ⟨r, hr⟩ ⟨128 * t + l.val, hl⟩)) 128#32 <;> rfl

/-- The table lane a code names. -/
def lane (w : BitVec 32) : Fin 256 :=
  if w.slt 128#32 then ⟨w.toNat % 128, by omega⟩ else ⟨128 + w.toNat % 128, by omega⟩

/-- A code below 256 names the lane of its own number. -/
theorem lane_val (w : BitVec 32) (h : w.toNat < 256) : (lane w).val = w.toNat := by
  unfold lane
  have : w.slt 128#32 = decide (w.toNat < 128) := by
    rw [BitVec.slt_eq_decide, BitVec.toInt_eq_toNat_of_lt (by omega)]
    simp only [show (128#32).toInt = 128 from by decide]
    exact decide_eq_decide.mpr (by omega)
  rw [this]
  by_cases h' : w.toNat < 128
  · simp only [h', decide_true, if_true]; omega
  · simp only [h', decide_false, Bool.false_eq_true, if_false]; omega

/-- The table looked up: at row `r` and document `d`, the word of row `r` that the code of subvector `r / 16` names. -/
def look (codes : Vec F S80x5120 .i32) (tab : Vec F S1280x256 .i32) : S1280x5120.Idx → BitVec 32 := fun y =>
  tab (ix2 (y 0) (lane (codes (ix2 ⟨(y 0).val / 16, by have : (y 0).val < 1280 := (y 0).isLt; omega⟩ (y 1)))))

theorem look_of (codes : Vec F S80x5120 .i32) (tab : Vec F S1280x256 .i32) (y : S1280x5120.Idx) (u : S80x5120.Idx) (v : S1280x256.Idx)
    (h0 : (u 0).val = (y 0).val / 16) (h1 : (u 1).val = (y 1).val) (h2 : (v 0).val = (y 0).val) (h3 : (v 1).val = (lane (codes u)).val) :
    look codes tab y = tab v := by
  have hu : (ix2 ⟨(y 0).val / 16, by have : (y 0).val < 1280 := (y 0).isLt; omega⟩ (y 1) : S80x5120.Idx) = u := by
    funext a; apply Fin.ext
    match a with
    | ⟨0, _⟩ => exact h0.symm
    | ⟨1, _⟩ => exact h1.symm
  unfold look
  rw [hu]
  congr 1
  funext a; apply Fin.ext
  match a with
  | ⟨0, _⟩ => exact h2.symm
  | ⟨1, _⟩ => exact h3.symm

theorem inb1 (k : Fin k0_t1_loop.trips) : ∀ a, k0_off1 k a + S8x512.size a ≤ S80x5120.size a := by
  have h := k0_off1_eq k
  have hk : k.val < 100 := k.isLt
  rw [h]; intro a
  match a with
  | ⟨0, _⟩ => show 8 * (k.val / 10) + 8 ≤ 80; omega
  | ⟨1, _⟩ => show 512 * (k.val % 10) + 512 ≤ 5120; omega

theorem inb2 (k : Fin k0_t1_loop.trips) (a b : BitVec 32) (r s : Nat) [ha : Mult 16 8 a r] [hb : Mult 8 2 b s] :
    ∀ x, k0_off2 k a b x + S8x128.size x ≤ S1280x256.size x := by
  have h : k0_off2 k a b = ![128 * (k.val / 10) + 16 * r + 8 * s, 0] := by rw [ha.eq, hb.eq]; exact k0_off2_eq k ⟨r, ha.lt⟩ ⟨s, hb.lt⟩
  have hk : k.val < 100 := k.isLt
  have := ha.lt; have := hb.lt
  rw [h]; intro x
  match x with
  | ⟨0, _⟩ => show 128 * (k.val / 10) + 16 * r + 8 * s + 8 ≤ 1280; omega
  | ⟨1, _⟩ => show 0 + 128 ≤ 256; omega

theorem inb3 (k : Fin k0_t1_loop.trips) (a b : BitVec 32) (r s : Nat) [ha : Mult 16 8 a r] [hb : Mult 8 2 b s] :
    ∀ x, k0_off3 k a b x + S8x128.size x ≤ S1280x256.size x := by
  have h : k0_off3 k a b = ![128 * (k.val / 10) + 16 * r + 8 * s, 128] := by rw [ha.eq, hb.eq]; exact k0_off3_eq k ⟨r, ha.lt⟩ ⟨s, hb.lt⟩
  have hk : k.val < 100 := k.isLt
  have := ha.lt; have := hb.lt
  rw [h]; intro x
  match x with
  | ⟨0, _⟩ => show 128 * (k.val / 10) + 16 * r + 8 * s + 8 ≤ 1280; omega
  | ⟨1, _⟩ => show 128 + 128 ≤ 256; omega

theorem inb4 (k : Fin k0_t1_loop.trips) (a b d : BitVec 32) (r s t : Nat) [ha : Mult 16 8 a r] [hb : Mult 8 2 b s] [hd : Mult 128 4 d t] :
    ∀ x, k0_off4 k a b d x + ![8, 128] x ≤ S1280x5120.size x := by
  have h : k0_off4 k a b d = ![128 * (k.val / 10) + 16 * r + 8 * s, 512 * (k.val % 10) + 128 * t] := by
    rw [ha.eq, hb.eq, hd.eq]; exact k0_off4_eq k ⟨r, ha.lt⟩ ⟨s, hb.lt⟩ ⟨t, hd.lt⟩
  have hk : k.val < 100 := k.isLt
  have := ha.lt; have := hb.lt; have := hd.lt
  rw [h]; intro x
  match x with
  | ⟨0, _⟩ => show 128 * (k.val / 10) + 16 * r + 8 * s + 8 ≤ 1280; omega
  | ⟨1, _⟩ => show 512 * (k.val % 10) + 128 * t + 128 ≤ 5120; omega

/-- Every gathered piece is a block of the table looked up. -/
theorem agree (codes : Vec F S80x5120 .i32) (tab : Vec F S1280x256 .i32) (k : Fin k0_t1_loop.trips) (a b d : BitVec 32) (r s t : Nat)
    [ha : Mult 16 8 a r] [hb : Mult 8 2 b s] [hd : Mult 128 4 d t] (i1 i2 i3 i4) (o : Fin 2 → Nat) (ho : S8x512.Slices o S1x128) (hot : o = ![r, 128 * t])
    (x : (Rect.unit (s := S1280x5120) (k0_off4 k a b d) ![8, 128] i4).shape.Idx) :
    piece (View.ld codes (Rect.unit (s := S80x5120) (k0_off1 k) S8x512.size i1)) (View.ld tab (Rect.unit (s := S1280x256) (k0_off2 k a b) S8x128.size i2))
        (View.ld tab (Rect.unit (s := S1280x256) (k0_off3 k a b) S8x128.size i3)) o ho x
      = look codes tab ((Rect.unit (s := S1280x5120) (k0_off4 k a b d) ![8, 128] i4).emb x) := by
  subst hot
  have h4 : k0_off4 k a b d = ![128 * (k.val / 10) + 16 * r + 8 * s, 512 * (k.val % 10) + 128 * t] := by
    rw [ha.eq, hb.eq, hd.eq]; exact k0_off4_eq k ⟨r, ha.lt⟩ ⟨s, hb.lt⟩ ⟨t, hd.lt⟩
  have h2 : k0_off2 k a b = ![128 * (k.val / 10) + 16 * r + 8 * s, 0] := by
    rw [ha.eq, hb.eq]; exact k0_off2_eq k ⟨r, ha.lt⟩ ⟨s, hb.lt⟩
  have h3 : k0_off3 k a b = ![128 * (k.val / 10) + 16 * r + 8 * s, 128] := by
    rw [ha.eq, hb.eq]; exact k0_off3_eq k ⟨r, ha.lt⟩ ⟨s, hb.lt⟩
  have h1 := k0_off1_eq k
  have hr := ha.lt; have hs := hb.lt; have ht := hd.lt
  have h40 : k0_off4 k a b d 0 = 128 * (k.val / 10) + 16 * r + 8 * s := by rw [h4]; rfl
  have h41 : k0_off4 k a b d 1 = 512 * (k.val % 10) + 128 * t := by rw [h4]; rfl
  have h20 : k0_off2 k a b 0 = 128 * (k.val / 10) + 16 * r + 8 * s := by rw [h2]; rfl
  have h21 : k0_off2 k a b 1 = 0 := by rw [h2]; rfl
  have h30 : k0_off3 k a b 0 = 128 * (k.val / 10) + 16 * r + 8 * s := by rw [h3]; rfl
  have h31 : k0_off3 k a b 1 = 128 := by rw [h3]; rfl
  have h10 : k0_off1 k 0 = 8 * (k.val / 10) := by rw [h1]; rfl
  have h11 : k0_off1 k 1 = 512 * (k.val % 10) := by rw [h1]; rfl
  obtain ⟨p, q, rfl⟩ : ∃ (p : Fin 8) (q : Fin 128), x = ix2 p q := ⟨x 0, x 1, by funext a; match a with | ⟨0, _⟩ => rfl | ⟨1, _⟩ => rfl⟩
  have hp := p.isLt; have hq := q.isLt
  refine (piece_apply _ _ _ r t ho p q hr (by omega)).trans ?_
  generalize hw : View.ld codes (Rect.unit (s := S80x5120) (k0_off1 k) S8x512.size i1) (ix2 ⟨r, hr⟩ ⟨128 * t + q.val, by omega⟩) = w
  have key : ∀ v : S1280x256.Idx, (v 0).val = 128 * (k.val / 10) + 16 * r + 8 * s + p.val → (v 1).val = (lane w).val →
      look codes tab ((Rect.unit (s := S1280x5120) (k0_off4 k a b d) ![8, 128] i4).emb (ix2 p q)) = tab v := by
    intro v hv0 hv1
    refine look_of codes tab _ ((Rect.unit (s := S80x5120) (k0_off1 k) S8x512.size i1).idx (ix2 ⟨r, hr⟩ ⟨128 * t + q.val, by omega⟩)) v ?_ ?_ ?_ ?_
    · show k0_off1 k 0 + 1 * r = (k0_off4 k a b d 0 + 1 * p.val) / 16; omega
    · show k0_off1 k 1 + 1 * (128 * t + q.val) = k0_off4 k a b d 1 + 1 * q.val; omega
    · show _ = k0_off4 k a b d 0 + 1 * p.val; omega
    · rw [hv1, ← hw]
  by_cases hlt : w.slt 128#32 = true
  · rw [if_pos hlt, key ((Rect.unit (s := S1280x256) (k0_off2 k a b) S8x128.size i2).idx (ix2 p ⟨w.toNat % 128, Nat.mod_lt _ (by decide)⟩))]
    · show k0_off2 k a b 0 + 1 * p.val = _; omega
    · unfold lane; rw [if_pos hlt]; show k0_off2 k a b 1 + 1 * (w.toNat % 128) = w.toNat % 128; omega
  · rw [if_neg hlt, key ((Rect.unit (s := S1280x256) (k0_off3 k a b) S8x128.size i3).idx (ix2 p ⟨w.toNat % 128, Nat.mod_lt _ (by decide)⟩))]
    · show k0_off3 k a b 0 + 1 * p.val = _; omega
    · unfold lane; rw [if_neg hlt]; show k0_off3 k a b 1 + 1 * (w.toNat % 128) = 128 + w.toNat % 128; omega

section Loop

variable (𝒱 : Variants) (c : Dev nD) (bd : Option 𝒱.V) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole) (k0_h1 : k0_cond1 i = 1#1) (X_arg3 : BufTy.Contents (Elt F) arg3.view.ty) (X_arg4 : BufTy.Contents (Elt F) arg4.view.ty)

instance mult16 (r : Fin 8) : Mult 16 8 (BitVec.ofNat 32 (16 * r.val)) r.val := ⟨rfl, r.isLt⟩
instance mult8 (s : Fin 2) : Mult 8 2 (BitVec.ofNat 32 (8 * s.val)) s.val := ⟨rfl, s.isLt⟩
instance mult128 (t : Fin 4) : Mult 128 4 (BitVec.ofNat 32 (128 * t.val)) t.val := ⟨rfl, t.isLt⟩

theorem slices (r : Fin 8) (t : Fin 4) : S8x512.Slices ![r.val, 128 * t.val] S1x128 :=
  ⟨rfl, fun a => by
    have := r.isLt; have := t.isLt
    match a with
    | ⟨0, _⟩ => show r.val + 1 ≤ 8; omega
    | ⟨1, _⟩ => show 128 * t.val + 128 ≤ 512; omega⟩

/-- The store of trip `k` at code row `r`, lane block `t` and row half `s`. -/
def store (codes : Vec F S80x5120 .i32) (tab : Vec F S1280x256 .i32) (k : Fin k0_t1_loop.trips) (r : Fin 8) (t : Fin 4) (s : Fin 2) : View.Piece (Elt F) S1280x5120 .i32 :=
  ⟨Rect.unit (s := S1280x5120) (k0_off4 k (BitVec.ofNat 32 (16 * r.val)) (BitVec.ofNat 32 (8 * s.val)) (BitVec.ofNat 32 (128 * t.val))) ![8, 128] (inb4 k _ _ _ r.val s.val t.val),
    piece (View.ld codes (Rect.unit (s := S80x5120) (k0_off1 k) S8x512.size (inb1 k)))
      (View.ld tab (Rect.unit (s := S1280x256) (k0_off2 k (BitVec.ofNat 32 (16 * r.val)) (BitVec.ofNat 32 (8 * s.val))) S8x128.size (inb2 k _ _ r.val s.val)))
      (View.ld tab (Rect.unit (s := S1280x256) (k0_off3 k (BitVec.ofNat 32 (16 * r.val)) (BitVec.ofNat 32 (8 * s.val))) S8x128.size (inb3 k _ _ r.val s.val)))
      ![r.val, 128 * t.val] (slices r t)⟩

/-- The 64 stores of a trip, last first. -/
theorem trip_eq (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k
      = ([7, 6, 5, 4, 3, 2, 1, 0] : List (Fin 8)).flatMap fun r => ([3, 2, 1, 0] : List (Fin 4)).flatMap fun t => ([1, 0] : List (Fin 2)).map fun s =>
          store (arg3.view.read (Elt F) X_arg3) (arg4.view.read (Elt F) X_arg4) k r t s := by
  sl_kernel_rfl

/-- One trip's stores are blocks of the table looked up. -/
theorem trip_pieces (k : Fin k0_t1_loop.trips) : ∀ p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k, ∀ x : p.1.shape.Idx,
    p.2 x = look (arg3.view.read (Elt F) X_arg3) (arg4.view.read (Elt F) X_arg4) (p.1.emb x) := by
  intro p hp x
  rw [trip_eq] at hp
  obtain ⟨r, -, hp⟩ := List.mem_flatMap.mp hp
  obtain ⟨t, -, hp⟩ := List.mem_flatMap.mp hp
  obtain ⟨s, -, rfl⟩ := List.mem_map.mp hp
  exact agree (arg3.view.read (Elt F) X_arg3) (arg4.view.read (Elt F) X_arg4) k _ _ _ r.val s.val t.val (inb1 k) (inb2 k _ _ r.val s.val) (inb3 k _ _ r.val s.val) (inb4 k _ _ _ r.val s.val t.val) _ (slices r t) rfl x

/-- So are the stores of any number of trips. -/
theorem loop_pieces : ∀ n, n ≤ k0_t1_loop.trips → ∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 n, ∀ x : p.1.shape.Idx,
    p.2 x = look (arg3.view.read (Elt F) X_arg3) (arg4.view.read (Elt F) X_arg4) (p.1.emb x)
  | 0, _, p, hp, _ => absurd hp List.not_mem_nil
  | n + 1, h, p, hp, x => by
    rw [show n + 1 = (⟨n, h⟩ : Fin k0_t1_loop.trips).val + 1 from rfl, pb_k0_t1_succ] at hp
    rcases List.mem_append.mp hp with hp | hp
    · exact trip_pieces 𝒱 c bd i arg2 harg2 arg3 harg3 arg4 harg4 arg5 harg5 arg6 harg6 arg7 harg7 arg8 harg8 arg9 harg9 arg10 harg10 arg11 harg11 arg12 harg12 arg13 harg13 k0_h1 X_arg3 X_arg4 ⟨n, h⟩ p hp x
    · exact loop_pieces n (by omega) p hp x

/-- After the loop the scratch holds the table looked up. -/
theorem scratch_eq : View.canon (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 (Scf.trips k0_t1_loop.lb k0_t1_loop.ub k0_t1_loop.st))
    = look (arg3.view.read (Elt F) X_arg3) (arg4.view.read (Elt F) X_arg4) :=
  funext fun y => View.canon_apply_of_pieces _ _ (loop_pieces 𝒱 c bd i arg2 harg2 arg3 harg3 arg4 harg4 arg5 harg5 arg6 harg6 arg7 harg7 arg8 harg8 arg9 harg9 arg10 harg10 arg11 harg11 arg12 harg12 arg13 harg13 k0_h1 X_arg3 X_arg4 _ le_rfl) y
    (View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 (Scf.trips k0_t1_loop.lb k0_t1_loop.ub k0_t1_loop.st)) S8x128.size (by sl_kernel_rfl) y)

end Loop

end Cert.ScoresKernelIdeal.Gather

end
-- ==== Proof.ScoresKernelHost.lean ====
/- What the host operations of `ScoresKernelIdeal` hand to its kernel: the codes transposed and widened, and the codebook as a table
   of pairs of half words. -/
module

public import proofs.«01_k».proof.Proof.Spec
public import proofs.«01_k».proof.Proof.ScoresKernelIdealKit
public import Idealize.ShloMosaic.Lib.Pointwise
public import Idealize.ShloMosaic.Lib.BitcastConvert
public import Idealize.ShloMosaic.Lib.Tactic

@[expose] public section

set_option maxRecDepth 100000

noncomputable section

namespace Cert.ScoresKernelIdeal.Host

open Cert.ScoresKernelIdeal Cert.ScoresKernelIdeal.Gen Cert.Spec Idealize.ShloMosaic Idealize.ShloMosaic.TcCoe Idealize.ShloMosaic.StableHlo

variable {F : FTy → Type} [FloatOps F] [Named F]
variable (m : (ℓ : Loc nD τ sig) → Buf (Elt F) ℓ) (c : Dev nD)

theorem V_codes : V m c main_v2 = extui 32 (transpose S80x15360 [1, 0] (shapeCast S15360x80 (m ((c : Thread nD τ).loc main_arg1)) shapeCasts_S3x5120x80_S15360x80) transposes_S15360x80_S80x15360_1_0) natLt_8_32 := by
  unfold V
  after_results <;> rfl

theorem V_tab : V m c main_v6 = shapeCast S1280x256 (transpose S80x16x256 [0, 2, 1] (Host.bitcastConvertWiden S80x256x16 32 (shapeCast S80x256x16x2 (m ((c : Thread nD τ).loc main_arg2)) shapeCasts_S80x256x32_S80x256x16x2) splits_S80x256x16_w32_S80x256x16x2_w16) transposes_S80x256x16_S80x16x256_0_2_1) shapeCasts_S80x16x256_S1280x256 := by
  unfold V
  after_results <;> rfl

theorem transposed (a : IVec S3x5120x80 8) (s : Fin 80) (e : Fin 15360) :
    transpose S80x15360 [1, 0] (shapeCast S15360x80 a shapeCasts_S3x5120x80_S15360x80) transposes_S15360x80_S80x15360_1_0 (ix2 s e) = a (ix3 ⟨e.val / 5120, by omega⟩ ⟨e.val % 5120, Nat.mod_lt _ (by decide)⟩ s) := by
  rw [transpose_apply [1, 0] _ _ (ix2 s e) (ix2 e s) (fun b => by fin_cases b <;> rfl)]
  pointwise

/-- The codes handed to the kernel: row `s`, column `5120 b + d`. -/
theorem codes_apply (s : Fin 80) (e : Fin 15360) :
    V m c main_v2 (ix2 s e) = (m ((c : Thread nD τ).loc main_arg1) (ix3 ⟨e.val / 5120, by omega⟩ ⟨e.val % 5120, Nat.mod_lt _ (by decide)⟩ s)).zeroExtend 32 := by
  rw [V_codes]
  exact congrArg (BitVec.zeroExtend 32) (transposed _ s e)

/-- The table handed to the kernel: row `16 s + w`, lane `l` holds the half words `2 w` (low) and `2 w + 1` (high) of
    the codebook's entry `(s, l)`. -/
theorem tab_apply (r : Fin 1280) (l : Fin 256) :
    V m c main_v6 (ix2 r l)
      = (id (m ((c : Thread nD τ).loc main_arg2)) : S80x256x32.Idx → BitVec 16) (ix3 ⟨r.val / 16, by omega⟩ l ⟨r.val % 16 * 2 + 1, by omega⟩)
        ++ (id (m ((c : Thread nD τ).loc main_arg2)) : S80x256x32.Idx → BitVec 16) (ix3 ⟨r.val / 16, by omega⟩ l ⟨r.val % 16 * 2 + 0, by omega⟩) := by
  rw [V_tab]
  pointwise
  rfl

theorem append_low (a b : BitVec 16) : (a ++ b).extractLsb' 0 16 = b := by
  apply BitVec.eq_of_getLsbD_eq; intro i hi
  rw [BitVec.getLsbD_extractLsb', BitVec.getLsbD_append]
  simp [hi]

theorem append_high (a b : BitVec 16) : (a ++ b).extractLsb' 16 16 = a := by
  apply BitVec.eq_of_getLsbD_eq; intro i hi
  rw [BitVec.getLsbD_extractLsb', BitVec.getLsbD_append]
  simp [hi]

/-- Half `p` of a table word. -/
theorem tab_half (r : Fin 1280) (l : Fin 256) (p : ℕ) (hp : p < 2) :
    (V m c main_v6 (ix2 r l) : BitVec 32).extractLsb' (16 * p) 16
      = m ((c : Thread nD τ).loc main_arg2) (ix3 ⟨r.val / 16, by omega⟩ l ⟨r.val % 16 * 2 + p, by omega⟩) := by
  rw [tab_apply]
  match p, hp with
  | 0, _ => exact append_low _ _
  | 1, _ => exact append_high _ _

end Cert.ScoresKernelIdeal.Host

end
-- ==== Proof.ScoresPoints.lean ====
/- What every grid point of the scores kernel leaves: the row functions of its blocks and of the table looked up, the scratch carried
   from a batch's first point on. -/
module

public import proofs.«01_k».proof.Proof.ScoresKernelIdealBlocks
public import proofs.«01_k».proof.Proof.ScoresKernelGatherValue
public import proofs.«01_k».proof.Proof.ScoresKernelHost

@[expose] public section

set_option maxRecDepth 16384

noncomputable section

namespace Cert.ScoresKernelIdeal.Points

open Cert.ScoresKernelIdeal Cert.ScoresKernelIdeal.Gen Cert.Spec Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

variable {F : FTy → Type} [FloatOps F] [Named F]

section Body
variable (c : Dev nD) (i : grid0.Coords) (arg2 : Memref sig .tc .vmem S1x256x2560 .bf16) (harg2 : arg2.IsWhole) (arg3 : Memref sig .tc .vmem S80x5120 .i32) (harg3 : arg3.IsWhole) (arg4 : Memref sig .tc .vmem S1280x256 .i32) (harg4 : arg4.IsWhole) (arg5 : Memref sig .tc .vmem S1x256x1 .i32) (harg5 : arg5.IsWhole) (arg6 : Memref sig .tc .vmem S1x256x5120 .i8) (harg6 : arg6.IsWhole) (arg7 : Memref sig .tc .vmem S1x256x1 .f32) (harg7 : arg7.IsWhole) (arg8 : Memref sig .tc .vmem S1x256x5120 .bf16) (harg8 : arg8.IsWhole) (arg9 : Memref sig .tc .vmem S1x256x2560 .fp8e4m3) (harg9 : arg9.IsWhole) (arg10 : Memref sig .tc .vmem S1x256x1 .f32) (harg10 : arg10.IsWhole) (arg11 : Memref sig .tc .vmem S1280x5120 .i32) (harg11 : arg11.IsWhole) (arg12 : Memref sig .tc .vmem S256x5120 .f32) (harg12 : arg12.IsWhole) (arg13 : Memref sig .tc .vmem S256x2560 .bf16) (harg13 : arg13.IsWhole)
  (x0 : Vec F S1x256x2560 .bf16) (x1 : Vec F S80x5120 .i32) (x2 : Vec F S1280x256 .i32) (x3 : Vec F S1x256x1 .i32) (x4 : Vec F S1x256x5120 .i8) (xs0 : Vec F S1280x5120 .i32)

/-- The gather loop leaves the table looked up. -/
theorem gathered_eq (hc0 : cond0_0 i) : gathered c i arg2 harg2 arg3 harg3 arg4 harg4 arg5 harg5 arg6 harg6 arg7 harg7 arg8 harg8 arg9 harg9 arg10 harg10 arg11 harg11 arg12 harg12 arg13 harg13 hc0 x1 x2 = Gather.look x1 x2 := by
  unfold gathered
  refine (Gather.scratch_eq Variants.none c none i arg2 harg2 arg3 harg3 arg4 harg4 arg5 harg5 arg6 harg6 arg7 harg7 arg8 harg8 arg9 harg9 arg10 harg10 arg11 harg11 arg12 harg12 arg13 harg13 hc0 (harg3.unread x1) (harg4.unread x2)).trans ?_
  rw [harg3.read_unread, harg4.read_unread]

theorem out_A_5 (hc0 : cond0_0 i) : out0_A_5 c i arg2 harg2 arg3 harg3 arg4 harg4 arg5 harg5 arg6 harg6 arg7 harg7 arg8 harg8 arg9 harg9 arg10 harg10 arg11 harg11 arg12 harg12 arg13 harg13 hc0 x0 x1 x2 x3 x4 = lossV x0 (Gather.look x1 x2) x3 x4 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  unfold whole5
  rw [View.canon_unit_zero hz3, gathered_eq]

theorem out_B_5 (hc0 : ¬cond0_0 i) : out0_B_5 c i arg2 harg2 arg3 harg3 arg4 harg4 arg5 harg5 arg6 harg6 arg7 harg7 arg8 harg8 arg9 harg9 arg10 harg10 arg11 harg11 arg12 harg12 arg13 harg13 hc0 x0 x1 x2 x3 x4 xs0 = lossV x0 xs0 x3 x4 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 hc0 x0 x1 x2 x3 x4 xs0)]
  unfold kernelRun0_B
  dsimp only
  unfold whole5
  rw [View.canon_unit_zero hz3]

theorem out_A_6 (hc0 : cond0_0 i) : out0_A_6 c i arg2 harg2 arg3 harg3 arg4 harg4 arg5 harg5 arg6 harg6 arg7 harg7 arg8 harg8 arg9 harg9 arg10 harg10 arg11 harg11 arg12 harg12 arg13 harg13 hc0 x0 x1 x2 x3 x4 = gradV x0 (Gather.look x1 x2) x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  unfold whole6
  rw [View.canon_unit_zero hz3, gathered_eq]

theorem out_B_6 (hc0 : ¬cond0_0 i) : out0_B_6 c i arg2 harg2 arg3 harg3 arg4 harg4 arg5 harg5 arg6 harg6 arg7 harg7 arg8 harg8 arg9 harg9 arg10 harg10 arg11 harg11 arg12 harg12 arg13 harg13 hc0 x0 x1 x2 x3 x4 xs0 = gradV x0 xs0 x3 x4 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 x0 x1 x2 x3 x4 xs0)]
  unfold kernelRun0_B
  dsimp only
  unfold whole6
  rw [View.canon_unit_zero hz3]

theorem out_A_7 (hc0 : cond0_0 i) : out0_A_7 c i arg2 harg2 arg3 harg3 arg4 harg4 arg5 harg5 arg6 harg6 arg7 harg7 arg8 harg8 arg9 harg9 arg10 harg10 arg11 harg11 arg12 harg12 arg13 harg13 hc0 x0 x1 x2 x3 x4 = codeV x0 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  unfold whole7
  rw [View.canon_unit_zero hz3]

theorem out_B_7 (hc0 : ¬cond0_0 i) : out0_B_7 c i arg2 harg2 arg3 harg3 arg4 harg4 arg5 harg5 arg6 harg6 arg7 harg7 arg8 harg8 arg9 harg9 arg10 harg10 arg11 harg11 arg12 harg12 arg13 harg13 hc0 x0 x1 x2 x3 x4 xs0 = codeV x0 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 xs0)]
  unfold kernelRun0_B
  dsimp only
  unfold whole7
  rw [View.canon_unit_zero hz3]

theorem out_A_8 (hc0 : cond0_0 i) : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 = scaleV x0 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  unfold whole5
  rw [View.canon_unit_zero hz3]

theorem out_B_8 (hc0 : ¬cond0_0 i) : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 xs0 = scaleV x0 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 xs0)]
  unfold kernelRun0_B
  dsimp only
  unfold whole5
  rw [View.canon_unit_zero hz3]

theorem sout_A (hc0 : cond0_0 i) : sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 = Gather.look x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  unfold wholeS
  rw [View.canon_unit_zero hz2, gathered_eq]

end Body

end Cert.ScoresKernelIdeal.Points

end
-- ==== Proof.ScoresArgs.lean ====
/- The blocks the scores kernel reads at a point, as elements of its arguments. -/
module

public import proofs.«01_k».proof.Proof.ScoresKernelIdealBlocks
public import proofs.«01_k».proof.Proof.ScoresKernelGatherValue
public import proofs.«01_k».proof.Proof.ScoresKernelHost

@[expose] public section

set_option maxRecDepth 100000

noncomputable section

namespace Cert.ScoresKernelIdeal.Points

open Cert.ScoresKernelIdeal Cert.ScoresKernelIdeal.Gen Cert.Spec Idealize.ShloMosaic Idealize.ShloMosaic.TcCoe Idealize.SL.Sem Idealize.ShloMosaic.StableHlo
open Idealize.ShloMosaic.Pipeline (Dat)

variable {F : FTy → Type} [FloatOps F] [Named F]
variable (m : (ℓ : Loc nD τ sig) → Buf (Elt F) ℓ)

theorem V_labels (c : Dev nD) : V m c main_v7 = broadcastInDim S3x1280x1 ![0, 1] bcast_S3x1280_S3x1280x1_0_1 (m ((c : Thread nD τ).loc main_arg3)) := by
  unfold V
  after_results <;> rfl

theorem V_mask (c : Dev nD) : V m c main_v8 = extui 8 (m ((c : Thread nD τ).loc main_arg4)) natLt_1_8 := by
  unfold V
  after_results <;> rfl

theorem labels_apply (c : Dev nD) (b : Fin 3) (q : Fin 1280) : V m c main_v7 (ix3 b q 0) = m ((c : Thread nD τ).loc main_arg3) (ix2 b q) := by
  rw [V_labels]
  generalize m ((c : Thread nD τ).loc main_arg3) = a
  refine (broadcastInDim_apply ![0, 1] bcast_S3x1280_S3x1280x1_0_1 a (ix3 b q 0) (ix2 b q) ?_)
  intro y
  fin_cases y <;> rfl

theorem mask_apply (c : Dev nD) (i : S3x1280x5120.Idx) : (V m c main_v8 i : BitVec 8) = ((id (m ((c : Thread nD τ).loc main_arg4)) : S3x1280x5120.Idx → BitVec 1) i).setWidth 8 := by
  rw [V_mask]
  rfl

/-- Which blocks a point's windows are: batch `t / 5`, row tile `t % 5`. -/
theorem idx_facts : ∀ t : Fin cfg0.N,
    (win0_0.index t (0 : Fin 3) = t.val / 5 ∧ win0_0.index t (1 : Fin 3) = t.val % 5 ∧ win0_0.index t (2 : Fin 3) = 0)
    ∧ (win0_1.index t (0 : Fin 2) = 0 ∧ win0_1.index t (1 : Fin 2) = t.val / 5)
    ∧ (win0_2.index t (0 : Fin 2) = 0 ∧ win0_2.index t (1 : Fin 2) = 0)
    ∧ (win0_3.index t (0 : Fin 3) = t.val / 5 ∧ win0_3.index t (1 : Fin 3) = t.val % 5 ∧ win0_3.index t (2 : Fin 3) = 0)
    ∧ (win0_4.index t (0 : Fin 3) = t.val / 5 ∧ win0_4.index t (1 : Fin 3) = t.val % 5 ∧ win0_4.index t (2 : Fin 3) = 0) :=
  (by decide +kernel : ∀ t : Fin grid0.N, _)

theorem idx_facts' : ∀ t : Fin cfg0.N,
    (win0_5.index t (0 : Fin 3) = t.val / 5 ∧ win0_5.index t (1 : Fin 3) = t.val % 5 ∧ win0_5.index t (2 : Fin 3) = 0)
    ∧ (win0_6.index t (0 : Fin 3) = t.val / 5 ∧ win0_6.index t (1 : Fin 3) = t.val % 5 ∧ win0_6.index t (2 : Fin 3) = 0)
    ∧ (win0_7.index t (0 : Fin 3) = t.val / 5 ∧ win0_7.index t (1 : Fin 3) = t.val % 5 ∧ win0_7.index t (2 : Fin 3) = 0)
    ∧ (win0_8.index t (0 : Fin 3) = t.val / 5 ∧ win0_8.index t (1 : Fin 3) = t.val % 5 ∧ win0_8.index t (2 : Fin 3) = 0) :=
  (by decide +kernel : ∀ t : Fin grid0.N, _)

theorem lt_N (t : Fin cfg0.N) : t.val < 15 := lt_of_lt_of_eq t.isLt N_0

/-- A point's batch, and the row of the batch its block's row `q` is. -/
def bat (t : Fin cfg0.N) : Fin 3 := ⟨t.val / 5, by have := lt_N t; omega⟩
def rowAt (t : Fin cfg0.N) (q : Fin 256) : Fin 1280 := ⟨t.val % 5 * 256 + q.val, by omega⟩

theorem iblk0_apply (c : Dev nD) (t : Fin cfg0.N) (q : Fin 256) (j : Fin 2560) :
    iblk m c 0 t (ix3 0 q j) = m ((c : Thread nD τ).loc main_arg0) (ix3 (bat t) (rowAt t q) j) := by
  obtain ⟨⟨a, b, e⟩, -⟩ := idx_facts t
  show V m c main_arg0 (((cfg0.win 0).blk t).view.emb (ix3 0 q j)) = _
  rw [V_main_arg0]
  congr 1
  funext x; apply Fin.ext
  match x with
  | ⟨0, _⟩ => show win0_0.index t (0 : Fin 3) * 1 + 1 * 0 = t.val / 5; omega
  | ⟨1, _⟩ => show win0_0.index t (1 : Fin 3) * 256 + 1 * q.val = t.val % 5 * 256 + q.val; omega
  | ⟨2, _⟩ => show win0_0.index t (2 : Fin 3) * 2560 + 1 * j.val = j.val; omega

theorem iblk1_apply (c : Dev nD) (t : Fin cfg0.N) (s : Fin 80) (d : Fin 5120) :
    iblk m c 1 t (ix2 s d) = (m ((c : Thread nD τ).loc main_arg1) (ix3 (bat t) d s)).zeroExtend 32 := by
  obtain ⟨-, ⟨a, b⟩, -⟩ := idx_facts t
  have ht := lt_N t
  have hd := d.isLt
  have hx : ((cfg0.win 1).blk t).view.emb (ix2 s d) = ix2 s ⟨t.val / 5 * 5120 + d.val, by omega⟩ := by
    funext x; apply Fin.ext
    match x with
    | ⟨0, _⟩ => show win0_1.index t (0 : Fin 2) * 80 + 1 * s.val = s.val; omega
    | ⟨1, _⟩ => show win0_1.index t (1 : Fin 2) * 5120 + 1 * d.val = t.val / 5 * 5120 + d.val; omega
  show V m c main_v2 (((cfg0.win 1).blk t).view.emb (ix2 s d)) = _
  rw [hx, Host.codes_apply]
  have e0 : (t.val / 5 * 5120 + d.val) / 5120 = t.val / 5 := by omega
  have e1 : (t.val / 5 * 5120 + d.val) % 5120 = d.val := by omega
  congr 3 <;> exact Fin.ext (by assumption)

theorem iblk2_apply (c : Dev nD) (t : Fin cfg0.N) (r : Fin 1280) (l : Fin 256) :
    iblk m c 2 t (ix2 r l) = V m c main_v6 (ix2 r l) := by
  obtain ⟨-, -, ⟨a, b⟩, -⟩ := idx_facts t
  show V m c main_v6 (((cfg0.win 2).blk t).view.emb (ix2 r l)) = _
  congr 1
  funext x; apply Fin.ext
  match x with
  | ⟨0, _⟩ => show win0_2.index t (0 : Fin 2) * 1280 + 1 * r.val = r.val; omega
  | ⟨1, _⟩ => show win0_2.index t (1 : Fin 2) * 256 + 1 * l.val = l.val; omega

theorem iblk3_apply (c : Dev nD) (t : Fin cfg0.N) (q : Fin 256) :
    iblk m c 3 t (ix3 0 q 0) = m ((c : Thread nD τ).loc main_arg3) (ix2 (bat t) (rowAt t q)) := by
  obtain ⟨-, -, -, ⟨a, b, e⟩, -⟩ := idx_facts t
  have hx : ((cfg0.win 3).blk t).view.emb (ix3 0 q 0) = ix3 (bat t) (rowAt t q) 0 := by
    funext x; apply Fin.ext
    match x with
    | ⟨0, _⟩ => show win0_3.index t (0 : Fin 3) * 1 + 1 * 0 = t.val / 5; omega
    | ⟨1, _⟩ => show win0_3.index t (1 : Fin 3) * 256 + 1 * q.val = t.val % 5 * 256 + q.val; omega
    | ⟨2, _⟩ => show win0_3.index t (2 : Fin 3) * 1 + 1 * 0 = 0; omega
  show V m c main_v7 (((cfg0.win 3).blk t).view.emb (ix3 0 q 0)) = _
  rw [hx, labels_apply]

theorem iblk4_apply (c : Dev nD) (t : Fin cfg0.N) (q : Fin 256) (d : Fin 5120) :
    iblk m c 4 t (ix3 0 q d) = (m ((c : Thread nD τ).loc main_arg4) (ix3 (bat t) (rowAt t q) d)).setWidth 8 := by
  obtain ⟨-, -, -, -, ⟨a, b, e⟩⟩ := idx_facts t
  have hx : ((cfg0.win 4).blk t).view.emb (ix3 0 q d) = ix3 (bat t) (rowAt t q) d := by
    funext x; apply Fin.ext
    match x with
    | ⟨0, _⟩ => show win0_4.index t (0 : Fin 3) * 1 + 1 * 0 = t.val / 5; omega
    | ⟨1, _⟩ => show win0_4.index t (1 : Fin 3) * 256 + 1 * q.val = t.val % 5 * 256 + q.val; omega
    | ⟨2, _⟩ => show win0_4.index t (2 : Fin 3) * 5120 + 1 * d.val = d.val; omega
  show V m c main_v8 (((cfg0.win 4).blk t).view.emb (ix3 0 q d)) = _
  rw [hx, mask_apply]
  rfl

/-- The codes' block is the same at two points of one batch; the table's block is the same at all points. -/
theorem iblk1_batch (c : Dev nD) (t t' : Fin cfg0.N) (h : bat t = bat t') : iblk m c 1 t = iblk m c 1 t' := by
  funext j
  obtain ⟨s, d, rfl⟩ : ∃ (s : Fin 80) (d : Fin 5120), j = ix2 s d := ⟨j 0, j 1, eq_ix2 j⟩
  rw [iblk1_apply, iblk1_apply, h]

theorem iblk2_const (c : Dev nD) (t t' : Fin cfg0.N) : iblk m c 2 t = iblk m c 2 t' := by
  funext j
  obtain ⟨s, d, rfl⟩ : ∃ (s : Fin 1280) (d : Fin 256), j = ix2 s d := ⟨j 0, j 1, eq_ix2 j⟩
  rw [iblk2_apply, iblk2_apply]

/-- A half of a word looked up at a point is the decoded documents' word. -/
theorem look_half (c : Dev nD) (t : Fin cfg0.N) (k : Fin 2560) (d : Fin 5120) :
    (Gather.look (F := F) (iblk m c 1 t) (iblk m c 2 t) (ix2 ⟨k.val / 2, by omega⟩ d)).extractLsb' (16 * (k.val % 2)) 16
      = hat (m ((c : Thread nD τ).loc main_arg1)) (m ((c : Thread nD τ).loc main_arg2)) (bat t) d k := by
  show (iblk m c 2 t (ix2 ⟨k.val / 2, _⟩ (Gather.lane (iblk m c 1 t (ix2 ⟨k.val / 2 / 16, _⟩ d)))) : BitVec 32).extractLsb' (16 * (k.val % 2)) 16 = _
  rw [iblk2_apply, Host.tab_half m c _ _ _ (Nat.mod_lt _ (by decide)), iblk1_apply]
  unfold hat
  have e0 : k.val / 2 / 16 = k.val / 32 := by omega
  have e2 : k.val / 2 % 16 * 2 + k.val % 2 = k.val % 32 := by omega
  congr 1
  have hl : ∀ w : BitVec 8, (Gather.lane (w.zeroExtend 32)).val = w.toNat := fun w => by
    have hw := w.isLt
    have h : (w.zeroExtend 32).toNat = w.toNat := by rw [BitVec.toNat_setWidth]; omega
    exact (Gather.lane_val (w.zeroExtend 32) (by omega)).trans h
  funext a; apply Fin.ext
  match a with
  | ⟨0, _⟩ => exact e0
  | ⟨1, _⟩ =>
    refine (hl _).trans ?_
    exact congrArg (fun z : Fin 80 => BitVec.toNat (w := 8) (m ((c : Thread nD τ).loc main_arg1) (ix3 (bat t) d z))) (a₁ := ⟨_, by omega⟩) (a₂ := ⟨_, by omega⟩) (Fin.ext e0)
  | ⟨2, _⟩ => exact e2

end Cert.ScoresKernelIdeal.Points

end
-- ==== Proof.ScoresValue.lean ====
/- What the scores kernel computes, over the extended reals: its four result arrays are the row functions of its arguments. -/
module

public import proofs.«01_k».proof.Proof.ScoresPoints
public import proofs.«01_k».proof.Proof.ScoresArgs
public import proofs.«01_k».proof.Proof.ScoresSpec

@[expose] public section

set_option maxRecDepth 16384

noncomputable section

namespace Cert.ScoresKernelIdeal.Points

open Cert.ScoresKernelIdeal Cert.ScoresKernelIdeal.Gen Cert.Spec Idealize.ShloMosaic Idealize.ShloMosaic.TcCoe Idealize.SL.Sem
open Idealize.ShloMosaic.Pipeline (Dat)

section Generic
variable {F : FTy → Type} [FloatOps F] [Named F]
variable (m : (ℓ : Loc nD τ sig) → Buf (Elt F) ℓ)

/-- The table looked up at a point. -/
def lookAt (c : Dev nD) (t : Fin cfg0.N) : Vec F S1280x5120 .i32 := Gather.look (iblk m c 1 t) (iblk m c 2 t)

theorem lookAt_batch (c : Dev nD) (t t' : Fin cfg0.N) (h : bat t = bat t') : lookAt m c t = lookAt m c t' := by
  unfold lookAt
  rw [iblk1_batch m c t t' h, iblk2_const m c t t']

/-- After every point the scratch is the table looked up for the point's batch. -/
theorem scratchAt (c : Dev nD) : ∀ (n : ℕ) (hn : n < cfg0.N), (outsAt0 m c n hn).2.2.2.2 = lookAt m c ⟨n, hn⟩ := by
  intro n
  induction n with
  | zero =>
    intro hn
    refine (congrArg (fun p => p.2.2.2.2) (outsAt0_A m c ⟨0, hn⟩ (Nat.zero_mod _))).trans ?_
    dsimp only [caseA]
    rw [sout_A]
    rfl
  | succ n ih =>
    intro hn
    by_cases h0 : (n + 1) % 5 = 0
    · refine (congrArg (fun p => p.2.2.2.2) (outsAt0_A m c ⟨n + 1, hn⟩ h0)).trans ?_
      dsimp only [caseA]
      rw [sout_A]
      rfl
    · refine (congrArg (fun p => p.2.2.2.2) (outsAt0_B m c ⟨n + 1, hn⟩ h0)).trans ?_
      dsimp only [caseB]
      unfold sout0_B_0
      refine (ih (Nat.lt_of_succ_lt hn)).trans (lookAt_batch m c _ _ (Fin.ext ?_))
      show n / 5 = (n + 1) / 5
      omega

/-- What every point leaves in the four output blocks. -/
theorem outs (c : Dev nD) (t : Fin cfg0.N) :
    (outsAt0 m c t.val t.isLt).1 = lossV (iblk m c 0 t) (lookAt m c t) (iblk m c 3 t) (iblk m c 4 t)
    ∧ (outsAt0 m c t.val t.isLt).2.1 = gradV (iblk m c 0 t) (lookAt m c t) (iblk m c 3 t) (iblk m c 4 t)
    ∧ (outsAt0 m c t.val t.isLt).2.2.1 = codeV (iblk m c 0 t)
    ∧ (outsAt0 m c t.val t.isLt).2.2.2.1 = scaleV (iblk m c 0 t) := by
  by_cases h0 : t.val % 5 = 0
  · rw [outsAt0_A m c t h0]
    dsimp only [caseA]
    rw [out_A_5, out_A_6, out_A_7, out_A_8]
    exact ⟨rfl, rfl, rfl, rfl⟩
  · have hb : (outsAt0 m c (t.val - 1) (Nat.lt_of_le_of_lt (Nat.sub_le _ _) t.isLt)).2.2.2.2 = lookAt m c t :=
      (scratchAt m c _ _).trans (lookAt_batch m c _ _ (Fin.ext (by show (t.val - 1) / 5 = t.val / 5; omega)))
    rw [outsAt0_B m c t h0, hb]
    dsimp only [caseB]
    rw [out_B_5, out_B_6, out_B_7, out_B_8]
    exact ⟨rfl, rfl, rfl, rfl⟩

end Generic

section AtIdeal
variable (m : (ℓ : Loc nD τ sig) → Buf (Elt Ideal) ℓ)

abbrev b0 (c : Dev nD) : S3x1280x2560.Idx → EReal := m ((c : Thread nD τ).loc main_arg0)
abbrev b1 (c : Dev nD) : S3x5120x80.Idx → BitVec 8 := m ((c : Thread nD τ).loc main_arg1)
abbrev b2 (c : Dev nD) : S80x256x32.Idx → BitVec 16 := m ((c : Thread nD τ).loc main_arg2)
abbrev b3 (c : Dev nD) : S3x1280.Idx → BitVec 32 := m ((c : Thread nD τ).loc main_arg3)
abbrev b4 (c : Dev nD) : S3x1280x5120.Idx → BitVec 1 := m ((c : Thread nD τ).loc main_arg4)

/-- What the precondition gives: labels that name a document, finite codebook words, and no row masked whole. -/
structure Ok (c : Dev nD) : Prop where
  lab : ∀ b q, (b3 m c (ix2 b q)).toNat < 5120
  book : ∀ i, ∃ r : ℝ, Ideal.ofBits .bf16 (b2 m c i) = (r : EReal)
  row : ∀ b q, ∃ j, b4 m c (ix3 b q j) ≠ 1

theorem docOf_look (c : Dev nD) (t : Fin cfg0.N) : Row.docOf (lookAt m c t) = fun k d => Ideal.ofBits .bf16 (hat (b1 m c) (b2 m c) (bat t) d k) := by
  funext k d
  unfold Row.docOf lookAt
  exact congrArg (Ideal.ofBits .bf16) (look_half m c t k d)

section Rows
variable (c : Dev nD) (t : Fin cfg0.N) (q : Fin 256)

theorem doc_real (ok : Ok m c) (k : Fin 2560) (j : Fin 5120) : ∃ r : ℝ, Row.docOf (lookAt m c t) k j = (r : EReal) := by
  rw [docOf_look]; exact ok.book _

theorem row_x : (fun j => iblk m c 0 t (ix3 0 q j)) = fun j => b0 m c (ix3 (bat t) (rowAt t q) j) := funext fun j => iblk0_apply m c t q j

theorem row_loss (ok : Ok m c) : lossV (F := Ideal) (iblk m c 0 t) (lookAt m c t) (iblk m c 3 t) (iblk m c 4 t) (ix3 0 q 0)
    = ScoresSpec.lossAll (b0 m c) (b1 m c) (b2 m c) (b3 m c) (b4 m c) (ix3 (bat t) (rowAt t q) 0) := by
  refine (Row.lossV_apply _ (lookAt m c t) _ _ q (fun j => b4 m c (ix3 (bat t) (rowAt t q) j)) (fun j => iblk4_apply m c t q j)
    (ScoresSpec.label (b3 m c) (bat t) (rowAt t q)) ((iblk3_apply m c t q).trans (ScoresSpec.label_eq (b3 m c) ok.lab _ _)) (doc_real m c t ok) (ok.row _ _)).trans ?_
  rw [row_x, docOf_look]
  rfl

theorem row_grad (ok : Ok m c) (d : Fin 5120) : gradV (F := Ideal) (iblk m c 0 t) (lookAt m c t) (iblk m c 3 t) (iblk m c 4 t) (ix3 0 q d)
    = ScoresSpec.gradAll (b0 m c) (b1 m c) (b2 m c) (b3 m c) (b4 m c) (ix3 (bat t) (rowAt t q) d) := by
  refine (Row.gradV_apply _ (lookAt m c t) _ _ q (fun j => b4 m c (ix3 (bat t) (rowAt t q) j)) (fun j => iblk4_apply m c t q j)
    (ScoresSpec.label (b3 m c) (bat t) (rowAt t q)) ((iblk3_apply m c t q).trans (ScoresSpec.label_eq (b3 m c) ok.lab _ _)) (doc_real m c t ok) (ok.row _ _) d).trans ?_
  rw [row_x, docOf_look]
  rfl

theorem row_code (j : Fin 2560) : codeV (F := Ideal) (iblk m c 0 t) (ix3 0 q j) = ScoresSpec.codeAll (b0 m c) (ix3 (bat t) (rowAt t q) j) := by
  refine (Row.codeV_apply _ q j).trans ?_
  rw [row_x]
  rfl

theorem row_scale : scaleV (F := Ideal) (iblk m c 0 t) (ix3 0 q 0) = ScoresSpec.scaleAll (b0 m c) (ix3 (bat t) (rowAt t q) 0) := by
  refine (Row.scaleV_apply _ q).trans ?_
  rw [row_x]
  rfl

end Rows

theorem emb_5 (t : Fin cfg0.N) (q : Fin 256) (x : Fin 1) : ((cfg0.win 5).blk t).view.emb (ix3 0 q x) = ix3 (bat t) (rowAt t q) x := by
  obtain ⟨a, -⟩ := idx_facts' t
  obtain ⟨a, b, e⟩ := a
  funext y; apply Fin.ext
  match y with
  | ⟨0, _⟩ => show win0_5.index t (0 : Fin 3) * 1 + 1 * 0 = t.val / 5; omega
  | ⟨1, _⟩ => show win0_5.index t (1 : Fin 3) * 256 + 1 * q.val = t.val % 5 * 256 + q.val; omega
  | ⟨2, _⟩ => show win0_5.index t (2 : Fin 3) * 1 + 1 * x.val = x.val; omega

theorem flushed_eq5 (c : Dev nD) (ok : Ok m c) (t : Fin cfg0.N) : (dats m 0 c).flushed 5 t = ((cfg0.win 5).blk t).view.read (Elt Ideal) (ScoresSpec.lossAll (b0 m c) (b1 m c) (b2 m c) (b3 m c) (b4 m c)) := by
  rw [Value.flushed5, (outs m c t).1]
  funext j
  obtain ⟨z, q, x, rfl⟩ : ∃ (z : Fin 1) (q : Fin 256) (x : Fin 1), j = ix3 z q x := ⟨j 0, j 1, j 2, eq_ix3 j⟩
  obtain rfl : z = 0 := Subsingleton.elim _ _
  obtain rfl : x = 0 := Subsingleton.elim _ _
  show lossV (F := Ideal) (iblk m c 0 t) (lookAt m c t) (iblk m c 3 t) (iblk m c 4 t) (ix3 0 q 0) = ScoresSpec.lossAll (b0 m c) (b1 m c) (b2 m c) (b3 m c) (b4 m c) (((cfg0.win 5).blk t).view.emb (ix3 0 q 0))
  rw [emb_5]
  exact row_loss m c t q ok

theorem mem_blk5 (t : Fin cfg0.N) (i : S3x1280x1.Idx) (h0 : (i 0).val = t.val / 5) (h1 : (i 1).val / 256 = t.val % 5) : i ∈ ((cfg0.win 5).blk t).view.set := by
  show i ∈ ((View.whole main_v9_0).slice (win0_5.rect t)).set
  rw [View.set_slice_whole, Rect.mem_set_unit]
  obtain ⟨a, -⟩ := idx_facts' t
  obtain ⟨a, b, e⟩ := a
  have h2 : (i 2).val < 1 := (i 2).isLt
  have hd := Nat.div_add_mod (i 1).val 256
  have hm := Nat.mod_lt (i 1).val (show 256 > 0 by decide)
  intro y
  match y with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1 ≤ (i 2).val ∧ (i 2).val < win0_5.index t (2 : Fin 3) * 1 + 1; omega

theorem final_eq5 (c : Dev nD) (ok : Ok m c) : (dats m 0 c).arrAt 5 cfg0.N = ScoresSpec.lossAll (b0 m c) (b1 m c) (b2 m c) (b3 m c) (b4 m c) :=
  (dats m 0 c).arrAt_eq_of_cover 5 _ (fun t _ => flushed_eq5 m c ok t) (fun i => by
    have h0 : (i 0).val < 3 := (i 0).isLt
    have h1 : (i 1).val < 1280 := (i 1).isLt
    have hN : (i 0).val * 5 + (i 1).val / 256 < cfg0.N := by rw [show cfg0.N = 15 from N_0]; omega
    exact ⟨⟨_, hN⟩, flush0_5 _, mem_blk5 _ i (by show _ = ((i 0).val * 5 + (i 1).val / 256) / 5; omega) (by show _ = ((i 0).val * 5 + (i 1).val / 256) % 5; omega)⟩)

theorem emb_6 (t : Fin cfg0.N) (q : Fin 256) (x : Fin 5120) : ((cfg0.win 6).blk t).view.emb (ix3 0 q x) = ix3 (bat t) (rowAt t q) x := by
  obtain ⟨-, a, -⟩ := idx_facts' t
  obtain ⟨a, b, e⟩ := a
  funext y; apply Fin.ext
  match y with
  | ⟨0, _⟩ => show win0_6.index t (0 : Fin 3) * 1 + 1 * 0 = t.val / 5; omega
  | ⟨1, _⟩ => show win0_6.index t (1 : Fin 3) * 256 + 1 * q.val = t.val % 5 * 256 + q.val; omega
  | ⟨2, _⟩ => show win0_6.index t (2 : Fin 3) * 5120 + 1 * x.val = x.val; omega

theorem flushed_eq6 (c : Dev nD) (ok : Ok m c) (t : Fin cfg0.N) : (dats m 0 c).flushed 6 t = ((cfg0.win 6).blk t).view.read (Elt Ideal) (ScoresSpec.gradAll (b0 m c) (b1 m c) (b2 m c) (b3 m c) (b4 m c)) := by
  rw [Value.flushed6, (outs m c t).2.1]
  funext j
  obtain ⟨z, q, x, rfl⟩ : ∃ (z : Fin 1) (q : Fin 256) (x : Fin 5120), j = ix3 z q x := ⟨j 0, j 1, j 2, eq_ix3 j⟩
  obtain rfl : z = 0 := Subsingleton.elim _ _
  show gradV (F := Ideal) (iblk m c 0 t) (lookAt m c t) (iblk m c 3 t) (iblk m c 4 t) (ix3 0 q x) = ScoresSpec.gradAll (b0 m c) (b1 m c) (b2 m c) (b3 m c) (b4 m c) (((cfg0.win 6).blk t).view.emb (ix3 0 q x))
  rw [emb_6]
  exact row_grad m c t q ok x

theorem mem_blk6 (t : Fin cfg0.N) (i : S3x1280x5120.Idx) (h0 : (i 0).val = t.val / 5) (h1 : (i 1).val / 256 = t.val % 5) : i ∈ ((cfg0.win 6).blk t).view.set := by
  show i ∈ ((View.whole main_v9_1).slice (win0_6.rect t)).set
  rw [View.set_slice_whole, Rect.mem_set_unit]
  obtain ⟨-, a, -⟩ := idx_facts' t
  obtain ⟨a, b, e⟩ := a
  have h2 : (i 2).val < 5120 := (i 2).isLt
  have hd := Nat.div_add_mod (i 1).val 256
  have hm := Nat.mod_lt (i 1).val (show 256 > 0 by decide)
  intro y
  match y with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 5120 ≤ (i 2).val ∧ (i 2).val < win0_6.index t (2 : Fin 3) * 5120 + 5120; omega

theorem final_eq6 (c : Dev nD) (ok : Ok m c) : (dats m 0 c).arrAt 6 cfg0.N = ScoresSpec.gradAll (b0 m c) (b1 m c) (b2 m c) (b3 m c) (b4 m c) :=
  (dats m 0 c).arrAt_eq_of_cover 6 _ (fun t _ => flushed_eq6 m c ok t) (fun i => by
    have h0 : (i 0).val < 3 := (i 0).isLt
    have h1 : (i 1).val < 1280 := (i 1).isLt
    have hN : (i 0).val * 5 + (i 1).val / 256 < cfg0.N := by rw [show cfg0.N = 15 from N_0]; omega
    exact ⟨⟨_, hN⟩, flush0_6 _, mem_blk6 _ i (by show _ = ((i 0).val * 5 + (i 1).val / 256) / 5; omega) (by show _ = ((i 0).val * 5 + (i 1).val / 256) % 5; omega)⟩)

theorem emb_7 (t : Fin cfg0.N) (q : Fin 256) (x : Fin 2560) : ((cfg0.win 7).blk t).view.emb (ix3 0 q x) = ix3 (bat t) (rowAt t q) x := by
  obtain ⟨-, -, a, -⟩ := idx_facts' t
  obtain ⟨a, b, e⟩ := a
  funext y; apply Fin.ext
  match y with
  | ⟨0, _⟩ => show win0_7.index t (0 : Fin 3) * 1 + 1 * 0 = t.val / 5; omega
  | ⟨1, _⟩ => show win0_7.index t (1 : Fin 3) * 256 + 1 * q.val = t.val % 5 * 256 + q.val; omega
  | ⟨2, _⟩ => show win0_7.index t (2 : Fin 3) * 2560 + 1 * x.val = x.val; omega

theorem flushed_eq7 (c : Dev nD) (t : Fin cfg0.N) : (dats m 0 c).flushed 7 t = ((cfg0.win 7).blk t).view.read (Elt Ideal) (ScoresSpec.codeAll (b0 m c)) := by
  rw [Value.flushed7, (outs m c t).2.2.1]
  funext j
  obtain ⟨z, q, x, rfl⟩ : ∃ (z : Fin 1) (q : Fin 256) (x : Fin 2560), j = ix3 z q x := ⟨j 0, j 1, j 2, eq_ix3 j⟩
  obtain rfl : z = 0 := Subsingleton.elim _ _
  show codeV (F := Ideal) (iblk m c 0 t) (ix3 0 q x) = ScoresSpec.codeAll (b0 m c) (((cfg0.win 7).blk t).view.emb (ix3 0 q x))
  rw [emb_7]
  exact row_code m c t q x

theorem mem_blk7 (t : Fin cfg0.N) (i : S3x1280x2560.Idx) (h0 : (i 0).val = t.val / 5) (h1 : (i 1).val / 256 = t.val % 5) : i ∈ ((cfg0.win 7).blk t).view.set := by
  show i ∈ ((View.whole main_v9_2).slice (win0_7.rect t)).set
  rw [View.set_slice_whole, Rect.mem_set_unit]
  obtain ⟨-, -, a, -⟩ := idx_facts' t
  obtain ⟨a, b, e⟩ := a
  have h2 : (i 2).val < 2560 := (i 2).isLt
  have hd := Nat.div_add_mod (i 1).val 256
  have hm := Nat.mod_lt (i 1).val (show 256 > 0 by decide)
  intro y
  match y with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 2560 ≤ (i 2).val ∧ (i 2).val < win0_7.index t (2 : Fin 3) * 2560 + 2560; omega

theorem final_eq7 (c : Dev nD) : (dats m 0 c).arrAt 7 cfg0.N = ScoresSpec.codeAll (b0 m c) :=
  (dats m 0 c).arrAt_eq_of_cover 7 _ (fun t _ => flushed_eq7 m c t) (fun i => by
    have h0 : (i 0).val < 3 := (i 0).isLt
    have h1 : (i 1).val < 1280 := (i 1).isLt
    have hN : (i 0).val * 5 + (i 1).val / 256 < cfg0.N := by rw [show cfg0.N = 15 from N_0]; omega
    exact ⟨⟨_, hN⟩, flush0_7 _, mem_blk7 _ i (by show _ = ((i 0).val * 5 + (i 1).val / 256) / 5; omega) (by show _ = ((i 0).val * 5 + (i 1).val / 256) % 5; omega)⟩)

theorem emb_8 (t : Fin cfg0.N) (q : Fin 256) (x : Fin 1) : ((cfg0.win 8).blk t).view.emb (ix3 0 q x) = ix3 (bat t) (rowAt t q) x := by
  obtain ⟨-, -, -, a⟩ := idx_facts' t
  obtain ⟨a, b, e⟩ := a
  funext y; apply Fin.ext
  match y with
  | ⟨0, _⟩ => show win0_8.index t (0 : Fin 3) * 1 + 1 * 0 = t.val / 5; omega
  | ⟨1, _⟩ => show win0_8.index t (1 : Fin 3) * 256 + 1 * q.val = t.val % 5 * 256 + q.val; omega
  | ⟨2, _⟩ => show win0_8.index t (2 : Fin 3) * 1 + 1 * x.val = x.val; omega

theorem flushed_eq8 (c : Dev nD) (t : Fin cfg0.N) : (dats m 0 c).flushed 8 t = ((cfg0.win 8).blk t).view.read (Elt Ideal) (ScoresSpec.scaleAll (b0 m c)) := by
  rw [Value.flushed8, (outs m c t).2.2.2]
  funext j
  obtain ⟨z, q, x, rfl⟩ : ∃ (z : Fin 1) (q : Fin 256) (x : Fin 1), j = ix3 z q x := ⟨j 0, j 1, j 2, eq_ix3 j⟩
  obtain rfl : z = 0 := Subsingleton.elim _ _
  obtain rfl : x = 0 := Subsingleton.elim _ _
  show scaleV (F := Ideal) (iblk m c 0 t) (ix3 0 q 0) = ScoresSpec.scaleAll (b0 m c) (((cfg0.win 8).blk t).view.emb (ix3 0 q 0))
  rw [emb_8]
  exact row_scale m c t q

theorem mem_blk8 (t : Fin cfg0.N) (i : S3x1280x1.Idx) (h0 : (i 0).val = t.val / 5) (h1 : (i 1).val / 256 = t.val % 5) : i ∈ ((cfg0.win 8).blk t).view.set := by
  show i ∈ ((View.whole main_v9_3).slice (win0_8.rect t)).set
  rw [View.set_slice_whole, Rect.mem_set_unit]
  obtain ⟨-, -, -, a⟩ := idx_facts' t
  obtain ⟨a, b, e⟩ := a
  have h2 : (i 2).val < 1 := (i 2).isLt
  have hd := Nat.div_add_mod (i 1).val 256
  have hm := Nat.mod_lt (i 1).val (show 256 > 0 by decide)
  intro y
  match y with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 1 ≤ (i 2).val ∧ (i 2).val < win0_8.index t (2 : Fin 3) * 1 + 1; omega

theorem final_eq8 (c : Dev nD) : (dats m 0 c).arrAt 8 cfg0.N = ScoresSpec.scaleAll (b0 m c) :=
  (dats m 0 c).arrAt_eq_of_cover 8 _ (fun t _ => flushed_eq8 m c t) (fun i => by
    have h0 : (i 0).val < 3 := (i 0).isLt
    have h1 : (i 1).val < 1280 := (i 1).isLt
    have hN : (i 0).val * 5 + (i 1).val / 256 < cfg0.N := by rw [show cfg0.N = 15 from N_0]; omega
    exact ⟨⟨_, hN⟩, flush0_8 _, mem_blk8 _ i (by show _ = ((i 0).val * 5 + (i 1).val / 256) / 5; omega) (by show _ = ((i 0).val * 5 + (i 1).val / 256) % 5; omega)⟩)

end AtIdeal

end Cert.ScoresKernelIdeal.Points

end
-- ==== Proof.ScoresPre.lean ====
/- What the precondition says of the arguments: every label names a document, every word of the codebook is a finite number, and
   every row has a document that is not masked. -/
module

public import proofs.«01_k».proof.Defs
public import Idealize.ShloMosaic.Lib.Pointwise
public import Idealize.ShloMosaic.Lib.ReduceAll
public import Idealize.ShloMosaic.Lib.Affine

@[expose] public section

noncomputable section

namespace Cert.Pre_scorable

open Idealize.ShloMosaic

instance facts : Cert.Pre_scorable.Facts where
  bcast_S_S3x1280 := by decide
  bcast_S_S80x256x32 := by decide
  reducesTo_S3x1280x5120_S3x1280_d2 := by decide
  h_S_ := by decide

theorem range (w : BitVec 32) (h : IntOp.andi (IntOp.cmpi .sge w 0#32) (IntOp.cmpi .slt w 5120#32) = 1#1) : w.toNat < 5120 := by
  obtain ⟨h1, h2⟩ := IntOp.andi_eq_one.1 h
  rw [IntOp.cmpi_sge, show (0#32 : BitVec 32).toInt = 0 from by decide] at h1
  rw [IntOp.cmpi_slt, show (5120#32 : BitVec 32).toInt = 5120 from by decide] at h2
  have h3 := BitVec.toInt_pos_iff.1 h1
  rw [BitVec.toInt_eq_toNat_of_lt h3] at h2
  omega

theorem top : Ideal.ofBits .bf16 0x7F80#16 = ⊤ := by simp [Ideal.ofBits, Ideal.ieee]

theorem real (v : EReal) (h : max v (-v) < ⊤) : ∃ r : ℝ, v = (r : EReal) := by
  induction v using EReal.rec with
  | bot => exact absurd h (by simp)
  | top => exact absurd h (by simp)
  | coe r => exact ⟨r, rfl⟩

variable (x : FVec Ideal S3x1280x2560 .bf16) (codes : IVec S3x5120x80 8) (bits : IVec S80x256x32 16) (labels : IVec S3x1280 32) (mask : IVec S3x1280x5120 1)

theorem labels_of (h : (fn (F := Ideal) x codes bits labels mask).1 = fun _ => 1#1) (b : Fin 3) (q : Fin 1280) : (labels (ix2 b q)).toNat < 5120 :=
  range _ (congrFun h (ix2 b q))

theorem book_of (h : (fn (F := Ideal) x codes bits labels mask).2.1 = fun _ => 1#1) (i : S80x256x32.Idx) : ∃ r : ℝ, Ideal.ofBits .bf16 (bits i) = (r : EReal) := by
  have e : Ideal.cmp .olt (max (Ideal.ofBits .bf16 (bits i)) (-Ideal.ofBits .bf16 (bits i))) (Ideal.ofBits .bf16 0x7F80#16) = 1#1 := congrFun h i
  rw [top] at e
  refine real _ ?_
  by_contra hn
  simp [Ideal.cmp, hn] at e

theorem rows_of (h : (fn (F := Ideal) x codes bits labels mask).2.2 = fun _ => 1#1) (b : Fin 3) (q : Fin 1280) : ∃ j : Fin 5120, mask (ix3 b q j) ≠ 1 := by
  by_contra hn
  have hall : ∀ j : Fin 5120, mask (ix3 b q j) = 1#1 := fun j => by
    by_contra hj; exact hn ⟨j, hj⟩
  have e : ~~~(Host.reduce IntOp.andi mask (constantI S_ 1 1#1) Facts.reducesTo_S3x1280x5120_S3x1280_d2 Facts.h_S_ (ix2 b q)) = 1#1 := congrFun h (ix2 b q)
  have e1 : Host.reduce IntOp.andi mask (constantI S_ 1 1#1) Facts.reducesTo_S3x1280x5120_S3x1280_d2 Facts.h_S_ (ix2 b q) = 1#1 := by
    rw [Host.reduce_eq_foldl]
    refine IntOp.foldl_andi_one mask _ _ rfl fun i hi => ?_
    rw [List.mem_filter] at hi
    have hd : (Facts.reducesTo_S3x1280x5120_S3x1280_d2 : S3x1280x5120.ReducesTo [2] S3x1280).drop i = ix2 b q := by simpa using hi.2
    have h0 : (i 0).val = b.val := (Shape.ReducesTo.drop_apply_val Facts.reducesTo_S3x1280x5120_S3x1280_d2 i 0).symm.trans (congrArg (fun z => (z 0).val) hd)
    have h1 : (i 1).val = q.val := (Shape.ReducesTo.drop_apply_val Facts.reducesTo_S3x1280x5120_S3x1280_d2 i 1).symm.trans (congrArg (fun z => (z 1).val) hd)
    rw [← hall (i 2)]
    congr 1
    funext a; apply Fin.ext
    match a with
    | ⟨0, _⟩ => exact h0
    | ⟨1, _⟩ => exact h1
    | ⟨2, _⟩ => rfl
  rw [e1] at e
  exact absurd e (by decide)

end Cert.Pre_scorable

end
-- ==== Proof.lean ====
module

public import proofs.«01_k».proof.Defs
public import proofs.«01_k».proof.Proof.Gen.DocKernel
public import proofs.«01_k».proof.Proof.Gen.DocKernel.Skeleton
public import proofs.«01_k».proof.Proof.Gen.DocKernel.Launch
public import proofs.«01_k».proof.Proof.Gen.DocKernel.Points
public import proofs.«01_k».proof.Proof.Gen.DocKernel.Frame
public import proofs.«01_k».proof.Proof.Gen.DocKernelIdeal
public import proofs.«01_k».proof.Proof.Gen.DocKernelIdeal.Skeleton
public import proofs.«01_k».proof.Proof.Gen.DocKernelIdeal.Launch
public import proofs.«01_k».proof.Proof.Gen.DocKernelIdeal.Points
public import proofs.«01_k».proof.Proof.Gen.DocKernelIdeal.Frame
public import proofs.«01_k».proof.Proof.Gen.DocReferenceIdeal
public import proofs.«01_k».proof.Proof.Gen.DocReferenceIdeal.Skeleton
public import proofs.«01_k».proof.Proof.Gen.DocReferenceIdeal.Launch
public import proofs.«01_k».proof.Proof.Gen.DocReferenceIdeal.Points
public import proofs.«01_k».proof.Proof.Gen.DocReferenceIdeal.Frame
public import proofs.«01_k».proof.Proof.Gen.QueryKernel
public import proofs.«01_k».proof.Proof.Gen.QueryKernel.Skeleton
public import proofs.«01_k».proof.Proof.Gen.QueryKernel.Launch
public import proofs.«01_k».proof.Proof.Gen.QueryKernel.Points
public import proofs.«01_k».proof.Proof.Gen.QueryKernel.Loops
public import proofs.«01_k».proof.Proof.Gen.QueryKernelIdeal
public import proofs.«01_k».proof.Proof.Gen.QueryKernelIdeal.Skeleton
public import proofs.«01_k».proof.Proof.Gen.QueryKernelIdeal.Launch
public import proofs.«01_k».proof.Proof.Gen.QueryKernelIdeal.Points
public import proofs.«01_k».proof.Proof.Gen.QueryKernelIdeal.Loops
public import proofs.«01_k».proof.Proof.Gen.QueryReferenceIdeal
public import proofs.«01_k».proof.Proof.Gen.QueryReferenceIdeal.Run
public import proofs.«01_k».proof.Proof.Gen.ScoresKernel
public import proofs.«01_k».proof.Proof.Gen.ScoresKernel.Skeleton
public import proofs.«01_k».proof.Proof.Gen.ScoresKernel.Launch
public import proofs.«01_k».proof.Proof.Gen.ScoresKernel.Points
public import proofs.«01_k».proof.Proof.Gen.ScoresKernel.Loops
public import proofs.«01_k».proof.Proof.Gen.ScoresKernelIdeal
public import proofs.«01_k».proof.Proof.Gen.ScoresKernelIdeal.Skeleton
public import proofs.«01_k».proof.Proof.Gen.ScoresKernelIdeal.Launch
public import proofs.«01_k».proof.Proof.Gen.ScoresKernelIdeal.Points
public import proofs.«01_k».proof.Proof.Gen.ScoresKernelIdeal.Loops
public import proofs.«01_k».proof.Proof.Gen.ScoresReferenceIdeal
public import proofs.«01_k».proof.Proof.Gen.ScoresReferenceIdeal.Skeleton
public import proofs.«01_k».proof.Proof.Gen.ScoresReferenceIdeal.Launch
public import proofs.«01_k».proof.Proof.Gen.ScoresReferenceIdeal.Points
public import proofs.«01_k».proof.Proof.Gen.ScoresReferenceIdeal.Frame
public import proofs.«01_k».proof.Proof.Gen.ScoresReferenceIdeal.Run
public import proofs.«01_k».proof.Proof.Gen.DocKernelIdeal.Value
public import proofs.«01_k».proof.Proof.Gen.DocReferenceIdeal.Value
public import proofs.«01_k».proof.Proof.DocValue
public import proofs.«01_k».proof.Proof.QueryKernelFrame
public import proofs.«01_k».proof.Proof.QueryValue
public import proofs.«01_k».proof.Proof.ScoresKernelFrame
public import proofs.«01_k».proof.Proof.ScoresReferenceValue
public import proofs.«01_k».proof.Proof.ScoresValue
public import proofs.«01_k».proof.Proof.ScoresPre
public import Idealize.ShloMosaic.Adequacy
public import Idealize.ShloMosaic.Init

@[expose] public section

noncomputable section

namespace Cert.Proof

open Idealize.ShloMosaic Idealize.SL.Sem Cert.DocKernel

/-- Kernel and reference of the document gradients end with equal results. -/
theorem doc_algebraic : Cert.algebraic_DocKernelIdeal_DocReferenceIdeal := fun m g m' g' _ hag =>
  ⟨Cert.DocKernelIdeal.Sum.result m,
    (θ_run _ _ _).mono (fun r h c => ⟨(h c).1.trans (Cert.DocKernelIdeal.Sum.final_eq m c), (h c).2⟩) (Cert.DocKernelIdeal.Value.run_blocks m g),
    (θ_run _ _ _).mono (fun r h c => ⟨(h c).1.trans (by rw [(hag c).1, (hag c).2.1, (hag c).2.2]; rfl), (h c).2⟩) (Cert.DocReferenceIdeal.Value.run m' g')⟩

/-- Kernel and reference of the query gradients end with equal results. -/
theorem query_algebraic : Cert.algebraic_QueryKernelIdeal_QueryReferenceIdeal := fun m g m' g' _ hag =>
  ⟨Cert.QueryKernelIdeal.Sum.result m,
    (θ_run _ _ _).mono (fun r h c => ⟨(h c).1.trans (Cert.QueryKernelIdeal.Sum.final_eq m c), (h c).2⟩) (Cert.QueryKernelIdeal.Value.run_blocks m g),
    (θ_run _ _ _).mono (fun r h c => ⟨(h c).1.trans (by rw [(hag c).1, (hag c).2.1, (hag c).2.2]; rfl), (h c).2⟩) (Cert.QueryReferenceIdeal.Value.run m' g')⟩

/-- The query reference's run changes no argument and leaves every semaphore at zero. -/
theorem query_reference_frame : Cert.quiescent_QueryReferenceIdeal := fun m ρ _ =>
  (θ_run _ _ _).mono (fun r h => ⟨fun c => (h c).2, sem_eq_zero_of_no_sems rfl r.2⟩) (Cert.QueryReferenceIdeal.Value.run m ρ)

/-- The constants the scores kernel writes as literals are the ones they are named after. -/
theorem scores_preserves : Cert.preserves_ScoresKernel_ScoresKernelIdeal :=
  ⟨IdealRules.named_const.statement _ _ _ _ _ rfl, IdealRules.named_const.statement _ _ _ _ _ rfl⟩

/-- What the precondition gives of the kernel's arguments. -/
theorem scores_ok (m : (ℓ : Loc Cert.ScoresKernelIdeal.nD Cert.ScoresKernelIdeal.τ Cert.ScoresKernelIdeal.sig) → Buf (Elt Ideal) ℓ)
    (h : Cert.Pre_ScoresKernelIdeal_scorable m) (c : Dev Cert.ScoresKernelIdeal.nD) : Cert.ScoresKernelIdeal.Points.Ok m c where
  lab := Cert.Pre_scorable.labels_of _ _ _ _ _ (h c).1
  book := Cert.Pre_scorable.book_of _ _ _ _ _ (h c).2.1
  row := Cert.Pre_scorable.rows_of _ _ _ _ _ (h c).2.2

/-- Kernel and reference of the scores end with equal results, where every label names a document, the codebook is finite and no row
    is masked whole. -/
theorem scores_algebraic : Cert.algebraic_ScoresKernelIdeal_ScoresReferenceIdeal_pre_scorable := fun m g m' g' hpre hag =>
  ⟨fun c => Cert.ScoresSpec.lossAll (Cert.ScoresKernelIdeal.Points.b0 m c) (Cert.ScoresKernelIdeal.Points.b1 m c) (Cert.ScoresKernelIdeal.Points.b2 m c) (Cert.ScoresKernelIdeal.Points.b3 m c) (Cert.ScoresKernelIdeal.Points.b4 m c),
    fun c => Cert.ScoresSpec.gradAll (Cert.ScoresKernelIdeal.Points.b0 m c) (Cert.ScoresKernelIdeal.Points.b1 m c) (Cert.ScoresKernelIdeal.Points.b2 m c) (Cert.ScoresKernelIdeal.Points.b3 m c) (Cert.ScoresKernelIdeal.Points.b4 m c),
    fun c => Cert.ScoresSpec.codeAll (Cert.ScoresKernelIdeal.Points.b0 m c),
    fun c => Cert.ScoresSpec.scaleAll (Cert.ScoresKernelIdeal.Points.b0 m c),
    (θ_run _ _ _).mono (fun r h c => ⟨(h c).1.trans (Cert.ScoresKernelIdeal.Points.final_eq5 m c (scores_ok m hpre c)),
      (h c).2.1.trans (Cert.ScoresKernelIdeal.Points.final_eq6 m c (scores_ok m hpre c)),
      (h c).2.2.1.trans (Cert.ScoresKernelIdeal.Points.final_eq7 m c), (h c).2.2.2.1.trans (Cert.ScoresKernelIdeal.Points.final_eq8 m c),
      (h c).2.2.2.2⟩) (Cert.ScoresKernelIdeal.Value.run_blocks m g),
    (θ_run _ _ _).mono (fun r h c => ⟨(h c).1.trans (by
        unfold Cert.ScoresReferenceIdeal.Math.a0 Cert.ScoresReferenceIdeal.Math.a1 Cert.ScoresReferenceIdeal.Math.a2 Cert.ScoresReferenceIdeal.Math.a3 Cert.ScoresReferenceIdeal.Math.a4
        rw [(hag c).1, (hag c).2.1, (hag c).2.2.1, (hag c).2.2.2.1, (hag c).2.2.2.2]),
      (h c).2.1.trans (by
        unfold Cert.ScoresReferenceIdeal.Math.a0 Cert.ScoresReferenceIdeal.Math.a1 Cert.ScoresReferenceIdeal.Math.a2 Cert.ScoresReferenceIdeal.Math.a3 Cert.ScoresReferenceIdeal.Math.a4
        rw [(hag c).1, (hag c).2.1, (hag c).2.2.1, (hag c).2.2.2.1, (hag c).2.2.2.2]),
      (h c).2.2.1.trans (by unfold Cert.ScoresReferenceIdeal.Math.a0; rw [(hag c).1]),
      (h c).2.2.2.1.trans (by unfold Cert.ScoresReferenceIdeal.Math.a0; rw [(hag c).1]),
      (h c).2.2.2.2⟩) (Cert.ScoresReferenceIdeal.Math.run m' (fun c b q => by
        unfold Cert.ScoresReferenceIdeal.Math.a3
        rw [(hag c).2.2.2.1]
        exact (scores_ok m hpre c).lab b q) g')⟩

theorem claim : Cert.Claim := ⟨Cert.DocKernel.Gen.facts, Cert.DocKernelIdeal.Gen.facts, Cert.DocReferenceIdeal.Gen.facts,
  Cert.QueryKernel.Gen.facts, Cert.QueryKernelIdeal.Gen.facts, Cert.QueryReferenceIdeal.Gen.facts,
  Cert.ScoresKernel.Gen.facts, Cert.ScoresKernelIdeal.Gen.facts, Cert.ScoresReferenceIdeal.Gen.facts, Cert.Pre_scorable.facts,
  fun m ρ _ => Cert.DocKernel.Gen.frame m ρ, fun m ρ _ => Cert.DocKernelIdeal.Gen.frame m ρ, fun m ρ _ => Cert.DocReferenceIdeal.Gen.frame m ρ,
  fun m ρ _ => Cert.QueryKernel.Gen.frame m ρ, fun m ρ _ => Cert.QueryKernelIdeal.Gen.frame m ρ, query_reference_frame,
  fun m ρ _ => Cert.ScoresKernel.Gen.frame m ρ, fun m ρ _ => Cert.ScoresKernelIdeal.Gen.frame m ρ, fun m ρ _ => Cert.ScoresKernelIdeal.Gen.frame m ρ,
  fun m ρ _ => Cert.ScoresReferenceIdeal.Gen.frame m ρ, fun m ρ _ => Cert.ScoresReferenceIdeal.Gen.frame m ρ,
  trivial, doc_algebraic, trivial, query_algebraic, scores_preserves, scores_algebraic⟩

end Cert.Proof

end
